-- ==== Defs.lean ====
def Pre_MlpBackward (m : (ℓ : Loc Cert.MlpBackward.nD Cert.MlpBackward.τ Cert.MlpBackward.sig) → Buf (Elt Bits) ℓ) : Prop :=
  True

def Pre_MlpBackwardIdeal (m : (ℓ : Loc Cert.MlpBackwardIdeal.nD Cert.MlpBackwardIdeal.τ Cert.MlpBackwardIdeal.sig) → Buf (Elt Ideal) ℓ) : Prop :=
  True

def Pre_MlpBackwardIdeal_mlp_finite [hPre_mlp_finite : Cert.Pre_mlp_finite.Facts] (m : (ℓ : Loc Cert.MlpBackwardIdeal.nD Cert.MlpBackwardIdeal.τ Cert.MlpBackwardIdeal.sig) → Buf (Elt Ideal) ℓ) : Prop :=
  ∀ c : Dev Cert.MlpBackwardIdeal.nD,
    (Cert.Pre_mlp_finite.fn (F := Ideal) (m ((c.tc : Thread Cert.MlpBackwardIdeal.nD Cert.MlpBackwardIdeal.τ).loc Cert.MlpBackwardIdeal.main_arg0)) (m ((c.tc : Thread Cert.MlpBackwardIdeal.nD Cert.MlpBackwardIdeal.τ).loc Cert.MlpBackwardIdeal.main_arg1)) (m ((c.tc : Thread Cert.MlpBackwardIdeal.nD Cert.MlpBackwardIdeal.τ).loc Cert.MlpBackwardIdeal.main_arg2)) (m ((c.tc : Thread Cert.MlpBackwardIdeal.nD Cert.MlpBackwardIdeal.τ).loc Cert.MlpBackwardIdeal.main_arg3)) (m ((c.tc : Thread Cert.MlpBackwardIdeal.nD Cert.MlpBackwardIdeal.τ).loc Cert.MlpBackwardIdeal.main_arg4)) (m ((c.tc : Thread Cert.MlpBackwardIdeal.nD Cert.MlpBackwardIdeal.τ).loc Cert.MlpBackwardIdeal.main_arg5)) (m ((c.tc : Thread Cert.MlpBackwardIdeal.nD Cert.MlpBackwardIdeal.τ).loc Cert.MlpBackwardIdeal.main_arg6)) (m ((c.tc : Thread Cert.MlpBackwardIdeal.nD Cert.MlpBackwardIdeal.τ).loc Cert.MlpBackwardIdeal.main_arg7)) (m ((c.tc : Thread Cert.MlpBackwardIdeal.nD Cert.MlpBackwardIdeal.τ).loc Cert.MlpBackwardIdeal.main_arg8))) = (fun _ => 1#1)

def Pre_MlpReferenceIdeal (m : (ℓ : Loc Cert.MlpReferenceIdeal.nD Cert.MlpReferenceIdeal.τ Cert.MlpReferenceIdeal.sig) → Buf (Elt Ideal) ℓ) : Prop :=
  True

def Pre_MlpReferenceIdeal_mlp_finite [hPre_mlp_finite : Cert.Pre_mlp_finite.Facts] (m : (ℓ : Loc Cert.MlpReferenceIdeal.nD Cert.MlpReferenceIdeal.τ Cert.MlpReferenceIdeal.sig) → Buf (Elt Ideal) ℓ) : Prop :=
  ∀ c : Dev Cert.MlpReferenceIdeal.nD,
    (Cert.Pre_mlp_finite.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4)) (m ((c.tc : Thread Cert.MlpReferenceIdeal.nD Cert.MlpReferenceIdeal.τ).loc Cert.MlpReferenceIdeal.main_arg5)) (m ((c.tc : Thread Cert.MlpReferenceIdeal.nD Cert.MlpReferenceIdeal.τ).loc Cert.MlpReferenceIdeal.main_arg6)) (m ((c.tc : Thread Cert.MlpReferenceIdeal.nD Cert.MlpReferenceIdeal.τ).loc Cert.MlpReferenceIdeal.main_arg7)) (m ((c.tc : Thread Cert.MlpReferenceIdeal.nD Cert.MlpReferenceIdeal.τ).loc Cert.MlpReferenceIdeal.main_arg8))) = (fun _ => 1#1)

def Pre_ProjBackward (m : (ℓ : Loc Cert.ProjBackward.nD Cert.ProjBackward.τ Cert.ProjBackward.sig) → Buf (Elt Bits) ℓ) : Prop :=
  True

def Pre_ProjBackwardIdeal (m : (ℓ : Loc Cert.ProjBackwardIdeal.nD Cert.ProjBackwardIdeal.τ Cert.ProjBackwardIdeal.sig) → Buf (Elt Ideal) ℓ) : Prop :=
  True

def Pre_ProjBackwardIdeal_proj_finite [hPre_proj_finite : Cert.Pre_proj_finite.Facts] (m : (ℓ : Loc Cert.ProjBackwardIdeal.nD Cert.ProjBackwardIdeal.τ Cert.ProjBackwardIdeal.sig) → Buf (Elt Ideal) ℓ) : Prop :=
  ∀ c : Dev Cert.ProjBackwardIdeal.nD,
    (Cert.Pre_proj_finite.fn (F := Ideal) (m ((c.tc : Thread Cert.ProjBackwardIdeal.nD Cert.ProjBackwardIdeal.τ).loc Cert.ProjBackwardIdeal.main_arg0)) (m ((c.tc : Thread Cert.ProjBackwardIdeal.nD Cert.ProjBackwardIdeal.τ).loc Cert.ProjBackwardIdeal.main_arg1)) (m ((c.tc : Thread Cert.ProjBackwardIdeal.nD Cert.ProjBackwardIdeal.τ).loc Cert.ProjBackwardIdeal.main_arg2)) (m ((c.tc : Thread Cert.ProjBackwardIdeal.nD Cert.ProjBackwardIdeal.τ).loc Cert.ProjBackwardIdeal.main_arg3)) (m ((c.tc : Thread Cert.ProjBackwardIdeal.nD Cert.ProjBackwardIdeal.τ).loc Cert.ProjBackwardIdeal.main_arg4)) (m ((c.tc : Thread Cert.ProjBackwardIdeal.nD Cert.ProjBackwardIdeal.τ).loc Cert.ProjBackwardIdeal.main_arg5)) (m ((c.tc : Thread Cert.ProjBackwardIdeal.nD Cert.ProjBackwardIdeal.τ).loc Cert.ProjBackwardIdeal.main_arg6))) = (fun _ => 1#1)

def Pre_ProjReferenceIdeal (m : (ℓ : Loc Cert.ProjReferenceIdeal.nD Cert.ProjReferenceIdeal.τ Cert.ProjReferenceIdeal.sig) → Buf (Elt Ideal) ℓ) : Prop :=
  True

def Pre_ProjReferenceIdeal_proj_finite [hPre_proj_finite : Cert.Pre_proj_finite.Facts] (m : (ℓ : Loc Cert.ProjReferenceIdeal.nD Cert.ProjReferenceIdeal.τ Cert.ProjReferenceIdeal.sig) → Buf (Elt Ideal) ℓ) : Prop :=
  ∀ c : Dev Cert.ProjReferenceIdeal.nD,
    (Cert.Pre_proj_finite.fn (F := Ideal) (m ((c.tc : Thread Cert.ProjReferenceIdeal.nD Cert.ProjReferenceIdeal.τ).loc Cert.ProjReferenceIdeal.main_arg0)) (m ((c.tc : Thread Cert.ProjReferenceIdeal.nD Cert.ProjReferenceIdeal.τ).loc Cert.ProjReferenceIdeal.main_arg1)) (m ((c.tc : Thread Cert.ProjReferenceIdeal.nD Cert.ProjReferenceIdeal.τ).loc Cert.ProjReferenceIdeal.main_arg2)) (m ((c.tc : Thread Cert.ProjReferenceIdeal.nD Cert.ProjReferenceIdeal.τ).loc Cert.ProjReferenceIdeal.main_arg3)) (m ((c.tc : Thread Cert.ProjReferenceIdeal.nD Cert.ProjReferenceIdeal.τ).loc Cert.ProjReferenceIdeal.main_arg4)) (m ((c.tc : Thread Cert.ProjReferenceIdeal.nD Cert.ProjReferenceIdeal.τ).loc Cert.ProjReferenceIdeal.main_arg5)) (m ((c.tc : Thread Cert.ProjReferenceIdeal.nD Cert.ProjReferenceIdeal.τ).loc Cert.ProjReferenceIdeal.main_arg6))) = (fun _ => 1#1)

def Pre_DownBackward (m : (ℓ : Loc Cert.DownBackward.nD Cert.DownBackward.τ Cert.DownBackward.sig) → Buf (Elt Bits) ℓ) : Prop :=
  True

def Pre_DownBackwardIdeal (m : (ℓ : Loc Cert.DownBackwardIdeal.nD Cert.DownBackwardIdeal.τ Cert.DownBackwardIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_ModBackward (m : (ℓ : Loc Cert.ModBackward.nD Cert.ModBackward.τ Cert.ModBackward.sig) → Buf (Elt Bits) ℓ) : Prop :=
  True

def Pre_ModBackwardIdeal (m : (ℓ : Loc Cert.ModBackwardIdeal.nD Cert.ModBackwardIdeal.τ Cert.ModBackwardIdeal.sig) → Buf (Elt Ideal) ℓ) : Prop :=
  True

def Pre_ModReferenceIdeal (m : (ℓ : Loc Cert.ModReferenceIdeal.nD Cert.ModReferenceIdeal.τ Cert.ModReferenceIdeal.sig) → Buf (Elt Ideal) ℓ) : Prop :=
  True

def Pre_MixerBackward (m : (ℓ : Loc Cert.MixerBackward.nD Cert.MixerBackward.τ Cert.MixerBackward.sig) → Buf (Elt Bits) ℓ) : Prop :=
  True

def Pre_MixerBackwardIdeal (m : (ℓ : Loc Cert.MixerBackwardIdeal.nD Cert.MixerBackwardIdeal.τ Cert.MixerBackwardIdeal.sig) → Buf (Elt Ideal) ℓ) : Prop :=
  True

def Pre_MixerReferenceIdeal (m : (ℓ : Loc Cert.MixerReferenceIdeal.nD Cert.MixerReferenceIdeal.τ Cert.MixerReferenceIdeal.sig) → Buf (Elt Ideal) ℓ) : Prop :=
  True

def Pre_MlpForward (m : (ℓ : Loc Cert.MlpForward.nD Cert.MlpForward.τ Cert.MlpForward.sig) → Buf (Elt Bits) ℓ) : Prop :=
  True

def Pre_MlpForwardIdeal (m : (ℓ : Loc Cert.MlpForwardIdeal.nD Cert.MlpForwardIdeal.τ Cert.MlpForwardIdeal.sig) → Buf (Elt Ideal) ℓ) : Prop :=
  True

def Pre_MlpForwardReferenceIdeal (m : (ℓ : Loc Cert.MlpForwardReferenceIdeal.nD Cert.MlpForwardReferenceIdeal.τ Cert.MlpForwardReferenceIdeal.sig) → Buf (Elt Ideal) ℓ) : Prop :=
  True

def Pre_ModForward (m : (ℓ : Loc Cert.ModForward.nD Cert.ModForward.τ Cert.ModForward.sig) → Buf (Elt Bits) ℓ) : Prop :=
  True

def Pre_ModForwardIdeal (m : (ℓ : Loc Cert.ModForwardIdeal.nD Cert.ModForwardIdeal.τ Cert.ModForwardIdeal.sig) → Buf (Elt Ideal) ℓ) : Prop :=
  True

def Pre_ModForwardReferenceIdeal (m : (ℓ : Loc Cert.ModForwardReferenceIdeal.nD Cert.ModForwardReferenceIdeal.τ Cert.ModForwardReferenceIdeal.sig) → Buf (Elt Ideal) ℓ) : Prop :=
  True

def Pre_WinBackward (m : (ℓ : Loc Cert.WinBackward.nD Cert.WinBackward.τ Cert.WinBackward.sig) → Buf (Elt Bits) ℓ) : Prop :=
  True

def Pre_WinBackwardIdeal (m : (ℓ : Loc Cert.WinBackwardIdeal.nD Cert.WinBackwardIdeal.τ Cert.WinBackwardIdeal.sig) → Buf (Elt Ideal) ℓ) : Prop :=
  True

def Pre_WinReferenceIdeal (m : (ℓ : Loc Cert.WinReferenceIdeal.nD Cert.WinReferenceIdeal.τ Cert.WinReferenceIdeal.sig) → Buf (Elt Ideal) ℓ) : Prop :=
  True

def Pre_NormProj (m : (ℓ : Loc Cert.NormProj.nD Cert.NormProj.τ Cert.NormProj.sig) → Buf (Elt Bits) ℓ) : Prop :=
  True

def Pre_NormProjIdeal (m : (ℓ : Loc Cert.NormProjIdeal.nD Cert.NormProjIdeal.τ Cert.NormProjIdeal.sig) → Buf (Elt Ideal) ℓ) : Prop :=
  True

def Pre_NormProjReferenceIdeal (m : (ℓ : Loc Cert.NormProjReferenceIdeal.nD Cert.NormProjReferenceIdeal.τ Cert.NormProjReferenceIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwReferenceIdeal (m : (ℓ : Loc Cert.AdamwReferenceIdeal.nD Cert.AdamwReferenceIdeal.τ Cert.AdamwReferenceIdeal.sig) → Buf (Elt Ideal) ℓ) : Prop :=
  True

def quiescent_MlpBackward [hMlpBackward : Cert.MlpBackward.Facts] : Prop :=
  ∀ (m : (ℓ : Loc Cert.MlpBackward.nD Cert.MlpBackward.τ Cert.MlpBackward.sig) → Buf (Elt Bits) ℓ) (g : Dev Cert.MlpBackward.nD → PrngReg), Pre_MlpBackward m →
    θ_run (Cert.MlpBackward.defs (F := Bits)) (onTc (τ := Cert.MlpBackward.τ) (Cert.MlpBackward.main (F := Bits))) ⟨m, fun _ => 0, g⟩ (fun r => (∀ c : Dev Cert.MlpBackward.nD,
      r.2.mem ((c.tc : Thread Cert.MlpBackward.nD Cert.MlpBackward.τ).loc Cert.MlpBackward.main_arg0) = m ((c.tc : Thread Cert.MlpBackward.nD Cert.MlpBackward.τ).loc Cert.MlpBackward.main_arg0)
      ∧ r.2.mem ((c.tc : Thread Cert.MlpBackward.nD Cert.MlpBackward.τ).loc Cert.MlpBackward.main_arg1) = m ((c.tc : Thread Cert.MlpBackward.nD Cert.MlpBackward.τ).loc Cert.MlpBackward.main_arg1)
      ∧ r.2.mem ((c.tc : Thread Cert.MlpBackward.nD Cert.MlpBackward.τ).loc Cert.MlpBackward.main_arg2) = m ((c.tc : Thread Cert.MlpBackward.nD Cert.MlpBackward.τ).loc Cert.MlpBackward.main_arg2)
      ∧ r.2.mem ((c.tc : Thread Cert.MlpBackward.nD Cert.MlpBackward.τ).loc Cert.MlpBackward.main_arg3) = m ((c.tc : Thread Cert.MlpBackward.nD Cert.MlpBackward.τ).loc Cert.MlpBackward.main_arg3)
      ∧ r.2.mem ((c.tc : Thread Cert.MlpBackward.nD Cert.MlpBackward.τ).loc Cert.MlpBackward.main_arg4) = m ((c.tc : Thread Cert.MlpBackward.nD Cert.MlpBackward.τ).loc Cert.MlpBackward.main_arg4)
      ∧ r.2.mem ((c.tc : Thread Cert.MlpBackward.nD Cert.MlpBackward.τ).loc Cert.MlpBackward.main_arg5) = m ((c.tc : Thread Cert.MlpBackward.nD Cert.MlpBackward.τ).loc Cert.MlpBackward.main_arg5)
      ∧ r.2.mem ((c.tc : Thread Cert.MlpBackward.nD Cert.MlpBackward.τ).loc Cert.MlpBackward.main_arg6) = m ((c.tc : Thread Cert.MlpBackward.nD Cert.MlpBackward.τ).loc Cert.MlpBackward.main_arg6)
      ∧ r.2.mem ((c.tc : Thread Cert.MlpBackward.nD Cert.MlpBackward.τ).loc Cert.MlpBackward.main_arg7) = m ((c.tc : Thread Cert.MlpBackward.nD Cert.MlpBackward.τ).loc Cert.MlpBackward.main_arg7)
      ∧ r.2.mem ((c.tc : Thread Cert.MlpBackward.nD Cert.MlpBackward.τ).loc Cert.MlpBackward.main_arg8) = m ((c.tc : Thread Cert.MlpBackward.nD Cert.MlpBackward.τ).loc Cert.MlpBackward.main_arg8))
      ∧ r.2.sem = fun _ => 0)

def quiescent_MlpBackwardIdeal [hMlpBackwardIdeal : Cert.MlpBackwardIdeal.Facts] : Prop :=
  ∀ (m : (ℓ : Loc Cert.MlpBackwardIdeal.nD Cert.MlpBackwardIdeal.τ Cert.MlpBackwardIdeal.sig) → Buf (Elt Ideal) ℓ) (g : Dev Cert.MlpBackwardIdeal.nD → PrngReg), Pre_MlpBackwardIdeal m →
    θ_run (Cert.MlpBackwardIdeal.defs (F := Ideal)) (onTc (τ := Cert.MlpBackwardIdeal.τ) (Cert.MlpBackwardIdeal.main (F := Ideal))) ⟨m, fun _ => 0, g⟩ (fun r => (∀ c : Dev Cert.MlpBackwardIdeal.nD,
      r.2.mem ((c.tc : Thread Cert.MlpBackwardIdeal.nD Cert.MlpBackwardIdeal.τ).loc Cert.MlpBackwardIdeal.main_arg0) = m ((c.tc : Thread Cert.MlpBackwardIdeal.nD Cert.MlpBackwardIdeal.τ).loc Cert.MlpBackwardIdeal.main_arg0)
      ∧ r.2.mem ((c.tc : Thread Cert.MlpBackwardIdeal.nD Cert.MlpBackwardIdeal.τ).loc Cert.MlpBackwardIdeal.main_arg1) = m ((c.tc : Thread Cert.MlpBackwardIdeal.nD Cert.MlpBackwardIdeal.τ).loc Cert.MlpBackwardIdeal.main_arg1)
      ∧ r.2.mem ((c.tc : Thread Cert.MlpBackwardIdeal.nD Cert.MlpBackwardIdeal.τ).loc Cert.MlpBackwardIdeal.main_arg2) = m ((c.tc : Thread Cert.MlpBackwardIdeal.nD Cert.MlpBackwardIdeal.τ).loc Cert.MlpBackwardIdeal.main_arg2)
      ∧ r.2.mem ((c.tc : Thread Cert.MlpBackwardIdeal.nD Cert.MlpBackwardIdeal.τ).loc Cert.MlpBackwardIdeal.main_arg3) = m ((c.tc : Thread Cert.MlpBackwardIdeal.nD Cert.MlpBackwardIdeal.τ).loc Cert.MlpBackwardIdeal.main_arg3)
      ∧ r.2.mem ((c.tc : Thread Cert.MlpBackwardIdeal.nD Cert.MlpBackwardIdeal.τ).loc Cert.MlpBackwardIdeal.main_arg4) = m ((c.tc : Thread Cert.MlpBackwardIdeal.nD Cert.MlpBackwardIdeal.τ).loc Cert.MlpBackwardIdeal.main_arg4)
      ∧ r.2.mem ((c.tc : Thread Cert.MlpBackwardIdeal.nD Cert.MlpBackwardIdeal.τ).loc Cert.MlpBackwardIdeal.main_arg5) = m ((c.tc : Thread Cert.MlpBackwardIdeal.nD Cert.MlpBackwardIdeal.τ).loc Cert.MlpBackwardIdeal.main_arg5)
      ∧ r.2.mem ((c.tc : Thread Cert.MlpBackwardIdeal.nD Cert.MlpBackwardIdeal.τ).loc Cert.MlpBackwardIdeal.main_arg6) = m ((c.tc : Thread Cert.MlpBackwardIdeal.nD Cert.MlpBackwardIdeal.τ).loc Cert.MlpBackwardIdeal.main_arg6)
      ∧ r.2.mem ((c.tc : Thread Cert.MlpBackwardIdeal.nD Cert.MlpBackwardIdeal.τ).loc Cert.MlpBackwardIdeal.main_arg7) = m ((c.tc : Thread Cert.MlpBackwardIdeal.nD Cert.MlpBackwardIdeal.τ).loc Cert.MlpBackwardIdeal.main_arg7)
      ∧ r.2.mem ((c.tc : Thread Cert.MlpBackwardIdeal.nD Cert.MlpBackwardIdeal.τ).loc Cert.MlpBackwardIdeal.main_arg8) = m ((c.tc : Thread Cert.MlpBackwardIdeal.nD Cert.MlpBackwardIdeal.τ).loc Cert.MlpBackwardIdeal.main_arg8))
      ∧ r.2.sem = fun _ => 0)

def quiescent_MlpBackwardIdeal_pre_mlp_finite [hMlpBackwardIdeal : Cert.MlpBackwardIdeal.Facts] [hPre_mlp_finite : Cert.Pre_mlp_finite.Facts] : Prop :=
  ∀ (m : (ℓ : Loc Cert.MlpBackwardIdeal.nD Cert.MlpBackwardIdeal.τ Cert.MlpBackwardIdeal.sig) → Buf (Elt Ideal) ℓ) (g : Dev Cert.MlpBackwardIdeal.nD → PrngReg), Pre_MlpBackwardIdeal_mlp_finite m →
    θ_run (Cert.MlpBackwardIdeal.defs (F := Ideal)) (onTc (τ := Cert.MlpBackwardIdeal.τ) (Cert.MlpBackwardIdeal.main (F := Ideal))) ⟨m, fun _ => 0, g⟩ (fun r => (∀ c : Dev Cert.MlpBackwardIdeal.nD,
      r.2.mem ((c.tc : Thread Cert.MlpBackwardIdeal.nD Cert.MlpBackwardIdeal.τ).loc Cert.MlpBackwardIdeal.main_arg0) = m ((c.tc : Thread Cert.MlpBackwardIdeal.nD Cert.MlpBackwardIdeal.τ).loc Cert.MlpBackwardIdeal.main_arg0)
      ∧ r.2.mem ((c.tc : Thread Cert.MlpBackwardIdeal.nD Cert.MlpBackwardIdeal.τ).loc Cert.MlpBackwardIdeal.main_arg1) = m ((c.tc : Thread Cert.MlpBackwardIdeal.nD Cert.MlpBackwardIdeal.τ).loc Cert.MlpBackwardIdeal.main_arg1)
      ∧ r.2.mem ((c.tc : Thread Cert.MlpBackwardIdeal.nD Cert.MlpBackwardIdeal.τ).loc Cert.MlpBackwardIdeal.main_arg2) = m ((c.tc : Thread Cert.MlpBackwardIdeal.nD Cert.MlpBackwardIdeal.τ).loc Cert.MlpBackwardIdeal.main_arg2)
      ∧ r.2.mem ((c.tc : Thread Cert.MlpBackwardIdeal.nD Cert.MlpBackwardIdeal.τ).loc Cert.MlpBackwardIdeal.main_arg3) = m ((c.tc : Thread Cert.MlpBackwardIdeal.nD Cert.MlpBackwardIdeal.τ).loc Cert.MlpBackwardIdeal.main_arg3)
      ∧ r.2.mem ((c.tc : Thread Cert.MlpBackwardIdeal.nD Cert.MlpBackwardIdeal.τ).loc Cert.MlpBackwardIdeal.main_arg4) = m ((c.tc : Thread Cert.MlpBackwardIdeal.nD Cert.MlpBackwardIdeal.τ).loc Cert.MlpBackwardIdeal.main_arg4)
      ∧ r.2.mem ((c.tc : Thread Cert.MlpBackwardIdeal.nD Cert.MlpBackwardIdeal.τ).loc Cert.MlpBackwardIdeal.main_arg5) = m ((c.tc : Thread Cert.MlpBackwardIdeal.nD Cert.MlpBackwardIdeal.τ).loc Cert.MlpBackwardIdeal.main_arg5)
      ∧ r.2.mem ((c.tc : Thread Cert.MlpBackwardIdeal.nD Cert.MlpBackwardIdeal.τ).loc Cert.MlpBackwardIdeal.main_arg6) = m ((c.tc : Thread Cert.MlpBackwardIdeal.nD Cert.MlpBackwardIdeal.τ).loc Cert.MlpBackwardIdeal.main_arg6)
      ∧ r.2.mem ((c.tc : Thread Cert.MlpBackwardIdeal.nD Cert.MlpBackwardIdeal.τ).loc Cert.MlpBackwardIdeal.main_arg7) = m ((c.tc : Thread Cert.MlpBackwardIdeal.nD Cert.MlpBackwardIdeal.τ).loc Cert.MlpBackwardIdeal.main_arg7)
      ∧ r.2.mem ((c.tc : Thread Cert.MlpBackwardIdeal.nD Cert.MlpBackwardIdeal.τ).loc Cert.MlpBackwardIdeal.main_arg8) = m ((c.tc : Thread Cert.MlpBackwardIdeal.nD Cert.MlpBackwardIdeal.τ).loc Cert.MlpBackwardIdeal.main_arg8))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
      ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7)
      ∧ r.2.mem ((c.tc : Thread Cert.MlpReferenceIdeal.nD Cert.MlpReferenceIdeal.τ).loc Cert.MlpReferenceIdeal.main_arg8) = m ((c.tc : Thread Cert.MlpReferenceIdeal.nD Cert.MlpReferenceIdeal.τ).loc Cert.MlpReferenceIdeal.main_arg8))
      ∧ r.2.sem = fun _ => 0)

def quiescent_MlpReferenceIdeal_pre_mlp_finite [hMlpReferenceIdeal : Cert.MlpReferenceIdeal.Facts] [hPre_mlp_finite : Cert.Pre_mlp_finite.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal_mlp_finite m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
      ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7)
      ∧ r.2.mem ((c.tc : Thread Cert.MlpReferenceIdeal.nD Cert.MlpReferenceIdeal.τ).loc Cert.MlpReferenceIdeal.main_arg8) = m ((c.tc : Thread Cert.MlpReferenceIdeal.nD Cert.MlpReferenceIdeal.τ).loc Cert.MlpReferenceIdeal.main_arg8))
      ∧ r.2.sem = fun _ => 0)

def quiescent_ProjBackward [hProjBackward : Cert.ProjBackward.Facts] : Prop :=
  ∀ (m : (ℓ : Loc Cert.ProjBackward.nD Cert.ProjBackward.τ Cert.ProjBackward.sig) → Buf (Elt Bits) ℓ) (g : Dev Cert.ProjBackward.nD → PrngReg), Pre_ProjBackward m →
    θ_run (Cert.ProjBackward.defs (F := Bits)) (onTc (τ := Cert.ProjBackward.τ) (Cert.ProjBackward.main (F := Bits))) ⟨m, fun _ => 0, g⟩ (fun r => (∀ c : Dev Cert.ProjBackward.nD,
      r.2.mem ((c.tc : Thread Cert.ProjBackward.nD Cert.ProjBackward.τ).loc Cert.ProjBackward.main_arg0) = m ((c.tc : Thread Cert.ProjBackward.nD Cert.ProjBackward.τ).loc Cert.ProjBackward.main_arg0)
      ∧ r.2.mem ((c.tc : Thread Cert.ProjBackward.nD Cert.ProjBackward.τ).loc Cert.ProjBackward.main_arg1) = m ((c.tc : Thread Cert.ProjBackward.nD Cert.ProjBackward.τ).loc Cert.ProjBackward.main_arg1)
      ∧ r.2.mem ((c.tc : Thread Cert.ProjBackward.nD Cert.ProjBackward.τ).loc Cert.ProjBackward.main_arg2) = m ((c.tc : Thread Cert.ProjBackward.nD Cert.ProjBackward.τ).loc Cert.ProjBackward.main_arg2)
      ∧ r.2.mem ((c.tc : Thread Cert.ProjBackward.nD Cert.ProjBackward.τ).loc Cert.ProjBackward.main_arg3) = m ((c.tc : Thread Cert.ProjBackward.nD Cert.ProjBackward.τ).loc Cert.ProjBackward.main_arg3)
      ∧ r.2.mem ((c.tc : Thread Cert.ProjBackward.nD Cert.ProjBackward.τ).loc Cert.ProjBackward.main_arg4) = m ((c.tc : Thread Cert.ProjBackward.nD Cert.ProjBackward.τ).loc Cert.ProjBackward.main_arg4)
      ∧ r.2.mem ((c.tc : Thread Cert.ProjBackward.nD Cert.ProjBackward.τ).loc Cert.ProjBackward.main_arg5) = m ((c.tc : Thread Cert.ProjBackward.nD Cert.ProjBackward.τ).loc Cert.ProjBackward.main_arg5)
      ∧ r.2.mem ((c.tc : Thread Cert.ProjBackward.nD Cert.ProjBackward.τ).loc Cert.ProjBackward.main_arg6) = m ((c.tc : Thread Cert.ProjBackward.nD Cert.ProjBackward.τ).loc Cert.ProjBackward.main_arg6))
      ∧ r.2.sem = fun _ => 0)

def quiescent_ProjBackwardIdeal [hProjBackwardIdeal : Cert.ProjBackwardIdeal.Facts] : Prop :=
  ∀ (m : (ℓ : Loc Cert.ProjBackwardIdeal.nD Cert.ProjBackwardIdeal.τ Cert.ProjBackwardIdeal.sig) → Buf (Elt Ideal) ℓ) (g : Dev Cert.ProjBackwardIdeal.nD → PrngReg), Pre_ProjBackwardIdeal m →
    θ_run (Cert.ProjBackwardIdeal.defs (F := Ideal)) (onTc (τ := Cert.ProjBackwardIdeal.τ) (Cert.ProjBackwardIdeal.main (F := Ideal))) ⟨m, fun _ => 0, g⟩ (fun r => (∀ c : Dev Cert.ProjBackwardIdeal.nD,
      r.2.mem ((c.tc : Thread Cert.ProjBackwardIdeal.nD Cert.ProjBackwardIdeal.τ).loc Cert.ProjBackwardIdeal.main_arg0) = m ((c.tc : Thread Cert.ProjBackwardIdeal.nD Cert.ProjBackwardIdeal.τ).loc Cert.ProjBackwardIdeal.main_arg0)
      ∧ r.2.mem ((c.tc : Thread Cert.ProjBackwardIdeal.nD Cert.ProjBackwardIdeal.τ).loc Cert.ProjBackwardIdeal.main_arg1) = m ((c.tc : Thread Cert.ProjBackwardIdeal.nD Cert.ProjBackwardIdeal.τ).loc Cert.ProjBackwardIdeal.main_arg1)
      ∧ r.2.mem ((c.tc : Thread Cert.ProjBackwardIdeal.nD Cert.ProjBackwardIdeal.τ).loc Cert.ProjBackwardIdeal.main_arg2) = m ((c.tc : Thread Cert.ProjBackwardIdeal.nD Cert.ProjBackwardIdeal.τ).loc Cert.ProjBackwardIdeal.main_arg2)
      ∧ r.2.mem ((c.tc : Thread Cert.ProjBackwardIdeal.nD Cert.ProjBackwardIdeal.τ).loc Cert.ProjBackwardIdeal.main_arg3) = m ((c.tc : Thread Cert.ProjBackwardIdeal.nD Cert.ProjBackwardIdeal.τ).loc Cert.ProjBackwardIdeal.main_arg3)
      ∧ r.2.mem ((c.tc : Thread Cert.ProjBackwardIdeal.nD Cert.ProjBackwardIdeal.τ).loc Cert.ProjBackwardIdeal.main_arg4) = m ((c.tc : Thread Cert.ProjBackwardIdeal.nD Cert.ProjBackwardIdeal.τ).loc Cert.ProjBackwardIdeal.main_arg4)
      ∧ r.2.mem ((c.tc : Thread Cert.ProjBackwardIdeal.nD Cert.ProjBackwardIdeal.τ).loc Cert.ProjBackwardIdeal.main_arg5) = m ((c.tc : Thread Cert.ProjBackwardIdeal.nD Cert.ProjBackwardIdeal.τ).loc Cert.ProjBackwardIdeal.main_arg5)
      ∧ r.2.mem ((c.tc : Thread Cert.ProjBackwardIdeal.nD Cert.ProjBackwardIdeal.τ).loc Cert.ProjBackwardIdeal.main_arg6) = m ((c.tc : Thread Cert.ProjBackwardIdeal.nD Cert.ProjBackwardIdeal.τ).loc Cert.ProjBackwardIdeal.main_arg6))
      ∧ r.2.sem = fun _ => 0)

def quiescent_ProjBackwardIdeal_pre_proj_finite [hProjBackwardIdeal : Cert.ProjBackwardIdeal.Facts] [hPre_proj_finite : Cert.Pre_proj_finite.Facts] : Prop :=
  ∀ (m : (ℓ : Loc Cert.ProjBackwardIdeal.nD Cert.ProjBackwardIdeal.τ Cert.ProjBackwardIdeal.sig) → Buf (Elt Ideal) ℓ) (g : Dev Cert.ProjBackwardIdeal.nD → PrngReg), Pre_ProjBackwardIdeal_proj_finite m →
    θ_run (Cert.ProjBackwardIdeal.defs (F := Ideal)) (onTc (τ := Cert.ProjBackwardIdeal.τ) (Cert.ProjBackwardIdeal.main (F := Ideal))) ⟨m, fun _ => 0, g⟩ (fun r => (∀ c : Dev Cert.ProjBackwardIdeal.nD,
      r.2.mem ((c.tc : Thread Cert.ProjBackwardIdeal.nD Cert.ProjBackwardIdeal.τ).loc Cert.ProjBackwardIdeal.main_arg0) = m ((c.tc : Thread Cert.ProjBackwardIdeal.nD Cert.ProjBackwardIdeal.τ).loc Cert.ProjBackwardIdeal.main_arg0)
      ∧ r.2.mem ((c.tc : Thread Cert.ProjBackwardIdeal.nD Cert.ProjBackwardIdeal.τ).loc Cert.ProjBackwardIdeal.main_arg1) = m ((c.tc : Thread Cert.ProjBackwardIdeal.nD Cert.ProjBackwardIdeal.τ).loc Cert.ProjBackwardIdeal.main_arg1)
      ∧ r.2.mem ((c.tc : Thread Cert.ProjBackwardIdeal.nD Cert.ProjBackwardIdeal.τ).loc Cert.ProjBackwardIdeal.main_arg2) = m ((c.tc : Thread Cert.ProjBackwardIdeal.nD Cert.ProjBackwardIdeal.τ).loc Cert.ProjBackwardIdeal.main_arg2)
      ∧ r.2.mem ((c.tc : Thread Cert.ProjBackwardIdeal.nD Cert.ProjBackwardIdeal.τ).loc Cert.ProjBackwardIdeal.main_arg3) = m ((c.tc : Thread Cert.ProjBackwardIdeal.nD Cert.ProjBackwardIdeal.τ).loc Cert.ProjBackwardIdeal.main_arg3)
      ∧ r.2.mem ((c.tc : Thread Cert.ProjBackwardIdeal.nD Cert.ProjBackwardIdeal.τ).loc Cert.ProjBackwardIdeal.main_arg4) = m ((c.tc : Thread Cert.ProjBackwardIdeal.nD Cert.ProjBackwardIdeal.τ).loc Cert.ProjBackwardIdeal.main_arg4)
      ∧ r.2.mem ((c.tc : Thread Cert.ProjBackwardIdeal.nD Cert.ProjBackwardIdeal.τ).loc Cert.ProjBackwardIdeal.main_arg5) = m ((c.tc : Thread Cert.ProjBackwardIdeal.nD Cert.ProjBackwardIdeal.τ).loc Cert.ProjBackwardIdeal.main_arg5)
      ∧ r.2.mem ((c.tc : Thread Cert.ProjBackwardIdeal.nD Cert.ProjBackwardIdeal.τ).loc Cert.ProjBackwardIdeal.main_arg6) = m ((c.tc : Thread Cert.ProjBackwardIdeal.nD Cert.ProjBackwardIdeal.τ).loc Cert.ProjBackwardIdeal.main_arg6))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6))
      ∧ r.2.sem = fun _ => 0)

def quiescent_ProjReferenceIdeal_pre_proj_finite [hProjReferenceIdeal : Cert.ProjReferenceIdeal.Facts] [hPre_proj_finite : Cert.Pre_proj_finite.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal_proj_finite m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6))
      ∧ r.2.sem = fun _ => 0)

def quiescent_DownBackward [hDownBackward : Cert.DownBackward.Facts] : Prop :=
  ∀ (m : (ℓ : Loc Cert.DownBackward.nD Cert.DownBackward.τ Cert.DownBackward.sig) → Buf (Elt Bits) ℓ) (g : Dev Cert.DownBackward.nD → PrngReg), Pre_DownBackward m →
    θ_run (Cert.DownBackward.defs (F := Bits)) (onTc (τ := Cert.DownBackward.τ) (Cert.DownBackward.main (F := Bits))) ⟨m, fun _ => 0, g⟩ (fun r => (∀ c : Dev Cert.DownBackward.nD,
      r.2.mem ((c.tc : Thread Cert.DownBackward.nD Cert.DownBackward.τ).loc Cert.DownBackward.main_arg0) = m ((c.tc : Thread Cert.DownBackward.nD Cert.DownBackward.τ).loc Cert.DownBackward.main_arg0)
      ∧ r.2.mem ((c.tc : Thread Cert.DownBackward.nD Cert.DownBackward.τ).loc Cert.DownBackward.main_arg1) = m ((c.tc : Thread Cert.DownBackward.nD Cert.DownBackward.τ).loc Cert.DownBackward.main_arg1)
      ∧ r.2.mem ((c.tc : Thread Cert.DownBackward.nD Cert.DownBackward.τ).loc Cert.DownBackward.main_arg2) = m ((c.tc : Thread Cert.DownBackward.nD Cert.DownBackward.τ).loc Cert.DownBackward.main_arg2)
      ∧ r.2.mem ((c.tc : Thread Cert.DownBackward.nD Cert.DownBackward.τ).loc Cert.DownBackward.main_arg3) = m ((c.tc : Thread Cert.DownBackward.nD Cert.DownBackward.τ).loc Cert.DownBackward.main_arg3)
      ∧ r.2.mem ((c.tc : Thread Cert.DownBackward.nD Cert.DownBackward.τ).loc Cert.DownBackward.main_arg4) = m ((c.tc : Thread Cert.DownBackward.nD Cert.DownBackward.τ).loc Cert.DownBackward.main_arg4)
      ∧ r.2.mem ((c.tc : Thread Cert.DownBackward.nD Cert.DownBackward.τ).loc Cert.DownBackward.main_arg5) = m ((c.tc : Thread Cert.DownBackward.nD Cert.DownBackward.τ).loc Cert.DownBackward.main_arg5)
      ∧ r.2.mem ((c.tc : Thread Cert.DownBackward.nD Cert.DownBackward.τ).loc Cert.DownBackward.main_arg6) = m ((c.tc : Thread Cert.DownBackward.nD Cert.DownBackward.τ).loc Cert.DownBackward.main_arg6))
      ∧ r.2.sem = fun _ => 0)

def quiescent_DownBackwardIdeal [hDownBackwardIdeal : Cert.DownBackwardIdeal.Facts] : Prop :=
  ∀ (m : (ℓ : Loc Cert.DownBackwardIdeal.nD Cert.DownBackwardIdeal.τ Cert.DownBackwardIdeal.sig) → Buf (Elt Ideal) ℓ) (g : Dev Cert.DownBackwardIdeal.nD → PrngReg), Pre_DownBackwardIdeal m →
    θ_run (Cert.DownBackwardIdeal.defs (F := Ideal)) (onTc (τ := Cert.DownBackwardIdeal.τ) (Cert.DownBackwardIdeal.main (F := Ideal))) ⟨m, fun _ => 0, g⟩ (fun r => (∀ c : Dev Cert.DownBackwardIdeal.nD,
      r.2.mem ((c.tc : Thread Cert.DownBackwardIdeal.nD Cert.DownBackwardIdeal.τ).loc Cert.DownBackwardIdeal.main_arg0) = m ((c.tc : Thread Cert.DownBackwardIdeal.nD Cert.DownBackwardIdeal.τ).loc Cert.DownBackwardIdeal.main_arg0)
      ∧ r.2.mem ((c.tc : Thread Cert.DownBackwardIdeal.nD Cert.DownBackwardIdeal.τ).loc Cert.DownBackwardIdeal.main_arg1) = m ((c.tc : Thread Cert.DownBackwardIdeal.nD Cert.DownBackwardIdeal.τ).loc Cert.DownBackwardIdeal.main_arg1)
      ∧ r.2.mem ((c.tc : Thread Cert.DownBackwardIdeal.nD Cert.DownBackwardIdeal.τ).loc Cert.DownBackwardIdeal.main_arg2) = m ((c.tc : Thread Cert.DownBackwardIdeal.nD Cert.DownBackwardIdeal.τ).loc Cert.DownBackwardIdeal.main_arg2)
      ∧ r.2.mem ((c.tc : Thread Cert.DownBackwardIdeal.nD Cert.DownBackwardIdeal.τ).loc Cert.DownBackwardIdeal.main_arg3) = m ((c.tc : Thread Cert.DownBackwardIdeal.nD Cert.DownBackwardIdeal.τ).loc Cert.DownBackwardIdeal.main_arg3)
      ∧ r.2.mem ((c.tc : Thread Cert.DownBackwardIdeal.nD Cert.DownBackwardIdeal.τ).loc Cert.DownBackwardIdeal.main_arg4) = m ((c.tc : Thread Cert.DownBackwardIdeal.nD Cert.DownBackwardIdeal.τ).loc Cert.DownBackwardIdeal.main_arg4)
      ∧ r.2.mem ((c.tc : Thread Cert.DownBackwardIdeal.nD Cert.DownBackwardIdeal.τ).loc Cert.DownBackwardIdeal.main_arg5) = m ((c.tc : Thread Cert.DownBackwardIdeal.nD Cert.DownBackwardIdeal.τ).loc Cert.DownBackwardIdeal.main_arg5)
      ∧ r.2.mem ((c.tc : Thread Cert.DownBackwardIdeal.nD Cert.DownBackwardIdeal.τ).loc Cert.DownBackwardIdeal.main_arg6) = m ((c.tc : Thread Cert.DownBackwardIdeal.nD Cert.DownBackwardIdeal.τ).loc Cert.DownBackwardIdeal.main_arg6))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3)
      ∧ r.2.mem ((c.tc : Thread Cert.DownReferenceIdeal.nD Cert.DownReferenceIdeal.τ).loc Cert.DownReferenceIdeal.main_arg4) = m ((c.tc : Thread Cert.DownReferenceIdeal.nD Cert.DownReferenceIdeal.τ).loc Cert.DownReferenceIdeal.main_arg4)
      ∧ r.2.mem ((c.tc : Thread Cert.DownReferenceIdeal.nD Cert.DownReferenceIdeal.τ).loc Cert.DownReferenceIdeal.main_arg5) = m ((c.tc : Thread Cert.DownReferenceIdeal.nD Cert.DownReferenceIdeal.τ).loc Cert.DownReferenceIdeal.main_arg5)
      ∧ r.2.mem ((c.tc : Thread Cert.DownReferenceIdeal.nD Cert.DownReferenceIdeal.τ).loc Cert.DownReferenceIdeal.main_arg6) = m ((c.tc : Thread Cert.DownReferenceIdeal.nD Cert.DownReferenceIdeal.τ).loc Cert.DownReferenceIdeal.main_arg6))
      ∧ r.2.sem = fun _ => 0)

def quiescent_ModBackward [hModBackward : Cert.ModBackward.Facts] : Prop :=
  ∀ (m : (ℓ : Loc Cert.ModBackward.nD Cert.ModBackward.τ Cert.ModBackward.sig) → Buf (Elt Bits) ℓ) (g : Dev Cert.ModBackward.nD → PrngReg), Pre_ModBackward m →
    θ_run (Cert.ModBackward.defs (F := Bits)) (onTc (τ := Cert.ModBackward.τ) (Cert.ModBackward.main (F := Bits))) ⟨m, fun _ => 0, g⟩ (fun r => (∀ c : Dev Cert.ModBackward.nD,
      r.2.mem ((c.tc : Thread Cert.ModBackward.nD Cert.ModBackward.τ).loc Cert.ModBackward.main_arg0) = m ((c.tc : Thread Cert.ModBackward.nD Cert.ModBackward.τ).loc Cert.ModBackward.main_arg0)
      ∧ r.2.mem ((c.tc : Thread Cert.ModBackward.nD Cert.ModBackward.τ).loc Cert.ModBackward.main_arg1) = m ((c.tc : Thread Cert.ModBackward.nD Cert.ModBackward.τ).loc Cert.ModBackward.main_arg1)
      ∧ r.2.mem ((c.tc : Thread Cert.ModBackward.nD Cert.ModBackward.τ).loc Cert.ModBackward.main_arg2) = m ((c.tc : Thread Cert.ModBackward.nD Cert.ModBackward.τ).loc Cert.ModBackward.main_arg2))
      ∧ r.2.sem = fun _ => 0)

def quiescent_ModBackwardIdeal [hModBackwardIdeal : Cert.ModBackwardIdeal.Facts] : Prop :=
  ∀ (m : (ℓ : Loc Cert.ModBackwardIdeal.nD Cert.ModBackwardIdeal.τ Cert.ModBackwardIdeal.sig) → Buf (Elt Ideal) ℓ) (g : Dev Cert.ModBackwardIdeal.nD → PrngReg), Pre_ModBackwardIdeal m →
    θ_run (Cert.ModBackwardIdeal.defs (F := Ideal)) (onTc (τ := Cert.ModBackwardIdeal.τ) (Cert.ModBackwardIdeal.main (F := Ideal))) ⟨m, fun _ => 0, g⟩ (fun r => (∀ c : Dev Cert.ModBackwardIdeal.nD,
      r.2.mem ((c.tc : Thread Cert.ModBackwardIdeal.nD Cert.ModBackwardIdeal.τ).loc Cert.ModBackwardIdeal.main_arg0) = m ((c.tc : Thread Cert.ModBackwardIdeal.nD Cert.ModBackwardIdeal.τ).loc Cert.ModBackwardIdeal.main_arg0)
      ∧ r.2.mem ((c.tc : Thread Cert.ModBackwardIdeal.nD Cert.ModBackwardIdeal.τ).loc Cert.ModBackwardIdeal.main_arg1) = m ((c.tc : Thread Cert.ModBackwardIdeal.nD Cert.ModBackwardIdeal.τ).loc Cert.ModBackwardIdeal.main_arg1)
      ∧ r.2.mem ((c.tc : Thread Cert.ModBackwardIdeal.nD Cert.ModBackwardIdeal.τ).loc Cert.ModBackwardIdeal.main_arg2) = m ((c.tc : Thread Cert.ModBackwardIdeal.nD Cert.ModBackwardIdeal.τ).loc Cert.ModBackwardIdeal.main_arg2))
      ∧ r.2.sem = fun _ => 0)

def quiescent_ModReferenceIdeal [hModReferenceIdeal : Cert.ModReferenceIdeal.Facts] : Prop :=
  ∀ (m : (ℓ : Loc Cert.ModReferenceIdeal.nD Cert.ModReferenceIdeal.τ Cert.ModReferenceIdeal.sig) → Buf (Elt Ideal) ℓ) (g : Dev Cert.ModReferenceIdeal.nD → PrngReg), Pre_ModReferenceIdeal m →
    θ_run (Cert.ModReferenceIdeal.defs (F := Ideal)) (onTc (τ := Cert.ModReferenceIdeal.τ) (Cert.ModReferenceIdeal.main (F := Ideal))) ⟨m, fun _ => 0, g⟩ (fun r => (∀ c : Dev Cert.ModReferenceIdeal.nD,
      r.2.mem ((c.tc : Thread Cert.ModReferenceIdeal.nD Cert.ModReferenceIdeal.τ).loc Cert.ModReferenceIdeal.main_arg0) = m ((c.tc : Thread Cert.ModReferenceIdeal.nD Cert.ModReferenceIdeal.τ).loc Cert.ModReferenceIdeal.main_arg0)
      ∧ r.2.mem ((c.tc : Thread Cert.ModReferenceIdeal.nD Cert.ModReferenceIdeal.τ).loc Cert.ModReferenceIdeal.main_arg1) = m ((c.tc : Thread Cert.ModReferenceIdeal.nD Cert.ModReferenceIdeal.τ).loc Cert.ModReferenceIdeal.main_arg1)
      ∧ r.2.mem ((c.tc : Thread Cert.ModReferenceIdeal.nD Cert.ModReferenceIdeal.τ).loc Cert.ModReferenceIdeal.main_arg2) = m ((c.tc : Thread Cert.ModReferenceIdeal.nD Cert.ModReferenceIdeal.τ).loc Cert.ModReferenceIdeal.main_arg2))
      ∧ r.2.sem = fun _ => 0)

def quiescent_MixerBackward [hMixerBackward : Cert.MixerBackward.Facts] : Prop :=
  ∀ (m : (ℓ : Loc Cert.MixerBackward.nD Cert.MixerBackward.τ Cert.MixerBackward.sig) → Buf (Elt Bits) ℓ) (g : Dev Cert.MixerBackward.nD → PrngReg), Pre_MixerBackward m →
    θ_run (Cert.MixerBackward.defs (F := Bits)) (onTc (τ := Cert.MixerBackward.τ) (Cert.MixerBackward.main (F := Bits))) ⟨m, fun _ => 0, g⟩ (fun r => (∀ c : Dev Cert.MixerBackward.nD,
      r.2.mem ((c.tc : Thread Cert.MixerBackward.nD Cert.MixerBackward.τ).loc Cert.MixerBackward.main_arg0) = m ((c.tc : Thread Cert.MixerBackward.nD Cert.MixerBackward.τ).loc Cert.MixerBackward.main_arg0)
      ∧ r.2.mem ((c.tc : Thread Cert.MixerBackward.nD Cert.MixerBackward.τ).loc Cert.MixerBackward.main_arg1) = m ((c.tc : Thread Cert.MixerBackward.nD Cert.MixerBackward.τ).loc Cert.MixerBackward.main_arg1)
      ∧ r.2.mem ((c.tc : Thread Cert.MixerBackward.nD Cert.MixerBackward.τ).loc Cert.MixerBackward.main_arg2) = m ((c.tc : Thread Cert.MixerBackward.nD Cert.MixerBackward.τ).loc Cert.MixerBackward.main_arg2)
      ∧ r.2.mem ((c.tc : Thread Cert.MixerBackward.nD Cert.MixerBackward.τ).loc Cert.MixerBackward.main_arg3) = m ((c.tc : Thread Cert.MixerBackward.nD Cert.MixerBackward.τ).loc Cert.MixerBackward.main_arg3)
      ∧ r.2.mem ((c.tc : Thread Cert.MixerBackward.nD Cert.MixerBackward.τ).loc Cert.MixerBackward.main_arg4) = m ((c.tc : Thread Cert.MixerBackward.nD Cert.MixerBackward.τ).loc Cert.MixerBackward.main_arg4)
      ∧ r.2.mem ((c.tc : Thread Cert.MixerBackward.nD Cert.MixerBackward.τ).loc Cert.MixerBackward.main_arg5) = m ((c.tc : Thread Cert.MixerBackward.nD Cert.MixerBackward.τ).loc Cert.MixerBackward.main_arg5)
      ∧ r.2.mem ((c.tc : Thread Cert.MixerBackward.nD Cert.MixerBackward.τ).loc Cert.MixerBackward.main_arg6) = m ((c.tc : Thread Cert.MixerBackward.nD Cert.MixerBackward.τ).loc Cert.MixerBackward.main_arg6)
      ∧ r.2.mem ((c.tc : Thread Cert.MixerBackward.nD Cert.MixerBackward.τ).loc Cert.MixerBackward.main_arg7) = m ((c.tc : Thread Cert.MixerBackward.nD Cert.MixerBackward.τ).loc Cert.MixerBackward.main_arg7)
      ∧ r.2.mem ((c.tc : Thread Cert.MixerBackward.nD Cert.MixerBackward.τ).loc Cert.MixerBackward.main_arg8) = m ((c.tc : Thread Cert.MixerBackward.nD Cert.MixerBackward.τ).loc Cert.MixerBackward.main_arg8)
      ∧ r.2.mem ((c.tc : Thread Cert.MixerBackward.nD Cert.MixerBackward.τ).loc Cert.MixerBackward.main_arg9) = m ((c.tc : Thread Cert.MixerBackward.nD Cert.MixerBackward.τ).loc Cert.MixerBackward.main_arg9)
      ∧ r.2.mem ((c.tc : Thread Cert.MixerBackward.nD Cert.MixerBackward.τ).loc Cert.MixerBackward.main_arg10) = m ((c.tc : Thread Cert.MixerBackward.nD Cert.MixerBackward.τ).loc Cert.MixerBackward.main_arg10)
      ∧ r.2.mem ((c.tc : Thread Cert.MixerBackward.nD Cert.MixerBackward.τ).loc Cert.MixerBackward.main_arg11) = m ((c.tc : Thread Cert.MixerBackward.nD Cert.MixerBackward.τ).loc Cert.MixerBackward.main_arg11)
      ∧ r.2.mem ((c.tc : Thread Cert.MixerBackward.nD Cert.MixerBackward.τ).loc Cert.MixerBackward.main_arg12) = m ((c.tc : Thread Cert.MixerBackward.nD Cert.MixerBackward.τ).loc Cert.MixerBackward.main_arg12)
      ∧ r.2.mem ((c.tc : Thread Cert.MixerBackward.nD Cert.MixerBackward.τ).loc Cert.MixerBackward.main_arg13) = m ((c.tc : Thread Cert.MixerBackward.nD Cert.MixerBackward.τ).loc Cert.MixerBackward.main_arg13)
      ∧ r.2.mem ((c.tc : Thread Cert.MixerBackward.nD Cert.MixerBackward.τ).loc Cert.MixerBackward.main_arg14) = m ((c.tc : Thread Cert.MixerBackward.nD Cert.MixerBackward.τ).loc Cert.MixerBackward.main_arg14)
      ∧ r.2.mem ((c.tc : Thread Cert.MixerBackward.nD Cert.MixerBackward.τ).loc Cert.MixerBackward.main_arg15) = m ((c.tc : Thread Cert.MixerBackward.nD Cert.MixerBackward.τ).loc Cert.MixerBackward.main_arg15))
      ∧ r.2.sem = fun _ => 0)

def quiescent_MixerBackwardIdeal [hMixerBackwardIdeal : Cert.MixerBackwardIdeal.Facts] : Prop :=
  ∀ (m : (ℓ : Loc Cert.MixerBackwardIdeal.nD Cert.MixerBackwardIdeal.τ Cert.MixerBackwardIdeal.sig) → Buf (Elt Ideal) ℓ) (g : Dev Cert.MixerBackwardIdeal.nD → PrngReg), Pre_MixerBackwardIdeal m →
    θ_run (Cert.MixerBackwardIdeal.defs (F := Ideal)) (onTc (τ := Cert.MixerBackwardIdeal.τ) (Cert.MixerBackwardIdeal.main (F := Ideal))) ⟨m, fun _ => 0, g⟩ (fun r => (∀ c : Dev Cert.MixerBackwardIdeal.nD,
      r.2.mem ((c.tc : Thread Cert.MixerBackwardIdeal.nD Cert.MixerBackwardIdeal.τ).loc Cert.MixerBackwardIdeal.main_arg0) = m ((c.tc : Thread Cert.MixerBackwardIdeal.nD Cert.MixerBackwardIdeal.τ).loc Cert.MixerBackwardIdeal.main_arg0)
      ∧ r.2.mem ((c.tc : Thread Cert.MixerBackwardIdeal.nD Cert.MixerBackwardIdeal.τ).loc Cert.MixerBackwardIdeal.main_arg1) = m ((c.tc : Thread Cert.MixerBackwardIdeal.nD Cert.MixerBackwardIdeal.τ).loc Cert.MixerBackwardIdeal.main_arg1)
      ∧ r.2.mem ((c.tc : Thread Cert.MixerBackwardIdeal.nD Cert.MixerBackwardIdeal.τ).loc Cert.MixerBackwardIdeal.main_arg2) = m ((c.tc : Thread Cert.MixerBackwardIdeal.nD Cert.MixerBackwardIdeal.τ).loc Cert.MixerBackwardIdeal.main_arg2)
      ∧ r.2.mem ((c.tc : Thread Cert.MixerBackwardIdeal.nD Cert.MixerBackwardIdeal.τ).loc Cert.MixerBackwardIdeal.main_arg3) = m ((c.tc : Thread Cert.MixerBackwardIdeal.nD Cert.MixerBackwardIdeal.τ).loc Cert.MixerBackwardIdeal.main_arg3)
      ∧ r.2.mem ((c.tc : Thread Cert.MixerBackwardIdeal.nD Cert.MixerBackwardIdeal.τ).loc Cert.MixerBackwardIdeal.main_arg4) = m ((c.tc : Thread Cert.MixerBackwardIdeal.nD Cert.MixerBackwardIdeal.τ).loc Cert.MixerBackwardIdeal.main_arg4)
      ∧ r.2.mem ((c.tc : Thread Cert.MixerBackwardIdeal.nD Cert.MixerBackwardIdeal.τ).loc Cert.MixerBackwardIdeal.main_arg5) = m ((c.tc : Thread Cert.MixerBackwardIdeal.nD Cert.MixerBackwardIdeal.τ).loc Cert.MixerBackwardIdeal.main_arg5)
      ∧ r.2.mem ((c.tc : Thread Cert.MixerBackwardIdeal.nD Cert.MixerBackwardIdeal.τ).loc Cert.MixerBackwardIdeal.main_arg6) = m ((c.tc : Thread Cert.MixerBackwardIdeal.nD Cert.MixerBackwardIdeal.τ).loc Cert.MixerBackwardIdeal.main_arg6)
      ∧ r.2.mem ((c.tc : Thread Cert.MixerBackwardIdeal.nD Cert.MixerBackwardIdeal.τ).loc Cert.MixerBackwardIdeal.main_arg7) = m ((c.tc : Thread Cert.MixerBackwardIdeal.nD Cert.MixerBackwardIdeal.τ).loc Cert.MixerBackwardIdeal.main_arg7)
      ∧ r.2.mem ((c.tc : Thread Cert.MixerBackwardIdeal.nD Cert.MixerBackwardIdeal.τ).loc Cert.MixerBackwardIdeal.main_arg8) = m ((c.tc : Thread Cert.MixerBackwardIdeal.nD Cert.MixerBackwardIdeal.τ).loc Cert.MixerBackwardIdeal.main_arg8)
      ∧ r.2.mem ((c.tc : Thread Cert.MixerBackwardIdeal.nD Cert.MixerBackwardIdeal.τ).loc Cert.MixerBackwardIdeal.main_arg9) = m ((c.tc : Thread Cert.MixerBackwardIdeal.nD Cert.MixerBackwardIdeal.τ).loc Cert.MixerBackwardIdeal.main_arg9)
      ∧ r.2.mem ((c.tc : Thread Cert.MixerBackwardIdeal.nD Cert.MixerBackwardIdeal.τ).loc Cert.MixerBackwardIdeal.main_arg10) = m ((c.tc : Thread Cert.MixerBackwardIdeal.nD Cert.MixerBackwardIdeal.τ).loc Cert.MixerBackwardIdeal.main_arg10)
      ∧ r.2.mem ((c.tc : Thread Cert.MixerBackwardIdeal.nD Cert.MixerBackwardIdeal.τ).loc Cert.MixerBackwardIdeal.main_arg11) = m ((c.tc : Thread Cert.MixerBackwardIdeal.nD Cert.MixerBackwardIdeal.τ).loc Cert.MixerBackwardIdeal.main_arg11)
      ∧ r.2.mem ((c.tc : Thread Cert.MixerBackwardIdeal.nD Cert.MixerBackwardIdeal.τ).loc Cert.MixerBackwardIdeal.main_arg12) = m ((c.tc : Thread Cert.MixerBackwardIdeal.nD Cert.MixerBackwardIdeal.τ).loc Cert.MixerBackwardIdeal.main_arg12)
      ∧ r.2.mem ((c.tc : Thread Cert.MixerBackwardIdeal.nD Cert.MixerBackwardIdeal.τ).loc Cert.MixerBackwardIdeal.main_arg13) = m ((c.tc : Thread Cert.MixerBackwardIdeal.nD Cert.MixerBackwardIdeal.τ).loc Cert.MixerBackwardIdeal.main_arg13)
      ∧ r.2.mem ((c.tc : Thread Cert.MixerBackwardIdeal.nD Cert.MixerBackwardIdeal.τ).loc Cert.MixerBackwardIdeal.main_arg14) = m ((c.tc : Thread Cert.MixerBackwardIdeal.nD Cert.MixerBackwardIdeal.τ).loc Cert.MixerBackwardIdeal.main_arg14)
      ∧ r.2.mem ((c.tc : Thread Cert.MixerBackwardIdeal.nD Cert.MixerBackwardIdeal.τ).loc Cert.MixerBackwardIdeal.main_arg15) = m ((c.tc : Thread Cert.MixerBackwardIdeal.nD Cert.MixerBackwardIdeal.τ).loc Cert.MixerBackwardIdeal.main_arg15))
      ∧ r.2.sem = fun _ => 0)

def quiescent_MixerReferenceIdeal [hMixerReferenceIdeal : Cert.MixerReferenceIdeal.Facts] : Prop :=
  ∀ (m : (ℓ : Loc Cert.MixerReferenceIdeal.nD Cert.MixerReferenceIdeal.τ Cert.MixerReferenceIdeal.sig) → Buf (Elt Ideal) ℓ) (g : Dev Cert.MixerReferenceIdeal.nD → PrngReg), Pre_MixerReferenceIdeal m →
    θ_run (Cert.MixerReferenceIdeal.defs (F := Ideal)) (onTc (τ := Cert.MixerReferenceIdeal.τ) (Cert.MixerReferenceIdeal.main (F := Ideal))) ⟨m, fun _ => 0, g⟩ (fun r => (∀ c : Dev Cert.MixerReferenceIdeal.nD,
      r.2.mem ((c.tc : Thread Cert.MixerReferenceIdeal.nD Cert.MixerReferenceIdeal.τ).loc Cert.MixerReferenceIdeal.main_arg0) = m ((c.tc : Thread Cert.MixerReferenceIdeal.nD Cert.MixerReferenceIdeal.τ).loc Cert.MixerReferenceIdeal.main_arg0)
      ∧ r.2.mem ((c.tc : Thread Cert.MixerReferenceIdeal.nD Cert.MixerReferenceIdeal.τ).loc Cert.MixerReferenceIdeal.main_arg1) = m ((c.tc : Thread Cert.MixerReferenceIdeal.nD Cert.MixerReferenceIdeal.τ).loc Cert.MixerReferenceIdeal.main_arg1)
      ∧ r.2.mem ((c.tc : Thread Cert.MixerReferenceIdeal.nD Cert.MixerReferenceIdeal.τ).loc Cert.MixerReferenceIdeal.main_arg2) = m ((c.tc : Thread Cert.MixerReferenceIdeal.nD Cert.MixerReferenceIdeal.τ).loc Cert.MixerReferenceIdeal.main_arg2)
      ∧ r.2.mem ((c.tc : Thread Cert.MixerReferenceIdeal.nD Cert.MixerReferenceIdeal.τ).loc Cert.MixerReferenceIdeal.main_arg3) = m ((c.tc : Thread Cert.MixerReferenceIdeal.nD Cert.MixerReferenceIdeal.τ).loc Cert.MixerReferenceIdeal.main_arg3)
      ∧ r.2.mem ((c.tc : Thread Cert.MixerReferenceIdeal.nD Cert.MixerReferenceIdeal.τ).loc Cert.MixerReferenceIdeal.main_arg4) = m ((c.tc : Thread Cert.MixerReferenceIdeal.nD Cert.MixerReferenceIdeal.τ).loc Cert.MixerReferenceIdeal.main_arg4)
      ∧ r.2.mem ((c.tc : Thread Cert.MixerReferenceIdeal.nD Cert.MixerReferenceIdeal.τ).loc Cert.MixerReferenceIdeal.main_arg5) = m ((c.tc : Thread Cert.MixerReferenceIdeal.nD Cert.MixerReferenceIdeal.τ).loc Cert.MixerReferenceIdeal.main_arg5)
      ∧ r.2.mem ((c.tc : Thread Cert.MixerReferenceIdeal.nD Cert.MixerReferenceIdeal.τ).loc Cert.MixerReferenceIdeal.main_arg6) = m ((c.tc : Thread Cert.MixerReferenceIdeal.nD Cert.MixerReferenceIdeal.τ).loc Cert.MixerReferenceIdeal.main_arg6)
      ∧ r.2.mem ((c.tc : Thread Cert.MixerReferenceIdeal.nD Cert.MixerReferenceIdeal.τ).loc Cert.MixerReferenceIdeal.main_arg7) = m ((c.tc : Thread Cert.MixerReferenceIdeal.nD Cert.MixerReferenceIdeal.τ).loc Cert.MixerReferenceIdeal.main_arg7)
      ∧ r.2.mem ((c.tc : Thread Cert.MixerReferenceIdeal.nD Cert.MixerReferenceIdeal.τ).loc Cert.MixerReferenceIdeal.main_arg8) = m ((c.tc : Thread Cert.MixerReferenceIdeal.nD Cert.MixerReferenceIdeal.τ).loc Cert.MixerReferenceIdeal.main_arg8)
      ∧ r.2.mem ((c.tc : Thread Cert.MixerReferenceIdeal.nD Cert.MixerReferenceIdeal.τ).loc Cert.MixerReferenceIdeal.main_arg9) = m ((c.tc : Thread Cert.MixerReferenceIdeal.nD Cert.MixerReferenceIdeal.τ).loc Cert.MixerReferenceIdeal.main_arg9)
      ∧ r.2.mem ((c.tc : Thread Cert.MixerReferenceIdeal.nD Cert.MixerReferenceIdeal.τ).loc Cert.MixerReferenceIdeal.main_arg10) = m ((c.tc : Thread Cert.MixerReferenceIdeal.nD Cert.MixerReferenceIdeal.τ).loc Cert.MixerReferenceIdeal.main_arg10)
      ∧ r.2.mem ((c.tc : Thread Cert.MixerReferenceIdeal.nD Cert.MixerReferenceIdeal.τ).loc Cert.MixerReferenceIdeal.main_arg11) = m ((c.tc : Thread Cert.MixerReferenceIdeal.nD Cert.MixerReferenceIdeal.τ).loc Cert.MixerReferenceIdeal.main_arg11)
      ∧ r.2.mem ((c.tc : Thread Cert.MixerReferenceIdeal.nD Cert.MixerReferenceIdeal.τ).loc Cert.MixerReferenceIdeal.main_arg12) = m ((c.tc : Thread Cert.MixerReferenceIdeal.nD Cert.MixerReferenceIdeal.τ).loc Cert.MixerReferenceIdeal.main_arg12)
      ∧ r.2.mem ((c.tc : Thread Cert.MixerReferenceIdeal.nD Cert.MixerReferenceIdeal.τ).loc Cert.MixerReferenceIdeal.main_arg13) = m ((c.tc : Thread Cert.MixerReferenceIdeal.nD Cert.MixerReferenceIdeal.τ).loc Cert.MixerReferenceIdeal.main_arg13)
      ∧ r.2.mem ((c.tc : Thread Cert.MixerReferenceIdeal.nD Cert.MixerReferenceIdeal.τ).loc Cert.MixerReferenceIdeal.main_arg14) = m ((c.tc : Thread Cert.MixerReferenceIdeal.nD Cert.MixerReferenceIdeal.τ).loc Cert.MixerReferenceIdeal.main_arg14)
      ∧ r.2.mem ((c.tc : Thread Cert.MixerReferenceIdeal.nD Cert.MixerReferenceIdeal.τ).loc Cert.MixerReferenceIdeal.main_arg15) = m ((c.tc : Thread Cert.MixerReferenceIdeal.nD Cert.MixerReferenceIdeal.τ).loc Cert.MixerReferenceIdeal.main_arg15))
      ∧ r.2.sem = fun _ => 0)

def quiescent_MlpForward [hMlpForward : Cert.MlpForward.Facts] : Prop :=
  ∀ (m : (ℓ : Loc Cert.MlpForward.nD Cert.MlpForward.τ Cert.MlpForward.sig) → Buf (Elt Bits) ℓ) (g : Dev Cert.MlpForward.nD → PrngReg), Pre_MlpForward m →
    θ_run (Cert.MlpForward.defs (F := Bits)) (onTc (τ := Cert.MlpForward.τ) (Cert.MlpForward.main (F := Bits))) ⟨m, fun _ => 0, g⟩ (fun r => (∀ c : Dev Cert.MlpForward.nD,
      r.2.mem ((c.tc : Thread Cert.MlpForward.nD Cert.MlpForward.τ).loc Cert.MlpForward.main_arg0) = m ((c.tc : Thread Cert.MlpForward.nD Cert.MlpForward.τ).loc Cert.MlpForward.main_arg0)
      ∧ r.2.mem ((c.tc : Thread Cert.MlpForward.nD Cert.MlpForward.τ).loc Cert.MlpForward.main_arg1) = m ((c.tc : Thread Cert.MlpForward.nD Cert.MlpForward.τ).loc Cert.MlpForward.main_arg1)
      ∧ r.2.mem ((c.tc : Thread Cert.MlpForward.nD Cert.MlpForward.τ).loc Cert.MlpForward.main_arg2) = m ((c.tc : Thread Cert.MlpForward.nD Cert.MlpForward.τ).loc Cert.MlpForward.main_arg2)
      ∧ r.2.mem ((c.tc : Thread Cert.MlpForward.nD Cert.MlpForward.τ).loc Cert.MlpForward.main_arg3) = m ((c.tc : Thread Cert.MlpForward.nD Cert.MlpForward.τ).loc Cert.MlpForward.main_arg3)
      ∧ r.2.mem ((c.tc : Thread Cert.MlpForward.nD Cert.MlpForward.τ).loc Cert.MlpForward.main_arg4) = m ((c.tc : Thread Cert.MlpForward.nD Cert.MlpForward.τ).loc Cert.MlpForward.main_arg4)
      ∧ r.2.mem ((c.tc : Thread Cert.MlpForward.nD Cert.MlpForward.τ).loc Cert.MlpForward.main_arg5) = m ((c.tc : Thread Cert.MlpForward.nD Cert.MlpForward.τ).loc Cert.MlpForward.main_arg5)
      ∧ r.2.mem ((c.tc : Thread Cert.MlpForward.nD Cert.MlpForward.τ).loc Cert.MlpForward.main_arg6) = m ((c.tc : Thread Cert.MlpForward.nD Cert.MlpForward.τ).loc Cert.MlpForward.main_arg6)
      ∧ r.2.mem ((c.tc : Thread Cert.MlpForward.nD Cert.MlpForward.τ).loc Cert.MlpForward.main_arg7) = m ((c.tc : Thread Cert.MlpForward.nD Cert.MlpForward.τ).loc Cert.MlpForward.main_arg7))
      ∧ r.2.sem = fun _ => 0)

def quiescent_MlpForwardIdeal [hMlpForwardIdeal : Cert.MlpForwardIdeal.Facts] : Prop :=
  ∀ (m : (ℓ : Loc Cert.MlpForwardIdeal.nD Cert.MlpForwardIdeal.τ Cert.MlpForwardIdeal.sig) → Buf (Elt Ideal) ℓ) (g : Dev Cert.MlpForwardIdeal.nD → PrngReg), Pre_MlpForwardIdeal m →
    θ_run (Cert.MlpForwardIdeal.defs (F := Ideal)) (onTc (τ := Cert.MlpForwardIdeal.τ) (Cert.MlpForwardIdeal.main (F := Ideal))) ⟨m, fun _ => 0, g⟩ (fun r => (∀ c : Dev Cert.MlpForwardIdeal.nD,
      r.2.mem ((c.tc : Thread Cert.MlpForwardIdeal.nD Cert.MlpForwardIdeal.τ).loc Cert.MlpForwardIdeal.main_arg0) = m ((c.tc : Thread Cert.MlpForwardIdeal.nD Cert.MlpForwardIdeal.τ).loc Cert.MlpForwardIdeal.main_arg0)
      ∧ r.2.mem ((c.tc : Thread Cert.MlpForwardIdeal.nD Cert.MlpForwardIdeal.τ).loc Cert.MlpForwardIdeal.main_arg1) = m ((c.tc : Thread Cert.MlpForwardIdeal.nD Cert.MlpForwardIdeal.τ).loc Cert.MlpForwardIdeal.main_arg1)
      ∧ r.2.mem ((c.tc : Thread Cert.MlpForwardIdeal.nD Cert.MlpForwardIdeal.τ).loc Cert.MlpForwardIdeal.main_arg2) = m ((c.tc : Thread Cert.MlpForwardIdeal.nD Cert.MlpForwardIdeal.τ).loc Cert.MlpForwardIdeal.main_arg2)
      ∧ r.2.mem ((c.tc : Thread Cert.MlpForwardIdeal.nD Cert.MlpForwardIdeal.τ).loc Cert.MlpForwardIdeal.main_arg3) = m ((c.tc : Thread Cert.MlpForwardIdeal.nD Cert.MlpForwardIdeal.τ).loc Cert.MlpForwardIdeal.main_arg3)
      ∧ r.2.mem ((c.tc : Thread Cert.MlpForwardIdeal.nD Cert.MlpForwardIdeal.τ).loc Cert.MlpForwardIdeal.main_arg4) = m ((c.tc : Thread Cert.MlpForwardIdeal.nD Cert.MlpForwardIdeal.τ).loc Cert.MlpForwardIdeal.main_arg4)
      ∧ r.2.mem ((c.tc : Thread Cert.MlpForwardIdeal.nD Cert.MlpForwardIdeal.τ).loc Cert.MlpForwardIdeal.main_arg5) = m ((c.tc : Thread Cert.MlpForwardIdeal.nD Cert.MlpForwardIdeal.τ).loc Cert.MlpForwardIdeal.main_arg5)
      ∧ r.2.mem ((c.tc : Thread Cert.MlpForwardIdeal.nD Cert.MlpForwardIdeal.τ).loc Cert.MlpForwardIdeal.main_arg6) = m ((c.tc : Thread Cert.MlpForwardIdeal.nD Cert.MlpForwardIdeal.τ).loc Cert.MlpForwardIdeal.main_arg6)
      ∧ r.2.mem ((c.tc : Thread Cert.MlpForwardIdeal.nD Cert.MlpForwardIdeal.τ).loc Cert.MlpForwardIdeal.main_arg7) = m ((c.tc : Thread Cert.MlpForwardIdeal.nD Cert.MlpForwardIdeal.τ).loc Cert.MlpForwardIdeal.main_arg7))
      ∧ r.2.sem = fun _ => 0)

def quiescent_MlpForwardReferenceIdeal [hMlpForwardReferenceIdeal : Cert.MlpForwardReferenceIdeal.Facts] : Prop :=
  ∀ (m : (ℓ : Loc Cert.MlpForwardReferenceIdeal.nD Cert.MlpForwardReferenceIdeal.τ Cert.MlpForwardReferenceIdeal.sig) → Buf (Elt Ideal) ℓ) (g : Dev Cert.MlpForwardReferenceIdeal.nD → PrngReg), Pre_MlpForwardReferenceIdeal m →
    θ_run (Cert.MlpForwardReferenceIdeal.defs (F := Ideal)) (onTc (τ := Cert.MlpForwardReferenceIdeal.τ) (Cert.MlpForwardReferenceIdeal.main (F := Ideal))) ⟨m, fun _ => 0, g⟩ (fun r => (∀ c : Dev Cert.MlpForwardReferenceIdeal.nD,
      r.2.mem ((c.tc : Thread Cert.MlpForwardReferenceIdeal.nD Cert.MlpForwardReferenceIdeal.τ).loc Cert.MlpForwardReferenceIdeal.main_arg0) = m ((c.tc : Thread Cert.MlpForwardReferenceIdeal.nD Cert.MlpForwardReferenceIdeal.τ).loc Cert.MlpForwardReferenceIdeal.main_arg0)
      ∧ r.2.mem ((c.tc : Thread Cert.MlpForwardReferenceIdeal.nD Cert.MlpForwardReferenceIdeal.τ).loc Cert.MlpForwardReferenceIdeal.main_arg1) = m ((c.tc : Thread Cert.MlpForwardReferenceIdeal.nD Cert.MlpForwardReferenceIdeal.τ).loc Cert.MlpForwardReferenceIdeal.main_arg1)
      ∧ r.2.mem ((c.tc : Thread Cert.MlpForwardReferenceIdeal.nD Cert.MlpForwardReferenceIdeal.τ).loc Cert.MlpForwardReferenceIdeal.main_arg2) = m ((c.tc : Thread Cert.MlpForwardReferenceIdeal.nD Cert.MlpForwardReferenceIdeal.τ).loc Cert.MlpForwardReferenceIdeal.main_arg2)
      ∧ r.2.mem ((c.tc : Thread Cert.MlpForwardReferenceIdeal.nD Cert.MlpForwardReferenceIdeal.τ).loc Cert.MlpForwardReferenceIdeal.main_arg3) = m ((c.tc : Thread Cert.MlpForwardReferenceIdeal.nD Cert.MlpForwardReferenceIdeal.τ).loc Cert.MlpForwardReferenceIdeal.main_arg3)
      ∧ r.2.mem ((c.tc : Thread Cert.MlpForwardReferenceIdeal.nD Cert.MlpForwardReferenceIdeal.τ).loc Cert.MlpForwardReferenceIdeal.main_arg4) = m ((c.tc : Thread Cert.MlpForwardReferenceIdeal.nD Cert.MlpForwardReferenceIdeal.τ).loc Cert.MlpForwardReferenceIdeal.main_arg4)
      ∧ r.2.mem ((c.tc : Thread Cert.MlpForwardReferenceIdeal.nD Cert.MlpForwardReferenceIdeal.τ).loc Cert.MlpForwardReferenceIdeal.main_arg5) = m ((c.tc : Thread Cert.MlpForwardReferenceIdeal.nD Cert.MlpForwardReferenceIdeal.τ).loc Cert.MlpForwardReferenceIdeal.main_arg5)
      ∧ r.2.mem ((c.tc : Thread Cert.MlpForwardReferenceIdeal.nD Cert.MlpForwardReferenceIdeal.τ).loc Cert.MlpForwardReferenceIdeal.main_arg6) = m ((c.tc : Thread Cert.MlpForwardReferenceIdeal.nD Cert.MlpForwardReferenceIdeal.τ).loc Cert.MlpForwardReferenceIdeal.main_arg6)
      ∧ r.2.mem ((c.tc : Thread Cert.MlpForwardReferenceIdeal.nD Cert.MlpForwardReferenceIdeal.τ).loc Cert.MlpForwardReferenceIdeal.main_arg7) = m ((c.tc : Thread Cert.MlpForwardReferenceIdeal.nD Cert.MlpForwardReferenceIdeal.τ).loc Cert.MlpForwardReferenceIdeal.main_arg7))
      ∧ r.2.sem = fun _ => 0)

def quiescent_ModForward [hModForward : Cert.ModForward.Facts] : Prop :=
  ∀ (m : (ℓ : Loc Cert.ModForward.nD Cert.ModForward.τ Cert.ModForward.sig) → Buf (Elt Bits) ℓ) (g : Dev Cert.ModForward.nD → PrngReg), Pre_ModForward m →
    θ_run (Cert.ModForward.defs (F := Bits)) (onTc (τ := Cert.ModForward.τ) (Cert.ModForward.main (F := Bits))) ⟨m, fun _ => 0, g⟩ (fun r => (∀ c : Dev Cert.ModForward.nD,
      r.2.mem ((c.tc : Thread Cert.ModForward.nD Cert.ModForward.τ).loc Cert.ModForward.main_arg0) = m ((c.tc : Thread Cert.ModForward.nD Cert.ModForward.τ).loc Cert.ModForward.main_arg0)
      ∧ r.2.mem ((c.tc : Thread Cert.ModForward.nD Cert.ModForward.τ).loc Cert.ModForward.main_arg1) = m ((c.tc : Thread Cert.ModForward.nD Cert.ModForward.τ).loc Cert.ModForward.main_arg1)
      ∧ r.2.mem ((c.tc : Thread Cert.ModForward.nD Cert.ModForward.τ).loc Cert.ModForward.main_arg2) = m ((c.tc : Thread Cert.ModForward.nD Cert.ModForward.τ).loc Cert.ModForward.main_arg2))
      ∧ r.2.sem = fun _ => 0)

def quiescent_ModForwardIdeal [hModForwardIdeal : Cert.ModForwardIdeal.Facts] : Prop :=
  ∀ (m : (ℓ : Loc Cert.ModForwardIdeal.nD Cert.ModForwardIdeal.τ Cert.ModForwardIdeal.sig) → Buf (Elt Ideal) ℓ) (g : Dev Cert.ModForwardIdeal.nD → PrngReg), Pre_ModForwardIdeal m →
    θ_run (Cert.ModForwardIdeal.defs (F := Ideal)) (onTc (τ := Cert.ModForwardIdeal.τ) (Cert.ModForwardIdeal.main (F := Ideal))) ⟨m, fun _ => 0, g⟩ (fun r => (∀ c : Dev Cert.ModForwardIdeal.nD,
      r.2.mem ((c.tc : Thread Cert.ModForwardIdeal.nD Cert.ModForwardIdeal.τ).loc Cert.ModForwardIdeal.main_arg0) = m ((c.tc : Thread Cert.ModForwardIdeal.nD Cert.ModForwardIdeal.τ).loc Cert.ModForwardIdeal.main_arg0)
      ∧ r.2.mem ((c.tc : Thread Cert.ModForwardIdeal.nD Cert.ModForwardIdeal.τ).loc Cert.ModForwardIdeal.main_arg1) = m ((c.tc : Thread Cert.ModForwardIdeal.nD Cert.ModForwardIdeal.τ).loc Cert.ModForwardIdeal.main_arg1)
      ∧ r.2.mem ((c.tc : Thread Cert.ModForwardIdeal.nD Cert.ModForwardIdeal.τ).loc Cert.ModForwardIdeal.main_arg2) = m ((c.tc : Thread Cert.ModForwardIdeal.nD Cert.ModForwardIdeal.τ).loc Cert.ModForwardIdeal.main_arg2))
      ∧ r.2.sem = fun _ => 0)

def quiescent_ModForwardReferenceIdeal [hModForwardReferenceIdeal : Cert.ModForwardReferenceIdeal.Facts] : Prop :=
  ∀ (m : (ℓ : Loc Cert.ModForwardReferenceIdeal.nD Cert.ModForwardReferenceIdeal.τ Cert.ModForwardReferenceIdeal.sig) → Buf (Elt Ideal) ℓ) (g : Dev Cert.ModForwardReferenceIdeal.nD → PrngReg), Pre_ModForwardReferenceIdeal m →
    θ_run (Cert.ModForwardReferenceIdeal.defs (F := Ideal)) (onTc (τ := Cert.ModForwardReferenceIdeal.τ) (Cert.ModForwardReferenceIdeal.main (F := Ideal))) ⟨m, fun _ => 0, g⟩ (fun r => (∀ c : Dev Cert.ModForwardReferenceIdeal.nD,
      r.2.mem ((c.tc : Thread Cert.ModForwardReferenceIdeal.nD Cert.ModForwardReferenceIdeal.τ).loc Cert.ModForwardReferenceIdeal.main_arg0) = m ((c.tc : Thread Cert.ModForwardReferenceIdeal.nD Cert.ModForwardReferenceIdeal.τ).loc Cert.ModForwardReferenceIdeal.main_arg0)
      ∧ r.2.mem ((c.tc : Thread Cert.ModForwardReferenceIdeal.nD Cert.ModForwardReferenceIdeal.τ).loc Cert.ModForwardReferenceIdeal.main_arg1) = m ((c.tc : Thread Cert.ModForwardReferenceIdeal.nD Cert.ModForwardReferenceIdeal.τ).loc Cert.ModForwardReferenceIdeal.main_arg1)
      ∧ r.2.mem ((c.tc : Thread Cert.ModForwardReferenceIdeal.nD Cert.ModForwardReferenceIdeal.τ).loc Cert.ModForwardReferenceIdeal.main_arg2) = m ((c.tc : Thread Cert.ModForwardReferenceIdeal.nD Cert.ModForwardReferenceIdeal.τ).loc Cert.ModForwardReferenceIdeal.main_arg2))
      ∧ r.2.sem = fun _ => 0)

def quiescent_WinBackward [hWinBackward : Cert.WinBackward.Facts] : Prop :=
  ∀ (m : (ℓ : Loc Cert.WinBackward.nD Cert.WinBackward.τ Cert.WinBackward.sig) → Buf (Elt Bits) ℓ) (g : Dev Cert.WinBackward.nD → PrngReg), Pre_WinBackward m →
    θ_run (Cert.WinBackward.defs (F := Bits)) (onTc (τ := Cert.WinBackward.τ) (Cert.WinBackward.main (F := Bits))) ⟨m, fun _ => 0, g⟩ (fun r => (∀ c : Dev Cert.WinBackward.nD,
      r.2.mem ((c.tc : Thread Cert.WinBackward.nD Cert.WinBackward.τ).loc Cert.WinBackward.main_arg0) = m ((c.tc : Thread Cert.WinBackward.nD Cert.WinBackward.τ).loc Cert.WinBackward.main_arg0)
      ∧ r.2.mem ((c.tc : Thread Cert.WinBackward.nD Cert.WinBackward.τ).loc Cert.WinBackward.main_arg1) = m ((c.tc : Thread Cert.WinBackward.nD Cert.WinBackward.τ).loc Cert.WinBackward.main_arg1)
      ∧ r.2.mem ((c.tc : Thread Cert.WinBackward.nD Cert.WinBackward.τ).loc Cert.WinBackward.main_arg2) = m ((c.tc : Thread Cert.WinBackward.nD Cert.WinBackward.τ).loc Cert.WinBackward.main_arg2)
      ∧ r.2.mem ((c.tc : Thread Cert.WinBackward.nD Cert.WinBackward.τ).loc Cert.WinBackward.main_arg3) = m ((c.tc : Thread Cert.WinBackward.nD Cert.WinBackward.τ).loc Cert.WinBackward.main_arg3)
      ∧ r.2.mem ((c.tc : Thread Cert.WinBackward.nD Cert.WinBackward.τ).loc Cert.WinBackward.main_arg4) = m ((c.tc : Thread Cert.WinBackward.nD Cert.WinBackward.τ).loc Cert.WinBackward.main_arg4)
      ∧ r.2.mem ((c.tc : Thread Cert.WinBackward.nD Cert.WinBackward.τ).loc Cert.WinBackward.main_arg5) = m ((c.tc : Thread Cert.WinBackward.nD Cert.WinBackward.τ).loc Cert.WinBackward.main_arg5))
      ∧ r.2.sem = fun _ => 0)

def quiescent_WinBackwardIdeal [hWinBackwardIdeal : Cert.WinBackwardIdeal.Facts] : Prop :=
  ∀ (m : (ℓ : Loc Cert.WinBackwardIdeal.nD Cert.WinBackwardIdeal.τ Cert.WinBackwardIdeal.sig) → Buf (Elt Ideal) ℓ) (g : Dev Cert.WinBackwardIdeal.nD → PrngReg), Pre_WinBackwardIdeal m →
    θ_run (Cert.WinBackwardIdeal.defs (F := Ideal)) (onTc (τ := Cert.WinBackwardIdeal.τ) (Cert.WinBackwardIdeal.main (F := Ideal))) ⟨m, fun _ => 0, g⟩ (fun r => (∀ c : Dev Cert.WinBackwardIdeal.nD,
      r.2.mem ((c.tc : Thread Cert.WinBackwardIdeal.nD Cert.WinBackwardIdeal.τ).loc Cert.WinBackwardIdeal.main_arg0) = m ((c.tc : Thread Cert.WinBackwardIdeal.nD Cert.WinBackwardIdeal.τ).loc Cert.WinBackwardIdeal.main_arg0)
      ∧ r.2.mem ((c.tc : Thread Cert.WinBackwardIdeal.nD Cert.WinBackwardIdeal.τ).loc Cert.WinBackwardIdeal.main_arg1) = m ((c.tc : Thread Cert.WinBackwardIdeal.nD Cert.WinBackwardIdeal.τ).loc Cert.WinBackwardIdeal.main_arg1)
      ∧ r.2.mem ((c.tc : Thread Cert.WinBackwardIdeal.nD Cert.WinBackwardIdeal.τ).loc Cert.WinBackwardIdeal.main_arg2) = m ((c.tc : Thread Cert.WinBackwardIdeal.nD Cert.WinBackwardIdeal.τ).loc Cert.WinBackwardIdeal.main_arg2)
      ∧ r.2.mem ((c.tc : Thread Cert.WinBackwardIdeal.nD Cert.WinBackwardIdeal.τ).loc Cert.WinBackwardIdeal.main_arg3) = m ((c.tc : Thread Cert.WinBackwardIdeal.nD Cert.WinBackwardIdeal.τ).loc Cert.WinBackwardIdeal.main_arg3)
      ∧ r.2.mem ((c.tc : Thread Cert.WinBackwardIdeal.nD Cert.WinBackwardIdeal.τ).loc Cert.WinBackwardIdeal.main_arg4) = m ((c.tc : Thread Cert.WinBackwardIdeal.nD Cert.WinBackwardIdeal.τ).loc Cert.WinBackwardIdeal.main_arg4)
      ∧ r.2.mem ((c.tc : Thread Cert.WinBackwardIdeal.nD Cert.WinBackwardIdeal.τ).loc Cert.WinBackwardIdeal.main_arg5) = m ((c.tc : Thread Cert.WinBackwardIdeal.nD Cert.WinBackwardIdeal.τ).loc Cert.WinBackwardIdeal.main_arg5))
      ∧ r.2.sem = fun _ => 0)

def quiescent_WinReferenceIdeal [hWinReferenceIdeal : Cert.WinReferenceIdeal.Facts] : Prop :=
  ∀ (m : (ℓ : Loc Cert.WinReferenceIdeal.nD Cert.WinReferenceIdeal.τ Cert.WinReferenceIdeal.sig) → Buf (Elt Ideal) ℓ) (g : Dev Cert.WinReferenceIdeal.nD → PrngReg), Pre_WinReferenceIdeal m →
    θ_run (Cert.WinReferenceIdeal.defs (F := Ideal)) (onTc (τ := Cert.WinReferenceIdeal.τ) (Cert.WinReferenceIdeal.main (F := Ideal))) ⟨m, fun _ => 0, g⟩ (fun r => (∀ c : Dev Cert.WinReferenceIdeal.nD,
      r.2.mem ((c.tc : Thread Cert.WinReferenceIdeal.nD Cert.WinReferenceIdeal.τ).loc Cert.WinReferenceIdeal.main_arg0) = m ((c.tc : Thread Cert.WinReferenceIdeal.nD Cert.WinReferenceIdeal.τ).loc Cert.WinReferenceIdeal.main_arg0)
      ∧ r.2.mem ((c.tc : Thread Cert.WinReferenceIdeal.nD Cert.WinReferenceIdeal.τ).loc Cert.WinReferenceIdeal.main_arg1) = m ((c.tc : Thread Cert.WinReferenceIdeal.nD Cert.WinReferenceIdeal.τ).loc Cert.WinReferenceIdeal.main_arg1)
      ∧ r.2.mem ((c.tc : Thread Cert.WinReferenceIdeal.nD Cert.WinReferenceIdeal.τ).loc Cert.WinReferenceIdeal.main_arg2) = m ((c.tc : Thread Cert.WinReferenceIdeal.nD Cert.WinReferenceIdeal.τ).loc Cert.WinReferenceIdeal.main_arg2)
      ∧ r.2.mem ((c.tc : Thread Cert.WinReferenceIdeal.nD Cert.WinReferenceIdeal.τ).loc Cert.WinReferenceIdeal.main_arg3) = m ((c.tc : Thread Cert.WinReferenceIdeal.nD Cert.WinReferenceIdeal.τ).loc Cert.WinReferenceIdeal.main_arg3)
      ∧ r.2.mem ((c.tc : Thread Cert.WinReferenceIdeal.nD Cert.WinReferenceIdeal.τ).loc Cert.WinReferenceIdeal.main_arg4) = m ((c.tc : Thread Cert.WinReferenceIdeal.nD Cert.WinReferenceIdeal.τ).loc Cert.WinReferenceIdeal.main_arg4)
      ∧ r.2.mem ((c.tc : Thread Cert.WinReferenceIdeal.nD Cert.WinReferenceIdeal.τ).loc Cert.WinReferenceIdeal.main_arg5) = m ((c.tc : Thread Cert.WinReferenceIdeal.nD Cert.WinReferenceIdeal.τ).loc Cert.WinReferenceIdeal.main_arg5))
      ∧ r.2.sem = fun _ => 0)

def quiescent_NormProj [hNormProj : Cert.NormProj.Facts] : Prop :=
  ∀ (m : (ℓ : Loc Cert.NormProj.nD Cert.NormProj.τ Cert.NormProj.sig) → Buf (Elt Bits) ℓ) (g : Dev Cert.NormProj.nD → PrngReg), Pre_NormProj m →
    θ_run (Cert.NormProj.defs (F := Bits)) (onTc (τ := Cert.NormProj.τ) (Cert.NormProj.main (F := Bits))) ⟨m, fun _ => 0, g⟩ (fun r => (∀ c : Dev Cert.NormProj.nD,
      r.2.mem ((c.tc : Thread Cert.NormProj.nD Cert.NormProj.τ).loc Cert.NormProj.main_arg0) = m ((c.tc : Thread Cert.NormProj.nD Cert.NormProj.τ).loc Cert.NormProj.main_arg0)
      ∧ r.2.mem ((c.tc : Thread Cert.NormProj.nD Cert.NormProj.τ).loc Cert.NormProj.main_arg1) = m ((c.tc : Thread Cert.NormProj.nD Cert.NormProj.τ).loc Cert.NormProj.main_arg1)
      ∧ r.2.mem ((c.tc : Thread Cert.NormProj.nD Cert.NormProj.τ).loc Cert.NormProj.main_arg2) = m ((c.tc : Thread Cert.NormProj.nD Cert.NormProj.τ).loc Cert.NormProj.main_arg2)
      ∧ r.2.mem ((c.tc : Thread Cert.NormProj.nD Cert.NormProj.τ).loc Cert.NormProj.main_arg3) = m ((c.tc : Thread Cert.NormProj.nD Cert.NormProj.τ).loc Cert.NormProj.main_arg3)
      ∧ r.2.mem ((c.tc : Thread Cert.NormProj.nD Cert.NormProj.τ).loc Cert.NormProj.main_arg4) = m ((c.tc : Thread Cert.NormProj.nD Cert.NormProj.τ).loc Cert.NormProj.main_arg4))
      ∧ r.2.sem = fun _ => 0)

def quiescent_NormProjIdeal [hNormProjIdeal : Cert.NormProjIdeal.Facts] : Prop :=
  ∀ (m : (ℓ : Loc Cert.NormProjIdeal.nD Cert.NormProjIdeal.τ Cert.NormProjIdeal.sig) → Buf (Elt Ideal) ℓ) (g : Dev Cert.NormProjIdeal.nD → PrngReg), Pre_NormProjIdeal m →
    θ_run (Cert.NormProjIdeal.defs (F := Ideal)) (onTc (τ := Cert.NormProjIdeal.τ) (Cert.NormProjIdeal.main (F := Ideal))) ⟨m, fun _ => 0, g⟩ (fun r => (∀ c : Dev Cert.NormProjIdeal.nD,
      r.2.mem ((c.tc : Thread Cert.NormProjIdeal.nD Cert.NormProjIdeal.τ).loc Cert.NormProjIdeal.main_arg0) = m ((c.tc : Thread Cert.NormProjIdeal.nD Cert.NormProjIdeal.τ).loc Cert.NormProjIdeal.main_arg0)
      ∧ r.2.mem ((c.tc : Thread Cert.NormProjIdeal.nD Cert.NormProjIdeal.τ).loc Cert.NormProjIdeal.main_arg1) = m ((c.tc : Thread Cert.NormProjIdeal.nD Cert.NormProjIdeal.τ).loc Cert.NormProjIdeal.main_arg1)
      ∧ r.2.mem ((c.tc : Thread Cert.NormProjIdeal.nD Cert.NormProjIdeal.τ).loc Cert.NormProjIdeal.main_arg2) = m ((c.tc : Thread Cert.NormProjIdeal.nD Cert.NormProjIdeal.τ).loc Cert.NormProjIdeal.main_arg2)
      ∧ r.2.mem ((c.tc : Thread Cert.NormProjIdeal.nD Cert.NormProjIdeal.τ).loc Cert.NormProjIdeal.main_arg3) = m ((c.tc : Thread Cert.NormProjIdeal.nD Cert.NormProjIdeal.τ).loc Cert.NormProjIdeal.main_arg3)
      ∧ r.2.mem ((c.tc : Thread Cert.NormProjIdeal.nD Cert.NormProjIdeal.τ).loc Cert.NormProjIdeal.main_arg4) = m ((c.tc : Thread Cert.NormProjIdeal.nD Cert.NormProjIdeal.τ).loc Cert.NormProjIdeal.main_arg4))
      ∧ r.2.sem = fun _ => 0)

def quiescent_NormProjReferenceIdeal [hNormProjReferenceIdeal : Cert.NormProjReferenceIdeal.Facts] : Prop :=
  ∀ (m : (ℓ : Loc Cert.NormProjReferenceIdeal.nD Cert.NormProjReferenceIdeal.τ Cert.NormProjReferenceIdeal.sig) → Buf (Elt Ideal) ℓ) (g : Dev Cert.NormProjReferenceIdeal.nD → PrngReg), Pre_NormProjReferenceIdeal m →
    θ_run (Cert.NormProjReferenceIdeal.defs (F := Ideal)) (onTc (τ := Cert.NormProjReferenceIdeal.τ) (Cert.NormProjReferenceIdeal.main (F := Ideal))) ⟨m, fun _ => 0, g⟩ (fun r => (∀ c : Dev Cert.NormProjReferenceIdeal.nD,
      r.2.mem ((c.tc : Thread Cert.NormProjReferenceIdeal.nD Cert.NormProjReferenceIdeal.τ).loc Cert.NormProjReferenceIdeal.main_arg0) = m ((c.tc : Thread Cert.NormProjReferenceIdeal.nD Cert.NormProjReferenceIdeal.τ).loc Cert.NormProjReferenceIdeal.main_arg0)
      ∧ r.2.mem ((c.tc : Thread Cert.NormProjReferenceIdeal.nD Cert.NormProjReferenceIdeal.τ).loc Cert.NormProjReferenceIdeal.main_arg1) = m ((c.tc : Thread Cert.NormProjReferenceIdeal.nD Cert.NormProjReferenceIdeal.τ).loc Cert.NormProjReferenceIdeal.main_arg1)
      ∧ r.2.mem ((c.tc : Thread Cert.NormProjReferenceIdeal.nD Cert.NormProjReferenceIdeal.τ).loc Cert.NormProjReferenceIdeal.main_arg2) = m ((c.tc : Thread Cert.NormProjReferenceIdeal.nD Cert.NormProjReferenceIdeal.τ).loc Cert.NormProjReferenceIdeal.main_arg2)
      ∧ r.2.mem ((c.tc : Thread Cert.NormProjReferenceIdeal.nD Cert.NormProjReferenceIdeal.τ).loc Cert.NormProjReferenceIdeal.main_arg3) = m ((c.tc : Thread Cert.NormProjReferenceIdeal.nD Cert.NormProjReferenceIdeal.τ).loc Cert.NormProjReferenceIdeal.main_arg3)
      ∧ r.2.mem ((c.tc : Thread Cert.NormProjReferenceIdeal.nD Cert.NormProjReferenceIdeal.τ).loc Cert.NormProjReferenceIdeal.main_arg4) = m ((c.tc : Thread Cert.NormProjReferenceIdeal.nD Cert.NormProjReferenceIdeal.τ).loc Cert.NormProjReferenceIdeal.main_arg4))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwReferenceIdeal [hAdamwReferenceIdeal : Cert.AdamwReferenceIdeal.Facts] : Prop :=
  ∀ (m : (ℓ : Loc Cert.AdamwReferenceIdeal.nD Cert.AdamwReferenceIdeal.τ Cert.AdamwReferenceIdeal.sig) → Buf (Elt Ideal) ℓ) (g : Dev Cert.AdamwReferenceIdeal.nD → PrngReg), Pre_AdamwReferenceIdeal m →
    θ_run (Cert.AdamwReferenceIdeal.defs (F := Ideal)) (onTc (τ := Cert.AdamwReferenceIdeal.τ) (Cert.AdamwReferenceIdeal.main (F := Ideal))) ⟨m, fun _ => 0, g⟩ (fun r => (∀ c : Dev Cert.AdamwReferenceIdeal.nD,
      r.2.mem ((c.tc : Thread Cert.AdamwReferenceIdeal.nD Cert.AdamwReferenceIdeal.τ).loc Cert.AdamwReferenceIdeal.main_arg0) = m ((c.tc : Thread Cert.AdamwReferenceIdeal.nD Cert.AdamwReferenceIdeal.τ).loc Cert.AdamwReferenceIdeal.main_arg0)
      ∧ r.2.mem ((c.tc : Thread Cert.AdamwReferenceIdeal.nD Cert.AdamwReferenceIdeal.τ).loc Cert.AdamwReferenceIdeal.main_arg1) = m ((c.tc : Thread Cert.AdamwReferenceIdeal.nD Cert.AdamwReferenceIdeal.τ).loc Cert.AdamwReferenceIdeal.main_arg1)
      ∧ r.2.mem ((c.tc : Thread Cert.AdamwReferenceIdeal.nD Cert.AdamwReferenceIdeal.τ).loc Cert.AdamwReferenceIdeal.main_arg2) = m ((c.tc : Thread Cert.AdamwReferenceIdeal.nD Cert.AdamwReferenceIdeal.τ).loc Cert.AdamwReferenceIdeal.main_arg2)
      ∧ r.2.mem ((c.tc : Thread Cert.AdamwReferenceIdeal.nD Cert.AdamwReferenceIdeal.τ).loc Cert.AdamwReferenceIdeal.main_arg3) = m ((c.tc : Thread Cert.AdamwReferenceIdeal.nD Cert.AdamwReferenceIdeal.τ).loc Cert.AdamwReferenceIdeal.main_arg3))
      ∧ r.2.sem = fun _ => 0)

def preserves_MlpBackward_MlpBackwardIdeal : Prop :=
  True

def algebraic_MlpBackwardIdeal_MlpReferenceIdeal_pre_mlp_finite [hMlpBackwardIdeal : Cert.MlpBackwardIdeal.Facts] [hMlpReferenceIdeal : Cert.MlpReferenceIdeal.Facts] [hPre_mlp_finite : Cert.Pre_mlp_finite.Facts] : Prop :=
  ∀ (m : (ℓ : Loc Cert.MlpBackwardIdeal.nD Cert.MlpBackwardIdeal.τ Cert.MlpBackwardIdeal.sig) → Buf (Elt Ideal) ℓ) (g : Dev Cert.MlpBackwardIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpBackwardIdeal_mlp_finite m →
    (∀ c : Dev Cert.MlpBackwardIdeal.nD,
      m' ((c.tc : Thread Cert.MlpReferenceIdeal.nD Cert.MlpReferenceIdeal.τ).loc Cert.MlpReferenceIdeal.main_arg0) = m ((c.tc : Thread Cert.MlpBackwardIdeal.nD Cert.MlpBackwardIdeal.τ).loc Cert.MlpBackwardIdeal.main_arg0)
      ∧ m' ((c.tc : Thread Cert.MlpReferenceIdeal.nD Cert.MlpReferenceIdeal.τ).loc Cert.MlpReferenceIdeal.main_arg1) = m ((c.tc : Thread Cert.MlpBackwardIdeal.nD Cert.MlpBackwardIdeal.τ).loc Cert.MlpBackwardIdeal.main_arg1)
      ∧ m' ((c.tc : Thread Cert.MlpReferenceIdeal.nD Cert.MlpReferenceIdeal.τ).loc Cert.MlpReferenceIdeal.main_arg2) = m ((c.tc : Thread Cert.MlpBackwardIdeal.nD Cert.MlpBackwardIdeal.τ).loc Cert.MlpBackwardIdeal.main_arg2)
      ∧ m' ((c.tc : Thread Cert.MlpReferenceIdeal.nD Cert.MlpReferenceIdeal.τ).loc Cert.MlpReferenceIdeal.main_arg3) = m ((c.tc : Thread Cert.MlpBackwardIdeal.nD Cert.MlpBackwardIdeal.τ).loc Cert.MlpBackwardIdeal.main_arg3)
      ∧ m' ((c.tc : Thread Cert.MlpReferenceIdeal.nD Cert.MlpReferenceIdeal.τ).loc Cert.MlpReferenceIdeal.main_arg4) = m ((c.tc : Thread Cert.MlpBackwardIdeal.nD Cert.MlpBackwardIdeal.τ).loc Cert.MlpBackwardIdeal.main_arg4)
      ∧ m' ((c.tc : Thread Cert.MlpReferenceIdeal.nD Cert.MlpReferenceIdeal.τ).loc Cert.MlpReferenceIdeal.main_arg5) = m ((c.tc : Thread Cert.MlpBackwardIdeal.nD Cert.MlpBackwardIdeal.τ).loc Cert.MlpBackwardIdeal.main_arg5)
      ∧ m' ((c.tc : Thread Cert.MlpReferenceIdeal.nD Cert.MlpReferenceIdeal.τ).loc Cert.MlpReferenceIdeal.main_arg6) = m ((c.tc : Thread Cert.MlpBackwardIdeal.nD Cert.MlpBackwardIdeal.τ).loc Cert.MlpBackwardIdeal.main_arg6)
      ∧ m' ((c.tc : Thread Cert.MlpReferenceIdeal.nD Cert.MlpReferenceIdeal.τ).loc Cert.MlpReferenceIdeal.main_arg7) = m ((c.tc : Thread Cert.MlpBackwardIdeal.nD Cert.MlpBackwardIdeal.τ).loc Cert.MlpBackwardIdeal.main_arg7)
      ∧ m' ((c.tc : Thread Cert.MlpReferenceIdeal.nD Cert.MlpReferenceIdeal.τ).loc Cert.MlpReferenceIdeal.main_arg8) = m ((c.tc : Thread Cert.MlpBackwardIdeal.nD Cert.MlpBackwardIdeal.τ).loc Cert.MlpBackwardIdeal.main_arg8)) →
    ∃ (v0 : (c : Dev Cert.MlpBackwardIdeal.nD) → Buf (Elt Ideal) ((c.tc : Thread Cert.MlpBackwardIdeal.nD Cert.MlpBackwardIdeal.τ).loc Cert.MlpBackwardIdeal.main_v35_0)) (v1 : (c : Dev Cert.MlpBackwardIdeal.nD) → Buf (Elt Ideal) ((c.tc : Thread Cert.MlpBackwardIdeal.nD Cert.MlpBackwardIdeal.τ).loc Cert.MlpBackwardIdeal.main_v35_1)) (v2 : (c : Dev Cert.MlpBackwardIdeal.nD) → Buf (Elt Ideal) ((c.tc : Thread Cert.MlpBackwardIdeal.nD Cert.MlpBackwardIdeal.τ).loc Cert.MlpBackwardIdeal.main_v35_2)) (v3 : (c : Dev Cert.MlpBackwardIdeal.nD) → Buf (Elt Ideal) ((c.tc : Thread Cert.MlpBackwardIdeal.nD Cert.MlpBackwardIdeal.τ).loc Cert.MlpBackwardIdeal.main_v35_3)),
      θ_run (Cert.MlpBackwardIdeal.defs (F := Ideal)) (onTc (τ := Cert.MlpBackwardIdeal.τ) (Cert.MlpBackwardIdeal.main (F := Ideal))) ⟨m, fun _ => 0, g⟩ (fun r => ∀ c : Dev Cert.MlpBackwardIdeal.nD,
          r.2.mem ((c.tc : Thread Cert.MlpBackwardIdeal.nD Cert.MlpBackwardIdeal.τ).loc Cert.MlpBackwardIdeal.main_v35_0) = v0 c
          ∧ r.2.mem ((c.tc : Thread Cert.MlpBackwardIdeal.nD Cert.MlpBackwardIdeal.τ).loc Cert.MlpBackwardIdeal.main_v35_1) = v1 c
          ∧ r.2.mem ((c.tc : Thread Cert.MlpBackwardIdeal.nD Cert.MlpBackwardIdeal.τ).loc Cert.MlpBackwardIdeal.main_v35_2) = v2 c
          ∧ r.2.mem ((c.tc : Thread Cert.MlpBackwardIdeal.nD Cert.MlpBackwardIdeal.τ).loc Cert.MlpBackwardIdeal.main_v35_3) = v3 c
          ∧ r.2.mem ((c.tc : Thread Cert.MlpBackwardIdeal.nD Cert.MlpBackwardIdeal.τ).loc Cert.MlpBackwardIdeal.main_arg0) = m ((c.tc : Thread Cert.MlpBackwardIdeal.nD Cert.MlpBackwardIdeal.τ).loc Cert.MlpBackwardIdeal.main_arg0)
          ∧ r.2.mem ((c.tc : Thread Cert.MlpBackwardIdeal.nD Cert.MlpBackwardIdeal.τ).loc Cert.MlpBackwardIdeal.main_arg1) = m ((c.tc : Thread Cert.MlpBackwardIdeal.nD Cert.MlpBackwardIdeal.τ).loc Cert.MlpBackwardIdeal.main_arg1)
          ∧ r.2.mem ((c.tc : Thread Cert.MlpBackwardIdeal.nD Cert.MlpBackwardIdeal.τ).loc Cert.MlpBackwardIdeal.main_arg2) = m ((c.tc : Thread Cert.MlpBackwardIdeal.nD Cert.MlpBackwardIdeal.τ).loc Cert.MlpBackwardIdeal.main_arg2)
          ∧ r.2.mem ((c.tc : Thread Cert.MlpBackwardIdeal.nD Cert.MlpBackwardIdeal.τ).loc Cert.MlpBackwardIdeal.main_arg3) = m ((c.tc : Thread Cert.MlpBackwardIdeal.nD Cert.MlpBackwardIdeal.τ).loc Cert.MlpBackwardIdeal.main_arg3)
          ∧ r.2.mem ((c.tc : Thread Cert.MlpBackwardIdeal.nD Cert.MlpBackwardIdeal.τ).loc Cert.MlpBackwardIdeal.main_arg4) = m ((c.tc : Thread Cert.MlpBackwardIdeal.nD Cert.MlpBackwardIdeal.τ).loc Cert.MlpBackwardIdeal.main_arg4)
          ∧ r.2.mem ((c.tc : Thread Cert.MlpBackwardIdeal.nD Cert.MlpBackwardIdeal.τ).loc Cert.MlpBackwardIdeal.main_arg5) = m ((c.tc : Thread Cert.MlpBackwardIdeal.nD Cert.MlpBackwardIdeal.τ).loc Cert.MlpBackwardIdeal.main_arg5)
          ∧ r.2.mem ((c.tc : Thread Cert.MlpBackwardIdeal.nD Cert.MlpBackwardIdeal.τ).loc Cert.MlpBackwardIdeal.main_arg6) = m ((c.tc : Thread Cert.MlpBackwardIdeal.nD Cert.MlpBackwardIdeal.τ).loc Cert.MlpBackwardIdeal.main_arg6)
          ∧ r.2.mem ((c.tc : Thread Cert.MlpBackwardIdeal.nD Cert.MlpBackwardIdeal.τ).loc Cert.MlpBackwardIdeal.main_arg7) = m ((c.tc : Thread Cert.MlpBackwardIdeal.nD Cert.MlpBackwardIdeal.τ).loc Cert.MlpBackwardIdeal.main_arg7)
          ∧ r.2.mem ((c.tc : Thread Cert.MlpBackwardIdeal.nD Cert.MlpBackwardIdeal.τ).loc Cert.MlpBackwardIdeal.main_arg8) = m ((c.tc : Thread Cert.MlpBackwardIdeal.nD Cert.MlpBackwardIdeal.τ).loc Cert.MlpBackwardIdeal.main_arg8))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v112) = v0 c
          ∧ r.2.mem ((c.tc : Thread Cert.MlpReferenceIdeal.nD Cert.MlpReferenceIdeal.τ).loc Cert.MlpReferenceIdeal.main_v113) = v1 c
          ∧ r.2.mem ((c.tc : Thread Cert.MlpReferenceIdeal.nD Cert.MlpReferenceIdeal.τ).loc Cert.MlpReferenceIdeal.main_v114) = v2 c
          ∧ r.2.mem ((c.tc : Thread Cert.MlpReferenceIdeal.nD Cert.MlpReferenceIdeal.τ).loc Cert.MlpReferenceIdeal.main_v111) = v3 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5)
          ∧ r.2.mem ((c.tc : Thread Cert.MlpReferenceIdeal.nD Cert.MlpReferenceIdeal.τ).loc Cert.MlpReferenceIdeal.main_arg6) = m' ((c.tc : Thread Cert.MlpReferenceIdeal.nD Cert.MlpReferenceIdeal.τ).loc Cert.MlpReferenceIdeal.main_arg6)
          ∧ r.2.mem ((c.tc : Thread Cert.MlpReferenceIdeal.nD Cert.MlpReferenceIdeal.τ).loc Cert.MlpReferenceIdeal.main_arg7) = m' ((c.tc : Thread Cert.MlpReferenceIdeal.nD Cert.MlpReferenceIdeal.τ).loc Cert.MlpReferenceIdeal.main_arg7)
          ∧ r.2.mem ((c.tc : Thread Cert.MlpReferenceIdeal.nD Cert.MlpReferenceIdeal.τ).loc Cert.MlpReferenceIdeal.main_arg8) = m' ((c.tc : Thread Cert.MlpReferenceIdeal.nD Cert.MlpReferenceIdeal.τ).loc Cert.MlpReferenceIdeal.main_arg8))

def preserves_ProjBackward_ProjBackwardIdeal : Prop :=
  True

def algebraic_ProjBackwardIdeal_ProjReferenceIdeal_pre_proj_finite [hProjBackwardIdeal : Cert.ProjBackwardIdeal.Facts] [hProjReferenceIdeal : Cert.ProjReferenceIdeal.Facts] [hPre_proj_finite : Cert.Pre_proj_finite.Facts] : Prop :=
  ∀ (m : (ℓ : Loc Cert.ProjBackwardIdeal.nD Cert.ProjBackwardIdeal.τ Cert.ProjBackwardIdeal.sig) → Buf (Elt Ideal) ℓ) (g : Dev Cert.ProjBackwardIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjBackwardIdeal_proj_finite m →
    (∀ c : Dev Cert.ProjBackwardIdeal.nD,
      m' ((c.tc : Thread Cert.ProjReferenceIdeal.nD Cert.ProjReferenceIdeal.τ).loc Cert.ProjReferenceIdeal.main_arg0) = m ((c.tc : Thread Cert.ProjBackwardIdeal.nD Cert.ProjBackwardIdeal.τ).loc Cert.ProjBackwardIdeal.main_arg0)
      ∧ m' ((c.tc : Thread Cert.ProjReferenceIdeal.nD Cert.ProjReferenceIdeal.τ).loc Cert.ProjReferenceIdeal.main_arg1) = m ((c.tc : Thread Cert.ProjBackwardIdeal.nD Cert.ProjBackwardIdeal.τ).loc Cert.ProjBackwardIdeal.main_arg1)
      ∧ m' ((c.tc : Thread Cert.ProjReferenceIdeal.nD Cert.ProjReferenceIdeal.τ).loc Cert.ProjReferenceIdeal.main_arg2) = m ((c.tc : Thread Cert.ProjBackwardIdeal.nD Cert.ProjBackwardIdeal.τ).loc Cert.ProjBackwardIdeal.main_arg2)
      ∧ m' ((c.tc : Thread Cert.ProjReferenceIdeal.nD Cert.ProjReferenceIdeal.τ).loc Cert.ProjReferenceIdeal.main_arg3) = m ((c.tc : Thread Cert.ProjBackwardIdeal.nD Cert.ProjBackwardIdeal.τ).loc Cert.ProjBackwardIdeal.main_arg3)
      ∧ m' ((c.tc : Thread Cert.ProjReferenceIdeal.nD Cert.ProjReferenceIdeal.τ).loc Cert.ProjReferenceIdeal.main_arg4) = m ((c.tc : Thread Cert.ProjBackwardIdeal.nD Cert.ProjBackwardIdeal.τ).loc Cert.ProjBackwardIdeal.main_arg4)
      ∧ m' ((c.tc : Thread Cert.ProjReferenceIdeal.nD Cert.ProjReferenceIdeal.τ).loc Cert.ProjReferenceIdeal.main_arg5) = m ((c.tc : Thread Cert.ProjBackwardIdeal.nD Cert.ProjBackwardIdeal.τ).loc Cert.ProjBackwardIdeal.main_arg5)
      ∧ m' ((c.tc : Thread Cert.ProjReferenceIdeal.nD Cert.ProjReferenceIdeal.τ).loc Cert.ProjReferenceIdeal.main_arg6) = m ((c.tc : Thread Cert.ProjBackwardIdeal.nD Cert.ProjBackwardIdeal.τ).loc Cert.ProjBackwardIdeal.main_arg6)) →
    ∃ (v0 : (c : Dev Cert.ProjBackwardIdeal.nD) → Buf (Elt Ideal) ((c.tc : Thread Cert.ProjBackwardIdeal.nD Cert.ProjBackwardIdeal.τ).loc Cert.ProjBackwardIdeal.main_v8_0)) (v1 : (c : Dev Cert.ProjBackwardIdeal.nD) → Buf (Elt Ideal) ((c.tc : Thread Cert.ProjBackwardIdeal.nD Cert.ProjBackwardIdeal.τ).loc Cert.ProjBackwardIdeal.main_v8_1)),
      θ_run (Cert.ProjBackwardIdeal.defs (F := Ideal)) (onTc (τ := Cert.ProjBackwardIdeal.τ) (Cert.ProjBackwardIdeal.main (F := Ideal))) ⟨m, fun _ => 0, g⟩ (fun r => ∀ c : Dev Cert.ProjBackwardIdeal.nD,
          r.2.mem ((c.tc : Thread Cert.ProjBackwardIdeal.nD Cert.ProjBackwardIdeal.τ).loc Cert.ProjBackwardIdeal.main_v8_0) = v0 c
          ∧ r.2.mem ((c.tc : Thread Cert.ProjBackwardIdeal.nD Cert.ProjBackwardIdeal.τ).loc Cert.ProjBackwardIdeal.main_v8_1) = v1 c
          ∧ r.2.mem ((c.tc : Thread Cert.ProjBackwardIdeal.nD Cert.ProjBackwardIdeal.τ).loc Cert.ProjBackwardIdeal.main_arg0) = m ((c.tc : Thread Cert.ProjBackwardIdeal.nD Cert.ProjBackwardIdeal.τ).loc Cert.ProjBackwardIdeal.main_arg0)
          ∧ r.2.mem ((c.tc : Thread Cert.ProjBackwardIdeal.nD Cert.ProjBackwardIdeal.τ).loc Cert.ProjBackwardIdeal.main_arg1) = m ((c.tc : Thread Cert.ProjBackwardIdeal.nD Cert.ProjBackwardIdeal.τ).loc Cert.ProjBackwardIdeal.main_arg1)
          ∧ r.2.mem ((c.tc : Thread Cert.ProjBackwardIdeal.nD Cert.ProjBackwardIdeal.τ).loc Cert.ProjBackwardIdeal.main_arg2) = m ((c.tc : Thread Cert.ProjBackwardIdeal.nD Cert.ProjBackwardIdeal.τ).loc Cert.ProjBackwardIdeal.main_arg2)
          ∧ r.2.mem ((c.tc : Thread Cert.ProjBackwardIdeal.nD Cert.ProjBackwardIdeal.τ).loc Cert.ProjBackwardIdeal.main_arg3) = m ((c.tc : Thread Cert.ProjBackwardIdeal.nD Cert.ProjBackwardIdeal.τ).loc Cert.ProjBackwardIdeal.main_arg3)
          ∧ r.2.mem ((c.tc : Thread Cert.ProjBackwardIdeal.nD Cert.ProjBackwardIdeal.τ).loc Cert.ProjBackwardIdeal.main_arg4) = m ((c.tc : Thread Cert.ProjBackwardIdeal.nD Cert.ProjBackwardIdeal.τ).loc Cert.ProjBackwardIdeal.main_arg4)
          ∧ r.2.mem ((c.tc : Thread Cert.ProjBackwardIdeal.nD Cert.ProjBackwardIdeal.τ).loc Cert.ProjBackwardIdeal.main_arg5) = m ((c.tc : Thread Cert.ProjBackwardIdeal.nD Cert.ProjBackwardIdeal.τ).loc Cert.ProjBackwardIdeal.main_arg5)
          ∧ r.2.mem ((c.tc : Thread Cert.ProjBackwardIdeal.nD Cert.ProjBackwardIdeal.τ).loc Cert.ProjBackwardIdeal.main_arg6) = m ((c.tc : Thread Cert.ProjBackwardIdeal.nD Cert.ProjBackwardIdeal.τ).loc Cert.ProjBackwardIdeal.main_arg6))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v54) = v0 c
          ∧ r.2.mem ((c.tc : Thread Cert.ProjReferenceIdeal.nD Cert.ProjReferenceIdeal.τ).loc Cert.ProjReferenceIdeal.main_v53) = v1 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6))

def preserves_DownBackward_DownBackwardIdeal : Prop :=
  True

def algebraic_DownBackwardIdeal_DownReferenceIdeal [hDownBackwardIdeal : Cert.DownBackwardIdeal.Facts] [hDownReferenceIdeal : Cert.DownReferenceIdeal.Facts] : Prop :=
  ∀ (m : (ℓ : Loc Cert.DownBackwardIdeal.nD Cert.DownBackwardIdeal.τ Cert.DownBackwardIdeal.sig) → Buf (Elt Ideal) ℓ) (g : Dev Cert.DownBackwardIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownBackwardIdeal m →
    (∀ c : Dev Cert.DownBackwardIdeal.nD,
      m' ((c.tc : Thread Cert.DownReferenceIdeal.nD Cert.DownReferenceIdeal.τ).loc Cert.DownReferenceIdeal.main_arg0) = m ((c.tc : Thread Cert.DownBackwardIdeal.nD Cert.DownBackwardIdeal.τ).loc Cert.DownBackwardIdeal.main_arg0)
      ∧ m' ((c.tc : Thread Cert.DownReferenceIdeal.nD Cert.DownReferenceIdeal.τ).loc Cert.DownReferenceIdeal.main_arg1) = m ((c.tc : Thread Cert.DownBackwardIdeal.nD Cert.DownBackwardIdeal.τ).loc Cert.DownBackwardIdeal.main_arg1)
      ∧ m' ((c.tc : Thread Cert.DownReferenceIdeal.nD Cert.DownReferenceIdeal.τ).loc Cert.DownReferenceIdeal.main_arg2) = m ((c.tc : Thread Cert.DownBackwardIdeal.nD Cert.DownBackwardIdeal.τ).loc Cert.DownBackwardIdeal.main_arg2)
      ∧ m' ((c.tc : Thread Cert.DownReferenceIdeal.nD Cert.DownReferenceIdeal.τ).loc Cert.DownReferenceIdeal.main_arg3) = m ((c.tc : Thread Cert.DownBackwardIdeal.nD Cert.DownBackwardIdeal.τ).loc Cert.DownBackwardIdeal.main_arg3)
      ∧ m' ((c.tc : Thread Cert.DownReferenceIdeal.nD Cert.DownReferenceIdeal.τ).loc Cert.DownReferenceIdeal.main_arg4) = m ((c.tc : Thread Cert.DownBackwardIdeal.nD Cert.DownBackwardIdeal.τ).loc Cert.DownBackwardIdeal.main_arg4)
      ∧ m' ((c.tc : Thread Cert.DownReferenceIdeal.nD Cert.DownReferenceIdeal.τ).loc Cert.DownReferenceIdeal.main_arg5) = m ((c.tc : Thread Cert.DownBackwardIdeal.nD Cert.DownBackwardIdeal.τ).loc Cert.DownBackwardIdeal.main_arg5)
      ∧ m' ((c.tc : Thread Cert.DownReferenceIdeal.nD Cert.DownReferenceIdeal.τ).loc Cert.DownReferenceIdeal.main_arg6) = m ((c.tc : Thread Cert.DownBackwardIdeal.nD Cert.DownBackwardIdeal.τ).loc Cert.DownBackwardIdeal.main_arg6)) →
    ∃ (v0 : (c : Dev Cert.DownBackwardIdeal.nD) → Buf (Elt Ideal) ((c.tc : Thread Cert.DownBackwardIdeal.nD Cert.DownBackwardIdeal.τ).loc Cert.DownBackwardIdeal.main_v22)),
      θ_run (Cert.DownBackwardIdeal.defs (F := Ideal)) (onTc (τ := Cert.DownBackwardIdeal.τ) (Cert.DownBackwardIdeal.main (F := Ideal))) ⟨m, fun _ => 0, g⟩ (fun r => ∀ c : Dev Cert.DownBackwardIdeal.nD,
          r.2.mem ((c.tc : Thread Cert.DownBackwardIdeal.nD Cert.DownBackwardIdeal.τ).loc Cert.DownBackwardIdeal.main_v22) = v0 c
          ∧ r.2.mem ((c.tc : Thread Cert.DownBackwardIdeal.nD Cert.DownBackwardIdeal.τ).loc Cert.DownBackwardIdeal.main_arg0) = m ((c.tc : Thread Cert.DownBackwardIdeal.nD Cert.DownBackwardIdeal.τ).loc Cert.DownBackwardIdeal.main_arg0)
          ∧ r.2.mem ((c.tc : Thread Cert.DownBackwardIdeal.nD Cert.DownBackwardIdeal.τ).loc Cert.DownBackwardIdeal.main_arg1) = m ((c.tc : Thread Cert.DownBackwardIdeal.nD Cert.DownBackwardIdeal.τ).loc Cert.DownBackwardIdeal.main_arg1)
          ∧ r.2.mem ((c.tc : Thread Cert.DownBackwardIdeal.nD Cert.DownBackwardIdeal.τ).loc Cert.DownBackwardIdeal.main_arg2) = m ((c.tc : Thread Cert.DownBackwardIdeal.nD Cert.DownBackwardIdeal.τ).loc Cert.DownBackwardIdeal.main_arg2)
          ∧ r.2.mem ((c.tc : Thread Cert.DownBackwardIdeal.nD Cert.DownBackwardIdeal.τ).loc Cert.DownBackwardIdeal.main_arg3) = m ((c.tc : Thread Cert.DownBackwardIdeal.nD Cert.DownBackwardIdeal.τ).loc Cert.DownBackwardIdeal.main_arg3)
          ∧ r.2.mem ((c.tc : Thread Cert.DownBackwardIdeal.nD Cert.DownBackwardIdeal.τ).loc Cert.DownBackwardIdeal.main_arg4) = m ((c.tc : Thread Cert.DownBackwardIdeal.nD Cert.DownBackwardIdeal.τ).loc Cert.DownBackwardIdeal.main_arg4)
          ∧ r.2.mem ((c.tc : Thread Cert.DownBackwardIdeal.nD Cert.DownBackwardIdeal.τ).loc Cert.DownBackwardIdeal.main_arg5) = m ((c.tc : Thread Cert.DownBackwardIdeal.nD Cert.DownBackwardIdeal.τ).loc Cert.DownBackwardIdeal.main_arg5)
          ∧ r.2.mem ((c.tc : Thread Cert.DownBackwardIdeal.nD Cert.DownBackwardIdeal.τ).loc Cert.DownBackwardIdeal.main_arg6) = m ((c.tc : Thread Cert.DownBackwardIdeal.nD Cert.DownBackwardIdeal.τ).loc Cert.DownBackwardIdeal.main_arg6))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v25) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3)
          ∧ r.2.mem ((c.tc : Thread Cert.DownReferenceIdeal.nD Cert.DownReferenceIdeal.τ).loc Cert.DownReferenceIdeal.main_arg4) = m' ((c.tc : Thread Cert.DownReferenceIdeal.nD Cert.DownReferenceIdeal.τ).loc Cert.DownReferenceIdeal.main_arg4)
          ∧ r.2.mem ((c.tc : Thread Cert.DownReferenceIdeal.nD Cert.DownReferenceIdeal.τ).loc Cert.DownReferenceIdeal.main_arg5) = m' ((c.tc : Thread Cert.DownReferenceIdeal.nD Cert.DownReferenceIdeal.τ).loc Cert.DownReferenceIdeal.main_arg5)
          ∧ r.2.mem ((c.tc : Thread Cert.DownReferenceIdeal.nD Cert.DownReferenceIdeal.τ).loc Cert.DownReferenceIdeal.main_arg6) = m' ((c.tc : Thread Cert.DownReferenceIdeal.nD Cert.DownReferenceIdeal.τ).loc Cert.DownReferenceIdeal.main_arg6))

def preserves_ModBackward_ModBackwardIdeal : Prop :=
  True

def algebraic_ModBackwardIdeal_ModReferenceIdeal [hModBackwardIdeal : Cert.ModBackwardIdeal.Facts] [hModReferenceIdeal : Cert.ModReferenceIdeal.Facts] : Prop :=
  ∀ (m : (ℓ : Loc Cert.ModBackwardIdeal.nD Cert.ModBackwardIdeal.τ Cert.ModBackwardIdeal.sig) → Buf (Elt Ideal) ℓ) (g : Dev Cert.ModBackwardIdeal.nD → PrngReg)
    (m' : (ℓ : Loc Cert.ModReferenceIdeal.nD Cert.ModReferenceIdeal.τ Cert.ModReferenceIdeal.sig) → Buf (Elt Ideal) ℓ) (g' : Dev Cert.ModReferenceIdeal.nD → PrngReg), Pre_ModBackwardIdeal m →
    (∀ c : Dev Cert.ModBackwardIdeal.nD,
      m' ((c.tc : Thread Cert.ModReferenceIdeal.nD Cert.ModReferenceIdeal.τ).loc Cert.ModReferenceIdeal.main_arg0) = m ((c.tc : Thread Cert.ModBackwardIdeal.nD Cert.ModBackwardIdeal.τ).loc Cert.ModBackwardIdeal.main_arg0)
      ∧ m' ((c.tc : Thread Cert.ModReferenceIdeal.nD Cert.ModReferenceIdeal.τ).loc Cert.ModReferenceIdeal.main_arg1) = m ((c.tc : Thread Cert.ModBackwardIdeal.nD Cert.ModBackwardIdeal.τ).loc Cert.ModBackwardIdeal.main_arg1)
      ∧ m' ((c.tc : Thread Cert.ModReferenceIdeal.nD Cert.ModReferenceIdeal.τ).loc Cert.ModReferenceIdeal.main_arg2) = m ((c.tc : Thread Cert.ModBackwardIdeal.nD Cert.ModBackwardIdeal.τ).loc Cert.ModBackwardIdeal.main_arg2)) →
    ∃ (v0 : (c : Dev Cert.ModBackwardIdeal.nD) → Buf (Elt Ideal) ((c.tc : Thread Cert.ModBackwardIdeal.nD Cert.ModBackwardIdeal.τ).loc Cert.ModBackwardIdeal.main_v1)),
      θ_run (Cert.ModBackwardIdeal.defs (F := Ideal)) (onTc (τ := Cert.ModBackwardIdeal.τ) (Cert.ModBackwardIdeal.main (F := Ideal))) ⟨m, fun _ => 0, g⟩ (fun r => ∀ c : Dev Cert.ModBackwardIdeal.nD,
          r.2.mem ((c.tc : Thread Cert.ModBackwardIdeal.nD Cert.ModBackwardIdeal.τ).loc Cert.ModBackwardIdeal.main_v1) = v0 c
          ∧ r.2.mem ((c.tc : Thread Cert.ModBackwardIdeal.nD Cert.ModBackwardIdeal.τ).loc Cert.ModBackwardIdeal.main_arg0) = m ((c.tc : Thread Cert.ModBackwardIdeal.nD Cert.ModBackwardIdeal.τ).loc Cert.ModBackwardIdeal.main_arg0)
          ∧ r.2.mem ((c.tc : Thread Cert.ModBackwardIdeal.nD Cert.ModBackwardIdeal.τ).loc Cert.ModBackwardIdeal.main_arg1) = m ((c.tc : Thread Cert.ModBackwardIdeal.nD Cert.ModBackwardIdeal.τ).loc Cert.ModBackwardIdeal.main_arg1)
          ∧ r.2.mem ((c.tc : Thread Cert.ModBackwardIdeal.nD Cert.ModBackwardIdeal.τ).loc Cert.ModBackwardIdeal.main_arg2) = m ((c.tc : Thread Cert.ModBackwardIdeal.nD Cert.ModBackwardIdeal.τ).loc Cert.ModBackwardIdeal.main_arg2))
      ∧ θ_run (Cert.ModReferenceIdeal.defs (F := Ideal)) (onTc (τ := Cert.ModReferenceIdeal.τ) (Cert.ModReferenceIdeal.main (F := Ideal))) ⟨m', fun _ => 0, g'⟩ (fun r => ∀ c : Dev Cert.ModReferenceIdeal.nD,
          r.2.mem ((c.tc : Thread Cert.ModReferenceIdeal.nD Cert.ModReferenceIdeal.τ).loc Cert.ModReferenceIdeal.main_v18) = v0 c
          ∧ r.2.mem ((c.tc : Thread Cert.ModReferenceIdeal.nD Cert.ModReferenceIdeal.τ).loc Cert.ModReferenceIdeal.main_arg0) = m' ((c.tc : Thread Cert.ModReferenceIdeal.nD Cert.ModReferenceIdeal.τ).loc Cert.ModReferenceIdeal.main_arg0)
          ∧ r.2.mem ((c.tc : Thread Cert.ModReferenceIdeal.nD Cert.ModReferenceIdeal.τ).loc Cert.ModReferenceIdeal.main_arg1) = m' ((c.tc : Thread Cert.ModReferenceIdeal.nD Cert.ModReferenceIdeal.τ).loc Cert.ModReferenceIdeal.main_arg1)
          ∧ r.2.mem ((c.tc : Thread Cert.ModReferenceIdeal.nD Cert.ModReferenceIdeal.τ).loc Cert.ModReferenceIdeal.main_arg2) = m' ((c.tc : Thread Cert.ModReferenceIdeal.nD Cert.ModReferenceIdeal.τ).loc Cert.ModReferenceIdeal.main_arg2))

def preserves_MixerBackward_MixerBackwardIdeal : Prop :=
  True

def preserves_MlpForward_MlpForwardIdeal : Prop :=
  True

def algebraic_MlpForwardIdeal_MlpForwardReferenceIdeal [hMlpForwardIdeal : Cert.MlpForwardIdeal.Facts] [hMlpForwardReferenceIdeal : Cert.MlpForwardReferenceIdeal.Facts] : Prop :=
  ∀ (m : (ℓ : Loc Cert.MlpForwardIdeal.nD Cert.MlpForwardIdeal.τ Cert.MlpForwardIdeal.sig) → Buf (Elt Ideal) ℓ) (g : Dev Cert.MlpForwardIdeal.nD → PrngReg)
    (m' : (ℓ : Loc Cert.MlpForwardReferenceIdeal.nD Cert.MlpForwardReferenceIdeal.τ Cert.MlpForwardReferenceIdeal.sig) → Buf (Elt Ideal) ℓ) (g' : Dev Cert.MlpForwardReferenceIdeal.nD → PrngReg), Pre_MlpForwardIdeal m →
    (∀ c : Dev Cert.MlpForwardIdeal.nD,
      m' ((c.tc : Thread Cert.MlpForwardReferenceIdeal.nD Cert.MlpForwardReferenceIdeal.τ).loc Cert.MlpForwardReferenceIdeal.main_arg0) = m ((c.tc : Thread Cert.MlpForwardIdeal.nD Cert.MlpForwardIdeal.τ).loc Cert.MlpForwardIdeal.main_arg0)
      ∧ m' ((c.tc : Thread Cert.MlpForwardReferenceIdeal.nD Cert.MlpForwardReferenceIdeal.τ).loc Cert.MlpForwardReferenceIdeal.main_arg1) = m ((c.tc : Thread Cert.MlpForwardIdeal.nD Cert.MlpForwardIdeal.τ).loc Cert.MlpForwardIdeal.main_arg1)
      ∧ m' ((c.tc : Thread Cert.MlpForwardReferenceIdeal.nD Cert.MlpForwardReferenceIdeal.τ).loc Cert.MlpForwardReferenceIdeal.main_arg2) = m ((c.tc : Thread Cert.MlpForwardIdeal.nD Cert.MlpForwardIdeal.τ).loc Cert.MlpForwardIdeal.main_arg2)
      ∧ m' ((c.tc : Thread Cert.MlpForwardReferenceIdeal.nD Cert.MlpForwardReferenceIdeal.τ).loc Cert.MlpForwardReferenceIdeal.main_arg3) = m ((c.tc : Thread Cert.MlpForwardIdeal.nD Cert.MlpForwardIdeal.τ).loc Cert.MlpForwardIdeal.main_arg3)
      ∧ m' ((c.tc : Thread Cert.MlpForwardReferenceIdeal.nD Cert.MlpForwardReferenceIdeal.τ).loc Cert.MlpForwardReferenceIdeal.main_arg4) = m ((c.tc : Thread Cert.MlpForwardIdeal.nD Cert.MlpForwardIdeal.τ).loc Cert.MlpForwardIdeal.main_arg4)
      ∧ m' ((c.tc : Thread Cert.MlpForwardReferenceIdeal.nD Cert.MlpForwardReferenceIdeal.τ).loc Cert.MlpForwardReferenceIdeal.main_arg5) = m ((c.tc : Thread Cert.MlpForwardIdeal.nD Cert.MlpForwardIdeal.τ).loc Cert.MlpForwardIdeal.main_arg5)
      ∧ m' ((c.tc : Thread Cert.MlpForwardReferenceIdeal.nD Cert.MlpForwardReferenceIdeal.τ).loc Cert.MlpForwardReferenceIdeal.main_arg6) = m ((c.tc : Thread Cert.MlpForwardIdeal.nD Cert.MlpForwardIdeal.τ).loc Cert.MlpForwardIdeal.main_arg6)
      ∧ m' ((c.tc : Thread Cert.MlpForwardReferenceIdeal.nD Cert.MlpForwardReferenceIdeal.τ).loc Cert.MlpForwardReferenceIdeal.main_arg7) = m ((c.tc : Thread Cert.MlpForwardIdeal.nD Cert.MlpForwardIdeal.τ).loc Cert.MlpForwardIdeal.main_arg7)) →
    ∃ (v0 : (c : Dev Cert.MlpForwardIdeal.nD) → Buf (Elt Ideal) ((c.tc : Thread Cert.MlpForwardIdeal.nD Cert.MlpForwardIdeal.τ).loc Cert.MlpForwardIdeal.main_v10_0)) (v1 : (c : Dev Cert.MlpForwardIdeal.nD) → Buf (Elt Ideal) ((c.tc : Thread Cert.MlpForwardIdeal.nD Cert.MlpForwardIdeal.τ).loc Cert.MlpForwardIdeal.main_v10_1)) (v2 : (c : Dev Cert.MlpForwardIdeal.nD) → Buf (Elt Ideal) ((c.tc : Thread Cert.MlpForwardIdeal.nD Cert.MlpForwardIdeal.τ).loc Cert.MlpForwardIdeal.main_v10_2)) (v3 : (c : Dev Cert.MlpForwardIdeal.nD) → Buf (Elt Ideal) ((c.tc : Thread Cert.MlpForwardIdeal.nD Cert.MlpForwardIdeal.τ).loc Cert.MlpForwardIdeal.main_v10_3)),
      θ_run (Cert.MlpForwardIdeal.defs (F := Ideal)) (onTc (τ := Cert.MlpForwardIdeal.τ) (Cert.MlpForwardIdeal.main (F := Ideal))) ⟨m, fun _ => 0, g⟩ (fun r => ∀ c : Dev Cert.MlpForwardIdeal.nD,
          r.2.mem ((c.tc : Thread Cert.MlpForwardIdeal.nD Cert.MlpForwardIdeal.τ).loc Cert.MlpForwardIdeal.main_v10_0) = v0 c
          ∧ r.2.mem ((c.tc : Thread Cert.MlpForwardIdeal.nD Cert.MlpForwardIdeal.τ).loc Cert.MlpForwardIdeal.main_v10_1) = v1 c
          ∧ r.2.mem ((c.tc : Thread Cert.MlpForwardIdeal.nD Cert.MlpForwardIdeal.τ).loc Cert.MlpForwardIdeal.main_v10_2) = v2 c
          ∧ r.2.mem ((c.tc : Thread Cert.MlpForwardIdeal.nD Cert.MlpForwardIdeal.τ).loc Cert.MlpForwardIdeal.main_v10_3) = v3 c
          ∧ r.2.mem ((c.tc : Thread Cert.MlpForwardIdeal.nD Cert.MlpForwardIdeal.τ).loc Cert.MlpForwardIdeal.main_arg0) = m ((c.tc : Thread Cert.MlpForwardIdeal.nD Cert.MlpForwardIdeal.τ).loc Cert.MlpForwardIdeal.main_arg0)
          ∧ r.2.mem ((c.tc : Thread Cert.MlpForwardIdeal.nD Cert.MlpForwardIdeal.τ).loc Cert.MlpForwardIdeal.main_arg1) = m ((c.tc : Thread Cert.MlpForwardIdeal.nD Cert.MlpForwardIdeal.τ).loc Cert.MlpForwardIdeal.main_arg1)
          ∧ r.2.mem ((c.tc : Thread Cert.MlpForwardIdeal.nD Cert.MlpForwardIdeal.τ).loc Cert.MlpForwardIdeal.main_arg2) = m ((c.tc : Thread Cert.MlpForwardIdeal.nD Cert.MlpForwardIdeal.τ).loc Cert.MlpForwardIdeal.main_arg2)
          ∧ r.2.mem ((c.tc : Thread Cert.MlpForwardIdeal.nD Cert.MlpForwardIdeal.τ).loc Cert.MlpForwardIdeal.main_arg3) = m ((c.tc : Thread Cert.MlpForwardIdeal.nD Cert.MlpForwardIdeal.τ).loc Cert.MlpForwardIdeal.main_arg3)
          ∧ r.2.mem ((c.tc : Thread Cert.MlpForwardIdeal.nD Cert.MlpForwardIdeal.τ).loc Cert.MlpForwardIdeal.main_arg4) = m ((c.tc : Thread Cert.MlpForwardIdeal.nD Cert.MlpForwardIdeal.τ).loc Cert.MlpForwardIdeal.main_arg4)
          ∧ r.2.mem ((c.tc : Thread Cert.MlpForwardIdeal.nD Cert.MlpForwardIdeal.τ).loc Cert.MlpForwardIdeal.main_arg5) = m ((c.tc : Thread Cert.MlpForwardIdeal.nD Cert.MlpForwardIdeal.τ).loc Cert.MlpForwardIdeal.main_arg5)
          ∧ r.2.mem ((c.tc : Thread Cert.MlpForwardIdeal.nD Cert.MlpForwardIdeal.τ).loc Cert.MlpForwardIdeal.main_arg6) = m ((c.tc : Thread Cert.MlpForwardIdeal.nD Cert.MlpForwardIdeal.τ).loc Cert.MlpForwardIdeal.main_arg6)
          ∧ r.2.mem ((c.tc : Thread Cert.MlpForwardIdeal.nD Cert.MlpForwardIdeal.τ).loc Cert.MlpForwardIdeal.main_arg7) = m ((c.tc : Thread Cert.MlpForwardIdeal.nD Cert.MlpForwardIdeal.τ).loc Cert.MlpForwardIdeal.main_arg7))
      ∧ θ_run (Cert.MlpForwardReferenceIdeal.defs (F := Ideal)) (onTc (τ := Cert.MlpForwardReferenceIdeal.τ) (Cert.MlpForwardReferenceIdeal.main (F := Ideal))) ⟨m', fun _ => 0, g'⟩ (fun r => ∀ c : Dev Cert.MlpForwardReferenceIdeal.nD,
          r.2.mem ((c.tc : Thread Cert.MlpForwardReferenceIdeal.nD Cert.MlpForwardReferenceIdeal.τ).loc Cert.MlpForwardReferenceIdeal.main_v38) = v0 c
          ∧ r.2.mem ((c.tc : Thread Cert.MlpForwardReferenceIdeal.nD Cert.MlpForwardReferenceIdeal.τ).loc Cert.MlpForwardReferenceIdeal.main_v39) = v1 c
          ∧ r.2.mem ((c.tc : Thread Cert.MlpForwardReferenceIdeal.nD Cert.MlpForwardReferenceIdeal.τ).loc Cert.MlpForwardReferenceIdeal.main_v40) = v2 c
          ∧ r.2.mem ((c.tc : Thread Cert.MlpForwardReferenceIdeal.nD Cert.MlpForwardReferenceIdeal.τ).loc Cert.MlpForwardReferenceIdeal.main_v41) = v3 c
          ∧ r.2.mem ((c.tc : Thread Cert.MlpForwardReferenceIdeal.nD Cert.MlpForwardReferenceIdeal.τ).loc Cert.MlpForwardReferenceIdeal.main_arg0) = m' ((c.tc : Thread Cert.MlpForwardReferenceIdeal.nD Cert.MlpForwardReferenceIdeal.τ).loc Cert.MlpForwardReferenceIdeal.main_arg0)
          ∧ r.2.mem ((c.tc : Thread Cert.MlpForwardReferenceIdeal.nD Cert.MlpForwardReferenceIdeal.τ).loc Cert.MlpForwardReferenceIdeal.main_arg1) = m' ((c.tc : Thread Cert.MlpForwardReferenceIdeal.nD Cert.MlpForwardReferenceIdeal.τ).loc Cert.MlpForwardReferenceIdeal.main_arg1)
          ∧ r.2.mem ((c.tc : Thread Cert.MlpForwardReferenceIdeal.nD Cert.MlpForwardReferenceIdeal.τ).loc Cert.MlpForwardReferenceIdeal.main_arg2) = m' ((c.tc : Thread Cert.MlpForwardReferenceIdeal.nD Cert.MlpForwardReferenceIdeal.τ).loc Cert.MlpForwardReferenceIdeal.main_arg2)
          ∧ r.2.mem ((c.tc : Thread Cert.MlpForwardReferenceIdeal.nD Cert.MlpForwardReferenceIdeal.τ).loc Cert.MlpForwardReferenceIdeal.main_arg3) = m' ((c.tc : Thread Cert.MlpForwardReferenceIdeal.nD Cert.MlpForwardReferenceIdeal.τ).loc Cert.MlpForwardReferenceIdeal.main_arg3)
          ∧ r.2.mem ((c.tc : Thread Cert.MlpForwardReferenceIdeal.nD Cert.MlpForwardReferenceIdeal.τ).loc Cert.MlpForwardReferenceIdeal.main_arg4) = m' ((c.tc : Thread Cert.MlpForwardReferenceIdeal.nD Cert.MlpForwardReferenceIdeal.τ).loc Cert.MlpForwardReferenceIdeal.main_arg4)
          ∧ r.2.mem ((c.tc : Thread Cert.MlpForwardReferenceIdeal.nD Cert.MlpForwardReferenceIdeal.τ).loc Cert.MlpForwardReferenceIdeal.main_arg5) = m' ((c.tc : Thread Cert.MlpForwardReferenceIdeal.nD Cert.MlpForwardReferenceIdeal.τ).loc Cert.MlpForwardReferenceIdeal.main_arg5)
          ∧ r.2.mem ((c.tc : Thread Cert.MlpForwardReferenceIdeal.nD Cert.MlpForwardReferenceIdeal.τ).loc Cert.MlpForwardReferenceIdeal.main_arg6) = m' ((c.tc : Thread Cert.MlpForwardReferenceIdeal.nD Cert.MlpForwardReferenceIdeal.τ).loc Cert.MlpForwardReferenceIdeal.main_arg6)
          ∧ r.2.mem ((c.tc : Thread Cert.MlpForwardReferenceIdeal.nD Cert.MlpForwardReferenceIdeal.τ).loc Cert.MlpForwardReferenceIdeal.main_arg7) = m' ((c.tc : Thread Cert.MlpForwardReferenceIdeal.nD Cert.MlpForwardReferenceIdeal.τ).loc Cert.MlpForwardReferenceIdeal.main_arg7))

def preserves_ModForward_ModForwardIdeal : Prop :=
  True

def algebraic_ModForwardIdeal_ModForwardReferenceIdeal [hModForwardIdeal : Cert.ModForwardIdeal.Facts] [hModForwardReferenceIdeal : Cert.ModForwardReferenceIdeal.Facts] : Prop :=
  ∀ (m : (ℓ : Loc Cert.ModForwardIdeal.nD Cert.ModForwardIdeal.τ Cert.ModForwardIdeal.sig) → Buf (Elt Ideal) ℓ) (g : Dev Cert.ModForwardIdeal.nD → PrngReg)
    (m' : (ℓ : Loc Cert.ModForwardReferenceIdeal.nD Cert.ModForwardReferenceIdeal.τ Cert.ModForwardReferenceIdeal.sig) → Buf (Elt Ideal) ℓ) (g' : Dev Cert.ModForwardReferenceIdeal.nD → PrngReg), Pre_ModForwardIdeal m →
    (∀ c : Dev Cert.ModForwardIdeal.nD,
      m' ((c.tc : Thread Cert.ModForwardReferenceIdeal.nD Cert.ModForwardReferenceIdeal.τ).loc Cert.ModForwardReferenceIdeal.main_arg0) = m ((c.tc : Thread Cert.ModForwardIdeal.nD Cert.ModForwardIdeal.τ).loc Cert.ModForwardIdeal.main_arg0)
      ∧ m' ((c.tc : Thread Cert.ModForwardReferenceIdeal.nD Cert.ModForwardReferenceIdeal.τ).loc Cert.ModForwardReferenceIdeal.main_arg1) = m ((c.tc : Thread Cert.ModForwardIdeal.nD Cert.ModForwardIdeal.τ).loc Cert.ModForwardIdeal.main_arg1)
      ∧ m' ((c.tc : Thread Cert.ModForwardReferenceIdeal.nD Cert.ModForwardReferenceIdeal.τ).loc Cert.ModForwardReferenceIdeal.main_arg2) = m ((c.tc : Thread Cert.ModForwardIdeal.nD Cert.ModForwardIdeal.τ).loc Cert.ModForwardIdeal.main_arg2)) →
    ∃ (v0 : (c : Dev Cert.ModForwardIdeal.nD) → Buf (Elt Ideal) ((c.tc : Thread Cert.ModForwardIdeal.nD Cert.ModForwardIdeal.τ).loc Cert.ModForwardIdeal.main_v1)),
      θ_run (Cert.ModForwardIdeal.defs (F := Ideal)) (onTc (τ := Cert.ModForwardIdeal.τ) (Cert.ModForwardIdeal.main (F := Ideal))) ⟨m, fun _ => 0, g⟩ (fun r => ∀ c : Dev Cert.ModForwardIdeal.nD,
          r.2.mem ((c.tc : Thread Cert.ModForwardIdeal.nD Cert.ModForwardIdeal.τ).loc Cert.ModForwardIdeal.main_v1) = v0 c
          ∧ r.2.mem ((c.tc : Thread Cert.ModForwardIdeal.nD Cert.ModForwardIdeal.τ).loc Cert.ModForwardIdeal.main_arg0) = m ((c.tc : Thread Cert.ModForwardIdeal.nD Cert.ModForwardIdeal.τ).loc Cert.ModForwardIdeal.main_arg0)
          ∧ r.2.mem ((c.tc : Thread Cert.ModForwardIdeal.nD Cert.ModForwardIdeal.τ).loc Cert.ModForwardIdeal.main_arg1) = m ((c.tc : Thread Cert.ModForwardIdeal.nD Cert.ModForwardIdeal.τ).loc Cert.ModForwardIdeal.main_arg1)
          ∧ r.2.mem ((c.tc : Thread Cert.ModForwardIdeal.nD Cert.ModForwardIdeal.τ).loc Cert.ModForwardIdeal.main_arg2) = m ((c.tc : Thread Cert.ModForwardIdeal.nD Cert.ModForwardIdeal.τ).loc Cert.ModForwardIdeal.main_arg2))
      ∧ θ_run (Cert.ModForwardReferenceIdeal.defs (F := Ideal)) (onTc (τ := Cert.ModForwardReferenceIdeal.τ) (Cert.ModForwardReferenceIdeal.main (F := Ideal))) ⟨m', fun _ => 0, g'⟩ (fun r => ∀ c : Dev Cert.ModForwardReferenceIdeal.nD,
          r.2.mem ((c.tc : Thread Cert.ModForwardReferenceIdeal.nD Cert.ModForwardReferenceIdeal.τ).loc Cert.ModForwardReferenceIdeal.main_v18) = v0 c
          ∧ r.2.mem ((c.tc : Thread Cert.ModForwardReferenceIdeal.nD Cert.ModForwardReferenceIdeal.τ).loc Cert.ModForwardReferenceIdeal.main_arg0) = m' ((c.tc : Thread Cert.ModForwardReferenceIdeal.nD Cert.ModForwardReferenceIdeal.τ).loc Cert.ModForwardReferenceIdeal.main_arg0)
          ∧ r.2.mem ((c.tc : Thread Cert.ModForwardReferenceIdeal.nD Cert.ModForwardReferenceIdeal.τ).loc Cert.ModForwardReferenceIdeal.main_arg1) = m' ((c.tc : Thread Cert.ModForwardReferenceIdeal.nD Cert.ModForwardReferenceIdeal.τ).loc Cert.ModForwardReferenceIdeal.main_arg1)
          ∧ r.2.mem ((c.tc : Thread Cert.ModForwardReferenceIdeal.nD Cert.ModForwardReferenceIdeal.τ).loc Cert.ModForwardReferenceIdeal.main_arg2) = m' ((c.tc : Thread Cert.ModForwardReferenceIdeal.nD Cert.ModForwardReferenceIdeal.τ).loc Cert.ModForwardReferenceIdeal.main_arg2))

def preserves_WinBackward_WinBackwardIdeal : Prop :=
  True

def algebraic_WinBackwardIdeal_WinReferenceIdeal [hWinBackwardIdeal : Cert.WinBackwardIdeal.Facts] [hWinReferenceIdeal : Cert.WinReferenceIdeal.Facts] : Prop :=
  ∀ (m : (ℓ : Loc Cert.WinBackwardIdeal.nD Cert.WinBackwardIdeal.τ Cert.WinBackwardIdeal.sig) → Buf (Elt Ideal) ℓ) (g : Dev Cert.WinBackwardIdeal.nD → PrngReg)
    (m' : (ℓ : Loc Cert.WinReferenceIdeal.nD Cert.WinReferenceIdeal.τ Cert.WinReferenceIdeal.sig) → Buf (Elt Ideal) ℓ) (g' : Dev Cert.WinReferenceIdeal.nD → PrngReg), Pre_WinBackwardIdeal m →
    (∀ c : Dev Cert.WinBackwardIdeal.nD,
      m' ((c.tc : Thread Cert.WinReferenceIdeal.nD Cert.WinReferenceIdeal.τ).loc Cert.WinReferenceIdeal.main_arg0) = m ((c.tc : Thread Cert.WinBackwardIdeal.nD Cert.WinBackwardIdeal.τ).loc Cert.WinBackwardIdeal.main_arg0)
      ∧ m' ((c.tc : Thread Cert.WinReferenceIdeal.nD Cert.WinReferenceIdeal.τ).loc Cert.WinReferenceIdeal.main_arg1) = m ((c.tc : Thread Cert.WinBackwardIdeal.nD Cert.WinBackwardIdeal.τ).loc Cert.WinBackwardIdeal.main_arg1)
      ∧ m' ((c.tc : Thread Cert.WinReferenceIdeal.nD Cert.WinReferenceIdeal.τ).loc Cert.WinReferenceIdeal.main_arg2) = m ((c.tc : Thread Cert.WinBackwardIdeal.nD Cert.WinBackwardIdeal.τ).loc Cert.WinBackwardIdeal.main_arg2)
      ∧ m' ((c.tc : Thread Cert.WinReferenceIdeal.nD Cert.WinReferenceIdeal.τ).loc Cert.WinReferenceIdeal.main_arg3) = m ((c.tc : Thread Cert.WinBackwardIdeal.nD Cert.WinBackwardIdeal.τ).loc Cert.WinBackwardIdeal.main_arg3)
      ∧ m' ((c.tc : Thread Cert.WinReferenceIdeal.nD Cert.WinReferenceIdeal.τ).loc Cert.WinReferenceIdeal.main_arg4) = m ((c.tc : Thread Cert.WinBackwardIdeal.nD Cert.WinBackwardIdeal.τ).loc Cert.WinBackwardIdeal.main_arg4)
      ∧ m' ((c.tc : Thread Cert.WinReferenceIdeal.nD Cert.WinReferenceIdeal.τ).loc Cert.WinReferenceIdeal.main_arg5) = m ((c.tc : Thread Cert.WinBackwardIdeal.nD Cert.WinBackwardIdeal.τ).loc Cert.WinBackwardIdeal.main_arg5)) →
    ∃ (v0 : (c : Dev Cert.WinBackwardIdeal.nD) → Buf (Elt Ideal) ((c.tc : Thread Cert.WinBackwardIdeal.nD Cert.WinBackwardIdeal.τ).loc Cert.WinBackwardIdeal.main_v21)),
      θ_run (Cert.WinBackwardIdeal.defs (F := Ideal)) (onTc (τ := Cert.WinBackwardIdeal.τ) (Cert.WinBackwardIdeal.main (F := Ideal))) ⟨m, fun _ => 0, g⟩ (fun r => ∀ c : Dev Cert.WinBackwardIdeal.nD,
          r.2.mem ((c.tc : Thread Cert.WinBackwardIdeal.nD Cert.WinBackwardIdeal.τ).loc Cert.WinBackwardIdeal.main_v21) = v0 c
          ∧ r.2.mem ((c.tc : Thread Cert.WinBackwardIdeal.nD Cert.WinBackwardIdeal.τ).loc Cert.WinBackwardIdeal.main_arg0) = m ((c.tc : Thread Cert.WinBackwardIdeal.nD Cert.WinBackwardIdeal.τ).loc Cert.WinBackwardIdeal.main_arg0)
          ∧ r.2.mem ((c.tc : Thread Cert.WinBackwardIdeal.nD Cert.WinBackwardIdeal.τ).loc Cert.WinBackwardIdeal.main_arg1) = m ((c.tc : Thread Cert.WinBackwardIdeal.nD Cert.WinBackwardIdeal.τ).loc Cert.WinBackwardIdeal.main_arg1)
          ∧ r.2.mem ((c.tc : Thread Cert.WinBackwardIdeal.nD Cert.WinBackwardIdeal.τ).loc Cert.WinBackwardIdeal.main_arg2) = m ((c.tc : Thread Cert.WinBackwardIdeal.nD Cert.WinBackwardIdeal.τ).loc Cert.WinBackwardIdeal.main_arg2)
          ∧ r.2.mem ((c.tc : Thread Cert.WinBackwardIdeal.nD Cert.WinBackwardIdeal.τ).loc Cert.WinBackwardIdeal.main_arg3) = m ((c.tc : Thread Cert.WinBackwardIdeal.nD Cert.WinBackwardIdeal.τ).loc Cert.WinBackwardIdeal.main_arg3)
          ∧ r.2.mem ((c.tc : Thread Cert.WinBackwardIdeal.nD Cert.WinBackwardIdeal.τ).loc Cert.WinBackwardIdeal.main_arg4) = m ((c.tc : Thread Cert.WinBackwardIdeal.nD Cert.WinBackwardIdeal.τ).loc Cert.WinBackwardIdeal.main_arg4)
          ∧ r.2.mem ((c.tc : Thread Cert.WinBackwardIdeal.nD Cert.WinBackwardIdeal.τ).loc Cert.WinBackwardIdeal.main_arg5) = m ((c.tc : Thread Cert.WinBackwardIdeal.nD Cert.WinBackwardIdeal.τ).loc Cert.WinBackwardIdeal.main_arg5))
      ∧ θ_run (Cert.WinReferenceIdeal.defs (F := Ideal)) (onTc (τ := Cert.WinReferenceIdeal.τ) (Cert.WinReferenceIdeal.main (F := Ideal))) ⟨m', fun _ => 0, g'⟩ (fun r => ∀ c : Dev Cert.WinReferenceIdeal.nD,
          r.2.mem ((c.tc : Thread Cert.WinReferenceIdeal.nD Cert.WinReferenceIdeal.τ).loc Cert.WinReferenceIdeal.main_v23) = v0 c
          ∧ r.2.mem ((c.tc : Thread Cert.WinReferenceIdeal.nD Cert.WinReferenceIdeal.τ).loc Cert.WinReferenceIdeal.main_arg0) = m' ((c.tc : Thread Cert.WinReferenceIdeal.nD Cert.WinReferenceIdeal.τ).loc Cert.WinReferenceIdeal.main_arg0)
          ∧ r.2.mem ((c.tc : Thread Cert.WinReferenceIdeal.nD Cert.WinReferenceIdeal.τ).loc Cert.WinReferenceIdeal.main_arg1) = m' ((c.tc : Thread Cert.WinReferenceIdeal.nD Cert.WinReferenceIdeal.τ).loc Cert.WinReferenceIdeal.main_arg1)
          ∧ r.2.mem ((c.tc : Thread Cert.WinReferenceIdeal.nD Cert.WinReferenceIdeal.τ).loc Cert.WinReferenceIdeal.main_arg2) = m' ((c.tc : Thread Cert.WinReferenceIdeal.nD Cert.WinReferenceIdeal.τ).loc Cert.WinReferenceIdeal.main_arg2)
          ∧ r.2.mem ((c.tc : Thread Cert.WinReferenceIdeal.nD Cert.WinReferenceIdeal.τ).loc Cert.WinReferenceIdeal.main_arg3) = m' ((c.tc : Thread Cert.WinReferenceIdeal.nD Cert.WinReferenceIdeal.τ).loc Cert.WinReferenceIdeal.main_arg3)
          ∧ r.2.mem ((c.tc : Thread Cert.WinReferenceIdeal.nD Cert.WinReferenceIdeal.τ).loc Cert.WinReferenceIdeal.main_arg4) = m' ((c.tc : Thread Cert.WinReferenceIdeal.nD Cert.WinReferenceIdeal.τ).loc Cert.WinReferenceIdeal.main_arg4)
          ∧ r.2.mem ((c.tc : Thread Cert.WinReferenceIdeal.nD Cert.WinReferenceIdeal.τ).loc Cert.WinReferenceIdeal.main_arg5) = m' ((c.tc : Thread Cert.WinReferenceIdeal.nD Cert.WinReferenceIdeal.τ).loc Cert.WinReferenceIdeal.main_arg5))

def preserves_NormProj_NormProjIdeal : Prop :=
  IdealRules.named_const.Statement Cert.NormProjIdeal.κ "gelu_2k0k1" .f32 0x3D922279#32 ((80338380498831 / 1125899906842624 : ℝ) : EReal)

def algebraic_NormProjIdeal_NormProjReferenceIdeal [hNormProjIdeal : Cert.NormProjIdeal.Facts] [hNormProjReferenceIdeal : Cert.NormProjReferenceIdeal.Facts] : Prop :=
  ∀ (m : (ℓ : Loc Cert.NormProjIdeal.nD Cert.NormProjIdeal.τ Cert.NormProjIdeal.sig) → Buf (Elt Ideal) ℓ) (g : Dev Cert.NormProjIdeal.nD → PrngReg)
    (m' : (ℓ : Loc Cert.NormProjReferenceIdeal.nD Cert.NormProjReferenceIdeal.τ Cert.NormProjReferenceIdeal.sig) → Buf (Elt Ideal) ℓ) (g' : Dev Cert.NormProjReferenceIdeal.nD → PrngReg), Pre_NormProjIdeal m →
    (∀ c : Dev Cert.NormProjIdeal.nD,
      m' ((c.tc : Thread Cert.NormProjReferenceIdeal.nD Cert.NormProjReferenceIdeal.τ).loc Cert.NormProjReferenceIdeal.main_arg0) = m ((c.tc : Thread Cert.NormProjIdeal.nD Cert.NormProjIdeal.τ).loc Cert.NormProjIdeal.main_arg0)
      ∧ m' ((c.tc : Thread Cert.NormProjReferenceIdeal.nD Cert.NormProjReferenceIdeal.τ).loc Cert.NormProjReferenceIdeal.main_arg1) = m ((c.tc : Thread Cert.NormProjIdeal.nD Cert.NormProjIdeal.τ).loc Cert.NormProjIdeal.main_arg1)
      ∧ m' ((c.tc : Thread Cert.NormProjReferenceIdeal.nD Cert.NormProjReferenceIdeal.τ).loc Cert.NormProjReferenceIdeal.main_arg2) = m ((c.tc : Thread Cert.NormProjIdeal.nD Cert.NormProjIdeal.τ).loc Cert.NormProjIdeal.main_arg2)
      ∧ m' ((c.tc : Thread Cert.NormProjReferenceIdeal.nD Cert.NormProjReferenceIdeal.τ).loc Cert.NormProjReferenceIdeal.main_arg3) = m ((c.tc : Thread Cert.NormProjIdeal.nD Cert.NormProjIdeal.τ).loc Cert.NormProjIdeal.main_arg3)
      ∧ m' ((c.tc : Thread Cert.NormProjReferenceIdeal.nD Cert.NormProjReferenceIdeal.τ).loc Cert.NormProjReferenceIdeal.main_arg4) = m ((c.tc : Thread Cert.NormProjIdeal.nD Cert.NormProjIdeal.τ).loc Cert.NormProjIdeal.main_arg4)) →
    ∃ (v0 : (c : Dev Cert.NormProjIdeal.nD) → Buf (Elt Ideal) ((c.tc : Thread Cert.NormProjIdeal.nD Cert.NormProjIdeal.τ).loc Cert.NormProjIdeal.main_v7_0)) (v1 : (c : Dev Cert.NormProjIdeal.nD) → Buf (Elt Ideal) ((c.tc : Thread Cert.NormProjIdeal.nD Cert.NormProjIdeal.τ).loc Cert.NormProjIdeal.main_v7_1)),
      θ_run (Cert.NormProjIdeal.defs (F := Ideal)) (onTc (τ := Cert.NormProjIdeal.τ) (Cert.NormProjIdeal.main (F := Ideal))) ⟨m, fun _ => 0, g⟩ (fun r => ∀ c : Dev Cert.NormProjIdeal.nD,
          r.2.mem ((c.tc : Thread Cert.NormProjIdeal.nD Cert.NormProjIdeal.τ).loc Cert.NormProjIdeal.main_v7_0) = v0 c
          ∧ r.2.mem ((c.tc : Thread Cert.NormProjIdeal.nD Cert.NormProjIdeal.τ).loc Cert.NormProjIdeal.main_v7_1) = v1 c
          ∧ r.2.mem ((c.tc : Thread Cert.NormProjIdeal.nD Cert.NormProjIdeal.τ).loc Cert.NormProjIdeal.main_arg0) = m ((c.tc : Thread Cert.NormProjIdeal.nD Cert.NormProjIdeal.τ).loc Cert.NormProjIdeal.main_arg0)
          ∧ r.2.mem ((c.tc : Thread Cert.NormProjIdeal.nD Cert.NormProjIdeal.τ).loc Cert.NormProjIdeal.main_arg1) = m ((c.tc : Thread Cert.NormProjIdeal.nD Cert.NormProjIdeal.τ).loc Cert.NormProjIdeal.main_arg1)
          ∧ r.2.mem ((c.tc : Thread Cert.NormProjIdeal.nD Cert.NormProjIdeal.τ).loc Cert.NormProjIdeal.main_arg2) = m ((c.tc : Thread Cert.NormProjIdeal.nD Cert.NormProjIdeal.τ).loc Cert.NormProjIdeal.main_arg2)
          ∧ r.2.mem ((c.tc : Thread Cert.NormProjIdeal.nD Cert.NormProjIdeal.τ).loc Cert.NormProjIdeal.main_arg3) = m ((c.tc : Thread Cert.NormProjIdeal.nD Cert.NormProjIdeal.τ).loc Cert.NormProjIdeal.main_arg3)
          ∧ r.2.mem ((c.tc : Thread Cert.NormProjIdeal.nD Cert.NormProjIdeal.τ).loc Cert.NormProjIdeal.main_arg4) = m ((c.tc : Thread Cert.NormProjIdeal.nD Cert.NormProjIdeal.τ).loc Cert.NormProjIdeal.main_arg4))
      ∧ θ_run (Cert.NormProjReferenceIdeal.defs (F := Ideal)) (onTc (τ := Cert.NormProjReferenceIdeal.τ) (Cert.NormProjReferenceIdeal.main (F := Ideal))) ⟨m', fun _ => 0, g'⟩ (fun r => ∀ c : Dev Cert.NormProjReferenceIdeal.nD,
          r.2.mem ((c.tc : Thread Cert.NormProjReferenceIdeal.nD Cert.NormProjReferenceIdeal.τ).loc Cert.NormProjReferenceIdeal.main_v53) = v0 c
          ∧ r.2.mem ((c.tc : Thread Cert.NormProjReferenceIdeal.nD Cert.NormProjReferenceIdeal.τ).loc Cert.NormProjReferenceIdeal.main_v54) = v1 c
          ∧ r.2.mem ((c.tc : Thread Cert.NormProjReferenceIdeal.nD Cert.NormProjReferenceIdeal.τ).loc Cert.NormProjReferenceIdeal.main_arg0) = m' ((c.tc : Thread Cert.NormProjReferenceIdeal.nD Cert.NormProjReferenceIdeal.τ).loc Cert.NormProjReferenceIdeal.main_arg0)
          ∧ r.2.mem ((c.tc : Thread Cert.NormProjReferenceIdeal.nD Cert.NormProjReferenceIdeal.τ).loc Cert.NormProjReferenceIdeal.main_arg1) = m' ((c.tc : Thread Cert.NormProjReferenceIdeal.nD Cert.NormProjReferenceIdeal.τ).loc Cert.NormProjReferenceIdeal.main_arg1)
          ∧ r.2.mem ((c.tc : Thread Cert.NormProjReferenceIdeal.nD Cert.NormProjReferenceIdeal.τ).loc Cert.NormProjReferenceIdeal.main_arg2) = m' ((c.tc : Thread Cert.NormProjReferenceIdeal.nD Cert.NormProjReferenceIdeal.τ).loc Cert.NormProjReferenceIdeal.main_arg2)
          ∧ r.2.mem ((c.tc : Thread Cert.NormProjReferenceIdeal.nD Cert.NormProjReferenceIdeal.τ).loc Cert.NormProjReferenceIdeal.main_arg3) = m' ((c.tc : Thread Cert.NormProjReferenceIdeal.nD Cert.NormProjReferenceIdeal.τ).loc Cert.NormProjReferenceIdeal.main_arg3)
          ∧ r.2.mem ((c.tc : Thread Cert.NormProjReferenceIdeal.nD Cert.NormProjReferenceIdeal.τ).loc Cert.NormProjReferenceIdeal.main_arg4) = m' ((c.tc : Thread Cert.NormProjReferenceIdeal.nD Cert.NormProjReferenceIdeal.τ).loc Cert.NormProjReferenceIdeal.main_arg4))

def preserves_Adamw_AdamwIdeal : Prop :=
  True

def algebraic_AdamwIdeal_AdamwReferenceIdeal [hAdamwIdeal : Cert.AdamwIdeal.Facts] [hAdamwReferenceIdeal : Cert.AdamwReferenceIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwReferenceIdeal.nD Cert.AdamwReferenceIdeal.τ Cert.AdamwReferenceIdeal.sig) → Buf (Elt Ideal) ℓ) (g' : Dev Cert.AdamwReferenceIdeal.nD → PrngReg), Pre_AdamwIdeal m →
    (∀ c : Dev Cert.AdamwIdeal.nD,
      m' ((c.tc : Thread Cert.AdamwReferenceIdeal.nD Cert.AdamwReferenceIdeal.τ).loc Cert.AdamwReferenceIdeal.main_arg0) = m ((c.tc : Thread Cert.AdamwIdeal.nD Cert.AdamwIdeal.τ).loc Cert.AdamwIdeal.main_arg0)
      ∧ m' ((c.tc : Thread Cert.AdamwReferenceIdeal.nD Cert.AdamwReferenceIdeal.τ).loc Cert.AdamwReferenceIdeal.main_arg1) = m ((c.tc : Thread Cert.AdamwIdeal.nD Cert.AdamwIdeal.τ).loc Cert.AdamwIdeal.main_arg1)
      ∧ m' ((c.tc : Thread Cert.AdamwReferenceIdeal.nD Cert.AdamwReferenceIdeal.τ).loc Cert.AdamwReferenceIdeal.main_arg2) = m ((c.tc : Thread Cert.AdamwIdeal.nD Cert.AdamwIdeal.τ).loc Cert.AdamwIdeal.main_arg2)
      ∧ m' ((c.tc : Thread Cert.AdamwReferenceIdeal.nD Cert.AdamwReferenceIdeal.τ).loc Cert.AdamwReferenceIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwReferenceIdeal.defs (F := Ideal)) (onTc (τ := Cert.AdamwReferenceIdeal.τ) (Cert.AdamwReferenceIdeal.main (F := Ideal))) ⟨m', fun _ => 0, g'⟩ (fun r => ∀ c : Dev Cert.AdamwReferenceIdeal.nD,
          r.2.mem ((c.tc : Thread Cert.AdamwReferenceIdeal.nD Cert.AdamwReferenceIdeal.τ).loc Cert.AdamwReferenceIdeal.main_v23) = v0 c
          ∧ r.2.mem ((c.tc : Thread Cert.AdamwReferenceIdeal.nD Cert.AdamwReferenceIdeal.τ).loc Cert.AdamwReferenceIdeal.main_v4) = v1 c
          ∧ r.2.mem ((c.tc : Thread Cert.AdamwReferenceIdeal.nD Cert.AdamwReferenceIdeal.τ).loc Cert.AdamwReferenceIdeal.main_v10) = v2 c
          ∧ r.2.mem ((c.tc : Thread Cert.AdamwReferenceIdeal.nD Cert.AdamwReferenceIdeal.τ).loc Cert.AdamwReferenceIdeal.main_arg0) = m' ((c.tc : Thread Cert.AdamwReferenceIdeal.nD Cert.AdamwReferenceIdeal.τ).loc Cert.AdamwReferenceIdeal.main_arg0)
          ∧ r.2.mem ((c.tc : Thread Cert.AdamwReferenceIdeal.nD Cert.AdamwReferenceIdeal.τ).loc Cert.AdamwReferenceIdeal.main_arg1) = m' ((c.tc : Thread Cert.AdamwReferenceIdeal.nD Cert.AdamwReferenceIdeal.τ).loc Cert.AdamwReferenceIdeal.main_arg1)
          ∧ r.2.mem ((c.tc : Thread Cert.AdamwReferenceIdeal.nD Cert.AdamwReferenceIdeal.τ).loc Cert.AdamwReferenceIdeal.main_arg2) = m' ((c.tc : Thread Cert.AdamwReferenceIdeal.nD Cert.AdamwReferenceIdeal.τ).loc Cert.AdamwReferenceIdeal.main_arg2)
          ∧ r.2.mem ((c.tc : Thread Cert.AdamwReferenceIdeal.nD Cert.AdamwReferenceIdeal.τ).loc Cert.AdamwReferenceIdeal.main_arg3) = m' ((c.tc : Thread Cert.AdamwReferenceIdeal.nD Cert.AdamwReferenceIdeal.τ).loc Cert.AdamwReferenceIdeal.main_arg3))

def Claim : Prop :=
  ∃ (hMlpBackward : Cert.MlpBackward.Facts) (hMlpBackwardIdeal : Cert.MlpBackwardIdeal.Facts) (hMlpReferenceIdeal : Cert.MlpReferenceIdeal.Facts) (hProjBackward : Cert.ProjBackward.Facts) (hProjBackwardIdeal : Cert.ProjBackwardIdeal.Facts) (hProjReferenceIdeal : Cert.ProjReferenceIdeal.Facts) (hDownBackward : Cert.DownBackward.Facts) (hDownBackwardIdeal : Cert.DownBackwardIdeal.Facts) (hDownReferenceIdeal : Cert.DownReferenceIdeal.Facts) (hModBackward : Cert.ModBackward.Facts) (hModBackwardIdeal : Cert.ModBackwardIdeal.Facts) (hModReferenceIdeal : Cert.ModReferenceIdeal.Facts) (hMixerBackward : Cert.MixerBackward.Facts) (hMixerBackwardIdeal : Cert.MixerBackwardIdeal.Facts) (hMixerReferenceIdeal : Cert.MixerReferenceIdeal.Facts) (hMlpForward : Cert.MlpForward.Facts) (hMlpForwardIdeal : Cert.MlpForwardIdeal.Facts) (hMlpForwardReferenceIdeal : Cert.MlpForwardReferenceIdeal.Facts) (hModForward : Cert.ModForward.Facts) (hModForwardIdeal : Cert.ModForwardIdeal.Facts) (hModForwardReferenceIdeal : Cert.ModForwardReferenceIdeal.Facts) (hWinBackward : Cert.WinBackward.Facts) (hWinBackwardIdeal : Cert.WinBackwardIdeal.Facts) (hWinReferenceIdeal : Cert.WinReferenceIdeal.Facts) (hNormProj : Cert.NormProj.Facts) (hNormProjIdeal : Cert.NormProjIdeal.Facts) (hNormProjReferenceIdeal : Cert.NormProjReferenceIdeal.Facts) (hAdamw : Cert.Adamw.Facts) (hAdamwIdeal : Cert.AdamwIdeal.Facts) (hAdamwReferenceIdeal : Cert.AdamwReferenceIdeal.Facts) (hPre_mlp_finite : Cert.Pre_mlp_finite.Facts) (hPre_proj_finite : Cert.Pre_proj_finite.Facts),
    quiescent_MlpBackward (hMlpBackward := hMlpBackward)
    ∧ quiescent_MlpBackwardIdeal (hMlpBackwardIdeal := hMlpBackwardIdeal)
    ∧ quiescent_MlpBackwardIdeal_pre_mlp_finite (hMlpBackwardIdeal := hMlpBackwardIdeal) (hPre_mlp_finite := hPre_mlp_finite)
    ∧ quiescent_MlpReferenceIdeal (hMlpReferenceIdeal := hMlpReferenceIdeal)
    ∧ quiescent_MlpReferenceIdeal_pre_mlp_finite (hMlpReferenceIdeal := hMlpReferenceIdeal) (hPre_mlp_finite := hPre_mlp_finite)
    ∧ quiescent_ProjBackward (hProjBackward := hProjBackward)
    ∧ quiescent_ProjBackwardIdeal (hProjBackwardIdeal := hProjBackwardIdeal)
    ∧ quiescent_ProjBackwardIdeal_pre_proj_finite (hProjBackwardIdeal := hProjBackwardIdeal) (hPre_proj_finite := hPre_proj_finite)
    ∧ quiescent_ProjReferenceIdeal (hProjReferenceIdeal := hProjReferenceIdeal)
    ∧ quiescent_ProjReferenceIdeal_pre_proj_finite (hProjReferenceIdeal := hProjReferenceIdeal) (hPre_proj_finite := hPre_proj_finite)
    ∧ quiescent_DownBackward (hDownBackward := hDownBackward)
    ∧ quiescent_DownBackwardIdeal (hDownBackwardIdeal := hDownBackwardIdeal)
    ∧ quiescent_DownReferenceIdeal (hDownReferenceIdeal := hDownReferenceIdeal)
    ∧ quiescent_ModBackward (hModBackward := hModBackward)
    ∧ quiescent_ModBackwardIdeal (hModBackwardIdeal := hModBackwardIdeal)
    ∧ quiescent_ModReferenceIdeal (hModReferenceIdeal := hModReferenceIdeal)
    ∧ quiescent_MixerBackward (hMixerBackward := hMixerBackward)
    ∧ quiescent_MixerBackwardIdeal (hMixerBackwardIdeal := hMixerBackwardIdeal)
    ∧ quiescent_MixerReferenceIdeal (hMixerReferenceIdeal := hMixerReferenceIdeal)
    ∧ quiescent_MlpForward (hMlpForward := hMlpForward)
    ∧ quiescent_MlpForwardIdeal (hMlpForwardIdeal := hMlpForwardIdeal)
    ∧ quiescent_MlpForwardReferenceIdeal (hMlpForwardReferenceIdeal := hMlpForwardReferenceIdeal)
    ∧ quiescent_ModForward (hModForward := hModForward)
    ∧ quiescent_ModForwardIdeal (hModForwardIdeal := hModForwardIdeal)
    ∧ quiescent_ModForwardReferenceIdeal (hModForwardReferenceIdeal := hModForwardReferenceIdeal)
    ∧ quiescent_WinBackward (hWinBackward := hWinBackward)
    ∧ quiescent_WinBackwardIdeal (hWinBackwardIdeal := hWinBackwardIdeal)
    ∧ quiescent_WinReferenceIdeal (hWinReferenceIdeal := hWinReferenceIdeal)
    ∧ quiescent_NormProj (hNormProj := hNormProj)
    ∧ quiescent_NormProjIdeal (hNormProjIdeal := hNormProjIdeal)
    ∧ quiescent_NormProjReferenceIdeal (hNormProjReferenceIdeal := hNormProjReferenceIdeal)
    ∧ quiescent_Adamw (hAdamw := hAdamw)
    ∧ quiescent_AdamwIdeal (hAdamwIdeal := hAdamwIdeal)
    ∧ quiescent_AdamwReferenceIdeal (hAdamwReferenceIdeal := hAdamwReferenceIdeal)
    ∧ preserves_MlpBackward_MlpBackwardIdeal
    ∧ algebraic_MlpBackwardIdeal_MlpReferenceIdeal_pre_mlp_finite (hMlpBackwardIdeal := hMlpBackwardIdeal) (hMlpReferenceIdeal := hMlpReferenceIdeal) (hPre_mlp_finite := hPre_mlp_finite)
    ∧ preserves_ProjBackward_ProjBackwardIdeal
    ∧ algebraic_ProjBackwardIdeal_ProjReferenceIdeal_pre_proj_finite (hProjBackwardIdeal := hProjBackwardIdeal) (hProjReferenceIdeal := hProjReferenceIdeal) (hPre_proj_finite := hPre_proj_finite)
    ∧ preserves_DownBackward_DownBackwardIdeal
    ∧ algebraic_DownBackwardIdeal_DownReferenceIdeal (hDownBackwardIdeal := hDownBackwardIdeal) (hDownReferenceIdeal := hDownReferenceIdeal)
    ∧ preserves_ModBackward_ModBackwardIdeal
    ∧ algebraic_ModBackwardIdeal_ModReferenceIdeal (hModBackwardIdeal := hModBackwardIdeal) (hModReferenceIdeal := hModReferenceIdeal)
    ∧ preserves_MixerBackward_MixerBackwardIdeal
    ∧ preserves_MlpForward_MlpForwardIdeal
    ∧ algebraic_MlpForwardIdeal_MlpForwardReferenceIdeal (hMlpForwardIdeal := hMlpForwardIdeal) (hMlpForwardReferenceIdeal := hMlpForwardReferenceIdeal)
    ∧ preserves_ModForward_ModForwardIdeal
    ∧ algebraic_ModForwardIdeal_ModForwardReferenceIdeal (hModForwardIdeal := hModForwardIdeal) (hModForwardReferenceIdeal := hModForwardReferenceIdeal)
    ∧ preserves_WinBackward_WinBackwardIdeal
    ∧ algebraic_WinBackwardIdeal_WinReferenceIdeal (hWinBackwardIdeal := hWinBackwardIdeal) (hWinReferenceIdeal := hWinReferenceIdeal)
    ∧ preserves_NormProj_NormProjIdeal
    ∧ algebraic_NormProjIdeal_NormProjReferenceIdeal (hNormProjIdeal := hNormProjIdeal) (hNormProjReferenceIdeal := hNormProjReferenceIdeal)
    ∧ preserves_Adamw_AdamwIdeal
    ∧ algebraic_AdamwIdeal_AdamwReferenceIdeal (hAdamwIdeal := hAdamwIdeal) (hAdamwReferenceIdeal := hAdamwReferenceIdeal)
-- ==== Pre_mlp_finite.lean ====
abbrev S4096x1024 : Shape := ⟨2, ![4096, 1024]⟩
abbrev S1x1024 : Shape := ⟨2, ![1, 1024]⟩
abbrev S1024 : Shape := ⟨1, ![1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_

variable [Facts]

def fn_part2 {F : FTy → Type} [FloatOps F] (main_arg7 : FVec F S4096x1024 .f32) (main_arg8 : FVec F S4096x1024 .f32) (main_v33 : IVec S_ 1) : IVec S_ 1 :=
  let main_v34 : FVec F S4096x1024 .f32 := Host.absf main_arg7
  let main_cst_12 : FVec F S_ .f32 := constant S_ .f32 0x7F800000#32
  let main_v35 : FVec F S4096x1024 .f32 := broadcastInDim S4096x1024 ![] bcast_S_S4096x1024 main_cst_12
  let main_v36 : IVec S4096x1024 1 := cmpf .olt main_v34 main_v35
  let main_c_13 : IVec S_ 1 := constantI S_ 1 1#1
  let main_v37 : IVec S_ 1 := (fun x v => Host.reduce IntOp.andi x v reducesTo_S4096x1024_S_d0_1 h_S_) main_v36 main_c_13
  let main_v38 : IVec S_ 1 := andi main_v33 main_v37
  let main_v39 : FVec F S4096x1024 .f32 := Host.absf main_arg8
  let main_cst_14 : FVec F S_ .f32 := constant S_ .f32 0x7F800000#32
  let main_v40 : FVec F S4096x1024 .f32 := broadcastInDim S4096x1024 ![] bcast_S_S4096x1024 main_cst_14
  let main_v41 : IVec S4096x1024 1 := cmpf .olt main_v39 main_v40
  let main_c_15 : IVec S_ 1 := constantI S_ 1 1#1
  let main_v42 : IVec S_ 1 := (fun x v => Host.reduce IntOp.andi x v reducesTo_S4096x1024_S_d0_1 h_S_) main_v41 main_c_15
  let main_v43 : IVec S_ 1 := andi main_v38 main_v42
  main_v43

def fn_part1 {F : FTy → Type} [FloatOps F] (main_arg4 : FVec F S1024 .f32) (main_arg5 : FVec F S1024 .f32) (main_arg6 : FVec F S1024x4096 .f32) (main_arg7 : FVec F S4096x1024 .f32) (main_arg8 : FVec F S4096x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x4096 .f32 := Host.absf main_arg6
  let main_cst_10 : FVec F S_ .f32 := constant S_ .f32 0x7F800000#32
  let main_v30 : FVec F S1024x4096 .f32 := broadcastInDim S1024x4096 ![] bcast_S_S1024x4096 main_cst_10
  let main_v31 : IVec S1024x4096 1 := cmpf .olt main_v29 main_v30
  let main_c_11 : IVec S_ 1 := constantI S_ 1 1#1
  let main_v32 : IVec S_ 1 := (fun x v => Host.reduce IntOp.andi x v reducesTo_S1024x4096_S_d0_1 h_S_) main_v31 main_c_11
  let main_v33 : IVec S_ 1 := andi main_v28 main_v32
  fn_part2 (F := F) main_arg7 main_arg8 main_v33

def fn {F : FTy → Type} [FloatOps F] (main_arg0 : FVec F S4096x1024 .f32) (main_arg1 : FVec F S1x1024 .f32) (main_arg2 : FVec F S1x1024 .f32) (main_arg3 : FVec F S1x1024 .f32) (main_arg4 : FVec F S1024 .f32) (main_arg5 : FVec F S1024 .f32) (main_arg6 : FVec F S1024x4096 .f32) (main_arg7 : FVec F S4096x1024 .f32) (main_arg8 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_arg7 main_arg8 main_v13 main_v16
-- ==== Pre_proj_finite.lean ====
abbrev S4096x1024 : Shape := ⟨2, ![4096, 1024]⟩
abbrev S1x1024 : Shape := ⟨2, ![1, 1024]⟩
abbrev S1024 : Shape := ⟨1, ![1024]⟩
abbrev S1024x7168 : Shape := ⟨2, ![1024, 7168]⟩
abbrev S4096x7168 : Shape := ⟨2, ![4096, 7168]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024 : S_.BroadcastsInDim S1024 (![] : Fin 0 → Fin S1024.rank)
  reducesTo_S1024_S_d0 : S1024.ReducesTo [0] S_
  bcast_S_S1024x7168 : S_.BroadcastsInDim S1024x7168 (![] : Fin 0 → Fin S1024x7168.rank)
  reducesTo_S1024x7168_S_d0_1 : S1024x7168.ReducesTo [0, 1] S_
  bcast_S_S4096x7168 : S_.BroadcastsInDim S4096x7168 (![] : Fin 0 → Fin S4096x7168.rank)
  reducesTo_S4096x7168_S_d0_1 : S4096x7168.ReducesTo [0, 1] S_

variable [Facts]

def fn_part1 {F : FTy → Type} [FloatOps F] (main_arg4 : FVec F S1024x7168 .f32) (main_arg5 : FVec F S4096x7168 .f32) (main_arg6 : FVec F S4096x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x7168 .f32 := Host.absf main_arg4
  let main_cst_6 : FVec F S_ .f32 := constant S_ .f32 0x7F800000#32
  let main_v20 : FVec F S1024x7168 .f32 := broadcastInDim S1024x7168 ![] bcast_S_S1024x7168 main_cst_6
  let main_v21 : IVec S1024x7168 1 := cmpf .olt main_v19 main_v20
  let main_c_7 : IVec S_ 1 := constantI S_ 1 1#1
  let main_v22 : IVec S_ 1 := (fun x v => Host.reduce IntOp.andi x v reducesTo_S1024x7168_S_d0_1 h_S_) main_v21 main_c_7
  let main_v23 : IVec S_ 1 := andi main_v18 main_v22
  let main_v24 : FVec F S4096x7168 .f32 := Host.absf main_arg5
  let main_cst_8 : FVec F S_ .f32 := constant S_ .f32 0x7F800000#32
  let main_v25 : FVec F S4096x7168 .f32 := broadcastInDim S4096x7168 ![] bcast_S_S4096x7168 main_cst_8
  let main_v26 : IVec S4096x7168 1 := cmpf .olt main_v24 main_v25
  let main_c_9 : IVec S_ 1 := constantI S_ 1 1#1
  let main_v27 : IVec S_ 1 := (fun x v => Host.reduce IntOp.andi x v reducesTo_S4096x7168_S_d0_1 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  main_v33

def fn {F : FTy → Type} [FloatOps F] (main_arg0 : FVec F S4096x1024 .f32) (main_arg1 : FVec F S1x1024 .f32) (main_arg2 : FVec F S1x1024 .f32) (main_arg3 : FVec F S1024 .f32) (main_arg4 : FVec F S1024x7168 .f32) (main_arg5 : FVec F S4096x7168 .f32) (main_arg6 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_v13 main_v16
-- ==== MlpBackward.lean ====
abbrev S4096x1024 : Shape := ⟨2, ![4096, 1024]⟩
abbrev S1x1024 : Shape := ⟨2, ![1, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S8x1024 : Shape := ⟨2, ![8, 1024]⟩
abbrev S16x1024 : Shape := ⟨2, ![16, 1024]⟩
abbrev S1024x4x1024 : Shape := ⟨3, ![1024, 4, 1024]⟩
abbrev S4x1024x1024 : Shape := ⟨3, ![4, 1024, 1024]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩

abbrev nBuf : Space → Nat
  | .hbm => 55
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x1024, .f32⟩
  | .hbm, ⟨38, _⟩ => ⟨S_, .f32⟩
  | .hbm, ⟨39, _⟩ => ⟨S1x1024, .f32⟩
  | .hbm, ⟨40, _⟩ => ⟨S8x1024, .f32⟩
  | .hbm, ⟨41, _⟩ => ⟨S1x1024, .f32⟩
  | .hbm, ⟨42, _⟩ => ⟨S1x1024, .f32⟩
  | .hbm, ⟨43, _⟩ => ⟨S16x1024, .f32⟩
  | .hbm, ⟨44, _⟩ => ⟨S1024x4x1024, .f32⟩
  | .hbm, ⟨45, _⟩ => ⟨S4x1024x1024, .f32⟩
  | .hbm, ⟨46, _⟩ => ⟨S4x1024x1024, .bf16⟩
  | .hbm, ⟨47, _⟩ => ⟨S4x1024x1024, .f32⟩
  | .hbm, ⟨48, _⟩ => ⟨S4x1024x1024, .bf16⟩
  | .hbm, ⟨49, _⟩ => ⟨S4096x1024, .bf16⟩
  | .hbm, ⟨50, _⟩ => ⟨S4096x4096, .bf16⟩
  | .hbm, ⟨51, _⟩ => ⟨S4096x1024, .f32⟩
  | .hbm, ⟨52, _⟩ => ⟨S4096x1024, .bf16⟩
  | .hbm, ⟨53, _⟩ => ⟨S4096x4096, .bf16⟩
  | .hbm, ⟨54, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x4096, .bf16⟩
  | .local _ .vmem, ⟨7, _⟩ => ⟨S512x4096, .bf16⟩
  | .local _ .vmem, ⟨8, _⟩ => ⟨S8x1024, .f32⟩
  | .local _ .vmem, ⟨9, _⟩ => ⟨S16x1024, .f32⟩
  | .local _ .vmem, ⟨10, _⟩ => ⟨S4x1024x1024, .bf16⟩
  | .local _ .vmem, ⟨11, _⟩ => ⟨S4x1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x4096, .bf16⟩
  | .local _ .vmem, ⟨17, _⟩ => ⟨S512x4096, .bf16⟩
  | .local _ .vmem, ⟨18, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_call0_cst : Ref sig .tc := ⟨.hbm, 33, rfl⟩
abbrev main_call0_v0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35_0 : Ref sig .tc := ⟨.hbm, 51, rfl⟩
abbrev main_v35_1 : Ref sig .tc := ⟨.hbm, 52, rfl⟩
abbrev main_v35_2 : Ref sig .tc := ⟨.hbm, 53, rfl⟩
abbrev main_v35_3 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== MlpReferenceIdeal.lean ====
abbrev S4096x1024 : Shape := ⟨2, ![4096, 1024]⟩
abbrev S1x1024 : Shape := ⟨2, ![1, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S3x1024 : Shape := ⟨2, ![3, 1024]⟩
abbrev S8x1024 : Shape := ⟨2, ![8, 1024]⟩

abbrev nBuf : Space → Nat
  | .hbm => 153
  | .vmem => 0
  | .smem => 0
  | _ => 0

abbrev hbmTy0_0 (i : Nat) : BufTy := match i % 128 with
  | 0 => ⟨S4096x1024, .f32⟩
  | 1 => ⟨S1x1024, .f32⟩
  | 2 => ⟨S1x1024, .f32⟩
  | 3 => ⟨S1x1024, .f32⟩
  | 4 => ⟨S1024, .f32⟩
  | 5 => ⟨S1024, .f32⟩
  | 6 => ⟨S1024x4096, .f32⟩
  | 7 => ⟨S4096x1024, .f32⟩
  | 8 => ⟨S4096x1024, .f32⟩
  | 9 => ⟨S4096x1024, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x1, .f32⟩
  | 20 => ⟨S4096x1, .f32⟩
  | 21 => ⟨S_, .f32⟩
  | 22 => ⟨S4096x1, .f32⟩
  | 23 => ⟨S4096x1, .f32⟩
  | 24 => ⟨S4096x1024, .f32⟩
  | 25 => ⟨S4096x1024, .f32⟩
  | 26 => ⟨S1x1024, .f32⟩
  | 27 => ⟨S4096x1024, .f32⟩
  | 28 => ⟨S4096x1024, .f32⟩
  | 29 => ⟨S_, .f32⟩
  | 30 => ⟨S1x1024, .f32⟩
  | 31 => ⟨S1x1024, .f32⟩
  | 32 => ⟨S4096x1024, .f32⟩
  | 33 => ⟨S4096x1024, .f32⟩
  | 34 => ⟨S4096x1024, .f32⟩
  | 35 => ⟨S4096x1024, .f32⟩
  | 36 => ⟨S4096x4096, .f32⟩
  | 37 => ⟨S_, .f32⟩
  | 38 => ⟨S4096x4096, .f32⟩
  | 39 => ⟨S4096x4096, .f32⟩
  | 40 => ⟨S_, .f32⟩
  | 41 => ⟨S4096x4096, .f32⟩
  | 42 => ⟨S4096x4096, .i1⟩
  | 43 => ⟨S_, .f32⟩
  | 44 => ⟨S4096x4096, .f32⟩
  | 45 => ⟨S4096x4096, .f32⟩
  | 46 => ⟨S_, .f32⟩
  | 47 => ⟨S4096x4096, .f32⟩
  | 48 => ⟨S4096x4096, .f32⟩
  | 49 => ⟨S4096x1024, .f32⟩
  | 50 => ⟨S4096x1024, .f32⟩
  | 51 => ⟨S_, .f32⟩
  | 52 => ⟨S4096, .f32⟩
  | 53 => ⟨S4096x1, .f32⟩
  | 54 => ⟨S_, .f32⟩
  | 55 => ⟨S4096x1, .f32⟩
  | 56 => ⟨S4096x1, .f32⟩
  | 57 => ⟨S_, .f32⟩
  | 58 => ⟨S4096x1, .f32⟩
  | 59 => ⟨S4096x1, .f32⟩
  | 60 => ⟨S4096x1, .f32⟩
  | 61 => ⟨S4096x1, .f32⟩
  | 62 => ⟨S_, .f32⟩
  | 63 => ⟨S4096x1, .f32⟩
  | 64 => ⟨S4096x1, .f32⟩
  | 65 => ⟨S4096x1024, .f32⟩
  | 66 => ⟨S4096x1024, .f32⟩
  | 67 => ⟨S1x1024, .f32⟩
  | 68 => ⟨S4096x1024, .f32⟩
  | 69 => ⟨S4096x1024, .f32⟩
  | 70 => ⟨S4096x1024, .f32⟩
  | 71 => ⟨S4096x1024, .f32⟩
  | 72 => ⟨S4096x1024, .f32⟩
  | 73 => ⟨S4096x1024, .f32⟩
  | 74 => ⟨S4096x1024, .f32⟩
  | 75 => ⟨S4096x1024, .f32⟩
  | 76 => ⟨S4096x1024, .f32⟩
  | 77 => ⟨S_, .f32⟩
  | 78 => ⟨S1024, .f32⟩
  | 79 => ⟨S1x1024, .f32⟩
  | 80 => ⟨S4096x1024, .f32⟩
  | 81 => ⟨S_, .f32⟩
  | 82 => ⟨S1024, .f32⟩
  | 83 => ⟨S1x1024, .f32⟩
  | 84 => ⟨S4096x1024, .f32⟩
  | 85 => ⟨S4096x1024, .f32⟩
  | 86 => ⟨S_, .f32⟩
  | 87 => ⟨S1024, .f32⟩
  | 88 => ⟨S4096x1024, .f32⟩
  | 89 => ⟨S_, .f32⟩
  | 90 => ⟨S4096, .f32⟩
  | 91 => ⟨S4096x1, .f32⟩
  | 92 => ⟨S4096x1024, .f32⟩
  | 93 => ⟨S4096x1024, .f32⟩
  | 94 => ⟨S4096x1, .f32⟩
  | 95 => ⟨S_, .f32⟩
  | 96 => ⟨S4096x1, .f32⟩
  | 97 => ⟨S4096x1, .f32⟩
  | 98 => ⟨S_, .f32⟩
  | 99 => ⟨S4096, .f32⟩
  | 100 => ⟨S4096x1024, .f32⟩
  | 101 => ⟨S4096x1024, .f32⟩
  | 102 => ⟨S4096x1024, .f32⟩
  | 103 => ⟨S4096x1024, .f32⟩
  | 104 => ⟨S4096x1024, .f32⟩
  | 105 => ⟨S4096x4096, .f32⟩
  | 106 => ⟨S4096x4096, .f32⟩
  | 107 => ⟨S_, .f32⟩
  | 108 => ⟨S4096x4096, .f32⟩
  | 109 => ⟨S4096x4096, .f32⟩
  | 110 => ⟨S4096x1024, .f32⟩
  | 111 => ⟨S_, .f32⟩
  | 112 => ⟨S1024, .f32⟩
  | 113 => ⟨S1x1024, .f32⟩
  | 114 => ⟨S4096x1024, .f32⟩
  | 115 => ⟨S_, .f32⟩
  | 116 => ⟨S1024, .f32⟩
  | 117 => ⟨S1x1024, .f32⟩
  | 118 => ⟨S4096x1024, .f32⟩
  | 119 => ⟨S4096x1024, .f32⟩
  | 120 => ⟨S4096x1024, .f32⟩
  | 121 => ⟨S_, .f32⟩
  | 122 => ⟨S1024, .f32⟩
  | 123 => ⟨S1x1024, .f32⟩
  | 124 => ⟨S4096x1024, .f32⟩
  | 125 => ⟨S4096x1024, .f32⟩
  | 126 => ⟨S_, .f32⟩
  | 127 => ⟨S1024, .f32⟩
  | _ => ⟨S4096x1024, .f32⟩

abbrev hbmTy0_1 (i : Nat) : BufTy := match i % 128 with
  | 0 => ⟨S4096x1024, .f32⟩
  | 1 => ⟨S_, .f32⟩
  | 2 => ⟨S4096, .f32⟩
  | 3 => ⟨S4096x1, .f32⟩
  | 4 => ⟨S4096x1024, .f32⟩
  | 5 => ⟨S4096x1024, .f32⟩
  | 6 => ⟨S4096x1, .f32⟩
  | 7 => ⟨S_, .f32⟩
  | 8 => ⟨S4096x1, .f32⟩
  | 9 => ⟨S4096x1, .f32⟩
  | 10 => ⟨S_, .f32⟩
  | 11 => ⟨S4096, .f32⟩
  | 12 => ⟨S4096x1024, .f32⟩
  | 13 => ⟨S4096x1024, .f32⟩
  | 14 => ⟨S4096x1024, .f32⟩
  | 15 => ⟨S4096x1024, .f32⟩
  | 16 => ⟨S4096x1024, .f32⟩
  | 17 => ⟨S1x1024, .f32⟩
  | 18 => ⟨S1x1024, .f32⟩
  | 19 => ⟨S_, .f32⟩
  | 20 => ⟨S3x1024, .f32⟩
  | 21 => ⟨S8x1024, .f32⟩
  | 22 => ⟨S4096x1024, .f32⟩
  | 23 => ⟨S4096x1024, .bf16⟩
  | 24 => ⟨S4096x4096, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_cst : Ref sig .tc := ⟨.hbm, 37, rfl⟩
abbrev main_call0_v0 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_13 : Ref sig .tc := ⟨.hbm, 86, rfl⟩
abbrev main_v61 : Ref sig .tc := ⟨.hbm, 87, rfl⟩
abbrev main_v62 : Ref sig .tc := ⟨.hbm, 88, rfl⟩
abbrev main_cst_14 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_15 : Ref sig .tc := ⟨.hbm, 95, rfl⟩
abbrev main_v68 : Ref sig .tc := ⟨.hbm, 96, rfl⟩
abbrev main_v69 : Ref sig .tc := ⟨.hbm, 97, rfl⟩
abbrev main_cst_16 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_17 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_18 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_19 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_20 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_21 : Ref sig .tc := ⟨.hbm, 126, rfl⟩
abbrev main_v93 : Ref sig .tc := ⟨.hbm, 127, rfl⟩
abbrev main_v94 : Ref sig .tc := ⟨.hbm, 128, rfl⟩
abbrev main_cst_22 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_cst_23 : Ref sig .tc := ⟨.hbm, 135, rfl⟩
abbrev main_v100 : Ref sig .tc := ⟨.hbm, 136, rfl⟩
abbrev main_v101 : Ref sig .tc := ⟨.hbm, 137, rfl⟩
abbrev main_cst_24 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_cst_25 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩

abbrev nD : Nat := 1
abbrev τ : Topo := Topo.v7x

variable {F : FTy → Type} [FloatOps F]
-- ==== ProjBackward.lean ====
abbrev S4096x1024 : Shape := ⟨2, ![4096, 1024]⟩
abbrev S1x1024 : Shape := ⟨2, ![1, 1024]⟩
abbrev S1024 : Shape := ⟨1, ![1024]⟩
abbrev S1024x7168 : Shape := ⟨2, ![1024, 7168]⟩
abbrev S4096x7168 : Shape := ⟨2, ![4096, 7168]⟩
abbrev S_ : Shape := ⟨0, ![]⟩
abbrev S8x1024 : Shape := ⟨2, ![8, 1024]⟩
abbrev S16x1024 : Shape := ⟨2, ![16, 1024]⟩
abbrev S1024x4x1792 : Shape := ⟨3, ![1024, 4, 1792]⟩
abbrev S4x1024x1792 : Shape := ⟨3, ![4, 1024, 1792]⟩
abbrev S512x7168 : Shape := ⟨2, ![512, 7168]⟩
abbrev S512x1024 : Shape := ⟨2, ![512, 1024]⟩
abbrev S512x1792 : Shape := ⟨2, ![512, 1792]⟩
abbrev S1x1024x1792 : Shape := ⟨3, ![1, 1024, 1792]⟩
abbrev S1024x1792 : Shape := ⟨2, ![1024, 1792]⟩
abbrev S512 : Shape := ⟨1, ![512]⟩
abbrev S512x1 : Shape := ⟨2, ![512, 1]⟩

abbrev nBuf : Space → Nat
  | .hbm => 18
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024, .f32⟩
  | .hbm, ⟨4, _⟩ => ⟨S1024x7168, .f32⟩
  | .hbm, ⟨5, _⟩ => ⟨S4096x7168, .f32⟩
  | .hbm, ⟨6, _⟩ => ⟨S4096x1024, .f32⟩
  | .hbm, ⟨7, _⟩ => ⟨S_, .f32⟩
  | .hbm, ⟨8, _⟩ => ⟨S1x1024, .f32⟩
  | .hbm, ⟨9, _⟩ => ⟨S8x1024, .f32⟩
  | .hbm, ⟨10, _⟩ => ⟨S1x1024, .f32⟩
  | .hbm, ⟨11, _⟩ => ⟨S16x1024, .f32⟩
  | .hbm, ⟨12, _⟩ => ⟨S1024x4x1792, .f32⟩
  | .hbm, ⟨13, _⟩ => ⟨S4x1024x1792, .f32⟩
  | .hbm, ⟨14, _⟩ => ⟨S4x1024x1792, .bf16⟩
  | .hbm, ⟨15, _⟩ => ⟨S4096x7168, .bf16⟩
  | .hbm, ⟨16, _⟩ => ⟨S4096x1024, .f32⟩
  | .hbm, ⟨17, _⟩ => ⟨S8x1024, .f32⟩
  | .local _ .vmem, ⟨0, _⟩ => ⟨S512x7168, .bf16⟩
  | .local _ .vmem, ⟨1, _⟩ => ⟨S512x7168, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x1024, .f32⟩
  | .local _ .vmem, ⟨7, _⟩ => ⟨S16x1024, .f32⟩
  | .local _ .vmem, ⟨8, _⟩ => ⟨S4x1024x1792, .bf16⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1792 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ProjReferenceIdeal.lean ====
abbrev S4096x1024 : Shape := ⟨2, ![4096, 1024]⟩
abbrev S1x1024 : Shape := ⟨2, ![1, 1024]⟩
abbrev S1024 : Shape := ⟨1, ![1024]⟩
abbrev S1024x7168 : Shape := ⟨2, ![1024, 7168]⟩
abbrev S4096x7168 : Shape := ⟨2, ![4096, 7168]⟩
abbrev S_ : Shape := ⟨0, ![]⟩
abbrev S4096 : Shape := ⟨1, ![4096]⟩
abbrev S4096x1 : Shape := ⟨2, ![4096, 1]⟩
abbrev S5x1024 : Shape := ⟨2, ![5, 1024]⟩
abbrev S8x1024 : Shape := ⟨2, ![8, 1024]⟩

abbrev nBuf : Space → Nat
  | .hbm => 75
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024, .f32⟩
  | .hbm, ⟨4, _⟩ => ⟨S1024x7168, .f32⟩
  | .hbm, ⟨5, _⟩ => ⟨S4096x7168, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x7168, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S4096x1024, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x1024, .f32⟩
  | .hbm, ⟨58, _⟩ => ⟨S4096x1024, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S1x1024, .f32⟩
  | .hbm, ⟨71, _⟩ => ⟨S_, .f32⟩
  | .hbm, ⟨72, _⟩ => ⟨S5x1024, .f32⟩
  | .hbm, ⟨73, _⟩ => ⟨S8x1024, .f32⟩
  | .hbm, ⟨74, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== DownBackward.lean ====
abbrev S4096x1024 : Shape := ⟨2, ![4096, 1024]⟩
abbrev S1x1024 : Shape := ⟨2, ![1, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1x4096x1024 : Shape := ⟨3, ![1, 4096, 1024]⟩
abbrev S1x1024x1024 : Shape := ⟨3, ![1, 1024, 1024]⟩
abbrev S1024x1024 : Shape := ⟨2, ![1024, 1024]⟩

abbrev nBuf : Space → Nat
  | .hbm => 34
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x4096, .f32⟩
  | .hbm, ⟨31, _⟩ => ⟨S4096x4096, .bf16⟩
  | .hbm, ⟨32, _⟩ => ⟨S4096x1024, .bf16⟩
  | .hbm, ⟨33, _⟩ => ⟨S1x4096x1024, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024x1024, .f32⟩
  | .local _ .vmem, ⟨4, _⟩ => ⟨S1x1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownReferenceIdeal.lean ====
abbrev S4096x1024 : Shape := ⟨2, ![4096, 1024]⟩
abbrev S1x1024 : Shape := ⟨2, ![1, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1x4096x1024 : Shape := ⟨3, ![1, 4096, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x4096, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S4096x4096, .f32⟩
  | .hbm, ⟨35, _⟩ => ⟨S4096x1024, .f32⟩
  | .hbm, ⟨36, _⟩ => ⟨S1024x4096, .f32⟩
  | .hbm, ⟨37, _⟩ => ⟨S4096x1024, .f32⟩
  | .hbm, ⟨38, _⟩ => ⟨S1x4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== ModBackward.lean ====
abbrev S8x1024 : Shape := ⟨2, ![8, 1024]⟩
abbrev S2x1024x1536 : Shape := ⟨3, ![2, 1024, 1536]⟩
abbrev S2x8x1536 : Shape := ⟨3, ![2, 8, 1536]⟩
abbrev S1024x8 : Shape := ⟨2, ![1024, 8]⟩
abbrev S1x8x1536 : Shape := ⟨3, ![1, 8, 1536]⟩
abbrev S1x1024x1536 : Shape := ⟨3, ![1, 1024, 1536]⟩
abbrev S8x1536 : Shape := ⟨2, ![8, 1536]⟩
abbrev S1024x1536 : Shape := ⟨2, ![1024, 1536]⟩

abbrev nBuf : Space → Nat
  | .hbm => 5
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S2x1024x1536, .f32⟩
  | .hbm, ⟨2, _⟩ => ⟨S2x8x1536, .f32⟩
  | .hbm, ⟨3, _⟩ => ⟨S1024x8, .f32⟩
  | .hbm, ⟨4, _⟩ => ⟨S2x1024x1536, .f32⟩
  | .local _ .vmem, ⟨0, _⟩ => ⟨S1024x8, .f32⟩
  | .local _ .vmem, ⟨1, _⟩ => ⟨S1x8x1536, .f32⟩
  | .local _ .vmem, ⟨2, _⟩ => ⟨S1x8x1536, .f32⟩
  | .local _ .vmem, ⟨3, _⟩ => ⟨S1x1024x1536, .f32⟩
  | .local _ .vmem, ⟨4, _⟩ => ⟨S1x1024x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ModReferenceIdeal.lean ====
abbrev S8x1024 : Shape := ⟨2, ![8, 1024]⟩
abbrev S2x1024x1536 : Shape := ⟨3, ![2, 1024, 1536]⟩
abbrev S2x8x1536 : Shape := ⟨3, ![2, 8, 1536]⟩
abbrev S1x1024x1536 : Shape := ⟨3, ![1, 1024, 1536]⟩
abbrev S1024x1536 : Shape := ⟨2, ![1024, 1536]⟩
abbrev S1x8x1536 : Shape := ⟨3, ![1, 8, 1536]⟩
abbrev S8x1536 : Shape := ⟨2, ![8, 1536]⟩
abbrev S_ : Shape := ⟨0, ![]⟩
abbrev S1536x1024 : Shape := ⟨2, ![1536, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x1536, .f32⟩
  | .hbm, ⟨2, _⟩ => ⟨S2x8x1536, .f32⟩
  | .hbm, ⟨3, _⟩ => ⟨S1x1024x1536, .f32⟩
  | .hbm, ⟨4, _⟩ => ⟨S1024x1536, .f32⟩
  | .hbm, ⟨5, _⟩ => ⟨S1x8x1536, .f32⟩
  | .hbm, ⟨6, _⟩ => ⟨S8x1536, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S_, .f32⟩
  | .hbm, ⟨13, _⟩ => ⟨S8x1024, .f32⟩
  | .hbm, ⟨14, _⟩ => ⟨S8x1024, .f32⟩
  | .hbm, ⟨15, _⟩ => ⟨S8x1024, .f32⟩
  | .hbm, ⟨16, _⟩ => ⟨S8x1536, .f32⟩
  | .hbm, ⟨17, _⟩ => ⟨S1536x1024, .f32⟩
  | .hbm, ⟨18, _⟩ => ⟨S1024x1536, .f32⟩
  | .hbm, ⟨19, _⟩ => ⟨S1x1024x1536, .f32⟩
  | .hbm, ⟨20, _⟩ => ⟨S1024x1536, .f32⟩
  | .hbm, ⟨21, _⟩ => ⟨S1x8x1536, .f32⟩
  | .hbm, ⟨22, _⟩ => ⟨S8x1536, .f32⟩
  | .hbm, ⟨23, _⟩ => ⟨S8x1024, .f32⟩
  | .hbm, ⟨24, _⟩ => ⟨S8x1024, .f32⟩
  | .hbm, ⟨25, _⟩ => ⟨S_, .f32⟩
  | .hbm, ⟨26, _⟩ => ⟨S8x1024, .f32⟩
  | .hbm, ⟨27, _⟩ => ⟨S8x1024, .f32⟩
  | .hbm, ⟨28, _⟩ => ⟨S_, .f32⟩
  | .hbm, ⟨29, _⟩ => ⟨S8x1024, .f32⟩
  | .hbm, ⟨30, _⟩ => ⟨S8x1024, .f32⟩
  | .hbm, ⟨31, _⟩ => ⟨S8x1024, .f32⟩
  | .hbm, ⟨32, _⟩ => ⟨S8x1536, .f32⟩
  | .hbm, ⟨33, _⟩ => ⟨S1536x1024, .f32⟩
  | .hbm, ⟨34, _⟩ => ⟨S1024x1536, .f32⟩
  | .hbm, ⟨35, _⟩ => ⟨S1x1024x1536, .f32⟩
  | .hbm, ⟨36, _⟩ => ⟨S1x1024x1536, .f32⟩
  | .hbm, ⟨37, _⟩ => ⟨S2x1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call1_v0 : Ref sig .tc := ⟨.hbm, 23, rfl⟩
abbrev main_call1_v1 : Ref sig .tc := ⟨.hbm, 24, rfl⟩
abbrev main_call1_cst : Ref sig .tc := ⟨.hbm, 25, rfl⟩
abbrev main_call1_v2 : Ref sig .tc := ⟨.hbm, 26, rfl⟩
abbrev main_call1_v3 : Ref sig .tc := ⟨.hbm, 27, rfl⟩
abbrev main_call1_cst_0 : Ref sig .tc := ⟨.hbm, 28, rfl⟩
abbrev main_call1_v4 : Ref sig .tc := ⟨.hbm, 29, rfl⟩
abbrev main_call1_v5 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩

abbrev nD : Nat := 1
abbrev τ : Topo := Topo.v7x

variable {F : FTy → Type} [FloatOps F]
-- ==== MixerBackward.lean ====
abbrev S4096x7168 : Shape := ⟨2, ![4096, 7168]⟩
abbrev S1x1024 : Shape := ⟨2, ![1, 1024]⟩
abbrev S1024 : Shape := ⟨1, ![1024]⟩
abbrev S3x1024 : Shape := ⟨2, ![3, 1024]⟩
abbrev S1024x1024 : Shape := ⟨2, ![1024, 1024]⟩
abbrev S4x1024 : Shape := ⟨2, ![4, 1024]⟩
abbrev S8x128x128 : Shape := ⟨3, ![8, 128, 128]⟩
abbrev S4096x1024 : Shape := ⟨2, ![4096, 1024]⟩
abbrev S_ : Shape := ⟨0, ![]⟩
abbrev S2x1024 : Shape := ⟨2, ![2, 1024]⟩
abbrev S4098x1024 : Shape := ⟨2, ![4098, 1024]⟩
abbrev S4099x1024 : Shape := ⟨2, ![4099, 1024]⟩
abbrev S4096x128 : Shape := ⟨2, ![4096, 128]⟩
abbrev S1x128x128 : Shape := ⟨3, ![1, 128, 128]⟩
abbrev S128x128 : Shape := ⟨2, ![128, 128]⟩
abbrev S4096x4096x1024 : Shape := ⟨3, ![4096, 4096, 1024]⟩
abbrev S1x4096x1024 : Shape := ⟨3, ![1, 4096, 1024]⟩
abbrev S4096x1x1024 : Shape := ⟨3, ![4096, 1, 1024]⟩
abbrev S8x1024 : Shape := ⟨2, ![8, 1024]⟩
abbrev S16x1024 : Shape := ⟨2, ![16, 1024]⟩
abbrev S8x128x256 : Shape := ⟨3, ![8, 128, 256]⟩
abbrev S3x4096x1024 : Shape := ⟨3, ![3, 4096, 1024]⟩
abbrev S256x1024 : Shape := ⟨2, ![256, 1024]⟩
abbrev S256x7168 : Shape := ⟨2, ![256, 7168]⟩
abbrev S3x256x1024 : Shape := ⟨3, ![3, 256, 1024]⟩
abbrev S8x256x128 : Shape := ⟨3, ![8, 256, 128]⟩
abbrev S256 : Shape := ⟨1, ![256]⟩
abbrev S256x1 : Shape := ⟨2, ![256, 1]⟩
abbrev S1x256x1024 : Shape := ⟨3, ![1, 256, 1024]⟩
abbrev S248x1024 : Shape := ⟨2, ![248, 1024]⟩
abbrev S256x128 : Shape := ⟨2, ![256, 128]⟩
abbrev S1x256x128 : Shape := ⟨3, ![1, 256, 128]⟩
abbrev S1x16x128 : Shape := ⟨3, ![1, 16, 128]⟩
abbrev S16x128 : Shape := ⟨2, ![16, 128]⟩
abbrev S256x256 : Shape := ⟨2, ![256, 256]⟩
abbrev S1x128x256 : Shape := ⟨3, ![1, 128, 256]⟩
abbrev S128x256 : Shape := ⟨2, ![128, 256]⟩

abbrev nBuf : Space → Nat
  | .hbm => 325
  | .vmem => 45
  | .smem => 0
  | _ => 0

abbrev hbmTy0_0 (i : Nat) : BufTy := match i % 128 with
  | 0 => ⟨S4096x7168, .f32⟩
  | 1 => ⟨S1x1024, .f32⟩
  | 2 => ⟨S1024, .f32⟩
  | 3 => ⟨S3x1024, .f32⟩
  | 4 => ⟨S1024, .f32⟩
  | 5 => ⟨S1024x1024, .f32⟩
  | 6 => ⟨S4x1024, .f32⟩
  | 7 => ⟨S1024, .f32⟩
  | 8 => ⟨S8x128x128, .f32⟩
  | 9 => ⟨S1024, .f32⟩
  | 10 => ⟨S8x128x128, .f32⟩
  | 11 => ⟨S1024, .f32⟩
  | 12 => ⟨S1024, .f32⟩
  | 13 => ⟨S1024x1024, .f32⟩
  | 14 => ⟨S1024x1024, .f32⟩
  | 15 => ⟨S4096x1024, .f32⟩
  | 16 => ⟨S4096x1024, .f32⟩
  | 17 => ⟨S4096x1024, .f32⟩
  | 18 => ⟨S4096x1024, .f32⟩
  | 19 => ⟨S4096x1024, .f32⟩
  | 20 => ⟨S4096x1024, .f32⟩
  | 21 => ⟨S4096x1024, .f32⟩
  | 22 => ⟨S4096x1024, .f32⟩
  | 23 => ⟨S4096x1024, .f32⟩
  | 24 => ⟨S_, .f32⟩
  | 25 => ⟨S2x1024, .f32⟩
  | 26 => ⟨S4098x1024, .f32⟩
  | 27 => ⟨S4096x1024, .f32⟩
  | 28 => ⟨S1x1024, .f32⟩
  | 29 => ⟨S1024, .f32⟩
  | 30 => ⟨S1x1024, .f32⟩
  | 31 => ⟨S4096x1024, .f32⟩
  | 32 => ⟨S4096x1024, .f32⟩
  | 33 => ⟨S1x1024, .f32⟩
  | 34 => ⟨S4096x1024, .f32⟩
  | 35 => ⟨S4096x1024, .f32⟩
  | 36 => ⟨S4096x1024, .f32⟩
  | 37 => ⟨S1x1024, .f32⟩
  | 38 => ⟨S1024, .f32⟩
  | 39 => ⟨S1x1024, .f32⟩
  | 40 => ⟨S4096x1024, .f32⟩
  | 41 => ⟨S4096x1024, .f32⟩
  | 42 => ⟨S4096x1024, .f32⟩
  | 43 => ⟨S4096x1024, .f32⟩
  | 44 => ⟨S1x1024, .f32⟩
  | 45 => ⟨S1024, .f32⟩
  | 46 => ⟨S1x1024, .f32⟩
  | 47 => ⟨S4096x1024, .f32⟩
  | 48 => ⟨S4096x1024, .f32⟩
  | 49 => ⟨S4096x1024, .f32⟩
  | 50 => ⟨S_, .f32⟩
  | 51 => ⟨S3x1024, .f32⟩
  | 52 => ⟨S4099x1024, .f32⟩
  | 53 => ⟨S4096x1024, .f32⟩
  | 54 => ⟨S1x1024, .f32⟩
  | 55 => ⟨S1024, .f32⟩
  | 56 => ⟨S1x1024, .f32⟩
  | 57 => ⟨S4096x1024, .f32⟩
  | 58 => ⟨S4096x1024, .f32⟩
  | 59 => ⟨S1x1024, .f32⟩
  | 60 => ⟨S4096x1024, .f32⟩
  | 61 => ⟨S4096x1024, .f32⟩
  | 62 => ⟨S4096x1024, .f32⟩
  | 63 => ⟨S1x1024, .f32⟩
  | 64 => ⟨S1024, .f32⟩
  | 65 => ⟨S1x1024, .f32⟩
  | 66 => ⟨S4096x1024, .f32⟩
  | 67 => ⟨S4096x1024, .f32⟩
  | 68 => ⟨S4096x1024, .f32⟩
  | 69 => ⟨S4096x1024, .f32⟩
  | 70 => ⟨S1x1024, .f32⟩
  | 71 => ⟨S1024, .f32⟩
  | 72 => ⟨S1x1024, .f32⟩
  | 73 => ⟨S4096x1024, .f32⟩
  | 74 => ⟨S4096x1024, .f32⟩
  | 75 => ⟨S4096x1024, .f32⟩
  | 76 => ⟨S4096x1024, .f32⟩
  | 77 => ⟨S1x1024, .f32⟩
  | 78 => ⟨S1024, .f32⟩
  | 79 => ⟨S1x1024, .f32⟩
  | 80 => ⟨S4096x1024, .f32⟩
  | 81 => ⟨S4096x1024, .f32⟩
  | 82 => ⟨S4096x1024, .f32⟩
  | 83 => ⟨S4096x128, .f32⟩
  | 84 => ⟨S1x128x128, .f32⟩
  | 85 => ⟨S128x128, .f32⟩
  | 86 => ⟨S4096x128, .f32⟩
  | 87 => ⟨S4096x128, .f32⟩
  | 88 => ⟨S1x128x128, .f32⟩
  | 89 => ⟨S128x128, .f32⟩
  | 90 => ⟨S4096x128, .f32⟩
  | 91 => ⟨S4096x128, .f32⟩
  | 92 => ⟨S1x128x128, .f32⟩
  | 93 => ⟨S128x128, .f32⟩
  | 94 => ⟨S4096x128, .f32⟩
  | 95 => ⟨S4096x128, .f32⟩
  | 96 => ⟨S1x128x128, .f32⟩
  | 97 => ⟨S128x128, .f32⟩
  | 98 => ⟨S4096x128, .f32⟩
  | 99 => ⟨S4096x128, .f32⟩
  | 100 => ⟨S1x128x128, .f32⟩
  | 101 => ⟨S128x128, .f32⟩
  | 102 => ⟨S4096x128, .f32⟩
  | 103 => ⟨S4096x128, .f32⟩
  | 104 => ⟨S1x128x128, .f32⟩
  | 105 => ⟨S128x128, .f32⟩
  | 106 => ⟨S4096x128, .f32⟩
  | 107 => ⟨S4096x128, .f32⟩
  | 108 => ⟨S1x128x128, .f32⟩
  | 109 => ⟨S128x128, .f32⟩
  | 110 => ⟨S4096x128, .f32⟩
  | 111 => ⟨S4096x128, .f32⟩
  | 112 => ⟨S1x128x128, .f32⟩
  | 113 => ⟨S128x128, .f32⟩
  | 114 => ⟨S4096x128, .f32⟩
  | 115 => ⟨S4096x1024, .f32⟩
  | 116 => ⟨S1x1024, .f32⟩
  | 117 => ⟨S4096x1024, .f32⟩
  | 118 => ⟨S4096x1024, .f32⟩
  | 119 => ⟨S4096x1024, .f32⟩
  | 120 => ⟨S4096x1024, .f32⟩
  | 121 => ⟨S_, .f32⟩
  | 122 => ⟨S4096x1024, .f32⟩
  | 123 => ⟨S4096x1024, .f32⟩
  | 124 => ⟨S_, .f32⟩
  | 125 => ⟨S4096x1024, .f32⟩
  | 126 => ⟨S4096x1024, .f32⟩
  | 127 => ⟨S4096x128, .f32⟩
  | _ => ⟨S4096x7168, .f32⟩

abbrev hbmTy0_1 (i : Nat) : BufTy := match i % 128 with
  | 0 => ⟨S1x128x128, .f32⟩
  | 1 => ⟨S128x128, .f32⟩
  | 2 => ⟨S4096x128, .f32⟩
  | 3 => ⟨S4096x128, .f32⟩
  | 4 => ⟨S1x128x128, .f32⟩
  | 5 => ⟨S128x128, .f32⟩
  | 6 => ⟨S4096x128, .f32⟩
  | 7 => ⟨S4096x128, .f32⟩
  | 8 => ⟨S1x128x128, .f32⟩
  | 9 => ⟨S128x128, .f32⟩
  | 10 => ⟨S4096x128, .f32⟩
  | 11 => ⟨S4096x128, .f32⟩
  | 12 => ⟨S1x128x128, .f32⟩
  | 13 => ⟨S128x128, .f32⟩
  | 14 => ⟨S4096x128, .f32⟩
  | 15 => ⟨S4096x128, .f32⟩
  | 16 => ⟨S1x128x128, .f32⟩
  | 17 => ⟨S128x128, .f32⟩
  | 18 => ⟨S4096x128, .f32⟩
  | 19 => ⟨S4096x128, .f32⟩
  | 20 => ⟨S1x128x128, .f32⟩
  | 21 => ⟨S128x128, .f32⟩
  | 22 => ⟨S4096x128, .f32⟩
  | 23 => ⟨S4096x128, .f32⟩
  | 24 => ⟨S1x128x128, .f32⟩
  | 25 => ⟨S128x128, .f32⟩
  | 26 => ⟨S4096x128, .f32⟩
  | 27 => ⟨S4096x128, .f32⟩
  | 28 => ⟨S1x128x128, .f32⟩
  | 29 => ⟨S128x128, .f32⟩
  | 30 => ⟨S4096x128, .f32⟩
  | 31 => ⟨S4096x1024, .f32⟩
  | 32 => ⟨S1x1024, .f32⟩
  | 33 => ⟨S4096x1024, .f32⟩
  | 34 => ⟨S4096x1024, .f32⟩
  | 35 => ⟨S4096x1024, .f32⟩
  | 36 => ⟨S4096x1024, .f32⟩
  | 37 => ⟨S_, .f32⟩
  | 38 => ⟨S4096x1024, .f32⟩
  | 39 => ⟨S4096x1024, .f32⟩
  | 40 => ⟨S_, .f32⟩
  | 41 => ⟨S4096x1024, .f32⟩
  | 42 => ⟨S4096x1024, .f32⟩
  | 43 => ⟨S_, .f32⟩
  | 44 => ⟨S4096x1024, .f32⟩
  | 45 => ⟨S4096x1024, .f32⟩
  | 46 => ⟨S1024, .f32⟩
  | 47 => ⟨S_, .f32⟩
  | 48 => ⟨S1024, .f32⟩
  | 49 => ⟨S1024, .f32⟩
  | 50 => ⟨S1024, .f32⟩
  | 51 => ⟨S1024, .f32⟩
  | 52 => ⟨S1024, .i1⟩
  | 53 => ⟨S1024, .f32⟩
  | 54 => ⟨S1024, .f32⟩
  | 55 => ⟨S1024, .f32⟩
  | 56 => ⟨S1024, .f32⟩
  | 57 => ⟨S1024, .f32⟩
  | 58 => ⟨S1024, .f32⟩
  | 59 => ⟨S1024, .f32⟩
  | 60 => ⟨S1024, .f32⟩
  | 61 => ⟨S1x1024, .f32⟩
  | 62 => ⟨S4096x1024, .f32⟩
  | 63 => ⟨S4096x1024, .f32⟩
  | 64 => ⟨S4096x1024, .f32⟩
  | 65 => ⟨S_, .f32⟩
  | 66 => ⟨S4096x1024, .f32⟩
  | 67 => ⟨S4096x1024, .f32⟩
  | 68 => ⟨S4096x1024, .f32⟩
  | 69 => ⟨S4096x1024, .f32⟩
  | 70 => ⟨S4096x1024, .f32⟩
  | 71 => ⟨S4096x1024, .f32⟩
  | 72 => ⟨S4096x1024, .f32⟩
  | 73 => ⟨S4096x4096x1024, .i32⟩
  | 74 => ⟨S4096x4096x1024, .i32⟩
  | 75 => ⟨S4096x4096x1024, .i1⟩
  | 76 => ⟨S1x4096x1024, .f32⟩
  | 77 => ⟨S_, .f32⟩
  | 78 => ⟨S_, .f32⟩
  | 79 => ⟨S4096x4096x1024, .f32⟩
  | 80 => ⟨S4096x4096x1024, .f32⟩
  | 81 => ⟨S4096x4096x1024, .f32⟩
  | 82 => ⟨S_, .f32⟩
  | 83 => ⟨S4096x1024, .f32⟩
  | 84 => ⟨S4096x1x1024, .f32⟩
  | 85 => ⟨S1x4096x1024, .f32⟩
  | 86 => ⟨S4096x4096x1024, .f32⟩
  | 87 => ⟨S4096x4096x1024, .f32⟩
  | 88 => ⟨S4096x4096x1024, .f32⟩
  | 89 => ⟨S_, .f32⟩
  | 90 => ⟨S_, .f32⟩
  | 91 => ⟨S4096x4096x1024, .f32⟩
  | 92 => ⟨S4096x4096x1024, .f32⟩
  | 93 => ⟨S4096x4096x1024, .f32⟩
  | 94 => ⟨S1x4096x1024, .f32⟩
  | 95 => ⟨S4096x4096x1024, .f32⟩
  | 96 => ⟨S4096x4096x1024, .f32⟩
  | 97 => ⟨S_, .f32⟩
  | 98 => ⟨S4096x1024, .f32⟩
  | 99 => ⟨S4096x1024, .f32⟩
  | 100 => ⟨S4096x1024, .f32⟩
  | 101 => ⟨S4096x1024, .f32⟩
  | 102 => ⟨S_, .f32⟩
  | 103 => ⟨S4096x1024, .f32⟩
  | 104 => ⟨S4096x1024, .f32⟩
  | 105 => ⟨S_, .f32⟩
  | 106 => ⟨S4096x1024, .f32⟩
  | 107 => ⟨S4096x1024, .f32⟩
  | 108 => ⟨S4096x1024, .f32⟩
  | 109 => ⟨S_, .f32⟩
  | 110 => ⟨S4096x1024, .f32⟩
  | 111 => ⟨S4096x1024, .f32⟩
  | 112 => ⟨S4096x1024, .f32⟩
  | 113 => ⟨S_, .f32⟩
  | 114 => ⟨S4096x1024, .f32⟩
  | 115 => ⟨S4096x1024, .f32⟩
  | 116 => ⟨S_, .f32⟩
  | 117 => ⟨S4096x1024, .f32⟩
  | 118 => ⟨S4096x1024, .f32⟩
  | 119 => ⟨S4096x1024, .f32⟩
  | 120 => ⟨S_, .f32⟩
  | 121 => ⟨S4096x1024, .f32⟩
  | 122 => ⟨S4096x1024, .f32⟩
  | 123 => ⟨S_, .f32⟩
  | 124 => ⟨S4096x1024, .f32⟩
  | 125 => ⟨S4096x1024, .f32⟩
  | 126 => ⟨S4096x1024, .f32⟩
  | 127 => ⟨S_, .f32⟩
  | _ => ⟨S4096x7168, .f32⟩

abbrev hbmTy0_2 (i : Nat) : BufTy := match i % 128 with
  | 0 => ⟨S4096x1024, .f32⟩
  | 1 => ⟨S4096x1024, .f32⟩
  | 2 => ⟨S4096x1024, .f32⟩
  | 3 => ⟨S_, .f32⟩
  | 4 => ⟨S4096x1024, .f32⟩
  | 5 => ⟨S4096x1024, .f32⟩
  | 6 => ⟨S4096x1024, .f32⟩
  | 7 => ⟨S_, .f32⟩
  | 8 => ⟨S4096x1024, .f32⟩
  | 9 => ⟨S4096x1024, .f32⟩
  | 10 => ⟨S4096x1024, .f32⟩
  | 11 => ⟨S_, .f32⟩
  | 12 => ⟨S4096x1024, .f32⟩
  | 13 => ⟨S4096x1024, .f32⟩
  | 14 => ⟨S4096x1024, .f32⟩
  | 15 => ⟨S4096x1024, .f32⟩
  | 16 => ⟨S4096x1024, .f32⟩
  | 17 => ⟨S4096x1024, .f32⟩
  | 18 => ⟨S_, .f32⟩
  | 19 => ⟨S4096x1024, .f32⟩
  | 20 => ⟨S4096x1024, .f32⟩
  | 21 => ⟨S_, .f32⟩
  | 22 => ⟨S4096x1024, .f32⟩
  | 23 => ⟨S4096x1024, .f32⟩
  | 24 => ⟨S4096x1024, .f32⟩
  | 25 => ⟨S4096x1024, .f32⟩
  | 26 => ⟨S_, .f32⟩
  | 27 => ⟨S4096x1024, .f32⟩
  | 28 => ⟨S4096x1024, .f32⟩
  | 29 => ⟨S_, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S_, .f32⟩
  | 41 => ⟨S1x1024, .f32⟩
  | 42 => ⟨S8x1024, .f32⟩
  | 43 => ⟨S1x1024, .f32⟩
  | 44 => ⟨S1x1024, .f32⟩
  | 45 => ⟨S1x1024, .f32⟩
  | 46 => ⟨S1x1024, .f32⟩
  | 47 => ⟨S1x1024, .f32⟩
  | 48 => ⟨S1x1024, .f32⟩
  | 49 => ⟨S16x1024, .f32⟩
  | 50 => ⟨S8x128x256, .f32⟩
  | 51 => ⟨S8x128x256, .bf16⟩
  | 52 => ⟨S4096x7168, .f32⟩
  | 53 => ⟨S4096x7168, .bf16⟩
  | 54 => ⟨S4096x1024, .bf16⟩
  | 55 => ⟨S4096x1024, .bf16⟩
  | 56 => ⟨S4096x1024, .bf16⟩
  | 57 => ⟨S4096x1024, .bf16⟩
  | 58 => ⟨S4096x1024, .bf16⟩
  | 59 => ⟨S4096x1024, .bf16⟩
  | 60 => ⟨S4096x1024, .bf16⟩
  | 61 => ⟨S4096x1024, .bf16⟩
  | 62 => ⟨S1024x1024, .bf16⟩
  | 63 => ⟨S1024x1024, .bf16⟩
  | 64 => ⟨S1024x1024, .bf16⟩
  | 65 => ⟨S4096x7168, .bf16⟩
  | 66 => ⟨S3x4096x1024, .bf16⟩
  | 67 => ⟨S16x1024, .f32⟩
  | 68 => ⟨S8x128x256, .f32⟩
  | _ => ⟨S4096x7168, .f32⟩

abbrev hbmTy (i : Nat) : BufTy := match i / 128 with
  | 0 => hbmTy0_0 i
  | 1 => hbmTy0_1 i
  | 2 => hbmTy0_2 i
  | _ => ⟨S4096x7168, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x7168, .bf16⟩
  | .local _ .vmem, ⟨3, _⟩ => ⟨S256x7168, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .f32⟩
  | .local _ .vmem, ⟨21, _⟩ => ⟨S256x1024, .f32⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S8x1024, .f32⟩
  | .local _ .vmem, ⟨27, _⟩ => ⟨S16x1024, .f32⟩
  | .local _ .vmem, ⟨28, _⟩ => ⟨S8x128x256, .bf16⟩
  | .local _ .vmem, ⟨29, _⟩ => ⟨S1024x1024, .bf16⟩
  | .local _ .vmem, ⟨30, _⟩ => ⟨S1024x1024, .bf16⟩
  | .local _ .vmem, ⟨31, _⟩ => ⟨S1024x1024, .bf16⟩
  | .local _ .vmem, ⟨32, _⟩ => ⟨S256x7168, .bf16⟩
  | .local _ .vmem, ⟨33, _⟩ => ⟨S256x7168, .bf16⟩
  | .local _ .vmem, ⟨34, _⟩ => ⟨S3x256x1024, .bf16⟩
  | .local _ .vmem, ⟨35, _⟩ => ⟨S3x256x1024, .bf16⟩
  | .local _ .vmem, ⟨36, _⟩ => ⟨S16x1024, .f32⟩
  | .local _ .vmem, ⟨37, _⟩ => ⟨S8x128x256, .f32⟩
  | .local _ .vmem, ⟨38, _⟩ => ⟨S8x1024, .f32⟩
  | .local _ .vmem, ⟨39, _⟩ => ⟨S8x1024, .f32⟩
  | .local _ .vmem, ⟨40, _⟩ => ⟨S8x1024, .f32⟩
  | .local _ .vmem, ⟨41, _⟩ => ⟨S8x1024, .f32⟩
  | .local _ .vmem, ⟨42, _⟩ => ⟨S8x256x128, .f32⟩
  | .local _ .vmem, ⟨43, _⟩ => ⟨S8x256x128, .f32⟩
  | .local _ .vmem, ⟨44, _⟩ => ⟨S16x1024, .f32⟩
  | _, _ => ⟨S4096x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_cst_1 : Ref sig .tc := ⟨.hbm, 121, rfl⟩
abbrev main_v103 : Ref sig .tc := ⟨.hbm, 122, rfl⟩
abbrev main_v104 : Ref sig .tc := ⟨.hbm, 123, rfl⟩
abbrev main_cst_2 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_cst_3 : Ref sig .tc := ⟨.hbm, 165, rfl⟩
abbrev main_v145 : Ref sig .tc := ⟨.hbm, 166, rfl⟩
abbrev main_v146 : Ref sig .tc := ⟨.hbm, 167, rfl⟩
abbrev main_cst_4 : Ref sig .tc := ⟨.hbm, 168, rfl⟩
abbrev main_v147 : Ref sig .tc := ⟨.hbm, 169, rfl⟩
abbrev main_v148 : Ref sig .tc := ⟨.hbm, 170, rfl⟩
abbrev main_cst_5 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_call0_cst : Ref sig .tc := ⟨.hbm, 175, rfl⟩
abbrev main_call0_v0 : Ref sig .tc := ⟨.hbm, 176, rfl⟩
abbrev main_call0_v1 : Ref sig .tc := ⟨.hbm, 177, rfl⟩
abbrev main_call0_v2 : Ref sig .tc := ⟨.hbm, 178, rfl⟩
abbrev main_call0_v3 : Ref sig .tc := ⟨.hbm, 179, rfl⟩
abbrev main_call0_v4 : Ref sig .tc := ⟨.hbm, 180, rfl⟩
abbrev main_call0_v5 : Ref sig .tc := ⟨.hbm, 181, rfl⟩
abbrev main_call0_v6 : Ref sig .tc := ⟨.hbm, 182, rfl⟩
abbrev main_call0_v7 : Ref sig .tc := ⟨.hbm, 183, rfl⟩
abbrev main_call0_v8 : Ref sig .tc := ⟨.hbm, 184, rfl⟩
abbrev main_call0_v9 : Ref sig .tc := ⟨.hbm, 185, rfl⟩
abbrev main_call0_v10 : Ref sig .tc := ⟨.hbm, 186, rfl⟩
abbrev main_call0_v11 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_cst_6 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_cst_7 : Ref sig .tc := ⟨.hbm, 205, rfl⟩
abbrev main_call1_v0 : Ref sig .tc := ⟨.hbm, 206, rfl⟩
abbrev main_call1_v1 : Ref sig .tc := ⟨.hbm, 207, rfl⟩
abbrev main_call1_v2 : Ref sig .tc := ⟨.hbm, 208, rfl⟩
abbrev main_v168 : Ref sig .tc := ⟨.hbm, 209, rfl⟩
abbrev main_cst_8 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_cst_9 : Ref sig .tc := ⟨.hbm, 217, rfl⟩
abbrev main_call2_v0 : Ref sig .tc := ⟨.hbm, 218, rfl⟩
abbrev main_call2_v1 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_cst_10 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_cst_11 : Ref sig .tc := ⟨.hbm, 230, rfl⟩
abbrev main_v184 : Ref sig .tc := ⟨.hbm, 231, rfl⟩
abbrev main_v185 : Ref sig .tc := ⟨.hbm, 232, rfl⟩
abbrev main_cst_12 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_cst_13 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_cst_14 : Ref sig .tc := ⟨.hbm, 241, rfl⟩
abbrev main_v192 : Ref sig .tc := ⟨.hbm, 242, rfl⟩
abbrev main_v193 : Ref sig .tc := ⟨.hbm, 243, rfl⟩
abbrev main_cst_15 : Ref sig .tc := ⟨.hbm, 244, rfl⟩
abbrev main_v194 : Ref sig .tc := ⟨.hbm, 245, rfl⟩
abbrev main_v195 : Ref sig .tc := ⟨.hbm, 246, rfl⟩
abbrev main_v196 : Ref sig .tc := ⟨.hbm, 247, rfl⟩
abbrev main_cst_16 : Ref sig .tc := ⟨.hbm, 248, rfl⟩
abbrev main_v197 : Ref sig .tc := ⟨.hbm, 249, rfl⟩
abbrev main_v198 : Ref sig .tc := ⟨.hbm, 250, rfl⟩
abbrev main_cst_17 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_cst_18 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_cst_19 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_cst_20 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_cst_21 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_cst_22 : Ref sig .tc := ⟨.hbm, 274, rfl⟩
abbrev main_v217 : Ref sig .tc := ⟨.hbm, 275, rfl⟩
abbrev main_v218 : Ref sig .tc := ⟨.hbm, 276, rfl⟩
abbrev main_cst_23 : Ref sig .tc := ⟨.hbm, 277, rfl⟩
abbrev main_v219 : Ref sig .tc := ⟨.hbm, 278, rfl⟩
abbrev main_v220 : Ref sig .tc := ⟨.hbm, 279, rfl⟩
abbrev main_v221 : Ref sig .tc := ⟨.hbm, 280, rfl⟩
abbrev main_v222 : Ref sig .tc := ⟨.hbm, 281, rfl⟩
abbrev main_cst_24 : Ref sig .tc := ⟨.hbm, 282, rfl⟩
abbrev main_v223 : Ref sig .tc := ⟨.hbm, 283, rfl⟩
abbrev main_v224 : Ref sig .tc := ⟨.hbm, 284, rfl⟩
abbrev main_cst_25 : Ref sig .tc := ⟨.hbm, 285, rfl⟩
abbrev main_v225 : Ref sig .tc := ⟨.hbm, 286, rfl⟩
abbrev main_v226 : Ref sig .tc := ⟨.hbm, 287, rfl⟩
abbrev main_v227 : Ref sig .tc := ⟨.hbm, 288, rfl⟩
abbrev main_v228 : Ref sig .tc := ⟨.hbm, 289, rfl⟩
abbrev main_v229 : Ref sig .tc := ⟨.hbm, 290, rfl⟩
abbrev main_v230 : Ref sig .tc := ⟨.hbm, 291, rfl⟩
abbrev main_v231 : Ref sig .tc := ⟨.hbm, 292, rfl⟩
abbrev main_v232 : Ref sig .tc := ⟨.hbm, 293, rfl⟩
abbrev main_v233 : Ref sig .tc := ⟨.hbm, 294, rfl⟩
abbrev main_v234 : Ref sig .tc := ⟨.hbm, 295, rfl⟩
abbrev main_cst_26 : Ref sig .tc := ⟨.hbm, 296, rfl⟩
abbrev main_v235 : Ref sig .tc := ⟨.hbm, 297, rfl⟩
abbrev main_v236 : Ref sig .tc := ⟨.hbm, 298, rfl⟩
abbrev main_v237 : Ref sig .tc := ⟨.hbm, 299, rfl⟩
abbrev main_v238 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_v243 : Ref sig .tc := ⟨.hbm, 305, rfl⟩
abbrev main_v244 : Ref sig .tc := ⟨.hbm, 306, rfl⟩
abbrev main_v245 : Ref sig .tc := ⟨.hbm, 307, rfl⟩
abbrev main_v246 : Ref sig .tc := ⟨.hbm, 308, rfl⟩
abbrev main_v247 : Ref sig .tc := ⟨.hbm, 309, rfl⟩
abbrev main_v248 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_v252 : Ref sig .tc := ⟨.hbm, 314, rfl⟩
abbrev main_v253 : Ref sig .tc := ⟨.hbm, 315, rfl⟩
abbrev main_v254 : Ref sig .tc := ⟨.hbm, 316, rfl⟩
abbrev main_v255 : Ref sig .tc := ⟨.hbm, 317, rfl⟩
abbrev main_v256 : Ref sig .tc := ⟨.hbm, 318, rfl⟩
abbrev main_v257 : Ref sig .tc := ⟨.hbm, 319, rfl⟩
abbrev main_v258 : Ref sig .tc := ⟨.hbm, 320, rfl⟩
abbrev main_v259_0 : Ref sig .tc := ⟨.hbm, 321, rfl⟩
abbrev main_v259_1 : Ref sig .tc := ⟨.hbm, 322, rfl⟩
abbrev main_v259_2 : Ref sig .tc := ⟨.hbm, 323, rfl⟩
abbrev main_v259_3 : Ref sig .tc := ⟨.hbm, 324, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg22_0 : Ref sig .tc := ⟨.vmem, 37, rfl⟩
abbrev cc0_scratch0 : Ref sig .tc := ⟨.vmem, 38, rfl⟩
abbrev cc0_scratch1 : Ref sig .tc := ⟨.vmem, 39, rfl⟩
abbrev cc0_scratch2 : Ref sig .tc := ⟨.vmem, 40, rfl⟩
abbrev cc0_scratch3 : Ref sig .tc := ⟨.vmem, 41, rfl⟩
abbrev cc0_scratch4 : Ref sig .tc := ⟨.vmem, 42, rfl⟩
abbrev cc0_scratch5 : Ref sig .tc := ⟨.vmem, 43, rfl⟩
abbrev cc0_scratch6 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem15_0 : DmaSem sig := 28
abbrev cc0_sem16_0 : DmaSem sig := 29
abbrev cc0_sem17_0 : DmaSem sig := 30
abbrev cc0_sem18_0 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem22_0 : DmaSem sig := 37

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_20 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x128x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S256x7168 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S3x256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S16x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S8x128x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== MixerReferenceIdeal.lean ====
abbrev S4096x7168 : Shape := ⟨2, ![4096, 7168]⟩
abbrev S1x1024 : Shape := ⟨2, ![1, 1024]⟩
abbrev S1024 : Shape := ⟨1, ![1024]⟩
abbrev S3x1024 : Shape := ⟨2, ![3, 1024]⟩
abbrev S1024x1024 : Shape := ⟨2, ![1024, 1024]⟩
abbrev S4x1024 : Shape := ⟨2, ![4, 1024]⟩
abbrev S8x128x128 : Shape := ⟨3, ![8, 128, 128]⟩
abbrev S4096x1024 : Shape := ⟨2, ![4096, 1024]⟩
abbrev S_ : Shape := ⟨0, ![]⟩
abbrev S2x1024 : Shape := ⟨2, ![2, 1024]⟩
abbrev S4098x1024 : Shape := ⟨2, ![4098, 1024]⟩
abbrev S4099x1024 : Shape := ⟨2, ![4099, 1024]⟩
abbrev S4096x8x128 : Shape := ⟨3, ![4096, 8, 128]⟩
abbrev S8x128x4096 : Shape := ⟨3, ![8, 128, 4096]⟩
abbrev S4096x4096x1024 : Shape := ⟨3, ![4096, 4096, 1024]⟩
abbrev S1x4096x1024 : Shape := ⟨3, ![1, 4096, 1024]⟩
abbrev S4096x1x1024 : Shape := ⟨3, ![4096, 1, 1024]⟩
abbrev S4096 : Shape := ⟨1, ![4096]⟩
abbrev S4096x1 : Shape := ⟨2, ![4096, 1]⟩
abbrev S8x4096x128 : Shape := ⟨3, ![8, 4096, 128]⟩
abbrev S3x4096x1024 : Shape := ⟨3, ![3, 4096, 1024]⟩

abbrev nBuf : Space → Nat
  | .hbm => 572
  | .vmem => 0
  | .smem => 0
  | _ => 0

abbrev hbmTy0_0 (i : Nat) : BufTy := match i % 128 with
  | 0 => ⟨S4096x7168, .f32⟩
  | 1 => ⟨S1x1024, .f32⟩
  | 2 => ⟨S1024, .f32⟩
  | 3 => ⟨S3x1024, .f32⟩
  | 4 => ⟨S1024, .f32⟩
  | 5 => ⟨S1024x1024, .f32⟩
  | 6 => ⟨S4x1024, .f32⟩
  | 7 => ⟨S1024, .f32⟩
  | 8 => ⟨S8x128x128, .f32⟩
  | 9 => ⟨S1024, .f32⟩
  | 10 => ⟨S8x128x128, .f32⟩
  | 11 => ⟨S1024, .f32⟩
  | 12 => ⟨S1024, .f32⟩
  | 13 => ⟨S1024x1024, .f32⟩
  | 14 => ⟨S1024x1024, .f32⟩
  | 15 => ⟨S4096x1024, .f32⟩
  | 16 => ⟨S4096x1024, .f32⟩
  | 17 => ⟨S4096x1024, .f32⟩
  | 18 => ⟨S4096x1024, .f32⟩
  | 19 => ⟨S4096x1024, .f32⟩
  | 20 => ⟨S4096x1024, .f32⟩
  | 21 => ⟨S4096x1024, .f32⟩
  | 22 => ⟨S4096x1024, .f32⟩
  | 23 => ⟨S4096x1024, .f32⟩
  | 24 => ⟨S_, .f32⟩
  | 25 => ⟨S2x1024, .f32⟩
  | 26 => ⟨S4098x1024, .f32⟩
  | 27 => ⟨S_, .f32⟩
  | 28 => ⟨S2x1024, .f32⟩
  | 29 => ⟨S4096x1024, .f32⟩
  | 30 => ⟨S1x1024, .f32⟩
  | 31 => ⟨S1024, .f32⟩
  | 32 => ⟨S1x1024, .f32⟩
  | 33 => ⟨S4096x1024, .f32⟩
  | 34 => ⟨S4096x1024, .f32⟩
  | 35 => ⟨S1x1024, .f32⟩
  | 36 => ⟨S4096x1024, .f32⟩
  | 37 => ⟨S4096x1024, .f32⟩
  | 38 => ⟨S4096x1024, .f32⟩
  | 39 => ⟨S1x1024, .f32⟩
  | 40 => ⟨S1024, .f32⟩
  | 41 => ⟨S1x1024, .f32⟩
  | 42 => ⟨S4096x1024, .f32⟩
  | 43 => ⟨S4096x1024, .f32⟩
  | 44 => ⟨S4096x1024, .f32⟩
  | 45 => ⟨S4096x1024, .f32⟩
  | 46 => ⟨S1x1024, .f32⟩
  | 47 => ⟨S1024, .f32⟩
  | 48 => ⟨S1x1024, .f32⟩
  | 49 => ⟨S4096x1024, .f32⟩
  | 50 => ⟨S4096x1024, .f32⟩
  | 51 => ⟨S4096x1024, .f32⟩
  | 52 => ⟨S4096x1024, .f32⟩
  | 53 => ⟨S_, .f32⟩
  | 54 => ⟨S3x1024, .f32⟩
  | 55 => ⟨S4099x1024, .f32⟩
  | 56 => ⟨S_, .f32⟩
  | 57 => ⟨S3x1024, .f32⟩
  | 58 => ⟨S4096x1024, .f32⟩
  | 59 => ⟨S1x1024, .f32⟩
  | 60 => ⟨S1024, .f32⟩
  | 61 => ⟨S1x1024, .f32⟩
  | 62 => ⟨S4096x1024, .f32⟩
  | 63 => ⟨S4096x1024, .f32⟩
  | 64 => ⟨S1x1024, .f32⟩
  | 65 => ⟨S4096x1024, .f32⟩
  | 66 => ⟨S4096x1024, .f32⟩
  | 67 => ⟨S4096x1024, .f32⟩
  | 68 => ⟨S1x1024, .f32⟩
  | 69 => ⟨S1024, .f32⟩
  | 70 => ⟨S1x1024, .f32⟩
  | 71 => ⟨S4096x1024, .f32⟩
  | 72 => ⟨S4096x1024, .f32⟩
  | 73 => ⟨S4096x1024, .f32⟩
  | 74 => ⟨S4096x1024, .f32⟩
  | 75 => ⟨S1x1024, .f32⟩
  | 76 => ⟨S1024, .f32⟩
  | 77 => ⟨S1x1024, .f32⟩
  | 78 => ⟨S4096x1024, .f32⟩
  | 79 => ⟨S4096x1024, .f32⟩
  | 80 => ⟨S4096x1024, .f32⟩
  | 81 => ⟨S4096x1024, .f32⟩
  | 82 => ⟨S1x1024, .f32⟩
  | 83 => ⟨S1024, .f32⟩
  | 84 => ⟨S1x1024, .f32⟩
  | 85 => ⟨S4096x1024, .f32⟩
  | 86 => ⟨S4096x1024, .f32⟩
  | 87 => ⟨S4096x1024, .f32⟩
  | 88 => ⟨S4096x8x128, .f32⟩
  | 89 => ⟨S8x128x4096, .f32⟩
  | 90 => ⟨S4096x8x128, .f32⟩
  | 91 => ⟨S4096x1024, .f32⟩
  | 92 => ⟨S1x1024, .f32⟩
  | 93 => ⟨S4096x1024, .f32⟩
  | 94 => ⟨S4096x1024, .f32⟩
  | 95 => ⟨S4096x1024, .f32⟩
  | 96 => ⟨S4096x1024, .f32⟩
  | 97 => ⟨S_, .f32⟩
  | 98 => ⟨S4096x1024, .f32⟩
  | 99 => ⟨S4096x1024, .f32⟩
  | 100 => ⟨S_, .f32⟩
  | 101 => ⟨S4096x1024, .f32⟩
  | 102 => ⟨S4096x1024, .f32⟩
  | 103 => ⟨S_, .f32⟩
  | 104 => ⟨S4096x1024, .f32⟩
  | 105 => ⟨S4096x1024, .f32⟩
  | 106 => ⟨S4096x1024, .f32⟩
  | 107 => ⟨S4096x8x128, .f32⟩
  | 108 => ⟨S8x128x4096, .f32⟩
  | 109 => ⟨S4096x8x128, .f32⟩
  | 110 => ⟨S4096x1024, .f32⟩
  | 111 => ⟨S1x1024, .f32⟩
  | 112 => ⟨S4096x1024, .f32⟩
  | 113 => ⟨S4096x1024, .f32⟩
  | 114 => ⟨S4096x1024, .f32⟩
  | 115 => ⟨S4096x1024, .f32⟩
  | 116 => ⟨S_, .f32⟩
  | 117 => ⟨S4096x1024, .f32⟩
  | 118 => ⟨S4096x1024, .f32⟩
  | 119 => ⟨S_, .f32⟩
  | 120 => ⟨S4096x1024, .f32⟩
  | 121 => ⟨S4096x1024, .f32⟩
  | 122 => ⟨S_, .f32⟩
  | 123 => ⟨S4096x1024, .f32⟩
  | 124 => ⟨S4096x1024, .f32⟩
  | 125 => ⟨S4096x1024, .f32⟩
  | 126 => ⟨S_, .f32⟩
  | 127 => ⟨S4096x1024, .f32⟩
  | _ => ⟨S4096x7168, .f32⟩

abbrev hbmTy0_1 (i : Nat) : BufTy := match i % 128 with
  | 0 => ⟨S4096x1024, .f32⟩
  | 1 => ⟨S1024, .f32⟩
  | 2 => ⟨S_, .f32⟩
  | 3 => ⟨S1024, .f32⟩
  | 4 => ⟨S1024, .f32⟩
  | 5 => ⟨S1024, .f32⟩
  | 6 => ⟨S1024, .f32⟩
  | 7 => ⟨S1024, .i1⟩
  | 8 => ⟨S1024, .f32⟩
  | 9 => ⟨S1024, .f32⟩
  | 10 => ⟨S1024, .f32⟩
  | 11 => ⟨S1024, .f32⟩
  | 12 => ⟨S1024, .f32⟩
  | 13 => ⟨S1024, .f32⟩
  | 14 => ⟨S1024, .f32⟩
  | 15 => ⟨S1024, .f32⟩
  | 16 => ⟨S_, .f32⟩
  | 17 => ⟨S1024, .f32⟩
  | 18 => ⟨S1024, .i1⟩
  | 19 => ⟨S_, .f32⟩
  | 20 => ⟨S1024, .f32⟩
  | 21 => ⟨S1024, .f32⟩
  | 22 => ⟨S_, .f32⟩
  | 23 => ⟨S1024, .f32⟩
  | 24 => ⟨S1024, .i1⟩
  | 25 => ⟨S_, .f32⟩
  | 26 => ⟨S1024, .f32⟩
  | 27 => ⟨S1024, .f32⟩
  | 28 => ⟨S1024, .f32⟩
  | 29 => ⟨S1024, .f32⟩
  | 30 => ⟨S_, .f32⟩
  | 31 => ⟨S_, .f32⟩
  | 32 => ⟨S_, .i1⟩
  | 33 => ⟨S_, .f32⟩
  | 34 => ⟨S_, .f32⟩
  | 35 => ⟨S_, .f32⟩
  | 36 => ⟨S_, .f32⟩
  | 37 => ⟨S1024, .f32⟩
  | 38 => ⟨S1024, .i1⟩
  | 39 => ⟨S_, .f32⟩
  | 40 => ⟨S1024, .f32⟩
  | 41 => ⟨S1024, .f32⟩
  | 42 => ⟨S1024, .f32⟩
  | 43 => ⟨S1024, .f32⟩
  | 44 => ⟨S1024, .f32⟩
  | 45 => ⟨S_, .f32⟩
  | 46 => ⟨S1024, .f32⟩
  | 47 => ⟨S1024, .f32⟩
  | 48 => ⟨S1x1024, .f32⟩
  | 49 => ⟨S4096x1024, .f32⟩
  | 50 => ⟨S4096x1024, .f32⟩
  | 51 => ⟨S4096x1024, .f32⟩
  | 52 => ⟨S_, .f32⟩
  | 53 => ⟨S4096x1024, .f32⟩
  | 54 => ⟨S4096x1024, .f32⟩
  | 55 => ⟨S4096x1024, .f32⟩
  | 56 => ⟨S4096x1024, .f32⟩
  | 57 => ⟨S4096x1024, .f32⟩
  | 58 => ⟨S4096x1024, .f32⟩
  | 59 => ⟨S_, .f32⟩
  | 60 => ⟨S4096x1024, .f32⟩
  | 61 => ⟨S4096x1024, .f32⟩
  | 62 => ⟨S4096x1024, .f32⟩
  | 63 => ⟨S4096x1024, .f32⟩
  | 64 => ⟨S4096x4096x1024, .i32⟩
  | 65 => ⟨S4096x4096x1024, .i32⟩
  | 66 => ⟨S4096x4096x1024, .i1⟩
  | 67 => ⟨S1x4096x1024, .f32⟩
  | 68 => ⟨S_, .f32⟩
  | 69 => ⟨S_, .f32⟩
  | 70 => ⟨S4096x4096x1024, .f32⟩
  | 71 => ⟨S4096x4096x1024, .f32⟩
  | 72 => ⟨S4096x4096x1024, .f32⟩
  | 73 => ⟨S_, .f32⟩
  | 74 => ⟨S4096x4096x1024, .f32⟩
  | 75 => ⟨S_, .f32⟩
  | 76 => ⟨S4096x1024, .f32⟩
  | 77 => ⟨S4096x1x1024, .f32⟩
  | 78 => ⟨S1x4096x1024, .f32⟩
  | 79 => ⟨S4096x4096x1024, .f32⟩
  | 80 => ⟨S4096x4096x1024, .f32⟩
  | 81 => ⟨S4096x4096x1024, .f32⟩
  | 82 => ⟨S_, .f32⟩
  | 83 => ⟨S_, .f32⟩
  | 84 => ⟨S4096x4096x1024, .f32⟩
  | 85 => ⟨S4096x4096x1024, .f32⟩
  | 86 => ⟨S_, .f32⟩
  | 87 => ⟨S4096x4096x1024, .f32⟩
  | 88 => ⟨S4096x4096x1024, .f32⟩
  | 89 => ⟨S1x4096x1024, .f32⟩
  | 90 => ⟨S4096x4096x1024, .f32⟩
  | 91 => ⟨S4096x4096x1024, .f32⟩
  | 92 => ⟨S_, .f32⟩
  | 93 => ⟨S4096x1024, .f32⟩
  | 94 => ⟨S4096x1024, .f32⟩
  | 95 => ⟨S4096x1024, .f32⟩
  | 96 => ⟨S4096x1024, .f32⟩
  | 97 => ⟨S_, .f32⟩
  | 98 => ⟨S4096x1024, .f32⟩
  | 99 => ⟨S4096x1024, .f32⟩
  | 100 => ⟨S_, .f32⟩
  | 101 => ⟨S4096x1024, .f32⟩
  | 102 => ⟨S4096x1024, .f32⟩
  | 103 => ⟨S4096x1024, .f32⟩
  | 104 => ⟨S_, .f32⟩
  | 105 => ⟨S4096x1024, .f32⟩
  | 106 => ⟨S4096x1024, .f32⟩
  | 107 => ⟨S4096x1024, .f32⟩
  | 108 => ⟨S_, .f32⟩
  | 109 => ⟨S4096x1024, .f32⟩
  | 110 => ⟨S4096x1024, .f32⟩
  | 111 => ⟨S_, .f32⟩
  | 112 => ⟨S4096x1024, .f32⟩
  | 113 => ⟨S4096x1024, .f32⟩
  | 114 => ⟨S4096x1024, .f32⟩
  | 115 => ⟨S_, .f32⟩
  | 116 => ⟨S4096x1024, .f32⟩
  | 117 => ⟨S4096x1024, .f32⟩
  | 118 => ⟨S_, .f32⟩
  | 119 => ⟨S4096x1024, .f32⟩
  | 120 => ⟨S4096x1024, .f32⟩
  | 121 => ⟨S4096x1024, .f32⟩
  | 122 => ⟨S4096x1024, .f32⟩
  | 123 => ⟨S4096x1024, .f32⟩
  | 124 => ⟨S4096x1024, .f32⟩
  | 125 => ⟨S4096x1024, .f32⟩
  | 126 => ⟨S4096x1024, .f32⟩
  | 127 => ⟨S_, .f32⟩
  | _ => ⟨S4096x7168, .f32⟩

abbrev hbmTy0_2 (i : Nat) : BufTy := match i % 128 with
  | 0 => ⟨S4096x1024, .f32⟩
  | 1 => ⟨S4096x1024, .f32⟩
  | 2 => ⟨S_, .f32⟩
  | 3 => ⟨S4096x1024, .f32⟩
  | 4 => ⟨S4096x1024, .f32⟩
  | 5 => ⟨S_, .f32⟩
  | 6 => ⟨S4096x1024, .f32⟩
  | 7 => ⟨S4096x1024, .f32⟩
  | 8 => ⟨S4096x1024, .f32⟩
  | 9 => ⟨S4096x1024, .f32⟩
  | 10 => ⟨S4096x1024, .f32⟩
  | 11 => ⟨S4096x1024, .f32⟩
  | 12 => ⟨S_, .f32⟩
  | 13 => ⟨S4096x1024, .f32⟩
  | 14 => ⟨S4096x1024, .f32⟩
  | 15 => ⟨S_, .f32⟩
  | 16 => ⟨S4096x1024, .f32⟩
  | 17 => ⟨S4096x1024, .f32⟩
  | 18 => ⟨S_, .f32⟩
  | 19 => ⟨S4096x1024, .f32⟩
  | 20 => ⟨S4096x1024, .f32⟩
  | 21 => ⟨S4096x1024, .f32⟩
  | 22 => ⟨S4096x1024, .f32⟩
  | 23 => ⟨S4096x1024, .f32⟩
  | 24 => ⟨S4096x1024, .f32⟩
  | 25 => ⟨S4096x1024, .f32⟩
  | 26 => ⟨S_, .f32⟩
  | 27 => ⟨S4096, .f32⟩
  | 28 => ⟨S4096x1, .f32⟩
  | 29 => ⟨S_, .f32⟩
  | 30 => ⟨S4096x1, .f32⟩
  | 31 => ⟨S4096x1, .f32⟩
  | 32 => ⟨S_, .f32⟩
  | 33 => ⟨S4096x1, .f32⟩
  | 34 => ⟨S4096x1, .f32⟩
  | 35 => ⟨S4096x1, .f32⟩
  | 36 => ⟨S4096x1, .f32⟩
  | 37 => ⟨S_, .f32⟩
  | 38 => ⟨S4096x1, .f32⟩
  | 39 => ⟨S4096x1, .f32⟩
  | 40 => ⟨S4096x1024, .f32⟩
  | 41 => ⟨S4096x1024, .f32⟩
  | 42 => ⟨S1x1024, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S_, .f32⟩
  | 51 => ⟨S1024, .f32⟩
  | 52 => ⟨S1x1024, .f32⟩
  | 53 => ⟨S4096x1024, .f32⟩
  | 54 => ⟨S_, .f32⟩
  | 55 => ⟨S1024, .f32⟩
  | 56 => ⟨S1x1024, .f32⟩
  | 57 => ⟨S4096x1024, .f32⟩
  | 58 => ⟨S4096x1024, .f32⟩
  | 59 => ⟨S_, .f32⟩
  | 60 => ⟨S1024, .f32⟩
  | 61 => ⟨S4096x1024, .f32⟩
  | 62 => ⟨S_, .f32⟩
  | 63 => ⟨S4096, .f32⟩
  | 64 => ⟨S4096x1, .f32⟩
  | 65 => ⟨S4096x1024, .f32⟩
  | 66 => ⟨S4096x1024, .f32⟩
  | 67 => ⟨S4096x1, .f32⟩
  | 68 => ⟨S_, .f32⟩
  | 69 => ⟨S4096x1, .f32⟩
  | 70 => ⟨S4096x1, .f32⟩
  | 71 => ⟨S_, .f32⟩
  | 72 => ⟨S4096, .f32⟩
  | 73 => ⟨S4096x1024, .f32⟩
  | 74 => ⟨S4096x1024, .f32⟩
  | 75 => ⟨S4096x1024, .f32⟩
  | 76 => ⟨S4096x1024, .f32⟩
  | 77 => ⟨S4096x1024, .f32⟩
  | 78 => ⟨S4096x1024, .f32⟩
  | 79 => ⟨S4096x1024, .f32⟩
  | 80 => ⟨S4096x1024, .f32⟩
  | 81 => ⟨S4096x1024, .f32⟩
  | 82 => ⟨S4096x1024, .f32⟩
  | 83 => ⟨S4096x1024, .f32⟩
  | 84 => ⟨S4096x1024, .f32⟩
  | 85 => ⟨S4096x1024, .f32⟩
  | 86 => ⟨S4096x1024, .f32⟩
  | 87 => ⟨S4096x1024, .f32⟩
  | 88 => ⟨S4096x1024, .f32⟩
  | 89 => ⟨S4096x1024, .f32⟩
  | 90 => ⟨S_, .f32⟩
  | 91 => ⟨S1024, .f32⟩
  | 92 => ⟨S1x1024, .f32⟩
  | 93 => ⟨S4096x1024, .f32⟩
  | 94 => ⟨S4096x1024, .f32⟩
  | 95 => ⟨S_, .f32⟩
  | 96 => ⟨S1024, .f32⟩
  | 97 => ⟨S1x1024, .f32⟩
  | 98 => ⟨S_, .f32⟩
  | 99 => ⟨S3x1024, .f32⟩
  | 100 => ⟨S_, .f32⟩
  | 101 => ⟨S4098x1024, .f32⟩
  | 102 => ⟨S4096x1024, .f32⟩
  | 103 => ⟨S_, .f32⟩
  | 104 => ⟨S1024, .f32⟩
  | 105 => ⟨S1x1024, .f32⟩
  | 106 => ⟨S4096x1024, .f32⟩
  | 107 => ⟨S4096x1024, .f32⟩
  | 108 => ⟨S_, .f32⟩
  | 109 => ⟨S1024, .f32⟩
  | 110 => ⟨S1x1024, .f32⟩
  | 111 => ⟨S_, .f32⟩
  | 112 => ⟨S3x1024, .f32⟩
  | 113 => ⟨S3x1024, .f32⟩
  | 114 => ⟨S_, .f32⟩
  | 115 => ⟨S4098x1024, .f32⟩
  | 116 => ⟨S4098x1024, .f32⟩
  | 117 => ⟨S_, .f32⟩
  | 118 => ⟨S1024, .f32⟩
  | 119 => ⟨S1x1024, .f32⟩
  | 120 => ⟨S_, .f32⟩
  | 121 => ⟨S1024, .f32⟩
  | 122 => ⟨S4096x1024, .f32⟩
  | 123 => ⟨S_, .f32⟩
  | 124 => ⟨S1024, .f32⟩
  | 125 => ⟨S1x1024, .f32⟩
  | 126 => ⟨S4096x1024, .f32⟩
  | 127 => ⟨S4096x1024, .f32⟩
  | _ => ⟨S4096x7168, .f32⟩

abbrev hbmTy0_3 (i : Nat) : BufTy := match i % 128 with
  | 0 => ⟨S_, .f32⟩
  | 1 => ⟨S1024, .f32⟩
  | 2 => ⟨S1x1024, .f32⟩
  | 3 => ⟨S_, .f32⟩
  | 4 => ⟨S3x1024, .f32⟩
  | 5 => ⟨S3x1024, .f32⟩
  | 6 => ⟨S_, .f32⟩
  | 7 => ⟨S4098x1024, .f32⟩
  | 8 => ⟨S4098x1024, .f32⟩
  | 9 => ⟨S2x1024, .f32⟩
  | 10 => ⟨S4096x1024, .f32⟩
  | 11 => ⟨S4096x1024, .f32⟩
  | 12 => ⟨S4096x1024, .f32⟩
  | 13 => ⟨S4096x1024, .f32⟩
  | 14 => ⟨S4096x1024, .f32⟩
  | 15 => ⟨S4096x1024, .f32⟩
  | 16 => ⟨S4096x1024, .f32⟩
  | 17 => ⟨S_, .f32⟩
  | 18 => ⟨S4096x1024, .f32⟩
  | 19 => ⟨S4096x1024, .f32⟩
  | 20 => ⟨S4096x1024, .f32⟩
  | 21 => ⟨S_, .f32⟩
  | 22 => ⟨S4096x1024, .f32⟩
  | 23 => ⟨S4096x1024, .f32⟩
  | 24 => ⟨S4096x1024, .f32⟩
  | 25 => ⟨S_, .f32⟩
  | 26 => ⟨S4096x1024, .f32⟩
  | 27 => ⟨S4096x1024, .f32⟩
  | 28 => ⟨S4096x1024, .f32⟩
  | 29 => ⟨S4096x1024, .f32⟩
  | 30 => ⟨S4096x4096x1024, .f32⟩
  | 31 => ⟨S4096x4096x1024, .f32⟩
  | 32 => ⟨S_, .f32⟩
  | 33 => ⟨S4096x1024, .f32⟩
  | 34 => ⟨S1x4096x1024, .f32⟩
  | 35 => ⟨S4096x4096x1024, .f32⟩
  | 36 => ⟨S4096x4096x1024, .f32⟩
  | 37 => ⟨S_, .f32⟩
  | 38 => ⟨S4096x1024, .f32⟩
  | 39 => ⟨S4096x4096x1024, .f32⟩
  | 40 => ⟨S_, .f32⟩
  | 41 => ⟨S4096x4096x1024, .f32⟩
  | 42 => ⟨S4096x4096x1024, .f32⟩
  | 43 => ⟨S_, .f32⟩
  | 44 => ⟨S4096x1024, .f32⟩
  | 45 => ⟨S4096x1x1024, .f32⟩
  | 46 => ⟨S4096x4096x1024, .f32⟩
  | 47 => ⟨S_, .f32⟩
  | 48 => ⟨S4096x1024, .f32⟩
  | 49 => ⟨S1x4096x1024, .f32⟩
  | 50 => ⟨S_, .f32⟩
  | 51 => ⟨S4096x1024, .f32⟩
  | 52 => ⟨S_, .f32⟩
  | 53 => ⟨S4096x1024, .f32⟩
  | 54 => ⟨S4096x1024, .f32⟩
  | 55 => ⟨S4096x4096x1024, .f32⟩
  | 56 => ⟨S_, .f32⟩
  | 57 => ⟨S4096x4096x1024, .f32⟩
  | 58 => ⟨S4096x4096x1024, .f32⟩
  | 59 => ⟨S_, .f32⟩
  | 60 => ⟨S4096x1024, .f32⟩
  | 61 => ⟨S1x4096x1024, .f32⟩
  | 62 => ⟨S_, .f32⟩
  | 63 => ⟨S4096x1024, .f32⟩
  | 64 => ⟨S4096x1024, .f32⟩
  | 65 => ⟨S4096x1024, .f32⟩
  | 66 => ⟨S4096x1024, .f32⟩
  | 67 => ⟨S4096x1024, .f32⟩
  | 68 => ⟨S4096x1024, .f32⟩
  | 69 => ⟨S4096x1024, .f32⟩
  | 70 => ⟨S4096x1024, .f32⟩
  | 71 => ⟨S_, .f32⟩
  | 72 => ⟨S4096x1024, .f32⟩
  | 73 => ⟨S4096x1024, .f32⟩
  | 74 => ⟨S4096x1024, .f32⟩
  | 75 => ⟨S4096x1024, .f32⟩
  | 76 => ⟨S_, .f32⟩
  | 77 => ⟨S1024, .f32⟩
  | 78 => ⟨S1x1024, .f32⟩
  | 79 => ⟨S4096x1024, .f32⟩
  | 80 => ⟨S4096x1024, .f32⟩
  | 81 => ⟨S_, .f32⟩
  | 82 => ⟨S1024, .f32⟩
  | 83 => ⟨S1024, .f32⟩
  | 84 => ⟨S1024, .f32⟩
  | 85 => ⟨S_, .f32⟩
  | 86 => ⟨S4096x1024, .f32⟩
  | 87 => ⟨S4096x1024, .f32⟩
  | 88 => ⟨S4096x1024, .f32⟩
  | 89 => ⟨S_, .f32⟩
  | 90 => ⟨S1024, .f32⟩
  | 91 => ⟨S1x1024, .f32⟩
  | 92 => ⟨S_, .f32⟩
  | 93 => ⟨S1024, .f32⟩
  | 94 => ⟨S4096x8x128, .f32⟩
  | 95 => ⟨S8x128x4096, .f32⟩
  | 96 => ⟨S8x4096x128, .f32⟩
  | 97 => ⟨S4096x8x128, .f32⟩
  | 98 => ⟨S8x128x128, .f32⟩
  | 99 => ⟨S8x128x128, .f32⟩
  | 100 => ⟨S4096x1024, .f32⟩
  | 101 => ⟨S4096x1024, .f32⟩
  | 102 => ⟨S4096x1024, .f32⟩
  | 103 => ⟨S_, .f32⟩
  | 104 => ⟨S1024, .f32⟩
  | 105 => ⟨S1x1024, .f32⟩
  | 106 => ⟨S_, .f32⟩
  | 107 => ⟨S1024, .f32⟩
  | 108 => ⟨S4096x8x128, .f32⟩
  | 109 => ⟨S8x128x4096, .f32⟩
  | 110 => ⟨S8x4096x128, .f32⟩
  | 111 => ⟨S4096x8x128, .f32⟩
  | 112 => ⟨S8x128x128, .f32⟩
  | 113 => ⟨S8x128x128, .f32⟩
  | 114 => ⟨S4096x1024, .f32⟩
  | 115 => ⟨S4096x1024, .f32⟩
  | 116 => ⟨S4096x1024, .f32⟩
  | 117 => ⟨S_, .f32⟩
  | 118 => ⟨S1024, .f32⟩
  | 119 => ⟨S1x1024, .f32⟩
  | 120 => ⟨S4096x1024, .f32⟩
  | 121 => ⟨S4096x1024, .f32⟩
  | 122 => ⟨S_, .f32⟩
  | 123 => ⟨S1024, .f32⟩
  | 124 => ⟨S1x1024, .f32⟩
  | 125 => ⟨S_, .f32⟩
  | 126 => ⟨S4x1024, .f32⟩
  | 127 => ⟨S_, .f32⟩
  | _ => ⟨S4096x7168, .f32⟩

abbrev hbmTy0_4 (i : Nat) : BufTy := match i % 128 with
  | 0 => ⟨S4099x1024, .f32⟩
  | 1 => ⟨S4096x1024, .f32⟩
  | 2 => ⟨S_, .f32⟩
  | 3 => ⟨S1024, .f32⟩
  | 4 => ⟨S1x1024, .f32⟩
  | 5 => ⟨S4096x1024, .f32⟩
  | 6 => ⟨S4096x1024, .f32⟩
  | 7 => ⟨S_, .f32⟩
  | 8 => ⟨S1024, .f32⟩
  | 9 => ⟨S1x1024, .f32⟩
  | 10 => ⟨S_, .f32⟩
  | 11 => ⟨S4x1024, .f32⟩
  | 12 => ⟨S4x1024, .f32⟩
  | 13 => ⟨S_, .f32⟩
  | 14 => ⟨S4099x1024, .f32⟩
  | 15 => ⟨S4099x1024, .f32⟩
  | 16 => ⟨S4096x1024, .f32⟩
  | 17 => ⟨S_, .f32⟩
  | 18 => ⟨S1024, .f32⟩
  | 19 => ⟨S1x1024, .f32⟩
  | 20 => ⟨S4096x1024, .f32⟩
  | 21 => ⟨S4096x1024, .f32⟩
  | 22 => ⟨S_, .f32⟩
  | 23 => ⟨S1024, .f32⟩
  | 24 => ⟨S1x1024, .f32⟩
  | 25 => ⟨S_, .f32⟩
  | 26 => ⟨S4x1024, .f32⟩
  | 27 => ⟨S4x1024, .f32⟩
  | 28 => ⟨S_, .f32⟩
  | 29 => ⟨S4099x1024, .f32⟩
  | 30 => ⟨S4099x1024, .f32⟩
  | 31 => ⟨S_, .f32⟩
  | 32 => ⟨S1024, .f32⟩
  | 33 => ⟨S1x1024, .f32⟩
  | 34 => ⟨S_, .f32⟩
  | 35 => ⟨S1024, .f32⟩
  | 36 => ⟨S4096x1024, .f32⟩
  | 37 => ⟨S_, .f32⟩
  | 38 => ⟨S1024, .f32⟩
  | 39 => ⟨S1x1024, .f32⟩
  | 40 => ⟨S4096x1024, .f32⟩
  | 41 => ⟨S4096x1024, .f32⟩
  | 42 => ⟨S_, .f32⟩
  | 43 => ⟨S1024, .f32⟩
  | 44 => ⟨S1x1024, .f32⟩
  | 45 => ⟨S_, .f32⟩
  | 46 => ⟨S4x1024, .f32⟩
  | 47 => ⟨S4x1024, .f32⟩
  | 48 => ⟨S_, .f32⟩
  | 49 => ⟨S4099x1024, .f32⟩
  | 50 => ⟨S4099x1024, .f32⟩
  | 51 => ⟨S3x1024, .f32⟩
  | 52 => ⟨S4096x1024, .f32⟩
  | 53 => ⟨S4096x7168, .f32⟩
  | 54 => ⟨S1x4096x1024, .f32⟩
  | 55 => ⟨S1x4096x1024, .f32⟩
  | 56 => ⟨S1x4096x1024, .f32⟩
  | 57 => ⟨S3x4096x1024, .f32⟩
  | 58 => ⟨S4096x7168, .bf16⟩
  | 59 => ⟨S3x4096x1024, .bf16⟩
  | _ => ⟨S4096x7168, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4096x7168, .f32⟩

abbrev bufTy : (tb : Table) → Fin (tcTables nBuf tb) → BufTy
  | .hbm, ⟨i, _⟩ => hbmTy i
  | _, _ => ⟨S4096x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_cst_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_1 : Ref sig .tc := ⟨.hbm, 53, rfl⟩
abbrev main_v35 : Ref sig .tc := ⟨.hbm, 54, rfl⟩
abbrev main_v36 : Ref sig .tc := ⟨.hbm, 55, rfl⟩
abbrev main_cst_2 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_3 : Ref sig .tc := ⟨.hbm, 97, rfl⟩
abbrev main_v77 : Ref sig .tc := ⟨.hbm, 98, rfl⟩
abbrev main_v78 : Ref sig .tc := ⟨.hbm, 99, rfl⟩
abbrev main_cst_4 : Ref sig .tc := ⟨.hbm, 100, rfl⟩
abbrev main_v79 : Ref sig .tc := ⟨.hbm, 101, rfl⟩
abbrev main_v80 : Ref sig .tc := ⟨.hbm, 102, rfl⟩
abbrev main_cst_5 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_cst_6 : Ref sig .tc := ⟨.hbm, 116, rfl⟩
abbrev main_v93 : Ref sig .tc := ⟨.hbm, 117, rfl⟩
abbrev main_v94 : Ref sig .tc := ⟨.hbm, 118, rfl⟩
abbrev main_cst_7 : Ref sig .tc := ⟨.hbm, 119, rfl⟩
abbrev main_v95 : Ref sig .tc := ⟨.hbm, 120, rfl⟩
abbrev main_v96 : Ref sig .tc := ⟨.hbm, 121, rfl⟩
abbrev main_cst_8 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_cst_9 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_call0_cst : Ref sig .tc := ⟨.hbm, 130, rfl⟩
abbrev main_call0_v0 : Ref sig .tc := ⟨.hbm, 131, rfl⟩
abbrev main_call0_v1 : Ref sig .tc := ⟨.hbm, 132, rfl⟩
abbrev main_call0_v2 : Ref sig .tc := ⟨.hbm, 133, rfl⟩
abbrev main_call0_v3 : Ref sig .tc := ⟨.hbm, 134, rfl⟩
abbrev main_call0_v4 : Ref sig .tc := ⟨.hbm, 135, rfl⟩
abbrev main_call0_v5 : Ref sig .tc := ⟨.hbm, 136, rfl⟩
abbrev main_call0_v6 : Ref sig .tc := ⟨.hbm, 137, rfl⟩
abbrev main_call0_v7 : Ref sig .tc := ⟨.hbm, 138, rfl⟩
abbrev main_call0_v8 : Ref sig .tc := ⟨.hbm, 139, rfl⟩
abbrev main_call0_v9 : Ref sig .tc := ⟨.hbm, 140, rfl⟩
abbrev main_call0_v10 : Ref sig .tc := ⟨.hbm, 141, rfl⟩
abbrev main_call0_v11 : Ref sig .tc := ⟨.hbm, 142, rfl⟩
abbrev main_v103_0 : Ref sig .tc := ⟨.hbm, 143, rfl⟩
abbrev main_call0_cst_0 : Ref sig .tc := ⟨.hbm, 144, rfl⟩
abbrev main_call0_v13 : Ref sig .tc := ⟨.hbm, 145, rfl⟩
abbrev main_call0_v14 : Ref sig .tc := ⟨.hbm, 146, rfl⟩
abbrev main_call0_cst_1 : Ref sig .tc := ⟨.hbm, 147, rfl⟩
abbrev main_call0_v15 : Ref sig .tc := ⟨.hbm, 148, rfl⟩
abbrev main_call0_v16 : Ref sig .tc := ⟨.hbm, 149, rfl⟩
abbrev main_call0_cst_2 : Ref sig .tc := ⟨.hbm, 150, rfl⟩
abbrev main_call0_v17 : Ref sig .tc := ⟨.hbm, 151, rfl⟩
abbrev main_call0_v18 : Ref sig .tc := ⟨.hbm, 152, rfl⟩
abbrev main_call0_cst_3 : Ref sig .tc := ⟨.hbm, 153, rfl⟩
abbrev main_call0_v19 : Ref sig .tc := ⟨.hbm, 154, rfl⟩
abbrev main_call0_v20 : Ref sig .tc := ⟨.hbm, 155, rfl⟩
abbrev main_call0_v21 : Ref sig .tc := ⟨.hbm, 156, rfl⟩
abbrev main_v103_1 : Ref sig .tc := ⟨.hbm, 157, rfl⟩
abbrev main_call0_cst_4 : Ref sig .tc := ⟨.hbm, 158, rfl⟩
abbrev main_call0_cst_5 : Ref sig .tc := ⟨.hbm, 159, rfl⟩
abbrev main_call0_v23 : Ref sig .tc := ⟨.hbm, 160, rfl⟩
abbrev main_call0_cst_6 : Ref sig .tc := ⟨.hbm, 161, rfl⟩
abbrev main_call0_cst_7 : Ref sig .tc := ⟨.hbm, 162, rfl⟩
abbrev main_call0_v24 : Ref sig .tc := ⟨.hbm, 163, rfl⟩
abbrev main_call0_cst_8 : Ref sig .tc := ⟨.hbm, 164, rfl⟩
abbrev main_call0_v25 : Ref sig .tc := ⟨.hbm, 165, rfl⟩
abbrev main_call0_v26 : Ref sig .tc := ⟨.hbm, 166, rfl⟩
abbrev main_call0_cst_9 : Ref sig .tc := ⟨.hbm, 167, rfl⟩
abbrev main_call0_v27 : Ref sig .tc := ⟨.hbm, 168, rfl⟩
abbrev main_call0_v28 : Ref sig .tc := ⟨.hbm, 169, rfl⟩
abbrev main_call0_v29 : Ref sig .tc := ⟨.hbm, 170, rfl⟩
abbrev main_call0_v30 : Ref sig .tc := ⟨.hbm, 171, rfl⟩
abbrev main_call0_v31 : Ref sig .tc := ⟨.hbm, 172, rfl⟩
abbrev main_call0_cst_10 : Ref sig .tc := ⟨.hbm, 173, rfl⟩
abbrev main_call0_v32 : Ref sig .tc := ⟨.hbm, 174, rfl⟩
abbrev main_v103_2 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_cst_10 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_cst_11 : Ref sig .tc := ⟨.hbm, 187, rfl⟩
abbrev main_v114 : Ref sig .tc := ⟨.hbm, 188, rfl⟩
abbrev main_v115 : Ref sig .tc := ⟨.hbm, 189, rfl⟩
abbrev main_v116 : Ref sig .tc := ⟨.hbm, 190, rfl⟩
abbrev main_v117 : Ref sig .tc := ⟨.hbm, 191, rfl⟩
abbrev main_v118 : Ref sig .tc := ⟨.hbm, 192, rfl⟩
abbrev main_v119 : Ref sig .tc := ⟨.hbm, 193, rfl⟩
abbrev main_v120 : Ref sig .tc := ⟨.hbm, 194, rfl⟩
abbrev main_v121 : Ref sig .tc := ⟨.hbm, 195, rfl⟩
abbrev main_cst_12 : Ref sig .tc := ⟨.hbm, 196, rfl⟩
abbrev main_call1_v0 : Ref sig .tc := ⟨.hbm, 197, rfl⟩
abbrev main_call1_v1 : Ref sig .tc := ⟨.hbm, 198, rfl⟩
abbrev main_call1_v2 : Ref sig .tc := ⟨.hbm, 199, rfl⟩
abbrev main_v122_0 : Ref sig .tc := ⟨.hbm, 200, rfl⟩
abbrev main_call1_cst : Ref sig .tc := ⟨.hbm, 201, rfl⟩
abbrev main_v122_1 : Ref sig .tc := ⟨.hbm, 202, rfl⟩
abbrev main_cst_13 : Ref sig .tc := ⟨.hbm, 203, rfl⟩
abbrev main_v123 : Ref sig .tc := ⟨.hbm, 204, rfl⟩
abbrev main_v124 : Ref sig .tc := ⟨.hbm, 205, rfl⟩
abbrev main_v125 : Ref sig .tc := ⟨.hbm, 206, rfl⟩
abbrev main_v126 : Ref sig .tc := ⟨.hbm, 207, rfl⟩
abbrev main_v127 : Ref sig .tc := ⟨.hbm, 208, rfl⟩
abbrev main_v128 : Ref sig .tc := ⟨.hbm, 209, rfl⟩
abbrev main_cst_14 : Ref sig .tc := ⟨.hbm, 210, rfl⟩
abbrev main_call2_v0 : Ref sig .tc := ⟨.hbm, 211, rfl⟩
abbrev main_call2_v1 : Ref sig .tc := ⟨.hbm, 212, rfl⟩
abbrev main_v129_0 : Ref sig .tc := ⟨.hbm, 213, rfl⟩
abbrev main_call2_cst : Ref sig .tc := ⟨.hbm, 214, rfl⟩
abbrev main_v129_1 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_v133 : Ref sig .tc := ⟨.hbm, 219, rfl⟩
abbrev main_cst_15 : Ref sig .tc := ⟨.hbm, 220, rfl⟩
abbrev main_v134 : Ref sig .tc := ⟨.hbm, 221, rfl⟩
abbrev main_v135 : Ref sig .tc := ⟨.hbm, 222, rfl⟩
abbrev main_v136 : Ref sig .tc := ⟨.hbm, 223, rfl⟩
abbrev main_v137 : Ref sig .tc := ⟨.hbm, 224, rfl⟩
abbrev main_cst_16 : Ref sig .tc := ⟨.hbm, 225, rfl⟩
abbrev main_v138 : Ref sig .tc := ⟨.hbm, 226, rfl⟩
abbrev main_v139 : Ref sig .tc := ⟨.hbm, 227, rfl⟩
abbrev main_cst_17 : Ref sig .tc := ⟨.hbm, 228, rfl⟩
abbrev main_v140 : Ref sig .tc := ⟨.hbm, 229, rfl⟩
abbrev main_v141 : Ref sig .tc := ⟨.hbm, 230, rfl⟩
abbrev main_v142 : Ref sig .tc := ⟨.hbm, 231, rfl⟩
abbrev main_cst_18 : Ref sig .tc := ⟨.hbm, 232, rfl⟩
abbrev main_v143 : Ref sig .tc := ⟨.hbm, 233, rfl⟩
abbrev main_v144 : Ref sig .tc := ⟨.hbm, 234, rfl⟩
abbrev main_v145 : Ref sig .tc := ⟨.hbm, 235, rfl⟩
abbrev main_cst_19 : Ref sig .tc := ⟨.hbm, 236, rfl⟩
abbrev main_v146 : Ref sig .tc := ⟨.hbm, 237, rfl⟩
abbrev main_v147 : Ref sig .tc := ⟨.hbm, 238, rfl⟩
abbrev main_cst_20 : Ref sig .tc := ⟨.hbm, 239, rfl⟩
abbrev main_v148 : Ref sig .tc := ⟨.hbm, 240, rfl⟩
abbrev main_v149 : Ref sig .tc := ⟨.hbm, 241, rfl⟩
abbrev main_v150 : Ref sig .tc := ⟨.hbm, 242, rfl⟩
abbrev main_cst_21 : Ref sig .tc := ⟨.hbm, 243, rfl⟩
abbrev main_v151 : Ref sig .tc := ⟨.hbm, 244, rfl⟩
abbrev main_v152 : Ref sig .tc := ⟨.hbm, 245, rfl⟩
abbrev main_cst_22 : Ref sig .tc := ⟨.hbm, 246, rfl⟩
abbrev main_v153 : Ref sig .tc := ⟨.hbm, 247, rfl⟩
abbrev main_v154 : Ref sig .tc := ⟨.hbm, 248, rfl⟩
abbrev main_v155 : Ref sig .tc := ⟨.hbm, 249, rfl⟩
abbrev main_v156 : Ref sig .tc := ⟨.hbm, 250, rfl⟩
abbrev main_v157 : Ref sig .tc := ⟨.hbm, 251, rfl⟩
abbrev main_v158 : Ref sig .tc := ⟨.hbm, 252, rfl⟩
abbrev main_v159 : Ref sig .tc := ⟨.hbm, 253, rfl⟩
abbrev main_v160 : Ref sig .tc := ⟨.hbm, 254, rfl⟩
abbrev main_cst_23 : Ref sig .tc := ⟨.hbm, 255, rfl⟩
abbrev main_v161 : Ref sig .tc := ⟨.hbm, 256, rfl⟩
abbrev main_v162 : Ref sig .tc := ⟨.hbm, 257, rfl⟩
abbrev main_cst_24 : Ref sig .tc := ⟨.hbm, 258, rfl⟩
abbrev main_v163 : Ref sig .tc := ⟨.hbm, 259, rfl⟩
abbrev main_v164 : Ref sig .tc := ⟨.hbm, 260, rfl⟩
abbrev main_cst_25 : Ref sig .tc := ⟨.hbm, 261, rfl⟩
abbrev main_v165 : Ref sig .tc := ⟨.hbm, 262, rfl⟩
abbrev main_v166 : Ref sig .tc := ⟨.hbm, 263, rfl⟩
abbrev main_v167 : Ref sig .tc := ⟨.hbm, 264, rfl⟩
abbrev main_v168 : Ref sig .tc := ⟨.hbm, 265, rfl⟩
abbrev main_v169 : Ref sig .tc := ⟨.hbm, 266, rfl⟩
abbrev main_v170 : Ref sig .tc := ⟨.hbm, 267, rfl⟩
abbrev main_cst_26 : Ref sig .tc := ⟨.hbm, 268, rfl⟩
abbrev main_v171 : Ref sig .tc := ⟨.hbm, 269, rfl⟩
abbrev main_v172 : Ref sig .tc := ⟨.hbm, 270, rfl⟩
abbrev main_cst_27 : Ref sig .tc := ⟨.hbm, 271, rfl⟩
abbrev main_v173 : Ref sig .tc := ⟨.hbm, 272, rfl⟩
abbrev main_v174 : Ref sig .tc := ⟨.hbm, 273, rfl⟩
abbrev main_cst_28 : Ref sig .tc := ⟨.hbm, 274, rfl⟩
abbrev main_v175 : Ref sig .tc := ⟨.hbm, 275, rfl⟩
abbrev main_v176 : Ref sig .tc := ⟨.hbm, 276, rfl⟩
abbrev main_v177 : Ref sig .tc := ⟨.hbm, 277, rfl⟩
abbrev main_v178 : Ref sig .tc := ⟨.hbm, 278, rfl⟩
abbrev main_v179 : Ref sig .tc := ⟨.hbm, 279, rfl⟩
abbrev main_v180 : Ref sig .tc := ⟨.hbm, 280, rfl⟩
abbrev main_v181 : Ref sig .tc := ⟨.hbm, 281, rfl⟩
abbrev main_cst_29 : Ref sig .tc := ⟨.hbm, 282, rfl⟩
abbrev main_v182 : Ref sig .tc := ⟨.hbm, 283, rfl⟩
abbrev main_v183 : Ref sig .tc := ⟨.hbm, 284, rfl⟩
abbrev main_cst_30 : Ref sig .tc := ⟨.hbm, 285, rfl⟩
abbrev main_v184 : Ref sig .tc := ⟨.hbm, 286, rfl⟩
abbrev main_v185 : Ref sig .tc := ⟨.hbm, 287, rfl⟩
abbrev main_cst_31 : Ref sig .tc := ⟨.hbm, 288, rfl⟩
abbrev main_v186 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩
abbrev main_cst_32 : Ref sig .tc := ⟨.hbm, 293, rfl⟩
abbrev main_v190 : Ref sig .tc := ⟨.hbm, 294, rfl⟩
abbrev main_v191 : Ref sig .tc := ⟨.hbm, 295, rfl⟩
abbrev main_v192 : Ref sig .tc := ⟨.hbm, 296, rfl⟩
abbrev main_v193 : Ref sig .tc := ⟨.hbm, 297, rfl⟩
abbrev main_v194 : Ref sig .tc := ⟨.hbm, 298, rfl⟩
abbrev main_v195 : Ref sig .tc := ⟨.hbm, 299, rfl⟩
abbrev main_v196 : Ref sig .tc := ⟨.hbm, 300, rfl⟩
abbrev main_v197 : Ref sig .tc := ⟨.hbm, 301, rfl⟩
abbrev main_v198 : Ref sig .tc := ⟨.hbm, 302, rfl⟩
abbrev main_v199 : Ref sig .tc := ⟨.hbm, 303, rfl⟩
abbrev main_v200 : Ref sig .tc := ⟨.hbm, 304, rfl⟩
abbrev main_v201 : Ref sig .tc := ⟨.hbm, 305, rfl⟩
abbrev main_cst_33 : Ref sig .tc := ⟨.hbm, 306, rfl⟩
abbrev main_v202 : Ref sig .tc := ⟨.hbm, 307, rfl⟩
abbrev main_v203 : Ref sig .tc := ⟨.hbm, 308, rfl⟩
abbrev main_v204 : Ref sig .tc := ⟨.hbm, 309, rfl⟩
abbrev main_cst_34 : Ref sig .tc := ⟨.hbm, 310, rfl⟩
abbrev main_v205 : Ref sig .tc := ⟨.hbm, 311, rfl⟩
abbrev main_v206 : Ref sig .tc := ⟨.hbm, 312, rfl⟩
abbrev main_v207 : Ref sig .tc := ⟨.hbm, 313, rfl⟩
abbrev main_v208 : Ref sig .tc := ⟨.hbm, 314, rfl⟩
abbrev main_cst_35 : Ref sig .tc := ⟨.hbm, 315, rfl⟩
abbrev main_v209 : Ref sig .tc := ⟨.hbm, 316, rfl⟩
abbrev main_v210 : Ref sig .tc := ⟨.hbm, 317, rfl⟩
abbrev main_cst_36 : Ref sig .tc := ⟨.hbm, 318, rfl⟩
abbrev main_v211 : Ref sig .tc := ⟨.hbm, 319, rfl⟩
abbrev main_v212 : Ref sig .tc := ⟨.hbm, 320, rfl⟩
abbrev main_v213 : Ref sig .tc := ⟨.hbm, 321, rfl⟩
abbrev main_v214 : Ref sig .tc := ⟨.hbm, 322, rfl⟩
abbrev main_v215 : Ref sig .tc := ⟨.hbm, 323, rfl⟩
abbrev main_cst_37 : Ref sig .tc := ⟨.hbm, 324, rfl⟩
abbrev main_v216 : Ref sig .tc := ⟨.hbm, 325, rfl⟩
abbrev main_v217 : Ref sig .tc := ⟨.hbm, 326, rfl⟩
abbrev main_cst_38 : Ref sig .tc := ⟨.hbm, 327, rfl⟩
abbrev main_v218 : Ref sig .tc := ⟨.hbm, 328, rfl⟩
abbrev main_v219 : Ref sig .tc := ⟨.hbm, 329, rfl⟩
abbrev main_v220 : Ref sig .tc := ⟨.hbm, 330, rfl⟩
abbrev main_v221 : Ref sig .tc := ⟨.hbm, 331, rfl⟩
abbrev main_v222 : Ref sig .tc := ⟨.hbm, 332, rfl⟩
abbrev main_v223 : Ref sig .tc := ⟨.hbm, 333, rfl⟩
abbrev main_v224 : Ref sig .tc := ⟨.hbm, 334, rfl⟩
abbrev main_v225 : Ref sig .tc := ⟨.hbm, 335, rfl⟩
abbrev main_v226 : Ref sig .tc := ⟨.hbm, 336, rfl⟩
abbrev main_v227 : Ref sig .tc := ⟨.hbm, 337, rfl⟩
abbrev main_v228 : Ref sig .tc := ⟨.hbm, 338, rfl⟩
abbrev main_v229 : Ref sig .tc := ⟨.hbm, 339, rfl⟩
abbrev main_v230 : Ref sig .tc := ⟨.hbm, 340, rfl⟩
abbrev main_v231 : Ref sig .tc := ⟨.hbm, 341, rfl⟩
abbrev main_v232 : Ref sig .tc := ⟨.hbm, 342, rfl⟩
abbrev main_v233 : Ref sig .tc := ⟨.hbm, 343, rfl⟩
abbrev main_v234 : Ref sig .tc := ⟨.hbm, 344, rfl⟩
abbrev main_v235 : Ref sig .tc := ⟨.hbm, 345, rfl⟩
abbrev main_cst_39 : Ref sig .tc := ⟨.hbm, 346, rfl⟩
abbrev main_v236 : Ref sig .tc := ⟨.hbm, 347, rfl⟩
abbrev main_v237 : Ref sig .tc := ⟨.hbm, 348, rfl⟩
abbrev main_v238 : Ref sig .tc := ⟨.hbm, 349, rfl⟩
abbrev main_v239 : Ref sig .tc := ⟨.hbm, 350, rfl⟩
abbrev main_cst_40 : Ref sig .tc := ⟨.hbm, 351, rfl⟩
abbrev main_v240 : Ref sig .tc := ⟨.hbm, 352, rfl⟩
abbrev main_v241 : Ref sig .tc := ⟨.hbm, 353, rfl⟩
abbrev main_cst_41 : Ref sig .tc := ⟨.hbm, 354, rfl⟩
abbrev main_v242 : Ref sig .tc := ⟨.hbm, 355, rfl⟩
abbrev main_cst_42 : Ref sig .tc := ⟨.hbm, 356, rfl⟩
abbrev main_v243 : Ref sig .tc := ⟨.hbm, 357, rfl⟩
abbrev main_v244 : Ref sig .tc := ⟨.hbm, 358, rfl⟩
abbrev main_cst_43 : Ref sig .tc := ⟨.hbm, 359, rfl⟩
abbrev main_v245 : Ref sig .tc := ⟨.hbm, 360, rfl⟩
abbrev main_v246 : Ref sig .tc := ⟨.hbm, 361, rfl⟩
abbrev main_v247 : Ref sig .tc := ⟨.hbm, 362, rfl⟩
abbrev main_v248 : Ref sig .tc := ⟨.hbm, 363, rfl⟩
abbrev main_cst_44 : Ref sig .tc := ⟨.hbm, 364, rfl⟩
abbrev main_v249 : Ref sig .tc := ⟨.hbm, 365, rfl⟩
abbrev main_v250 : Ref sig .tc := ⟨.hbm, 366, rfl⟩
abbrev main_cst_45 : Ref sig .tc := ⟨.hbm, 367, rfl⟩
abbrev main_v251 : Ref sig .tc := ⟨.hbm, 368, rfl⟩
abbrev main_v252 : Ref sig .tc := ⟨.hbm, 369, rfl⟩
abbrev main_cst_46 : Ref sig .tc := ⟨.hbm, 370, rfl⟩
abbrev main_v253 : Ref sig .tc := ⟨.hbm, 371, rfl⟩
abbrev main_v254 : Ref sig .tc := ⟨.hbm, 372, rfl⟩
abbrev main_cst_47 : Ref sig .tc := ⟨.hbm, 373, rfl⟩
abbrev main_v255 : Ref sig .tc := ⟨.hbm, 374, rfl⟩
abbrev main_v256 : Ref sig .tc := ⟨.hbm, 375, rfl⟩
abbrev main_cst_48 : Ref sig .tc := ⟨.hbm, 376, rfl⟩
abbrev main_v257 : Ref sig .tc := ⟨.hbm, 377, rfl⟩
abbrev main_v258 : Ref sig .tc := ⟨.hbm, 378, rfl⟩
abbrev main_cst_49 : Ref sig .tc := ⟨.hbm, 379, rfl⟩
abbrev main_v259 : Ref sig .tc := ⟨.hbm, 380, rfl⟩
abbrev main_v260 : Ref sig .tc := ⟨.hbm, 381, rfl⟩
abbrev main_v261 : Ref sig .tc := ⟨.hbm, 382, rfl⟩
abbrev main_v262 : Ref sig .tc := ⟨.hbm, 383, rfl⟩
abbrev main_cst_50 : Ref sig .tc := ⟨.hbm, 384, rfl⟩
abbrev main_v263 : Ref sig .tc := ⟨.hbm, 385, rfl⟩
abbrev main_v264 : Ref sig .tc := ⟨.hbm, 386, rfl⟩
abbrev main_cst_51 : Ref sig .tc := ⟨.hbm, 387, rfl⟩
abbrev main_v265 : Ref sig .tc := ⟨.hbm, 388, rfl⟩
abbrev main_v266 : Ref sig .tc := ⟨.hbm, 389, rfl⟩
abbrev main_cst_52 : Ref sig .tc := ⟨.hbm, 390, rfl⟩
abbrev main_v267 : Ref sig .tc := ⟨.hbm, 391, rfl⟩
abbrev main_v268 : Ref sig .tc := ⟨.hbm, 392, rfl⟩
abbrev main_v269 : Ref sig .tc := ⟨.hbm, 393, rfl⟩
abbrev main_v270 : Ref sig .tc := ⟨.hbm, 394, rfl⟩
abbrev main_v271 : Ref sig .tc := ⟨.hbm, 395, rfl⟩
abbrev main_v272 : Ref sig .tc := ⟨.hbm, 396, rfl⟩
abbrev main_v273 : Ref sig .tc := ⟨.hbm, 397, rfl⟩
abbrev main_v274 : Ref sig .tc := ⟨.hbm, 398, rfl⟩
abbrev main_v275 : Ref sig .tc := ⟨.hbm, 399, rfl⟩
abbrev main_v276 : Ref sig .tc := ⟨.hbm, 400, rfl⟩
abbrev main_cst_53 : Ref sig .tc := ⟨.hbm, 401, rfl⟩
abbrev main_v277 : Ref sig .tc := ⟨.hbm, 402, rfl⟩
abbrev main_v278 : Ref sig .tc := ⟨.hbm, 403, rfl⟩
abbrev main_v279 : Ref sig .tc := ⟨.hbm, 404, rfl⟩
abbrev main_cst_54 : Ref sig .tc := ⟨.hbm, 405, rfl⟩
abbrev main_v280 : Ref sig .tc := ⟨.hbm, 406, rfl⟩
abbrev main_v281 : Ref sig .tc := ⟨.hbm, 407, rfl⟩
abbrev main_v282 : Ref sig .tc := ⟨.hbm, 408, rfl⟩
abbrev main_cst_55 : Ref sig .tc := ⟨.hbm, 409, rfl⟩
abbrev main_v283 : Ref sig .tc := ⟨.hbm, 410, rfl⟩
abbrev main_v284 : Ref sig .tc := ⟨.hbm, 411, rfl⟩
abbrev main_v285 : Ref sig .tc := ⟨.hbm, 412, rfl⟩
abbrev main_v286 : Ref sig .tc := ⟨.hbm, 413, rfl⟩
abbrev main_v287 : Ref sig .tc := ⟨.hbm, 414, rfl⟩
abbrev main_v288 : Ref sig .tc := ⟨.hbm, 415, rfl⟩
abbrev main_cst_56 : Ref sig .tc := ⟨.hbm, 416, rfl⟩
abbrev main_v289 : Ref sig .tc := ⟨.hbm, 417, rfl⟩
abbrev main_v290 : Ref sig .tc := ⟨.hbm, 418, rfl⟩
abbrev main_v291 : Ref sig .tc := ⟨.hbm, 419, rfl⟩
abbrev main_v292 : Ref sig .tc := ⟨.hbm, 420, rfl⟩
abbrev main_cst_57 : Ref sig .tc := ⟨.hbm, 421, rfl⟩
abbrev main_v293 : Ref sig .tc := ⟨.hbm, 422, rfl⟩
abbrev main_v294 : Ref sig .tc := ⟨.hbm, 423, rfl⟩
abbrev main_call3_cst : Ref sig .tc := ⟨.hbm, 424, rfl⟩
abbrev main_call3_v0 : Ref sig .tc := ⟨.hbm, 425, rfl⟩
abbrev main_v295 : Ref sig .tc := ⟨.hbm, 426, rfl⟩
abbrev main_cst_58 : Ref sig .tc := ⟨.hbm, 427, rfl⟩
abbrev main_v296 : Ref sig .tc := ⟨.hbm, 428, rfl⟩
abbrev main_v297 : Ref sig .tc := ⟨.hbm, 429, rfl⟩
abbrev main_v298 : Ref sig .tc := ⟨.hbm, 430, rfl⟩
abbrev main_cst_59 : Ref sig .tc := ⟨.hbm, 431, rfl⟩
abbrev main_v299 : Ref sig .tc := ⟨.hbm, 432, rfl⟩
abbrev main_v300 : Ref sig .tc := ⟨.hbm, 433, rfl⟩
abbrev main_cst_60 : Ref sig .tc := ⟨.hbm, 434, rfl⟩
abbrev main_v301 : Ref sig .tc := ⟨.hbm, 435, rfl⟩
abbrev main_cst_61 : Ref sig .tc := ⟨.hbm, 436, rfl⟩
abbrev main_v302 : Ref sig .tc := ⟨.hbm, 437, rfl⟩
abbrev main_v303 : Ref sig .tc := ⟨.hbm, 438, rfl⟩
abbrev main_v304 : Ref sig .tc := ⟨.hbm, 439, rfl⟩
abbrev main_call4_cst : Ref sig .tc := ⟨.hbm, 440, rfl⟩
abbrev main_call4_v0 : Ref sig .tc := ⟨.hbm, 441, rfl⟩
abbrev main_call4_v1 : Ref sig .tc := ⟨.hbm, 442, rfl⟩
abbrev main_call4_cst_0 : Ref sig .tc := ⟨.hbm, 443, rfl⟩
abbrev main_call4_v2 : Ref sig .tc := ⟨.hbm, 444, rfl⟩
abbrev main_v305 : Ref sig .tc := ⟨.hbm, 445, rfl⟩
abbrev main_cst_62 : Ref sig .tc := ⟨.hbm, 446, rfl⟩
abbrev main_v306 : Ref sig .tc := ⟨.hbm, 447, rfl⟩
abbrev main_v307 : Ref sig .tc := ⟨.hbm, 448, rfl⟩
abbrev main_v308 : Ref sig .tc := ⟨.hbm, 449, rfl⟩
abbrev main_v309 : Ref sig .tc := ⟨.hbm, 450, rfl⟩
abbrev main_v310 : Ref sig .tc := ⟨.hbm, 451, rfl⟩
abbrev main_v311 : Ref sig .tc := ⟨.hbm, 452, rfl⟩
abbrev main_v312 : Ref sig .tc := ⟨.hbm, 453, rfl⟩
abbrev main_v313 : Ref sig .tc := ⟨.hbm, 454, rfl⟩
abbrev main_cst_63 : Ref sig .tc := ⟨.hbm, 455, rfl⟩
abbrev main_v314 : Ref sig .tc := ⟨.hbm, 456, rfl⟩
abbrev main_v315 : Ref sig .tc := ⟨.hbm, 457, rfl⟩
abbrev main_v316 : Ref sig .tc := ⟨.hbm, 458, rfl⟩
abbrev main_v317 : Ref sig .tc := ⟨.hbm, 459, rfl⟩
abbrev main_cst_64 : Ref sig .tc := ⟨.hbm, 460, rfl⟩
abbrev main_v318 : Ref sig .tc := ⟨.hbm, 461, rfl⟩
abbrev main_v319 : Ref sig .tc := ⟨.hbm, 462, rfl⟩
abbrev main_v320 : Ref sig .tc := ⟨.hbm, 463, rfl⟩
abbrev main_v321 : Ref sig .tc := ⟨.hbm, 464, rfl⟩
abbrev main_cst_65 : Ref sig .tc := ⟨.hbm, 465, rfl⟩
abbrev main_v322 : Ref sig .tc := ⟨.hbm, 466, rfl⟩
abbrev main_v323 : Ref sig .tc := ⟨.hbm, 467, rfl⟩
abbrev main_v324 : Ref sig .tc := ⟨.hbm, 468, rfl⟩
abbrev main_cst_66 : Ref sig .tc := ⟨.hbm, 469, rfl⟩
abbrev main_v325 : Ref sig .tc := ⟨.hbm, 470, rfl⟩
abbrev main_v326 : Ref sig .tc := ⟨.hbm, 471, rfl⟩
abbrev main_v327 : Ref sig .tc := ⟨.hbm, 472, rfl⟩
abbrev main_cst_67 : Ref sig .tc := ⟨.hbm, 473, rfl⟩
abbrev main_v328 : Ref sig .tc := ⟨.hbm, 474, rfl⟩
abbrev main_v329 : Ref sig .tc := ⟨.hbm, 475, rfl⟩
abbrev main_cst_68 : Ref sig .tc := ⟨.hbm, 476, rfl⟩
abbrev main_v330 : Ref sig .tc := ⟨.hbm, 477, rfl⟩
abbrev main_v331 : Ref sig .tc := ⟨.hbm, 478, rfl⟩
abbrev main_v332 : Ref sig .tc := ⟨.hbm, 479, rfl⟩
abbrev main_v333 : Ref sig .tc := ⟨.hbm, 480, rfl⟩
abbrev main_v334 : Ref sig .tc := ⟨.hbm, 481, rfl⟩
abbrev main_v335 : Ref sig .tc := ⟨.hbm, 482, rfl⟩
abbrev main_v336 : Ref sig .tc := ⟨.hbm, 483, rfl⟩
abbrev main_v337 : Ref sig .tc := ⟨.hbm, 484, rfl⟩
abbrev main_v338 : Ref sig .tc := ⟨.hbm, 485, rfl⟩
abbrev main_v339 : Ref sig .tc := ⟨.hbm, 486, rfl⟩
abbrev main_cst_69 : Ref sig .tc := ⟨.hbm, 487, rfl⟩
abbrev main_v340 : Ref sig .tc := ⟨.hbm, 488, rfl⟩
abbrev main_v341 : Ref sig .tc := ⟨.hbm, 489, rfl⟩
abbrev main_cst_70 : Ref sig .tc := ⟨.hbm, 490, rfl⟩
abbrev main_v342 : Ref sig .tc := ⟨.hbm, 491, rfl⟩
abbrev main_v343 : Ref sig .tc := ⟨.hbm, 492, rfl⟩
abbrev main_v344 : Ref sig .tc := ⟨.hbm, 493, rfl⟩
abbrev main_v345 : Ref sig .tc := ⟨.hbm, 494, rfl⟩
abbrev main_v346 : Ref sig .tc := ⟨.hbm, 495, rfl⟩
abbrev main_v347 : Ref sig .tc := ⟨.hbm, 496, rfl⟩
abbrev main_v348 : Ref sig .tc := ⟨.hbm, 497, rfl⟩
abbrev main_v349 : Ref sig .tc := ⟨.hbm, 498, rfl⟩
abbrev main_v350 : Ref sig .tc := ⟨.hbm, 499, rfl⟩
abbrev main_v351 : Ref sig .tc := ⟨.hbm, 500, rfl⟩
abbrev main_cst_71 : Ref sig .tc := ⟨.hbm, 501, rfl⟩
abbrev main_v352 : Ref sig .tc := ⟨.hbm, 502, rfl⟩
abbrev main_v353 : Ref sig .tc := ⟨.hbm, 503, rfl⟩
abbrev main_v354 : Ref sig .tc := ⟨.hbm, 504, rfl⟩
abbrev main_v355 : Ref sig .tc := ⟨.hbm, 505, rfl⟩
abbrev main_cst_72 : Ref sig .tc := ⟨.hbm, 506, rfl⟩
abbrev main_v356 : Ref sig .tc := ⟨.hbm, 507, rfl⟩
abbrev main_v357 : Ref sig .tc := ⟨.hbm, 508, rfl⟩
abbrev main_cst_73 : Ref sig .tc := ⟨.hbm, 509, rfl⟩
abbrev main_v358 : Ref sig .tc := ⟨.hbm, 510, rfl⟩
abbrev main_cst_74 : Ref sig .tc := ⟨.hbm, 511, rfl⟩
abbrev main_v359 : Ref sig .tc := ⟨.hbm, 512, rfl⟩
abbrev main_v360 : Ref sig .tc := ⟨.hbm, 513, rfl⟩
abbrev main_cst_75 : Ref sig .tc := ⟨.hbm, 514, rfl⟩
abbrev main_v361 : Ref sig .tc := ⟨.hbm, 515, rfl⟩
abbrev main_v362 : Ref sig .tc := ⟨.hbm, 516, rfl⟩
abbrev main_v363 : Ref sig .tc := ⟨.hbm, 517, rfl⟩
abbrev main_v364 : Ref sig .tc := ⟨.hbm, 518, rfl⟩
abbrev main_cst_76 : Ref sig .tc := ⟨.hbm, 519, rfl⟩
abbrev main_v365 : Ref sig .tc := ⟨.hbm, 520, rfl⟩
abbrev main_v366 : Ref sig .tc := ⟨.hbm, 521, rfl⟩
abbrev main_cst_77 : Ref sig .tc := ⟨.hbm, 522, rfl⟩
abbrev main_v367 : Ref sig .tc := ⟨.hbm, 523, rfl⟩
abbrev main_v368 : Ref sig .tc := ⟨.hbm, 524, rfl⟩
abbrev main_cst_78 : Ref sig .tc := ⟨.hbm, 525, rfl⟩
abbrev main_v369 : Ref sig .tc := ⟨.hbm, 526, rfl⟩
abbrev main_v370 : Ref sig .tc := ⟨.hbm, 527, rfl⟩
abbrev main_v371 : Ref sig .tc := ⟨.hbm, 528, rfl⟩
abbrev main_cst_79 : Ref sig .tc := ⟨.hbm, 529, rfl⟩
abbrev main_v372 : Ref sig .tc := ⟨.hbm, 530, rfl⟩
abbrev main_v373 : Ref sig .tc := ⟨.hbm, 531, rfl⟩
abbrev main_v374 : Ref sig .tc := ⟨.hbm, 532, rfl⟩
abbrev main_v375 : Ref sig .tc := ⟨.hbm, 533, rfl⟩
abbrev main_cst_80 : Ref sig .tc := ⟨.hbm, 534, rfl⟩
abbrev main_v376 : Ref sig .tc := ⟨.hbm, 535, rfl⟩
abbrev main_v377 : Ref sig .tc := ⟨.hbm, 536, rfl⟩
abbrev main_cst_81 : Ref sig .tc := ⟨.hbm, 537, rfl⟩
abbrev main_v378 : Ref sig .tc := ⟨.hbm, 538, rfl⟩
abbrev main_v379 : Ref sig .tc := ⟨.hbm, 539, rfl⟩
abbrev main_cst_82 : Ref sig .tc := ⟨.hbm, 540, rfl⟩
abbrev main_v380 : Ref sig .tc := ⟨.hbm, 541, rfl⟩
abbrev main_v381 : Ref sig .tc := ⟨.hbm, 542, rfl⟩
abbrev main_cst_83 : Ref sig .tc := ⟨.hbm, 543, rfl⟩
abbrev main_v382 : Ref sig .tc := ⟨.hbm, 544, rfl⟩
abbrev main_v383 : Ref sig .tc := ⟨.hbm, 545, rfl⟩
abbrev main_cst_84 : Ref sig .tc := ⟨.hbm, 546, rfl⟩
abbrev main_v384 : Ref sig .tc := ⟨.hbm, 547, rfl⟩
abbrev main_v385 : Ref sig .tc := ⟨.hbm, 548, rfl⟩
abbrev main_cst_85 : Ref sig .tc := ⟨.hbm, 549, rfl⟩
abbrev main_v386 : Ref sig .tc := ⟨.hbm, 550, rfl⟩
abbrev main_v387 : Ref sig .tc := ⟨.hbm, 551, rfl⟩
abbrev main_v388 : Ref sig .tc := ⟨.hbm, 552, rfl⟩
abbrev main_v389 : Ref sig .tc := ⟨.hbm, 553, rfl⟩
abbrev main_cst_86 : Ref sig .tc := ⟨.hbm, 554, rfl⟩
abbrev main_v390 : Ref sig .tc := ⟨.hbm, 555, rfl⟩
abbrev main_v391 : Ref sig .tc := ⟨.hbm, 556, rfl⟩
abbrev main_cst_87 : Ref sig .tc := ⟨.hbm, 557, rfl⟩
abbrev main_v392 : Ref sig .tc := ⟨.hbm, 558, rfl⟩
abbrev main_v393 : Ref sig .tc := ⟨.hbm, 559, rfl⟩
abbrev main_cst_88 : Ref sig .tc := ⟨.hbm, 560, rfl⟩
abbrev main_v394 : Ref sig .tc := ⟨.hbm, 561, rfl⟩
abbrev main_v395 : Ref sig .tc := ⟨.hbm, 562, rfl⟩
abbrev main_v396 : Ref sig .tc := ⟨.hbm, 563, rfl⟩
abbrev main_v397 : Ref sig .tc := ⟨.hbm, 564, rfl⟩
abbrev main_v398 : Ref sig .tc := ⟨.hbm, 565, rfl⟩
abbrev main_v399 : Ref sig .tc := ⟨.hbm, 566, rfl⟩
abbrev main_v400 : Ref sig .tc := ⟨.hbm, 567, rfl⟩
abbrev main_v401 : Ref sig .tc := ⟨.hbm, 568, rfl⟩
abbrev main_v402 : Ref sig .tc := ⟨.hbm, 569, rfl⟩
abbrev main_v403 : Ref sig .tc := ⟨.hbm, 570, rfl⟩
abbrev main_v404 : Ref sig .tc := ⟨.hbm, 571, rfl⟩

abbrev nD : Nat := 1
abbrev τ : Topo := Topo.v7x

variable {F : FTy → Type} [FloatOps F]
-- ==== MlpForward.lean ====
abbrev S4096x1024 : Shape := ⟨2, ![4096, 1024]⟩
abbrev S1x1024 : Shape := ⟨2, ![1, 1024]⟩
abbrev S1024 : Shape := ⟨1, ![1024]⟩
abbrev S1024x4096 : Shape := ⟨2, ![1024, 4096]⟩
abbrev S_ : Shape := ⟨0, ![]⟩
abbrev S8x1024 : Shape := ⟨2, ![8, 1024]⟩
abbrev S16x1024 : Shape := ⟨2, ![16, 1024]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩

abbrev nBuf : Space → Nat
  | .hbm => 23
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S_, .f32⟩
  | .hbm, ⟨9, _⟩ => ⟨S1x1024, .f32⟩
  | .hbm, ⟨10, _⟩ => ⟨S8x1024, .f32⟩
  | .hbm, ⟨11, _⟩ => ⟨S1x1024, .f32⟩
  | .hbm, ⟨12, _⟩ => ⟨S1x1024, .f32⟩
  | .hbm, ⟨13, _⟩ => ⟨S16x1024, .f32⟩
  | .hbm, ⟨14, _⟩ => ⟨S1024x4x1024, .f32⟩
  | .hbm, ⟨15, _⟩ => ⟨S4x1024x1024, .f32⟩
  | .hbm, ⟨16, _⟩ => ⟨S4x1024x1024, .bf16⟩
  | .hbm, ⟨17, _⟩ => ⟨S4x1024x1024, .f32⟩
  | .hbm, ⟨18, _⟩ => ⟨S4x1024x1024, .bf16⟩
  | .hbm, ⟨19, _⟩ => ⟨S4096x1024, .f32⟩
  | .hbm, ⟨20, _⟩ => ⟨S4096x1024, .bf16⟩
  | .hbm, ⟨21, _⟩ => ⟨S4096x4096, .bf16⟩
  | .hbm, ⟨22, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S16x1024, .f32⟩
  | .local _ .vmem, ⟨4, _⟩ => ⟨S4x1024x1024, .bf16⟩
  | .local _ .vmem, ⟨5, _⟩ => ⟨S4x1024x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x4096, .bf16⟩
  | .local _ .vmem, ⟨11, _⟩ => ⟨S512x4096, .bf16⟩
  | .local _ .vmem, ⟨12, _⟩ => ⟨S512x1024, .bf16⟩
  | .local _ .vmem, ⟨13, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MlpForwardReferenceIdeal.lean ====
abbrev S4096x1024 : Shape := ⟨2, ![4096, 1024]⟩
abbrev S1x1024 : Shape := ⟨2, ![1, 1024]⟩
abbrev S1024 : Shape := ⟨1, ![1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .bf16⟩
  | .hbm, ⟨57, _⟩ => ⟨S4096x4096, .bf16⟩
  | .hbm, ⟨58, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_cst : Ref sig .tc := ⟨.hbm, 32, rfl⟩
abbrev main_call0_v0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== ModForward.lean ====
abbrev S8x1024 : Shape := ⟨2, ![8, 1024]⟩
abbrev S2x1024x1536 : Shape := ⟨3, ![2, 1024, 1536]⟩
abbrev S2x1536 : Shape := ⟨2, ![2, 1536]⟩
abbrev S2x1x1536 : Shape := ⟨3, ![2, 1, 1536]⟩
abbrev S16x1536 : Shape := ⟨2, ![16, 1536]⟩
abbrev S1x1024x1536 : Shape := ⟨3, ![1, 1024, 1536]⟩
abbrev S1x1x1536 : Shape := ⟨3, ![1, 1, 1536]⟩
abbrev S8x1536 : Shape := ⟨2, ![8, 1536]⟩
abbrev S1024x1536 : Shape := ⟨2, ![1024, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x1536, .f32⟩
  | .hbm, ⟨2, _⟩ => ⟨S2x1536, .f32⟩
  | .hbm, ⟨3, _⟩ => ⟨S2x1x1536, .f32⟩
  | .hbm, ⟨4, _⟩ => ⟨S16x1536, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S8x1536, .f32⟩
  | .local _ .vmem, ⟨6, _⟩ => ⟨S8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModForwardReferenceIdeal.lean ====
abbrev S8x1024 : Shape := ⟨2, ![8, 1024]⟩
abbrev S2x1024x1536 : Shape := ⟨3, ![2, 1024, 1536]⟩
abbrev S2x1536 : Shape := ⟨2, ![2, 1536]⟩
abbrev S_ : Shape := ⟨0, ![]⟩
abbrev S1x1024x1536 : Shape := ⟨3, ![1, 1024, 1536]⟩
abbrev S1024x1536 : Shape := ⟨2, ![1024, 1536]⟩
abbrev S8x1536 : Shape := ⟨2, ![8, 1536]⟩
abbrev S1x1536 : Shape := ⟨2, ![1, 1536]⟩
abbrev S1536 : Shape := ⟨1, ![1536]⟩
abbrev S16x1536 : Shape := ⟨2, ![16, 1536]⟩

abbrev nBuf : Space → Nat
  | .hbm => 38
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x1536, .f32⟩
  | .hbm, ⟨2, _⟩ => ⟨S2x1536, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x1536, .f32⟩
  | .hbm, ⟨13, _⟩ => ⟨S1024x1536, .f32⟩
  | .hbm, ⟨14, _⟩ => ⟨S8x1536, .f32⟩
  | .hbm, ⟨15, _⟩ => ⟨S1x1536, .f32⟩
  | .hbm, ⟨16, _⟩ => ⟨S1536, .f32⟩
  | .hbm, ⟨17, _⟩ => ⟨S1x1536, .f32⟩
  | .hbm, ⟨18, _⟩ => ⟨S8x1536, .f32⟩
  | .hbm, ⟨19, _⟩ => ⟨S8x1536, .f32⟩
  | .hbm, ⟨20, _⟩ => ⟨S8x1024, .f32⟩
  | .hbm, ⟨21, _⟩ => ⟨S8x1024, .f32⟩
  | .hbm, ⟨22, _⟩ => ⟨S_, .f32⟩
  | .hbm, ⟨23, _⟩ => ⟨S8x1024, .f32⟩
  | .hbm, ⟨24, _⟩ => ⟨S8x1024, .f32⟩
  | .hbm, ⟨25, _⟩ => ⟨S_, .f32⟩
  | .hbm, ⟨26, _⟩ => ⟨S8x1024, .f32⟩
  | .hbm, ⟨27, _⟩ => ⟨S8x1024, .f32⟩
  | .hbm, ⟨28, _⟩ => ⟨S8x1024, .f32⟩
  | .hbm, ⟨29, _⟩ => ⟨S1x1024x1536, .f32⟩
  | .hbm, ⟨30, _⟩ => ⟨S1024x1536, .f32⟩
  | .hbm, ⟨31, _⟩ => ⟨S8x1536, .f32⟩
  | .hbm, ⟨32, _⟩ => ⟨S1x1536, .f32⟩
  | .hbm, ⟨33, _⟩ => ⟨S1536, .f32⟩
  | .hbm, ⟨34, _⟩ => ⟨S1x1536, .f32⟩
  | .hbm, ⟨35, _⟩ => ⟨S8x1536, .f32⟩
  | .hbm, ⟨36, _⟩ => ⟨S8x1536, .f32⟩
  | .hbm, ⟨37, _⟩ => ⟨S16x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩

abbrev nD : Nat := 1
abbrev τ : Topo := Topo.v7x

variable {F : FTy → Type} [FloatOps F]
-- ==== WinBackward.lean ====
abbrev S4096x1024 : Shape := ⟨2, ![4096, 1024]⟩
abbrev S1x1024 : Shape := ⟨2, ![1, 1024]⟩
abbrev S1024 : Shape := ⟨1, ![1024]⟩
abbrev S1024x7168 : Shape := ⟨2, ![1024, 7168]⟩
abbrev S4096x7168 : Shape := ⟨2, ![4096, 7168]⟩
abbrev S_ : Shape := ⟨0, ![]⟩
abbrev S4096 : Shape := ⟨1, ![4096]⟩
abbrev S4096x1 : Shape := ⟨2, ![4096, 1]⟩
abbrev S4x1024x1792 : Shape := ⟨3, ![4, 1024, 1792]⟩
abbrev S4096x512 : Shape := ⟨2, ![4096, 512]⟩
abbrev S4096x1792 : Shape := ⟨2, ![4096, 1792]⟩
abbrev S1x512x1792 : Shape := ⟨3, ![1, 512, 1792]⟩
abbrev S512x1792 : Shape := ⟨2, ![512, 1792]⟩

abbrev nBuf : Space → Nat
  | .hbm => 32
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024, .f32⟩
  | .hbm, ⟨4, _⟩ => ⟨S1024x7168, .f32⟩
  | .hbm, ⟨5, _⟩ => ⟨S4096x7168, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .bf16⟩
  | .hbm, ⟨30, _⟩ => ⟨S4096x7168, .bf16⟩
  | .hbm, ⟨31, _⟩ => ⟨S4x1024x1792, .f32⟩
  | .local _ .vmem, ⟨0, _⟩ => ⟨S4096x512, .bf16⟩
  | .local _ .vmem, ⟨1, _⟩ => ⟨S4096x512, .bf16⟩
  | .local _ .vmem, ⟨2, _⟩ => ⟨S4096x1792, .bf16⟩
  | .local _ .vmem, ⟨3, _⟩ => ⟨S4096x1792, .bf16⟩
  | .local _ .vmem, ⟨4, _⟩ => ⟨S1x512x1792, .f32⟩
  | .local _ .vmem, ⟨5, _⟩ => ⟨S1x512x1792, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WinReferenceIdeal.lean ====
abbrev S4096x1024 : Shape := ⟨2, ![4096, 1024]⟩
abbrev S1x1024 : Shape := ⟨2, ![1, 1024]⟩
abbrev S1024 : Shape := ⟨1, ![1024]⟩
abbrev S1024x7168 : Shape := ⟨2, ![1024, 7168]⟩
abbrev S4096x7168 : Shape := ⟨2, ![4096, 7168]⟩
abbrev S_ : Shape := ⟨0, ![]⟩
abbrev S4096 : Shape := ⟨1, ![4096]⟩
abbrev S4096x1 : Shape := ⟨2, ![4096, 1]⟩
abbrev S7168x1024 : Shape := ⟨2, ![7168, 1024]⟩
abbrev S1024x4x1792 : Shape := ⟨3, ![1024, 4, 1792]⟩
abbrev S4x1024x1792 : Shape := ⟨3, ![4, 1024, 1792]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024, .f32⟩
  | .hbm, ⟨4, _⟩ => ⟨S1024x7168, .f32⟩
  | .hbm, ⟨5, _⟩ => ⟨S4096x7168, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x7168, .f32⟩
  | .hbm, ⟨30, _⟩ => ⟨S7168x1024, .f32⟩
  | .hbm, ⟨31, _⟩ => ⟨S1024x7168, .f32⟩
  | .hbm, ⟨32, _⟩ => ⟨S1024x4x1792, .f32⟩
  | .hbm, ⟨33, _⟩ => ⟨S4x1024x1792, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== NormProj.lean ====
abbrev S4096x1024 : Shape := ⟨2, ![4096, 1024]⟩
abbrev S1x1024 : Shape := ⟨2, ![1, 1024]⟩
abbrev S1024 : Shape := ⟨1, ![1024]⟩
abbrev S1024x7168 : Shape := ⟨2, ![1024, 7168]⟩
abbrev S_ : Shape := ⟨0, ![]⟩
abbrev S8x1024 : Shape := ⟨2, ![8, 1024]⟩
abbrev S16x1024 : Shape := ⟨2, ![16, 1024]⟩
abbrev S1024x4x1792 : Shape := ⟨3, ![1024, 4, 1792]⟩
abbrev S4x1024x1792 : Shape := ⟨3, ![4, 1024, 1792]⟩
abbrev S4096x7168 : Shape := ⟨2, ![4096, 7168]⟩
abbrev S512x1024 : Shape := ⟨2, ![512, 1024]⟩
abbrev S512x7168 : Shape := ⟨2, ![512, 7168]⟩
abbrev S512 : Shape := ⟨1, ![512]⟩
abbrev S512x1 : Shape := ⟨2, ![512, 1]⟩
abbrev S1x1024x1792 : Shape := ⟨3, ![1, 1024, 1792]⟩
abbrev S1024x1792 : Shape := ⟨2, ![1024, 1792]⟩
abbrev S512x1792 : Shape := ⟨2, ![512, 1792]⟩
abbrev S512x768 : Shape := ⟨2, ![512, 768]⟩
abbrev S512x256 : Shape := ⟨2, ![512, 256]⟩
abbrev S512x512 : Shape := ⟨2, ![512, 512]⟩

abbrev nBuf : Space → Nat
  | .hbm => 16
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024, .f32⟩
  | .hbm, ⟨4, _⟩ => ⟨S1024x7168, .f32⟩
  | .hbm, ⟨5, _⟩ => ⟨S_, .f32⟩
  | .hbm, ⟨6, _⟩ => ⟨S1x1024, .f32⟩
  | .hbm, ⟨7, _⟩ => ⟨S8x1024, .f32⟩
  | .hbm, ⟨8, _⟩ => ⟨S1x1024, .f32⟩
  | .hbm, ⟨9, _⟩ => ⟨S16x1024, .f32⟩
  | .hbm, ⟨10, _⟩ => ⟨S1024x4x1792, .f32⟩
  | .hbm, ⟨11, _⟩ => ⟨S4x1024x1792, .f32⟩
  | .hbm, ⟨12, _⟩ => ⟨S4x1024x1792, .bf16⟩
  | .hbm, ⟨13, _⟩ => ⟨S4096x1024, .bf16⟩
  | .hbm, ⟨14, _⟩ => ⟨S4096x7168, .bf16⟩
  | .hbm, ⟨15, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S16x1024, .f32⟩
  | .local _ .vmem, ⟨4, _⟩ => ⟨S4x1024x1792, .bf16⟩
  | .local _ .vmem, ⟨5, _⟩ => ⟨S512x1024, .bf16⟩
  | .local _ .vmem, ⟨6, _⟩ => ⟨S512x1024, .bf16⟩
  | .local _ .vmem, ⟨7, _⟩ => ⟨S512x7168, .bf16⟩
  | .local _ .vmem, ⟨8, _⟩ => ⟨S512x7168, .bf16⟩
  | .local _ .vmem, ⟨9, _⟩ => ⟨S512x1024, .bf16⟩
  | .local _ .vmem, ⟨10, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x7168 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormProjIdeal.lean ====
variable {F : FTy → Type} [FloatOps F] [Named F]
def κ : String → Option EReal := fun
  | "gelu_2k0k1" => some ((80338380498831 / 1125899906842624 : ℝ) : EReal)
  | _ => none
-- ==== NormProjReferenceIdeal.lean ====
abbrev S4096x1024 : Shape := ⟨2, ![4096, 1024]⟩
abbrev S1x1024 : Shape := ⟨2, ![1, 1024]⟩
abbrev S1024 : Shape := ⟨1, ![1024]⟩
abbrev S1024x7168 : Shape := ⟨2, ![1024, 7168]⟩
abbrev S_ : Shape := ⟨0, ![]⟩
abbrev S4096 : Shape := ⟨1, ![4096]⟩
abbrev S4096x1 : Shape := ⟨2, ![4096, 1]⟩
abbrev S4096x7168 : Shape := ⟨2, ![4096, 7168]⟩

abbrev nBuf : Space → Nat
  | .hbm => 72
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024, .f32⟩
  | .hbm, ⟨4, _⟩ => ⟨S1024x7168, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x7168, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096x1024, .f32⟩
  | .hbm, ⟨68, _⟩ => ⟨S4096x1024, .f32⟩
  | .hbm, ⟨69, _⟩ => ⟨S4096x7168, .f32⟩
  | .hbm, ⟨70, _⟩ => ⟨S4096x1024, .bf16⟩
  | .hbm, ⟨71, _⟩ => ⟨S4096x7168, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_9 : Ref sig .tc := ⟨.hbm, 63, rfl⟩
abbrev main_v48 : Ref sig .tc := ⟨.hbm, 64, rfl⟩
abbrev main_v49 : Ref sig .tc := ⟨.hbm, 65, rfl⟩
abbrev main_cst_10 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]
-- ==== Adamw.lean ====
abbrev S2048x1792 : Shape := ⟨2, ![2048, 1792]⟩
abbrev S128x1792 : Shape := ⟨2, ![128, 1792]⟩

abbrev nBuf : Space → Nat
  | .hbm => 8
  | .vmem => 16
  | .smem => 0
  | _ => 0

abbrev bufTy : (tb : Table) → Fin (tcTables nBuf tb) → BufTy
  | .hbm, ⟨0, _⟩ => ⟨S2048x1792, .f32⟩
  | .hbm, ⟨1, _⟩ => ⟨S2048x1792, .f32⟩
  | .hbm, ⟨2, _⟩ => ⟨S2048x1792, .f32⟩
  | .hbm, ⟨3, _⟩ => ⟨S2048x1792, .f32⟩
  | .hbm, ⟨4, _⟩ => ⟨S2048x1792, .f32⟩
  | .hbm, ⟨5, _⟩ => ⟨S2048x1792, .f32⟩
  | .hbm, ⟨6, _⟩ => ⟨S2048x1792, .f32⟩
  | .hbm, ⟨7, _⟩ => ⟨S2048x1792, .f32⟩
  | .local _ .vmem, ⟨0, _⟩ => ⟨S128x1792, .f32⟩
  | .local _ .vmem, ⟨1, _⟩ => ⟨S128x1792, .f32⟩
  | .local _ .vmem, ⟨2, _⟩ => ⟨S128x1792, .f32⟩
  | .local _ .vmem, ⟨3, _⟩ => ⟨S128x1792, .f32⟩
  | .local _ .vmem, ⟨4, _⟩ => ⟨S128x1792, .f32⟩
  | .local _ .vmem, ⟨5, _⟩ => ⟨S128x1792, .f32⟩
  | .local _ .vmem, ⟨6, _⟩ => ⟨S128x1792, .f32⟩
  | .local _ .vmem, ⟨7, _⟩ => ⟨S128x1792, .f32⟩
  | .local _ .vmem, ⟨8, _⟩ => ⟨S128x1792, .f32⟩
  | .local _ .vmem, ⟨9, _⟩ => ⟨S128x1792, .f32⟩
  | .local _ .vmem, ⟨10, _⟩ => ⟨S128x1792, .f32⟩
  | .local _ .vmem, ⟨11, _⟩ => ⟨S128x1792, .f32⟩
  | .local _ .vmem, ⟨12, _⟩ => ⟨S128x1792, .f32⟩
  | .local _ .vmem, ⟨13, _⟩ => ⟨S128x1792, .f32⟩
  | .local _ .vmem, ⟨14, _⟩ => ⟨S128x1792, .f32⟩
  | .local _ .vmem, ⟨15, _⟩ => ⟨S128x1792, .f32⟩
  | _, _ => ⟨S2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1792 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwReferenceIdeal.lean ====
abbrev S2048x1792 : Shape := ⟨2, ![2048, 1792]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1792, .f32⟩
  | .hbm, ⟨1, _⟩ => ⟨S2048x1792, .f32⟩
  | .hbm, ⟨2, _⟩ => ⟨S2048x1792, .f32⟩
  | .hbm, ⟨3, _⟩ => ⟨S2048x1792, .f32⟩
  | .hbm, ⟨4, _⟩ => ⟨S_, .f32⟩
  | .hbm, ⟨5, _⟩ => ⟨S2048x1792, .f32⟩
  | .hbm, ⟨6, _⟩ => ⟨S2048x1792, .f32⟩
  | .hbm, ⟨7, _⟩ => ⟨S_, .f32⟩
  | .hbm, ⟨8, _⟩ => ⟨S2048x1792, .f32⟩
  | .hbm, ⟨9, _⟩ => ⟨S2048x1792, .f32⟩
  | .hbm, ⟨10, _⟩ => ⟨S2048x1792, .f32⟩
  | .hbm, ⟨11, _⟩ => ⟨S_, .f32⟩
  | .hbm, ⟨12, _⟩ => ⟨S2048x1792, .f32⟩
  | .hbm, ⟨13, _⟩ => ⟨S2048x1792, .f32⟩
  | .hbm, ⟨14, _⟩ => ⟨S2048x1792, .f32⟩
  | .hbm, ⟨15, _⟩ => ⟨S_, .f32⟩
  | .hbm, ⟨16, _⟩ => ⟨S2048x1792, .f32⟩
  | .hbm, ⟨17, _⟩ => ⟨S2048x1792, .f32⟩
  | .hbm, ⟨18, _⟩ => ⟨S2048x1792, .f32⟩
  | .hbm, ⟨19, _⟩ => ⟨S_, .f32⟩
  | .hbm, ⟨20, _⟩ => ⟨S2048x1792, .f32⟩
  | .hbm, ⟨21, _⟩ => ⟨S2048x1792, .f32⟩
  | .hbm, ⟨22, _⟩ => ⟨S_, .f32⟩
  | .hbm, ⟨23, _⟩ => ⟨S2048x1792, .f32⟩
  | .hbm, ⟨24, _⟩ => ⟨S2048x1792, .f32⟩
  | .hbm, ⟨25, _⟩ => ⟨S2048x1792, .f32⟩
  | .hbm, ⟨26, _⟩ => ⟨S_, .f32⟩
  | .hbm, ⟨27, _⟩ => ⟨S2048x1792, .f32⟩
  | .hbm, ⟨28, _⟩ => ⟨S2048x1792, .f32⟩
  | .hbm, ⟨29, _⟩ => ⟨S2048x1792, .f32⟩
  | .hbm, ⟨30, _⟩ => ⟨S_, .f32⟩
  | .hbm, ⟨31, _⟩ => ⟨S2048x1792, .f32⟩
  | .hbm, ⟨32, _⟩ => ⟨S2048x1792, .f32⟩
  | .hbm, ⟨33, _⟩ => ⟨S2048x1792, .f32⟩
  | .hbm, ⟨34, _⟩ => ⟨S_, .f32⟩
  | .hbm, ⟨35, _⟩ => ⟨S2048x1792, .f32⟩
  | .hbm, ⟨36, _⟩ => ⟨S2048x1792, .f32⟩
  | _, _ => ⟨S2048x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Lift.lean ====
/- Extended reals that are reals: the operations of the idealized programs on them are the operations of ℝ.
   Then the real-valued mathematics the claims share: the reciprocal root mean square, the normalised row
   and the derivative of the normalisation. -/
module

public import Idealize.ShloMosaic.Lib.Pointwise
public import Idealize.ShloMosaic.Lib.IdealHost
public import Idealize.ShloMosaic.Lib.ReduceAll

@[expose] public section

noncomputable section

open Idealize.ShloMosaic

namespace Cert.Lift

/-! ## The operations on reals -/

theorem coe_sum {ι : Type*} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- A quotient of reals by a real that is not zero is the quotient in ℝ. -/
theorem coe_div {a b : ℝ} (h : b ≠ 0) : Ideal.div (a : EReal) (b : EReal) = ((a / b : ℝ) : EReal) := by
  rw [Ideal.div_coe h, ← EReal.coe_mul, mul_one_div]

theorem coe_rsqrt {a : ℝ} (h : 0 < a) : Ideal.rsqrt (a : EReal) = (((Real.sqrt a)⁻¹ : ℝ) : EReal) := by
  rw [Ideal.rsqrt_coe, if_neg (not_lt.mpr h.le), if_neg h.ne']

theorem coe_max (a b : ℝ) : max (a : EReal) (b : EReal) = ((max a b : ℝ) : EReal) :=
  (EReal.coe_strictMono.monotone.map_max).symm

/-! ## The constants -/

/-- The addend under the root, as a real. -/
def eps : ℝ := (Ideal.ofBits .f32 0x358637BD#32 : EReal).toReal

theorem ofBits_eps : (Ideal.ofBits .f32 0x358637BD#32 : EReal) = ((eps : ℝ) : EReal) := by
  rw [eps]; simp only [Ideal.ofBits, Ideal.ieee]; simp; rw [← EReal.coe_mul, EReal.toReal_coe]

theorem eps_pos : 0 < eps := by
  rw [eps]; simp only [Ideal.ofBits, Ideal.ieee]; simp; rw [← EReal.coe_mul, EReal.toReal_coe]; norm_num

theorem ofBits_1024 : (Ideal.ofBits .f32 0x44800000#32 : EReal) = ((1024 : ℝ) : EReal) := by
  simp [Ideal.ofBits, Ideal.ieee]; rw [← EReal.coe_mul]; norm_num

theorem ofBits_two : (Ideal.ofBits .f32 0x40000000#32 : EReal) = ((2 : ℝ) : EReal) := by
  simp [Ideal.ofBits, Ideal.ieee]; rw [← EReal.coe_mul]; norm_num

theorem ofBits_neg_half : (Ideal.ofBits .f32 0xBF000000#32 : EReal) = ((-1 / 2 : ℝ) : EReal) := by
  simp [Ideal.ofBits, Ideal.ieee]; rw [← EReal.coe_mul]; norm_num

theorem ofBits_zero : (Ideal.ofBits .f32 0x00000000#32 : EReal) = ((0 : ℝ) : EReal) := by simp

theorem ofBits_one : (Ideal.ofBits .f32 0x3F800000#32 : EReal) = ((1 : ℝ) : EReal) := by simp

/-! ## A precondition that bounds every entry -/

theorem ofBits_inf : (Ideal.ofBits .f32 0x7F800000#32 : EReal) = ⊤ := by simp [Ideal.ofBits, Ideal.ieee]

/-- An entry whose magnitude is below infinity is a real. -/
theorem real_of_abs_lt {a : EReal} (h : max a (-a) < ⊤) : a = ((a.toReal : ℝ) : EReal) := by
  induction a using EReal.rec with
  | bot => simp at h
  | top => simp at h
  | coe r => rfl

/-- A conjunction of two bits that is one has both. -/
theorem andi_one {s : Shape} {x y : IVec s 1} {j : s.Idx} (h : andi x y j = 1#1) : x j = 1#1 ∧ y j = 1#1 := by
  have h' : x j &&& y j = 1#1 := h
  generalize x j = a at h' ⊢
  generalize y j = b at h' ⊢
  revert a b; decide

/-- `jnp.all(jnp.abs(x) < jnp.inf)`: every entry of `x` is a real. -/
theorem real_of_all {s t u : Shape} {axes : List (Fin s.rank)} [Subsingleton t.Idx] (x y : FVec Ideal s .f32)
    (hy : ∀ i, y i = (⊤ : EReal)) (init : u.Idx → BitVec 1) (h : s.ReducesTo axes t) (hu : 0 < u.numel) (j : t.Idx)
    (e : Host.reduce IntOp.andi (cmpf .olt (Host.absf x) y) init h hu j = 1#1) (i : s.Idx) :
    x i = (((x i : EReal).toReal : ℝ) : EReal) := by
  have e' := Host.reduce_andi_all _ init h hu j e i
  pointwise [hy] at e'
  refine real_of_abs_lt ?_
  by_contra hn
  have e'' : BitVec.ofBool (decide (max (x i : EReal) (-(x i)) < ⊤)) = 1#1 := e'
  rw [decide_eq_false hn] at e''
  exact absurd e'' (by decide)

/-! ## The normalisation over a row of 1024 -/

/-- The mean square of a row plus the addend. -/
def msq (x : Fin 1024 → ℝ) : ℝ := (∑ k, x k * x k) / 1024 + eps

theorem msq_pos (x : Fin 1024 → ℝ) : 0 < msq x :=
  add_pos_of_nonneg_of_pos (div_nonneg (Finset.sum_nonneg fun k _ => mul_self_nonneg _) (by norm_num)) eps_pos

/-- The reciprocal root mean square of a row. -/
def rms (x : Fin 1024 → ℝ) : ℝ := (Real.sqrt (msq x))⁻¹

theorem rms_sq (x : Fin 1024 → ℝ) : rms x * rms x = (msq x)⁻¹ := by
  rw [rms, ← mul_inv, Real.mul_self_sqrt (msq_pos x).le]

theorem coe_rsqrt_msq (x : Fin 1024 → ℝ) : Ideal.rsqrt ((msq x : ℝ) : EReal) = ((rms x : ℝ) : EReal) :=
  coe_rsqrt (msq_pos x)

theorem div_1024 (a : ℝ) : Ideal.div (a : EReal) ((1024 : ℝ) : EReal) = ((a / 1024 : ℝ) : EReal) := coe_div (by norm_num)

theorem div_msq (a : ℝ) (x : Fin 1024 → ℝ) : Ideal.div (a : EReal) ((msq x : ℝ) : EReal) = ((a / msq x : ℝ) : EReal) :=
  coe_div (msq_pos x).ne'

/-- The normalised row. -/
def nrm (x : Fin 1024 → ℝ) (j : Fin 1024) : ℝ := x j * rms x

/-- The derivative of the normalisation at `x`, applied to a cotangent `v`. -/
def nrmBwd (x v : Fin 1024 → ℝ) (j : Fin 1024) : ℝ := rms x * (v j - nrm x j * ((∑ k, v k * nrm x k) / 1024))

/-- The same derivative by the product rule: through the factor and, twice, through the mean square. -/
theorem nrmBwd_eq (x v : Fin 1024 → ℝ) (j : Fin 1024) :
    v j * rms x + x j * ((∑ k, x k * v k) * (-1 / 2 * (rms x / msq x)) / 1024)
      + (∑ k, x k * v k) * (-1 / 2 * (rms x / msq x)) / 1024 * x j = nrmBwd x v j := by
  have h : (∑ k, v k * nrm x k) = rms x * ∑ k, x k * v k := by
    rw [Finset.mul_sum]; exact Finset.sum_congr rfl fun k _ => by rw [nrm]; ring
  rw [nrmBwd, h, nrm, div_eq_mul_inv (rms x), ← rms_sq]; ring

theorem split_lt {a b n : ℕ} (h : a * b = n) (i : Fin a) (j : Fin b) : b * i.val + j.val < n := by
  subst h
  calc b * i.val + j.val < b * i.val + b := Nat.add_lt_add_left j.isLt _
    _ = b * (i.val + 1) := by ring
    _ ≤ b * a := Nat.mul_le_mul_left b i.isLt
    _ = a * b := Nat.mul_comm b a

/-- A sum over `a * b` positions, block by block of `b`. -/
theorem sum_split {M : Type*} [AddCommMonoid M] {a b n : ℕ} (h : a * b = n) (f : Fin n → M) :
    ∑ k, f k = ∑ i : Fin a, ∑ j : Fin b, f ⟨b * i.val + j.val, split_lt h i j⟩ := by
  subst h
  rw [← Fintype.sum_prod_type' (f := fun (i : Fin a) (j : Fin b) => f ⟨b * i.val + j.val, split_lt rfl i j⟩)]
  refine (Fintype.sum_equiv finProdFinEquiv _ _ fun p => congrArg f (Fin.ext ?_)).symm
  rw [finProdFinEquiv_apply_val]
  exact Nat.add_comm _ _

end Cert.Lift

end
-- ==== Proof.MlpMath.lean ====
/- The squared-ReLU sub-layer and its gradients over ℝ: the forward values the backward pass reads, and its results. -/
module

public import proofs.«01_k».proof.Proof.Lift

@[expose] public section

noncomputable section

namespace Cert.MlpMath

open Cert.Lift

/-- The arguments of the sub-layer's backward pass, as reals. -/
structure Args where
  X : Fin 4096 → Fin 1024 → ℝ
  sh : Fin 1024 → ℝ
  sc : Fin 1024 → ℝ
  gt : Fin 1024 → ℝ
  gPre : Fin 1024 → ℝ
  gPost : Fin 1024 → ℝ
  Wu : Fin 1024 → Fin 4096 → ℝ
  Wd : Fin 4096 → Fin 1024 → ℝ
  Ct : Fin 4096 → Fin 1024 → ℝ

variable (A : Args)

/-- The modulated norm of the input. -/
def hid (r : Fin 4096) (j : Fin 1024) : ℝ := nrm (A.X r) j * A.gPre j * (1 + A.sc j) + A.sh j

/-- The up-projection, before the activation. -/
def up (r n : Fin 4096) : ℝ := ∑ k, hid A r k * A.Wu k n

/-- The activation. -/
def act (r n : Fin 4096) : ℝ := max (up A r n) 0 * max (up A r n) 0

/-- The down-projection. -/
def out (r : Fin 4096) (j : Fin 1024) : ℝ := ∑ n, act A r n * A.Wd n j

/-- The gradient of the down-projection's result: through the gate, the gain and the norm. -/
def dOut (r : Fin 4096) : Fin 1024 → ℝ := nrmBwd (out A r) fun j => A.Ct r j * (A.gt j * A.gPost j)

/-- The gradient of the up-projection's result. -/
def dUp (r n : Fin 4096) : ℝ := (∑ j, dOut A r j * A.Wd n j) * (2 * max (up A r n) 0)

/-- The gradient of the modulated norm. -/
def dHid (r : Fin 4096) (j : Fin 1024) : ℝ := ∑ n, dUp A r n * A.Wu j n

/-- The gradient of the input. -/
def dX (r : Fin 4096) (j : Fin 1024) : ℝ := A.Ct r j + nrmBwd (A.X r) (fun j => dHid A r j * (A.gPre j * (1 + A.sc j))) j

/-- The column sums the small gradients are multiples of. -/
def colHid (j : Fin 1024) : ℝ := ∑ r, dHid A r j
def colNrm (j : Fin 1024) : ℝ := ∑ r, dHid A r j * nrm (A.X r) j
def colOut (j : Fin 1024) : ℝ := ∑ r, A.Ct r j * nrm (out A r) j

/-- The small gradients, one row each: shift, scale, gate, the two gains, and three rows of zeros. -/
def small (k : Fin 8) (j : Fin 1024) : ℝ :=
  if k.val = 0 then colHid A j
  else if k.val = 1 then colNrm A j * A.gPre j
  else if k.val = 2 then colOut A j * A.gPost j
  else if k.val = 3 then colNrm A j * (1 + A.sc j)
  else if k.val = 4 then colOut A j * A.gt j
  else 0

/-- Where the pre-activation is not positive the factor of the activation's derivative is zero. -/
theorem dUp_select (r n : Fin 4096) :
    (if 0 < up A r n then (∑ j, dOut A r j * A.Wd n j) * (2 * max (up A r n) 0) else 0) = dUp A r n := by
  rw [dUp]
  split_ifs with h
  · rfl
  · rw [max_eq_right (not_lt.mp h)]; ring

end Cert.MlpMath

end
-- ==== Proof.MlpRef.lean ====
/- The reference of the squared-ReLU sub-layer at real arguments: each of its arrays holds the reals of MlpMath. -/
module

public import proofs.«01_k».proof.Proof.MlpMath
public import proofs.«01_k».proof.Proof.Gen.MlpReferenceIdeal.Read

@[expose] public section

set_option maxRecDepth 16384

noncomputable section

open Idealize.ShloMosaic Idealize.ShloMosaic.TcCoe

namespace Cert.MlpRef

open Cert.MlpReferenceIdeal Cert.MlpReferenceIdeal.Gen Cert.MlpReferenceIdeal.Read Cert.Lift Cert.MlpMath

/-- The arrays hold the reals of `A`. -/
structure Holds (A : Args) (x0 : FVec Ideal S4096x1024 .f32) (x1 x2 x3 : FVec Ideal S1x1024 .f32) (x4 x5 : FVec Ideal S1024 .f32)
    (x6 : FVec Ideal S1024x4096 .f32) (x7 x8 : FVec Ideal S4096x1024 .f32) : Prop where
  h0 : ∀ (r : Fin 4096) (j : Fin 1024), x0 (ix2 r j) = ((A.X r j : ℝ) : EReal)
  h1 : ∀ (a : Fin 1) (j : Fin 1024), x1 (ix2 a j) = ((A.sh j : ℝ) : EReal)
  h2 : ∀ (a : Fin 1) (j : Fin 1024), x2 (ix2 a j) = ((A.sc j : ℝ) : EReal)
  h3 : ∀ (a : Fin 1) (j : Fin 1024), x3 (ix2 a j) = ((A.gt j : ℝ) : EReal)
  h4 : ∀ j : Fin 1024, x4 (ix1 j) = ((A.gPre j : ℝ) : EReal)
  h5 : ∀ j : Fin 1024, x5 (ix1 j) = ((A.gPost j : ℝ) : EReal)
  h6 : ∀ (j : Fin 1024) (n : Fin 4096), x6 (ix2 j n) = ((A.Wu j n : ℝ) : EReal)
  h7 : ∀ (n : Fin 4096) (j : Fin 1024), x7 (ix2 n j) = ((A.Wd n j : ℝ) : EReal)
  h8 : ∀ (r : Fin 4096) (j : Fin 1024), x8 (ix2 r j) = ((A.Ct r j : ℝ) : EReal)

variable {A : Args} {x0 : FVec Ideal S4096x1024 .f32} {x1 x2 x3 : FVec Ideal S1x1024 .f32} {x4 x5 : FVec Ideal S1024 .f32}
  {x6 : FVec Ideal S1024x4096 .f32} {x7 x8 : FVec Ideal S4096x1024 .f32} (h : Holds A x0 x1 x2 x3 x4 x5 x6 x7 x8)
include h

theorem v6_at (r : Fin 4096) (a : Fin 1) : val_main_v6 (F := Ideal) x0 (ix2 r a) = ((msq (A.X r) : ℝ) : EReal) := by
  pointwise [val_main_v6, val_main_v5, val_main_v4, val_main_v3, val_main_v2, val_main_v1, val_main_v0, val_main_cst, val_main_cst_0, val_main_cst_1, h.h0]
  simp only [← EReal.coe_zero, ← EReal.coe_one, ofBits_1024, ofBits_eps, ofBits_two, ofBits_neg_half, ← EReal.coe_add, ← EReal.coe_mul, ← EReal.coe_sub, coe_sum, coe_max, div_1024, div_msq, coe_rsqrt_msq]
  rfl

theorem v7_at (r : Fin 4096) (a : Fin 1) : val_main_v7 (F := Ideal) x0 (ix2 r a) = ((rms (A.X r) : ℝ) : EReal) := by
  pointwise [val_main_v7, v6_at h, coe_rsqrt_msq]

theorem v10_at (r : Fin 4096) (a : Fin 1) : val_main_v10 (F := Ideal) x0 (ix2 r a) = ((-1 / 2 * (rms (A.X r) / msq (A.X r)) : ℝ) : EReal) := by
  pointwise [val_main_v10, val_main_v9, val_main_v8, val_main_cst_2, v7_at h, v6_at h]
  simp only [← EReal.coe_zero, ← EReal.coe_one, ofBits_1024, ofBits_eps, ofBits_two, ofBits_neg_half, ← EReal.coe_add, ← EReal.coe_mul, ← EReal.coe_sub, coe_sum, coe_max, div_1024, div_msq, coe_rsqrt_msq]

theorem v12_at (r : Fin 4096) (j : Fin 1024) : val_main_v12 (F := Ideal) x0 (ix2 r j) = ((nrm (A.X r) j : ℝ) : EReal) := by
  pointwise [val_main_v12, val_main_v11, v7_at h, h.h0]
  simp only [← EReal.coe_zero, ← EReal.coe_one, ofBits_1024, ofBits_eps, ofBits_two, ofBits_neg_half, ← EReal.coe_add, ← EReal.coe_mul, ← EReal.coe_sub, coe_sum, coe_max, div_1024, div_msq, coe_rsqrt_msq]
  rfl

theorem v21_at (r : Fin 4096) (j : Fin 1024) : val_main_v21 (F := Ideal) x0 x1 x2 x4 (ix2 r j) = ((hid A r j : ℝ) : EReal) := by
  pointwise [val_main_v21, val_main_v20, val_main_v19, val_main_v18, val_main_v17, val_main_v16, val_main_v15, val_main_v14, val_main_v13, val_main_cst_3, v12_at h, h.h4, h.h2, h.h1]
  simp only [← EReal.coe_zero, ← EReal.coe_one, ofBits_1024, ofBits_eps, ofBits_two, ofBits_neg_half, ← EReal.coe_add, ← EReal.coe_mul, ← EReal.coe_sub, coe_sum, coe_max, div_1024, div_msq, coe_rsqrt_msq]
  rfl

theorem v22_at (r n : Fin 4096) : val_main_v22 (F := Ideal) x0 x1 x2 x4 x6 (ix2 r n) = ((up A r n : ℝ) : EReal) := by
  pointwise [val_main_v22, v21_at h, h.h6]
  simp only [← EReal.coe_zero, ← EReal.coe_one, ofBits_1024, ofBits_eps, ofBits_two, ofBits_neg_half, ← EReal.coe_add, ← EReal.coe_mul, ← EReal.coe_sub, coe_sum, coe_max, div_1024, div_msq, coe_rsqrt_msq]
  rfl

theorem v23_at (r n : Fin 4096) : val_main_v23 (F := Ideal) x0 x1 x2 x4 x6 (ix2 r n) = ((max (up A r n) 0 : ℝ) : EReal) := by
  pointwise [val_main_v23, val_main_call0_v0, val_main_call0_cst, v22_at h]
  simp only [← EReal.coe_zero, ← EReal.coe_one, ofBits_1024, ofBits_eps, ofBits_two, ofBits_neg_half, ← EReal.coe_add, ← EReal.coe_mul, ← EReal.coe_sub, coe_sum, coe_max, div_1024, div_msq, coe_rsqrt_msq]

theorem v30_at (r : Fin 4096) (j : Fin 1024) : val_main_v30 (F := Ideal) x0 x1 x2 x4 x6 x7 (ix2 r j) = ((out A r j : ℝ) : EReal) := by
  pointwise [val_main_v30, val_main_v27, v23_at h, h.h7]
  simp only [← EReal.coe_zero, ← EReal.coe_one, ofBits_1024, ofBits_eps, ofBits_two, ofBits_neg_half, ← EReal.coe_add, ← EReal.coe_mul, ← EReal.coe_sub, coe_sum, coe_max, div_1024, div_msq, coe_rsqrt_msq]
  rfl

theorem v37_at (r : Fin 4096) (a : Fin 1) : val_main_v37 (F := Ideal) x0 x1 x2 x4 x6 x7 (ix2 r a) = ((msq (out A r) : ℝ) : EReal) := by
  pointwise [val_main_v37, val_main_v36, val_main_v35, val_main_v34, val_main_v33, val_main_v32, val_main_v31, val_main_cst_7, val_main_cst_8, val_main_cst_9, v30_at h]
  simp only [← EReal.coe_zero, ← EReal.coe_one, ofBits_1024, ofBits_eps, ofBits_two, ofBits_neg_half, ← EReal.coe_add, ← EReal.coe_mul, ← EReal.coe_sub, coe_sum, coe_max, div_1024, div_msq, coe_rsqrt_msq]
  rfl

theorem v38_at (r : Fin 4096) (a : Fin 1) : val_main_v38 (F := Ideal) x0 x1 x2 x4 x6 x7 (ix2 r a) = ((rms (out A r) : ℝ) : EReal) := by
  pointwise [val_main_v38, v37_at h, coe_rsqrt_msq]

theorem v41_at (r : Fin 4096) (a : Fin 1) : val_main_v41 (F := Ideal) x0 x1 x2 x4 x6 x7 (ix2 r a) = ((-1 / 2 * (rms (out A r) / msq (out A r)) : ℝ) : EReal) := by
  pointwise [val_main_v41, val_main_v40, val_main_v39, val_main_cst_10, v38_at h, v37_at h]
  simp only [← EReal.coe_zero, ← EReal.coe_one, ofBits_1024, ofBits_eps, ofBits_two, ofBits_neg_half, ← EReal.coe_add, ← EReal.coe_mul, ← EReal.coe_sub, coe_sum, coe_max, div_1024, div_msq, coe_rsqrt_msq]

theorem v43_at (r : Fin 4096) (j : Fin 1024) : val_main_v43 (F := Ideal) x0 x1 x2 x4 x6 x7 (ix2 r j) = ((nrm (out A r) j : ℝ) : EReal) := by
  pointwise [val_main_v43, val_main_v42, v38_at h, v30_at h]
  simp only [← EReal.coe_zero, ← EReal.coe_one, ofBits_1024, ofBits_eps, ofBits_two, ofBits_neg_half, ← EReal.coe_add, ← EReal.coe_mul, ← EReal.coe_sub, coe_sum, coe_max, div_1024, div_msq, coe_rsqrt_msq]
  rfl

theorem v60_at (r : Fin 4096) (j : Fin 1024) : val_main_v60 (F := Ideal) x3 x5 x8 (ix2 r j) = ((A.gt j * A.Ct r j * A.gPost j : ℝ) : EReal) := by
  pointwise [val_main_v60, val_main_v59, val_main_v52, val_main_v51, val_main_v50, val_main_v44, h.h3, h.h8, h.h5]
  simp only [← EReal.coe_zero, ← EReal.coe_one, ofBits_1024, ofBits_eps, ofBits_two, ofBits_neg_half, ← EReal.coe_add, ← EReal.coe_mul, ← EReal.coe_sub, coe_sum, coe_max, div_1024, div_msq, coe_rsqrt_msq]

theorem v75_at (r : Fin 4096) (j : Fin 1024) : val_main_v75 (F := Ideal) x0 x1 x2 x3 x4 x5 x6 x7 x8 (ix2 r j) = ((dOut A r j : ℝ) : EReal) := by
  pointwise [val_main_v75, val_main_v74, val_main_v73, val_main_v72, val_main_v71, val_main_v70, val_main_v69, val_main_v68, val_main_v67, val_main_v66, val_main_v65, val_main_v64, val_main_v63, val_main_v62, val_main_cst_14, val_main_cst_15, val_main_cst_16, v30_at h, v38_at h, v41_at h, v60_at h]
  simp only [Finset.univ_unique, Finset.sum_singleton, ← EReal.coe_zero, ← EReal.coe_one, ofBits_1024, ofBits_eps, ofBits_two, ofBits_neg_half, ← EReal.coe_add, ← EReal.coe_mul, ← EReal.coe_sub, coe_sum, coe_max, div_1024, div_msq, coe_rsqrt_msq]
  refine congrArg _ ((nrmBwd_eq (out A r) (fun j => A.gt j * A.Ct r j * A.gPost j) j).trans ?_)
  exact congrArg (fun v => nrmBwd (out A r) v j) (funext fun k => by ring)

theorem v79_at (r n : Fin 4096) : val_main_v79 (F := Ideal) x0 x1 x2 x3 x4 x5 x6 x7 x8 (ix2 r n) = ((dUp A r n : ℝ) : EReal) := by
  pointwise [val_main_v79, val_main_v78, val_main_v77, val_main_v76, val_main_v29, val_main_v28, val_main_v25, val_main_v24, val_main_cst_17, val_main_cst_6, val_main_cst_4, v75_at h, v22_at h, v23_at h, h.h7]
  simp only [← EReal.coe_zero, ← EReal.coe_one, ofBits_1024, ofBits_eps, ofBits_two, ofBits_neg_half, ← EReal.coe_add, ← EReal.coe_mul, ← EReal.coe_sub, coe_sum, coe_max, div_1024, div_msq, coe_rsqrt_msq]
  rw [← dUp_select A r n]
  simp only [EReal.coe_lt_coe_iff]
  split_ifs <;> rfl

theorem v80_at (r : Fin 4096) (j : Fin 1024) : val_main_v80 (F := Ideal) x0 x1 x2 x3 x4 x5 x6 x7 x8 (ix2 r j) = ((dHid A r j : ℝ) : EReal) := by
  pointwise [val_main_v80, v79_at h, h.h6]
  simp only [← EReal.coe_zero, ← EReal.coe_one, ofBits_1024, ofBits_eps, ofBits_two, ofBits_neg_half, ← EReal.coe_add, ← EReal.coe_mul, ← EReal.coe_sub, coe_sum, coe_max, div_1024, div_msq, coe_rsqrt_msq]
  rfl

theorem v87_at (r : Fin 4096) (j : Fin 1024) : val_main_v87 (F := Ideal) x0 x1 x2 x3 x4 x5 x6 x7 x8 (ix2 r j) = ((dHid A r j * (1 + A.sc j) : ℝ) : EReal) := by
  pointwise [val_main_v87, val_main_v86, val_main_v17, val_main_v16, val_main_cst_3, v80_at h, h.h2]
  simp only [← EReal.coe_zero, ← EReal.coe_one, ofBits_1024, ofBits_eps, ofBits_two, ofBits_neg_half, ← EReal.coe_add, ← EReal.coe_mul, ← EReal.coe_sub, coe_sum, coe_max, div_1024, div_msq, coe_rsqrt_msq]

theorem v92_at (r : Fin 4096) (j : Fin 1024) : val_main_v92 (F := Ideal) x0 x1 x2 x3 x4 x5 x6 x7 x8 (ix2 r j) = ((dHid A r j * (1 + A.sc j) * A.gPre j : ℝ) : EReal) := by
  pointwise [val_main_v92, val_main_v91, val_main_v13, v87_at h, h.h4]
  simp only [← EReal.coe_zero, ← EReal.coe_one, ofBits_1024, ofBits_eps, ofBits_two, ofBits_neg_half, ← EReal.coe_add, ← EReal.coe_mul, ← EReal.coe_sub, coe_sum, coe_max, div_1024, div_msq, coe_rsqrt_msq]

theorem v112_at (r : Fin 4096) (j : Fin 1024) : val_main_v112 (F := Ideal) x0 x1 x2 x3 x4 x5 x6 x7 x8 (ix2 r j) = ((dX A r j : ℝ) : EReal) := by
  pointwise [val_main_v112, val_main_v107, val_main_v106, val_main_v105, val_main_v104, val_main_v103, val_main_v102, val_main_v101, val_main_v100, val_main_v99, val_main_v98, val_main_v97, val_main_v96, val_main_v95, val_main_v94, val_main_cst_22, val_main_cst_23, val_main_cst_24, h.h0, h.h8, v7_at h, v10_at h, v92_at h]
  simp only [Finset.univ_unique, Finset.sum_singleton, ← EReal.coe_zero, ← EReal.coe_one, ofBits_1024, ofBits_eps, ofBits_two, ofBits_neg_half, ← EReal.coe_add, ← EReal.coe_mul, ← EReal.coe_sub, coe_sum, coe_max, div_1024, div_msq, coe_rsqrt_msq]
  refine congrArg (fun y : ℝ => ((A.Ct r j + y : ℝ) : EReal)) ((nrmBwd_eq (A.X r) (fun j => dHid A r j * (1 + A.sc j) * A.gPre j) j).trans ?_)
  exact congrArg (fun v => nrmBwd (A.X r) v j) (funext fun k => by ring)

theorem v113_at (r : Fin 4096) (j : Fin 1024) : val_main_v113 (F := Ideal) x0 x1 x2 x3 x4 x5 x6 x7 x8 (ix2 r j) = ((dOut A r j : ℝ) : EReal) := by
  pointwise [val_main_v113, v75_at h]

theorem v114_at (r n : Fin 4096) : val_main_v114 (F := Ideal) x0 x1 x2 x3 x4 x5 x6 x7 x8 (ix2 r n) = ((dUp A r n : ℝ) : EReal) := by
  pointwise [val_main_v114, v79_at h]

theorem v82_at (a : Fin 1) (j : Fin 1024) : val_main_v82 (F := Ideal) x0 x1 x2 x3 x4 x5 x6 x7 x8 (ix2 a j) = ((colHid A j : ℝ) : EReal) := by
  pointwise [val_main_v82, val_main_v81, val_main_cst_18, v80_at h]
  simp only [← EReal.coe_zero, ← EReal.coe_one, ofBits_1024, ofBits_eps, ofBits_two, ofBits_neg_half, ← EReal.coe_add, ← EReal.coe_mul, ← EReal.coe_sub, coe_sum, coe_max, div_1024, div_msq, coe_rsqrt_msq]
  rfl

theorem v85_at (a : Fin 1) (j : Fin 1024) : val_main_v85 (F := Ideal) x0 x1 x2 x3 x4 x5 x6 x7 x8 (ix2 a j) = ((colNrm A j * A.gPre j : ℝ) : EReal) := by
  pointwise [val_main_v85, val_main_v84, val_main_v83, val_main_v15, val_main_v14, val_main_v13, val_main_cst_19, v80_at h, v12_at h, h.h4]
  simp only [← EReal.coe_zero, ← EReal.coe_one, ofBits_1024, ofBits_eps, ofBits_two, ofBits_neg_half, ← EReal.coe_add, ← EReal.coe_mul, ← EReal.coe_sub, coe_sum, coe_max, div_1024, div_msq, coe_rsqrt_msq]
  refine congrArg _ ?_
  rw [colNrm, Finset.sum_mul]
  exact Finset.sum_congr rfl fun r _ => by ring

theorem v55_at (a : Fin 1) (j : Fin 1024) : val_main_v55 (F := Ideal) x0 x1 x2 x4 x5 x6 x7 x8 (ix2 a j) = ((colOut A j * A.gPost j : ℝ) : EReal) := by
  pointwise [val_main_v55, val_main_v54, val_main_v53, val_main_v50, val_main_v46, val_main_v45, val_main_v44, val_main_cst_11, v43_at h, h.h5, h.h8]
  simp only [← EReal.coe_zero, ← EReal.coe_one, ofBits_1024, ofBits_eps, ofBits_two, ofBits_neg_half, ← EReal.coe_add, ← EReal.coe_mul, ← EReal.coe_sub, coe_sum, coe_max, div_1024, div_msq, coe_rsqrt_msq]
  refine congrArg _ ?_
  rw [colOut, Finset.sum_mul]
  exact Finset.sum_congr rfl fun r _ => by ring

theorem v93_at (j : Fin 1024) : val_main_v93 (F := Ideal) x0 x1 x2 x3 x4 x5 x6 x7 x8 (ix1 j) = ((colNrm A j * (1 + A.sc j) : ℝ) : EReal) := by
  pointwise [val_main_v93, val_main_v90, val_main_v89, val_main_v88, val_main_cst_20, val_main_cst_21, v12_at h, v87_at h]
  simp only [Finset.univ_unique, Finset.sum_singleton, ← EReal.coe_zero, ← EReal.coe_one, ofBits_1024, ofBits_eps, ofBits_two, ofBits_neg_half, ← EReal.coe_add, ← EReal.coe_mul, ← EReal.coe_sub, coe_sum, coe_max, div_1024, div_msq, coe_rsqrt_msq]
  refine congrArg _ ?_
  rw [colNrm, Finset.sum_mul]
  exact Finset.sum_congr rfl fun r _ => by ring

theorem v61_at (j : Fin 1024) : val_main_v61 (F := Ideal) x0 x1 x2 x3 x4 x6 x7 x8 (ix1 j) = ((colOut A j * A.gt j : ℝ) : EReal) := by
  pointwise [val_main_v61, val_main_v58, val_main_v57, val_main_v56, val_main_v52, val_main_v51, val_main_v50, val_main_cst_12, val_main_cst_13, v43_at h, h.h3, h.h8]
  simp only [Finset.univ_unique, Finset.sum_singleton, ← EReal.coe_zero, ← EReal.coe_one, ofBits_1024, ofBits_eps, ofBits_two, ofBits_neg_half, ← EReal.coe_add, ← EReal.coe_mul, ← EReal.coe_sub, coe_sum, coe_max, div_1024, div_msq, coe_rsqrt_msq]
  refine congrArg _ ?_
  rw [colOut, Finset.sum_mul]
  exact Finset.sum_congr rfl fun r _ => by ring

theorem v111_at (k : Fin 8) (j : Fin 1024) :
    val_main_v111 (F := Ideal) x0 x1 x2 x3 x4 x5 x6 x7 x8 (ix2 k j) = ((small A k j : ℝ) : EReal) := by
  pointwise [val_main_v111, val_main_v108, val_main_v109, val_main_v110, val_main_cst_25, v82_at h, v85_at h, v55_at h, v93_at h, v61_at h]
  fin_cases k <;> rfl

end Cert.MlpRef

end
-- ==== Proof.MlpEntry.lean ====
/- What the squared-ReLU sub-layer's backward call finds in its arguments, at real arguments of the program. -/
module

public import proofs.«01_k».proof.Proof.MlpRef
public import proofs.«01_k».proof.Proof.Gen.MlpBackwardIdeal.Value
public import Idealize.ShloMosaic.Lib.Pipeline.ValueKit

@[expose] public section

set_option maxRecDepth 16384

noncomputable section

open Idealize.ShloMosaic Idealize.ShloMosaic.TcCoe Idealize.SL.Sem

namespace Cert.MlpEntry

open Cert.MlpBackwardIdeal Cert.MlpBackwardIdeal.Gen Cert.Lift Cert.MlpMath Cert.MlpRef

variable (m : (ℓ : Loc nD τ sig) → Buf (Elt Ideal) ℓ) (c : Dev nD)

/-- The program's arguments on a device hold the reals of `A`. -/
abbrev At (A : Args) : Prop :=
  Holds A (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

theorem V_v34 : V m c main_v34 = Cert.MlpReferenceIdeal.Read.val_main_v22 (F := Ideal) (m ((c : Thread nD τ).loc main_arg0))
    (m ((c : Thread nD τ).loc main_arg1)) (m ((c : Thread nD τ).loc main_arg2)) (m ((c : Thread nD τ).loc main_arg4))
    (m ((c : Thread nD τ).loc main_arg6)) := by
  simp only [V, hostOps0, hostOps0_1, hostOps0_2, List.flatten_cons, List.flatten_nil, List.append_nil, List.cons_append, List.nil_append]
  after_results; rfl

theorem V_v33 : V m c main_v33 = Cert.MlpReferenceIdeal.Read.val_main_v30 (F := Ideal) (m ((c : Thread nD τ).loc main_arg0))
    (m ((c : Thread nD τ).loc main_arg1)) (m ((c : Thread nD τ).loc main_arg2)) (m ((c : Thread nD τ).loc main_arg4))
    (m ((c : Thread nD τ).loc main_arg6)) (m ((c : Thread nD τ).loc main_arg7)) := by
  simp only [V, hostOps0, hostOps0_1, hostOps0_2, List.flatten_cons, List.flatten_nil, List.append_nil, List.cons_append, List.nil_append]
  after_results; rfl

theorem V_v30 : V m c main_v30 = (truncf (F := Ideal) FTy.bf16 (transpose S4x1024x1024 [1, 0, 2]
    (shapeCast S1024x4x1024 (m ((c : Thread nD τ).loc main_arg6)) shapeCasts_S1024x4096_S1024x4x1024)
      transposes_S1024x4x1024_S4x1024x1024_1_0_2) bitsLt_bf16_f32 : S4x1024x1024.Idx → EReal) := by
  simp only [V, hostOps0, hostOps0_1, hostOps0_2, List.flatten_cons, List.flatten_nil, List.append_nil, List.cons_append, List.nil_append]
  after_results
  rfl

theorem V_v32 : V m c main_v32 = (truncf (F := Ideal) FTy.bf16
    (shapeCast S4x1024x1024 (m ((c : Thread nD τ).loc main_arg7)) shapeCasts_S4096x1024_S4x1024x1024) bitsLt_bf16_f32 :
      S4x1024x1024.Idx → EReal) := by
  simp only [V, hostOps0, hostOps0_1, hostOps0_2, List.flatten_cons, List.flatten_nil, List.append_nil, List.cons_append, List.nil_append]
  after_results
  rfl

variable {m c} {A : Args} (h : At m c A)
include h

theorem v24_row3 (j : Fin 1024) : V m c main_v24 (ix2 3 j) = ((A.sh j : ℝ) : EReal) := by
  simp only [V, hostOps0, hostOps0_1, hostOps0_2, List.flatten_cons, List.flatten_nil, List.append_nil, List.cons_append, List.nil_append]
  after_results
  pointwise
  after_results_steps
  pointwise [h.h1]

theorem v24_row4 (j : Fin 1024) : V m c main_v24 (ix2 4 j) = ((A.sc j : ℝ) : EReal) := by
  simp only [V, hostOps0, hostOps0_1, hostOps0_2, List.flatten_cons, List.flatten_nil, List.append_nil, List.cons_append, List.nil_append]
  after_results
  pointwise
  after_results_steps
  pointwise [h.h2]

theorem v24_row5 (j : Fin 1024) : V m c main_v24 (ix2 5 j) = ((A.gt j : ℝ) : EReal) := by
  simp only [V, hostOps0, hostOps0_1, hostOps0_2, List.flatten_cons, List.flatten_nil, List.append_nil, List.cons_append, List.nil_append]
  after_results
  pointwise
  after_results_steps
  pointwise [h.h3]

theorem v27_row7 (j : Fin 1024) : V m c main_v27 (ix2 7 j) = ((A.gPre j : ℝ) : EReal) := by
  simp only [V, hostOps0, hostOps0_1, hostOps0_2, List.flatten_cons, List.flatten_nil, List.append_nil, List.cons_append, List.nil_append]
  after_results
  pointwise
  after_results_steps
  pointwise [h.h4]

theorem v27_row8 (j : Fin 1024) : V m c main_v27 (ix2 8 j) = ((A.gPost j : ℝ) : EReal) := by
  simp only [V, hostOps0, hostOps0_1, hostOps0_2, List.flatten_cons, List.flatten_nil, List.append_nil, List.cons_append, List.nil_append]
  after_results
  pointwise
  after_results_steps
  pointwise [h.h5]

theorem v30_at (b : Fin 4) (k n : Fin 1024) :
    V m c main_v30 (ix3 b k n) = ((A.Wu k (Fin.mk (1024 * b.val + n.val) (by omega)) : ℝ) : EReal) := by
  rw [V_v30]
  pointwise [h.h6]
  simp only [Nat.mul_comm]

theorem v32_at (b : Fin 4) (k n : Fin 1024) :
    V m c main_v32 (ix3 b k n) = ((A.Wd (Fin.mk (1024 * b.val + k.val) (by omega)) n : ℝ) : EReal) := by
  rw [V_v32]
  refine Eq.trans ?_ (h.h7 _ _)
  refine shapeCast_apply _ _ (ix3 b k n) (ix2 (Fin.mk (1024 * b.val + k.val) (by omega)) n) ?_
  rw [Shape.rowMajor_val_two, Shape.rowMajor_val_three]
  show (1024 * b.val + k.val) * 1024 + n.val = (b.val * 1024 + k.val) * 1024 + n.val
  omega

end Cert.MlpEntry

end
-- ==== Proof.Rows.lean ====
/- A buffer of rows written one whole row at a time: what it holds at a row of the newest write, and at another row. -/
module

public import Idealize.ShloMosaic.Lib.Pipeline.ValueKit
public import Idealize.ShloMosaic.Lib.WritesUnit

@[expose] public section

noncomputable section

open Idealize.ShloMosaic

namespace Cert.Rows

variable {sig : RefSig} {κ : Kind} {sp : Space} {e : EltTy} {Val : EltTy → Type} {R n k : ℕ}
variable (v : View sig κ sp (⟨2, ![R, n]⟩ : Shape) e) (f : v.ty.Contents Val)
variable (inb : ∀ a, (![k, 0] : Fin 2 → ℕ) a + (![1, n] : Fin 2 → ℕ) a ≤ (⟨2, ![R, n]⟩ : Shape).size a)
variable (w : (⟨2, ![1, n]⟩ : Shape).Idx → Val e) (L : List (View.Piece Val (⟨2, ![R, n]⟩ : Shape) e))

theorem read_hit (r : Fin R) (j : Fin n) (h : r.val = k) :
    v.read Val (v.writes Val f ((⟨Rect.unit (s := ⟨2, ![R, n]⟩) ![k, 0] ![1, n] inb, w⟩ : View.Piece Val _ e) :: L)) (ix2 r j) = w (ix2 0 j) :=
  View.read_writes_cons_rows_of_mem (d := ![R, n]) v f inb w L (ix2 r j) (ix2 0 j) rfl h rfl

theorem read_miss (r : Fin R) (j : Fin n) (h : r.val ≠ k) :
    v.read Val (v.writes Val f ((⟨Rect.unit (s := ⟨2, ![R, n]⟩) ![k, 0] ![1, n] inb, w⟩ : View.Piece Val _ e) :: L)) (ix2 r j)
      = v.read Val (v.writes Val f L) (ix2 r j) :=
  View.read_writes_cons_rows_of_not_mem (d := ![R, n]) (W := 1) v f inb w L (ix2 r j) rfl rfl
    (by show r.val < k ∨ k + 1 ≤ r.val; omega)

variable [∀ e, Nonempty (Val e)]

theorem canon_hit (r : Fin R) (j : Fin n) (h : r.val = k) :
    View.canon ((⟨Rect.unit (s := ⟨2, ![R, n]⟩) ![k, 0] ![1, n] inb, w⟩ : View.Piece Val _ e) :: L) (ix2 r j) = w (ix2 0 j) := by
  subst h
  have he : (Rect.unit (s := ⟨2, ![R, n]⟩) ![r.val, 0] ![1, n] inb).emb (ix2 0 j) = ix2 r j :=
    funext fun a => Fin.ext (by
      fin_cases a
      · show r.val + 1 * 0 = r.val; omega
      · show 0 + 1 * j.val = j.val; omega)
  exact (congrArg _ he.symm).trans (View.canon_cons_emb (Rect.unit (s := ⟨2, ![R, n]⟩) ![r.val, 0] ![1, n] inb) w L (ix2 0 j))

theorem canon_miss (r : Fin R) (j : Fin n) (h : r.val ≠ k) :
    View.canon ((⟨Rect.unit (s := ⟨2, ![R, n]⟩) ![k, 0] ![1, n] inb, w⟩ : View.Piece Val _ e) :: L) (ix2 r j) = View.canon L (ix2 r j) := by
  refine View.canon_cons_of_not_mem _ L ?_
  intro hm
  have h1 : k ≤ r.val ∧ r.val < k + 1 := (Rect.mem_set_unit (inb := inb).mp hm) (0 : Fin 2)
  omega

/-- A row loaded from what the writes left. -/
theorem readCov_row (j : Fin n) (h : k < R) :
    v.readCov L (Rect.unit (s := ⟨2, ![R, n]⟩) ![k, 0] ![1, n] inb).toLoadRect (ix2 0 j) = View.canon L (ix2 ⟨k, h⟩ j) := by
  refine (congrFun (View.readCov_eq_canon' v L _) _).trans ?_
  refine congrArg (View.canon L) (funext fun a => Fin.ext ?_)
  fin_cases a
  · show k + 1 * 0 = k; omega
  · show 0 + 1 * j.val = j.val; omega

/-- A row loaded from a known array. -/
theorem ld_row (x : (⟨2, ![R, n]⟩ : Shape).Idx → Val e) (j : Fin n) (h : k < R) :
    View.ld x (Rect.unit (s := ⟨2, ![R, n]⟩) ![k, 0] ![1, n] inb) (ix2 0 j) = x (ix2 ⟨k, h⟩ j) := by
  refine congrArg x (funext fun a => Fin.ext ?_)
  fin_cases a
  · show k + 1 * 0 = k; omega
  · show 0 + 1 * j.val = j.val; omega

/-- A band of columns loaded from a known array. -/
theorem ld_band {o d : ℕ} (inb : ∀ a, (![0, o] : Fin 2 → ℕ) a + (![R, d] : Fin 2 → ℕ) a ≤ (⟨2, ![R, n]⟩ : Shape).size a)
    (x : (⟨2, ![R, n]⟩ : Shape).Idx → Val e) (i : Fin R) (j : Fin d) (y : Fin n) (h : y.val = o + j.val) :
    View.ld x (Rect.unit (s := ⟨2, ![R, n]⟩) ![0, o] ![R, d] inb) (ix2 i j) = x (ix2 i y) := by
  refine congrArg x (funext fun a => Fin.ext ?_)
  fin_cases a
  · show 0 + 1 * i.val = i.val; omega
  · show o + 1 * j.val = y.val; omega

/-- One slab loaded from a known array of slabs. -/
theorem ld_slab {o d : ℕ} (inb : ∀ a, (![o, 0, 0] : Fin 3 → ℕ) a + (![1, d, n] : Fin 3 → ℕ) a ≤ (⟨3, ![R, d, n]⟩ : Shape).size a)
    (x : (⟨3, ![R, d, n]⟩ : Shape).Idx → Val e) (b : Fin R) (i : Fin d) (j : Fin n) (h : b.val = o) :
    View.ld x (Rect.unit (s := ⟨3, ![R, d, n]⟩) ![o, 0, 0] ![1, d, n] inb) (ix3 0 i j) = x (ix3 b i j) := by
  refine congrArg x (funext fun a => Fin.ext ?_)
  fin_cases a
  · show o + 1 * 0 = b.val; omega
  · show 0 + 1 * i.val = i.val; omega
  · show 0 + 1 * j.val = j.val; omega

section Bands

variable {o d : ℕ} (inb : ∀ a, (![0, o] : Fin 2 → ℕ) a + (![R, d] : Fin 2 → ℕ) a ≤ (⟨2, ![R, n]⟩ : Shape).size a)
variable (w : (⟨2, ![R, d]⟩ : Shape).Idx → Val e) (L : List (View.Piece Val (⟨2, ![R, n]⟩ : Shape) e))

theorem canon_band_hit (i : Fin R) (j : Fin d) (y : Fin n) (h : y.val = o + j.val) :
    View.canon ((⟨Rect.unit (s := ⟨2, ![R, n]⟩) ![0, o] ![R, d] inb, w⟩ : View.Piece Val _ e) :: L) (ix2 i y) = w (ix2 i j) := by
  have he : (Rect.unit (s := ⟨2, ![R, n]⟩) ![0, o] ![R, d] inb).emb (ix2 i j) = ix2 i y :=
    funext fun a => Fin.ext (by
      fin_cases a
      · show 0 + 1 * i.val = i.val; omega
      · show o + 1 * j.val = y.val; omega)
  exact (congrArg _ he.symm).trans (View.canon_cons_emb (Rect.unit (s := ⟨2, ![R, n]⟩) ![0, o] ![R, d] inb) w L (ix2 i j))

theorem canon_band_miss (i : Fin R) (y : Fin n) (h : y.val < o ∨ o + d ≤ y.val) :
    View.canon ((⟨Rect.unit (s := ⟨2, ![R, n]⟩) ![0, o] ![R, d] inb, w⟩ : View.Piece Val _ e) :: L) (ix2 i y) = View.canon L (ix2 i y) := by
  refine View.canon_cons_of_not_mem _ L ?_
  intro hm
  have h1 : o ≤ y.val ∧ y.val < o + d := (Rect.mem_set_unit (inb := inb).mp hm) (1 : Fin 2)
  omega

end Bands

end Cert.Rows

end
-- ==== Proof.Tiles.lean ====
/- Rows of an array in tiles of 512, sums over them, and arrays of reals. -/
module

public import proofs.«01_k».proof.Proof.Lift

@[expose] public section

noncomputable section

open Idealize.ShloMosaic

namespace Cert.Tiles

/-- The row of the whole array that row `i` of tile `t` is. -/
def row (t : Fin 8) (i : Fin 512) : Fin 4096 := ⟨512 * t.val + i.val, by omega⟩

/-- A sum over the rows, tile by tile. -/
theorem sum_row (f : Fin 4096 → ℝ) : ∑ r, f r = ∑ t : Fin 8, ∑ i, f (row t i) :=
  Lift.sum_split (a := 8) (b := 512) rfl f

/-- A matrix of reals as an array. -/
abbrev arr {a b : ℕ} (f : Fin a → Fin b → ℝ) : (⟨2, ![a, b]⟩ : Shape).Idx → EReal := fun i => ((f (i 0) (i 1) : ℝ) : EReal)

/-- A tile of 512 rows of a matrix, entry by entry. -/
theorem tile_eq {d : ℕ} (f : Fin 4096 → Fin d → ℝ) (o : (⟨2, ![512, d]⟩ : Shape).Idx → EReal) (t : Fin 8)
    (ho : ∀ (i : Fin 512) (j : Fin d), o (ix2 i j) = ((f (row t i) j : ℝ) : EReal)) (y : (⟨2, ![512, d]⟩ : Shape).Idx)
    (z : (⟨2, ![4096, d]⟩ : Shape).Idx) (hz : ix2 (row t (y 0)) (y 1) = z) : o y = arr f z := by
  subst hz
  exact (congrArg o (eq_ix2 y)).trans (ho _ _)

/-- A whole matrix, entry by entry. -/
theorem whole_eq {a d : ℕ} (f : Fin a → Fin d → ℝ) (o : (⟨2, ![a, d]⟩ : Shape).Idx → EReal)
    (ho : ∀ (i : Fin a) (j : Fin d), o (ix2 i j) = ((f i j : ℝ) : EReal)) (y z : (⟨2, ![a, d]⟩ : Shape).Idx) (hz : y = z) : o y = arr f z := by
  subst hz
  exact (congrArg o (eq_ix2 y)).trans (ho _ _)

theorem arr_of {a b : ℕ} (x : (⟨2, ![a, b]⟩ : Shape).Idx → EReal) (f : Fin a → Fin b → ℝ)
    (h : ∀ (i : Fin a) (j : Fin b), x (ix2 i j) = ((f i j : ℝ) : EReal)) : x = arr f :=
  funext fun i => (congrArg x (eq_ix2 i)).trans (h _ _)

/-- The sum of the first `n + 1` of eight numbers. -/
def acc (f : Fin 8 → ℝ) (n : ℕ) : ℝ := ∑ s ∈ Finset.range (n + 1), if h : s < 8 then f ⟨s, h⟩ else 0

theorem acc_zero (f : Fin 8 → ℝ) : acc f 0 = f 0 := by
  rw [acc, Finset.sum_range_one]; rfl

theorem acc_succ (f : Fin 8 → ℝ) (n : ℕ) (h : n + 1 < 8) : acc f (n + 1) = acc f n + f ⟨n + 1, h⟩ := by
  rw [acc, Finset.sum_range_succ, dif_pos h]; rfl

theorem acc_all (f : Fin 8 → ℝ) : acc f 7 = ∑ s, f s := by
  rw [acc, Finset.sum_range]
  exact Finset.sum_congr rfl fun s _ => dif_pos s.isLt

theorem acc_rest (f : Fin 8 → ℝ) (n : ℕ) (h : ∀ s, f s = 0) : acc f n = 0 := by
  rw [acc]
  refine Finset.sum_eq_zero fun s _ => ?_
  split_ifs
  · exact h _
  · rfl

/-- A sum of two reals held by the extended reals, times a third. -/
theorem scaled {a b g : EReal} {x y z : ℝ} (ha : a = x) (hb : b = y) (hg : g = z) : (a + b) * g = (((x + y) * z : ℝ) : EReal) := by
  rw [ha, hb, hg, EReal.coe_mul, EReal.coe_add]

end Cert.Tiles

end
-- ==== Proof.MlpPay.lean ====
/- One tile of the squared-ReLU sub-layer's backward call: what each stored value is, at real blocks. -/
module

public import proofs.«01_k».proof.Proof.MlpEntry
public import proofs.«01_k».proof.Proof.Rows
public import proofs.«01_k».proof.Proof.Tiles

@[expose] public section

set_option maxRecDepth 16384

noncomputable section

open Idealize.ShloMosaic Idealize.ShloMosaic.TcCoe Idealize.SL.Sem

namespace Cert.MlpPay

open Cert.MlpBackwardIdeal Cert.MlpBackwardIdeal.Gen Cert.Lift Cert.MlpMath Cert.Tiles

/-- The column of the hidden width that column `n` of quarter `b` is. -/
def col (b : Fin 4) (n : Fin 1024) : Fin 4096 := ⟨1024 * b.val + n.val, by omega⟩

/-- A sum over the hidden width, quarter by quarter. -/
theorem sum_col (f : Fin 4096 → ℝ) :
    ∑ n, f n = (∑ n, f (col 0 n)) + (∑ n, f (col 1 n)) + (∑ n, f (col 2 n)) + (∑ n, f (col 3 n)) := by
  rw [sum_split (a := 4) (b := 1024) rfl f, Fin.sum_univ_four]
  rfl

variable {A : Args} {t : Fin 8}

section Gate

variable {v3 : Vec Ideal S512x1024 .f32} {v4 : Vec Ideal S512x1024 .bf16} {v17 v19 : Vec Ideal S1x1024 .f32}
variable (h3 : ∀ i j, v3 (ix2 i j) = ((A.Ct (row t i) j : ℝ) : EReal)) (h4 : ∀ i j, v4 (ix2 i j) = ((out A (row t i) j : ℝ) : EReal))
variable (h17 : ∀ j, v17 (ix2 0 j) = ((A.gPost j : ℝ) : EReal)) (h19 : ∀ j, v19 (ix2 0 j) = ((A.gt j : ℝ) : EReal))

include h4 in
theorem pay12_at (i : Fin 512) : k0_pay12 (F := Ideal) v4 (ix2 i 0) = ((rms (out A (row t i)) : ℝ) : EReal) := by
  pointwise [k0_pay12, k0_pay11, h4]
  simp only [ofBits_1024, ofBits_eps, ← EReal.coe_add, ← EReal.coe_mul, coe_sum, div_1024]
  exact coe_rsqrt_msq _

include h4 in
theorem pay13_at (i : Fin 512) (j : Fin 1024) : k0_pay13 (F := Ideal) v4 (ix2 i j) = ((nrm (out A (row t i)) j : ℝ) : EReal) := by
  pointwise [k0_pay13, k0_pay11, h4, pay12_at h4]
  rfl

include h3 h4 in
theorem pay16_at (j : Fin 1024) :
    k0_pay16 (F := Ideal) v3 v4 (ix2 0 j) = ((∑ i, A.Ct (row t i) j * nrm (out A (row t i)) j : ℝ) : EReal) := by
  pointwise [k0_pay16, h3, pay13_at h4]
  simp only [← EReal.coe_mul, coe_sum]

include h3 h4 h17 h19 in
theorem pay17_at (i : Fin 512) (j : Fin 1024) :
    k0_pay17 (F := Ideal) v3 v4 v17 v19 (ix2 i j) = ((dOut A (row t i) j : ℝ) : EReal) := by
  pointwise [k0_pay17, k0_pay14, k0_pay15, h3, h17, h19, pay12_at h4, pay13_at h4]
  simp only [ofBits_1024, ← EReal.coe_add, ← EReal.coe_mul, ← EReal.coe_sub, coe_sum, div_1024]
  rfl

end Gate

section Quarter

variable {b : Fin 4} {v37 v43 : FVec Ideal S512x1024 .bf16} {v40 v104 : FVec Ideal S1x1024x1024 .bf16}
variable (h37 : ∀ i j, v37 (ix2 i j) = ((dOut A (row t i) j : ℝ) : EReal))
variable (h40 : ∀ k n, v40 (ix3 0 k n) = ((A.Wd (col b k) n : ℝ) : EReal))
variable (h43 : ∀ i n, v43 (ix2 i n) = ((up A (row t i) (col b n) : ℝ) : EReal))
variable (h104 : ∀ k n, v104 (ix3 0 k n) = ((A.Wu k (col b n) : ℝ) : EReal))

include h37 h40 h43 in
theorem pay18_at (i : Fin 512) (n : Fin 1024) :
    k0_pay18 (F := Ideal) v37 v40 v43 (ix2 i n) = ((dUp A (row t i) (col b n) : ℝ) : EReal) := by
  pointwise [k0_pay18, h37, h40, h43]
  simp only [← EReal.coe_zero, ofBits_two, coe_max, ← EReal.coe_mul, coe_sum]
  rfl

include h37 h40 h43 in
theorem pay20_at (i : Fin 512) (n : Fin 1024) :
    k0_pay20 (F := Ideal) v37 v40 v43 (ix2 i n) = ((dUp A (row t i) (col b n) : ℝ) : EReal) := pay18_at h37 h40 h43 i n

include h37 h40 h43 in
theorem pay21_at (i : Fin 512) (n : Fin 1024) :
    k0_pay21 (F := Ideal) v37 v40 v43 (ix2 i n) = ((dUp A (row t i) (col b n) : ℝ) : EReal) := pay18_at h37 h40 h43 i n

include h37 h40 h43 in
theorem pay23_at (i : Fin 512) (n : Fin 1024) :
    k0_pay23 (F := Ideal) v37 v40 v43 (ix2 i n) = ((dUp A (row t i) (col b n) : ℝ) : EReal) := pay18_at h37 h40 h43 i n

/-- What quarter `b` adds to the gradient of the modulated norm. -/
def part (A : Args) (b : Fin 4) (r : Fin 4096) (k : Fin 1024) : ℝ := ∑ n, dUp A r (col b n) * A.Wu k (col b n)

theorem dHid_parts (r : Fin 4096) (k : Fin 1024) : dHid A r k = part A 0 r k + part A 1 r k + part A 2 r k + part A 3 r k :=
  sum_col _

include h104 in
theorem pay24_at {v90 : FVec Ideal S512x1024 .f32} {v102 : FVec Ideal S512x1024 .bf16} {P : Fin 4096 → Fin 1024 → ℝ}
    (h90 : ∀ i k, v90 (ix2 i k) = ((P (row t i) k : ℝ) : EReal))
    (h102 : ∀ i n, v102 (ix2 i n) = ((dUp A (row t i) (col b n) : ℝ) : EReal)) (i : Fin 512) (k : Fin 1024) :
    k0_pay24 (F := Ideal) v90 v102 v104 (ix2 i k) = ((P (row t i) k + part A b (row t i) k : ℝ) : EReal) := by
  pointwise [k0_pay24, h90, h102, h104]
  simp only [← EReal.coe_mul, coe_sum, ← EReal.coe_add]
  rfl

include h37 h40 h43 h104 in
theorem pay19_at (i : Fin 512) (k : Fin 1024) :
    k0_pay19 (F := Ideal) v37 v40 v43 v104 (ix2 i k) = ((part A b (row t i) k : ℝ) : EReal) := by
  pointwise [k0_pay19, pay18_at h37 h40 h43, h104]
  simp only [← EReal.coe_mul, coe_sum]
  rfl

end Quarter

theorem pay22_eq (v37 v68 v77 : FVec Ideal S512x1024 .bf16) (v56 : FVec Ideal S512x1024 .f32)
    (v70 v74 v87 : FVec Ideal S1x1024x1024 .bf16) :
    k0_pay22 (F := Ideal) v37 v56 v68 v70 v74 v77 v87
      = k0_pay24 (F := Ideal) (k0_pay24 (F := Ideal) v56 v68 v70) (k0_pay21 (F := Ideal) v37 v74 v77) v87 := rfl

section Norm

variable {v3 : Vec Ideal S512x1024 .f32} {v90 v108 : Vec Ideal S512x1024 .f32} {v102 : FVec Ideal S512x1024 .bf16}
  {v104 : FVec Ideal S1x1024x1024 .bf16} {v119 v121 : Vec Ideal S1x1024 .f32}
variable (h3 : ∀ i j, v3 (ix2 i j) = ((A.Ct (row t i) j : ℝ) : EReal))
variable (h24 : ∀ i j, k0_pay24 (F := Ideal) v90 v102 v104 (ix2 i j) = ((dHid A (row t i) j : ℝ) : EReal))
variable (h108 : ∀ i j, v108 (ix2 i j) = ((A.X (row t i) j : ℝ) : EReal))
variable (h119 : ∀ j, v119 (ix2 0 j) = ((A.gPre j : ℝ) : EReal)) (h121 : ∀ j, v121 (ix2 0 j) = ((A.sc j : ℝ) : EReal))

include h108 in
theorem pay25_at (i : Fin 512) : k0_pay25 (F := Ideal) v108 (ix2 i 0) = ((rms (A.X (row t i)) : ℝ) : EReal) := by
  pointwise [k0_pay25, h108]
  simp only [ofBits_1024, ofBits_eps, ← EReal.coe_add, ← EReal.coe_mul, coe_sum, div_1024]
  exact coe_rsqrt_msq _

include h108 in
theorem pay26_at (i : Fin 512) (j : Fin 1024) : k0_pay26 (F := Ideal) v108 (ix2 i j) = ((nrm (A.X (row t i)) j : ℝ) : EReal) := by
  pointwise [k0_pay26, h108, pay25_at h108]
  rfl

include h121 in
theorem pay28_at (j : Fin 1024) : k0_pay28 (F := Ideal) v121 (ix2 0 j) = ((1 + A.sc j : ℝ) : EReal) := by
  pointwise [k0_pay28, h121]
  rfl

include h24 in
theorem pay29_at (j : Fin 1024) :
    k0_pay29 (F := Ideal) v90 v102 v104 (ix2 0 j) = ((∑ i, dHid A (row t i) j : ℝ) : EReal) := by
  pointwise [k0_pay29, h24]
  simp only [coe_sum]

include h24 h108 in
theorem pay30_at (j : Fin 1024) :
    k0_pay30 (F := Ideal) v90 v102 v104 v108 (ix2 0 j) = ((∑ i, dHid A (row t i) j * nrm (A.X (row t i)) j : ℝ) : EReal) := by
  pointwise [k0_pay30, h24, pay26_at h108]
  simp only [← EReal.coe_mul, coe_sum]

include h3 h24 h108 h119 h121 in
theorem pay31_at (i : Fin 512) (j : Fin 1024) :
    k0_pay31 (F := Ideal) v3 v90 v102 v104 v108 v119 v121 (ix2 i j) = ((dX A (row t i) j : ℝ) : EReal) := by
  pointwise [k0_pay31, k0_pay27, h3, h24, h119, pay28_at h121, pay25_at h108, pay26_at h108]
  simp only [ofBits_1024, ← EReal.coe_add, ← EReal.coe_mul, ← EReal.coe_sub, coe_sum, div_1024]
  rfl

end Norm

end Cert.MlpPay

end
-- ==== Proof.MlpTile.lean ====
/- What each tile of the squared-ReLU sub-layer's backward call finds in its blocks, at real arguments of the program. -/
module

public import proofs.«01_k».proof.Proof.MlpPay

@[expose] public section

set_option maxRecDepth 16384

noncomputable section

open Idealize.ShloMosaic Idealize.ShloMosaic.TcCoe Idealize.SL.Sem

namespace Cert.MlpTile

open Cert.MlpBackwardIdeal Cert.MlpBackwardIdeal.Gen Cert.Lift Cert.MlpMath Cert.MlpEntry Cert.MlpPay Cert.Tiles

variable {m : (ℓ : Loc nD τ sig) → Buf (Elt Ideal) ℓ} {c : Dev nD} {A : Args} (h : At m c A)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0, 0]
    ∧ win0_7.index t = ![0, 0, 0] ∧ win0_8.index t = ![t.val, 0] ∧ win0_9.index t = ![t.val, 0] ∧ win0_10.index t = ![t.val, 0]
    ∧ win0_11.index t = ![0, 0] :=
  (by decide +kernel : ∀ t : Fin grid0.N, _)

/-- The grid point as one of the 8 tiles. -/
abbrev pt (t : Fin cfg0.N) : Fin 8 := ⟨t.val, lt_of_lt_of_eq t.isLt N_0⟩

variable (t : Fin cfg0.N)
include h

theorem b0 (i : Fin 512) (j : Fin 1024) : iblk m c 0 t (ix2 i j) = ((A.Ct (row (pt t) i) j : ℝ) : EReal) := by
  refine Eq.trans ?_ (h.h8 (row (pt t) i) j)
  blk_ext [iblk, V, idx t]
  exact congrArg (· + i.val) (Nat.mul_comm _ _)
theorem b1 (i : Fin 512) (j : Fin 1024) : iblk m c 1 t (ix2 i j) = ((A.X (row (pt t) i) j : ℝ) : EReal) := by
  refine Eq.trans ?_ (h.h0 (row (pt t) i) j)
  blk_ext [iblk, V, idx t]
  exact congrArg (· + i.val) (Nat.mul_comm _ _)
theorem b2 (i : Fin 512) (j : Fin 1024) : iblk m c 2 t (ix2 i j) = ((out A (row (pt t) i) j : ℝ) : EReal) := by
  refine Eq.trans ?_ ((congrFun (V_v33 m c) _).trans (MlpRef.v30_at h (row (pt t) i) j))
  blk_ext [iblk, idx t]
  exact congrArg (· + i.val) (Nat.mul_comm _ _)
theorem b3 (i : Fin 512) (n : Fin 4096) : iblk m c 3 t (ix2 i n) = ((up A (row (pt t) i) n : ℝ) : EReal) := by
  refine Eq.trans ?_ ((congrFun (V_v34 m c) _).trans (MlpRef.v22_at h (row (pt t) i) n))
  blk_ext [iblk, idx t]
  exact congrArg (· + i.val) (Nat.mul_comm _ _)
theorem b4 (k : Fin 8) (j : Fin 1024) : iblk m c 4 t (ix2 k j) = V m c main_v24 (ix2 k j) := by
  blk_ext [iblk, idx t]
theorem b5 (k : Fin 16) (j : Fin 1024) : iblk m c 5 t (ix2 k j) = V m c main_v27 (ix2 k j) := by
  blk_ext [iblk, idx t]
theorem b6 (b : Fin 4) (k n : Fin 1024) : iblk m c 6 t (ix3 b k n) = ((A.Wu k (col b n) : ℝ) : EReal) := by
  refine Eq.trans ?_ (v30_at h b k n)
  blk_ext [iblk, idx t]
theorem b7 (b : Fin 4) (k n : Fin 1024) : iblk m c 7 t (ix3 b k n) = ((A.Wd (col b k) n : ℝ) : EReal) := by
  refine Eq.trans ?_ (v32_at h b k n)
  blk_ext [iblk, idx t]

end Cert.MlpTile

end
-- ==== Proof.MlpOut.lean ====
/- What the squared-ReLU sub-layer's backward call leaves after each tile, and in its result arrays. -/
module

public import proofs.«01_k».proof.Proof.MlpTile

@[expose] public section

set_option maxRecDepth 16384

noncomputable section

open Idealize.ShloMosaic Idealize.ShloMosaic.TcCoe Idealize.SL.Sem

namespace Cert.MlpOut

open Cert.MlpBackwardIdeal Cert.MlpBackwardIdeal.Gen Cert.Lift Cert.MlpMath Cert.MlpEntry Cert.MlpPay Cert.MlpTile Cert.Tiles

variable {m : (ℓ : Loc nD τ sig) → Buf (Elt Ideal) ℓ} {c : Dev nD} {A : Args} (h : At m c A) (t : Fin cfg0.N)

variable (m c) in
/-- The gradient of the down-projection's result on the tile. -/
abbrev dyT : FVec Ideal S512x1024 .bf16 :=
  k0_pay17 (F := Ideal) (iblk m c 0 t) (iblk m c 2 t) (View.ld (iblk m c 5 t) (Rect.unit ![8, 0] ![1, 1024] inb_S16x1024_S1x1024_8_0))
    (View.ld (iblk m c 4 t) (Rect.unit ![5, 0] ![1, 1024] inb_S8x1024_S1x1024_5_0))

variable (m c) in
/-- Quarter `b` of the gradient of the up-projection's result on the tile. -/
abbrev duT0 := k0_pay18 (F := Ideal) (dyT m c t)
  (View.ld (iblk m c 7 t) (Rect.unit ![0, 0, 0] ![1, 1024, 1024] inb_S4x1024x1024_S1x1024x1024_0_0_0))
  (View.ld (iblk m c 3 t) (Rect.unit ![0, 0] ![512, 1024] inb_S512x4096_S512x1024_0_0))
variable (m c) in
abbrev duT1 := k0_pay20 (F := Ideal) (dyT m c t)
  (View.ld (iblk m c 7 t) (Rect.unit ![1, 0, 0] ![1, 1024, 1024] inb_S4x1024x1024_S1x1024x1024_1_0_0))
  (View.ld (iblk m c 3 t) (Rect.unit ![0, 1024] ![512, 1024] inb_S512x4096_S512x1024_0_1024))
variable (m c) in
abbrev duT2 := k0_pay21 (F := Ideal) (dyT m c t)
  (View.ld (iblk m c 7 t) (Rect.unit ![2, 0, 0] ![1, 1024, 1024] inb_S4x1024x1024_S1x1024x1024_2_0_0))
  (View.ld (iblk m c 3 t) (Rect.unit ![0, 2048] ![512, 1024] inb_S512x4096_S512x1024_0_2048))
variable (m c) in
abbrev duT3 := k0_pay23 (F := Ideal) (dyT m c t)
  (View.ld (iblk m c 7 t) (Rect.unit ![3, 0, 0] ![1, 1024, 1024] inb_S4x1024x1024_S1x1024x1024_3_0_0))
  (View.ld (iblk m c 3 t) (Rect.unit ![0, 3072] ![512, 1024] inb_S512x4096_S512x1024_0_3072))

variable (m c) in
/-- The first three quarters' part of the gradient of the modulated norm on the tile. -/
abbrev dhT := k0_pay22 (F := Ideal) (dyT m c t)
  (k0_pay19 (F := Ideal) (dyT m c t)
    (View.ld (iblk m c 7 t) (Rect.unit ![0, 0, 0] ![1, 1024, 1024] inb_S4x1024x1024_S1x1024x1024_0_0_0))
    (View.ld (iblk m c 3 t) (Rect.unit ![0, 0] ![512, 1024] inb_S512x4096_S512x1024_0_0))
    (View.ld (iblk m c 6 t) (Rect.unit ![0, 0, 0] ![1, 1024, 1024] inb_S4x1024x1024_S1x1024x1024_0_0_0)))
  (duT1 m c t)
  (View.ld (iblk m c 6 t) (Rect.unit ![1, 0, 0] ![1, 1024, 1024] inb_S4x1024x1024_S1x1024x1024_1_0_0))
  (View.ld (iblk m c 7 t) (Rect.unit ![2, 0, 0] ![1, 1024, 1024] inb_S4x1024x1024_S1x1024x1024_2_0_0))
  (View.ld (iblk m c 3 t) (Rect.unit ![0, 2048] ![512, 1024] inb_S512x4096_S512x1024_0_2048))
  (View.ld (iblk m c 6 t) (Rect.unit ![2, 0, 0] ![1, 1024, 1024] inb_S4x1024x1024_S1x1024x1024_2_0_0))

include h

theorem gPost_row (j : Fin 1024) :
    View.ld (iblk m c 5 t) (Rect.unit ![8, 0] ![1, 1024] inb_S16x1024_S1x1024_8_0) (ix2 0 j) = ((A.gPost j : ℝ) : EReal) :=
  (Rows.ld_row _ _ j (by decide)).trans ((b5 h t 8 j).trans (v27_row8 h j))
theorem gPre_row (j : Fin 1024) :
    View.ld (iblk m c 5 t) (Rect.unit ![7, 0] ![1, 1024] inb_S16x1024_S1x1024_7_0) (ix2 0 j) = ((A.gPre j : ℝ) : EReal) :=
  (Rows.ld_row _ _ j (by decide)).trans ((b5 h t 7 j).trans (v27_row7 h j))
theorem gt_row (j : Fin 1024) :
    View.ld (iblk m c 4 t) (Rect.unit ![5, 0] ![1, 1024] inb_S8x1024_S1x1024_5_0) (ix2 0 j) = ((A.gt j : ℝ) : EReal) :=
  (Rows.ld_row _ _ j (by decide)).trans ((b4 h t 5 j).trans (v24_row5 h j))
theorem sc_row (j : Fin 1024) :
    View.ld (iblk m c 4 t) (Rect.unit ![4, 0] ![1, 1024] inb_S8x1024_S1x1024_4_0) (ix2 0 j) = ((A.sc j : ℝ) : EReal) :=
  (Rows.ld_row _ _ j (by decide)).trans ((b4 h t 4 j).trans (v24_row4 h j))

theorem wd_slab (b : Fin 4) {o : ℕ} (inb) (ho : b.val = o) (k n : Fin 1024) :
    View.ld (iblk m c 7 t) (Rect.unit (s := S4x1024x1024) ![o, 0, 0] ![1, 1024, 1024] inb) (ix3 0 k n) = ((A.Wd (col b k) n : ℝ) : EReal) :=
  (Rows.ld_slab _ _ b k n ho).trans (b7 h t b k n)
theorem wu_slab (b : Fin 4) {o : ℕ} (inb) (ho : b.val = o) (k n : Fin 1024) :
    View.ld (iblk m c 6 t) (Rect.unit (s := S4x1024x1024) ![o, 0, 0] ![1, 1024, 1024] inb) (ix3 0 k n) = ((A.Wu k (col b n) : ℝ) : EReal) :=
  (Rows.ld_slab _ _ b k n ho).trans (b6 h t b k n)
theorem up_band (b : Fin 4) {o : ℕ} (inb) (ho : 1024 * b.val = o) (i : Fin 512) (n : Fin 1024) :
    View.ld (iblk m c 3 t) (Rect.unit (s := S512x4096) ![0, o] ![512, 1024] inb) (ix2 i n) = ((up A (row (pt t) i) (col b n) : ℝ) : EReal) :=
  (Rows.ld_band _ _ i n (col b n) (by rw [← ho]; rfl)).trans (b3 h t i (col b n))

theorem dyT_at (i : Fin 512) (j : Fin 1024) : dyT m c t (ix2 i j) = ((dOut A (row (pt t) i) j : ℝ) : EReal) :=
  pay17_at (b0 h t) (b2 h t) (gPost_row h t) (gt_row h t) i j

theorem duT0_at (i : Fin 512) (n : Fin 1024) : duT0 m c t (ix2 i n) = ((dUp A (row (pt t) i) (col 0 n) : ℝ) : EReal) :=
  pay18_at (dyT_at h t) (wd_slab h t 0 _ rfl) (up_band h t 0 _ rfl) i n
theorem duT1_at (i : Fin 512) (n : Fin 1024) : duT1 m c t (ix2 i n) = ((dUp A (row (pt t) i) (col 1 n) : ℝ) : EReal) :=
  pay20_at (dyT_at h t) (wd_slab h t 1 _ rfl) (up_band h t 1 _ rfl) i n
theorem duT2_at (i : Fin 512) (n : Fin 1024) : duT2 m c t (ix2 i n) = ((dUp A (row (pt t) i) (col 2 n) : ℝ) : EReal) :=
  pay21_at (dyT_at h t) (wd_slab h t 2 _ rfl) (up_band h t 2 _ rfl) i n
theorem duT3_at (i : Fin 512) (n : Fin 1024) : duT3 m c t (ix2 i n) = ((dUp A (row (pt t) i) (col 3 n) : ℝ) : EReal) :=
  pay23_at (dyT_at h t) (wd_slab h t 3 _ rfl) (up_band h t 3 _ rfl) i n

theorem dHid_at (i : Fin 512) (j : Fin 1024) :
    k0_pay24 (F := Ideal) (dhT m c t) (duT3 m c t)
      (View.ld (iblk m c 6 t) (Rect.unit ![3, 0, 0] ![1, 1024, 1024] inb_S4x1024x1024_S1x1024x1024_3_0_0)) (ix2 i j)
      = ((dHid A (row (pt t) i) j : ℝ) : EReal) := by
  rw [dHid_parts]
  exact pay24_at (P := fun r k => part A 0 r k + part A 1 r k + part A 2 r k) (wu_slab h t 3 _ rfl)
    (pay24_at (P := fun r k => part A 0 r k + part A 1 r k) (wu_slab h t 2 _ rfl)
      (pay24_at (P := part A 0) (wu_slab h t 1 _ rfl)
        (pay19_at (dyT_at h t) (wd_slab h t 0 _ rfl) (up_band h t 0 _ rfl) (wu_slab h t 0 _ rfl)) (duT1_at h t))
      (duT2_at h t)) (duT3_at h t) i j

/-! ## The three results written tile by tile -/

theorem out8_at (i : Fin 512) (j : Fin 1024) :
    (outsAt0 m c t.val t.isLt).1 (ix2 i j) = ((dX A (row (pt t) i) j : ℝ) : EReal) := by
  have key := pay31_at (b0 h t) (dHid_at h t) (b1 h t) (gPre_row h t) (sc_row h t) i j
  by_cases h0 : t.val % 8 = 0
  · rw [outsAt0_A m c t h0 (by omega)]; frame_out; exact key
  · by_cases h1 : t.val % 8 = 7
    · rw [outsAt0_C m c t h0 h1]; frame_out; exact key
    · rw [outsAt0_B m c t h0 h1]; frame_out; exact key

theorem out9_at (i : Fin 512) (j : Fin 1024) :
    (outsAt0 m c t.val t.isLt).2.1 (ix2 i j) = ((dOut A (row (pt t) i) j : ℝ) : EReal) := by
  have key := dyT_at h t i j
  by_cases h0 : t.val % 8 = 0
  · rw [outsAt0_A m c t h0 (by omega)]; frame_out; exact key
  · by_cases h1 : t.val % 8 = 7
    · rw [outsAt0_C m c t h0 h1]; frame_out; exact key
    · rw [outsAt0_B m c t h0 h1]; frame_out; exact key

theorem out10_at (i : Fin 512) (n : Fin 4096) :
    (outsAt0 m c t.val t.isLt).2.2.1 (ix2 i n) = ((dUp A (row (pt t) i) n : ℝ) : EReal) := by
  have key : View.canon [(⟨Rect.unit (s := S512x4096) ![0, 3072] ![512, 1024] inb_S512x4096_S512x1024_0_3072, duT3 m c t⟩ : View.Piece (Elt Ideal) S512x4096 .bf16),
      ⟨Rect.unit (s := S512x4096) ![0, 2048] ![512, 1024] inb_S512x4096_S512x1024_0_2048, duT2 m c t⟩,
      ⟨Rect.unit (s := S512x4096) ![0, 1024] ![512, 1024] inb_S512x4096_S512x1024_0_1024, duT1 m c t⟩,
      ⟨Rect.unit (s := S512x4096) ![0, 0] ![512, 1024] inb_S512x4096_S512x1024_0_0, duT0 m c t⟩] (ix2 i n)
      = ((dUp A (row (pt t) i) n : ℝ) : EReal) := by
    have hc : ∃ (b : Fin 4) (k : Fin 1024), n = col b k :=
      ⟨⟨n.val / 1024, by omega⟩, ⟨n.val % 1024, by omega⟩, Fin.ext (show n.val = 1024 * (n.val / 1024) + n.val % 1024 by omega)⟩
    obtain ⟨b, k, rfl⟩ := hc
    fin_cases b
    · refine (Rows.canon_band_miss _ _ _ i _ (.inl (show 1024 * 0 + k.val < 3072 by omega))).trans ?_
      refine (Rows.canon_band_miss _ _ _ i _ (.inl (show 1024 * 0 + k.val < 2048 by omega))).trans ?_
      refine (Rows.canon_band_miss _ _ _ i _ (.inl (show 1024 * 0 + k.val < 1024 by omega))).trans ?_
      exact (Rows.canon_band_hit _ _ _ i k _ rfl).trans (duT0_at h t i k)
    · refine (Rows.canon_band_miss _ _ _ i _ (.inl (show 1024 * 1 + k.val < 3072 by omega))).trans ?_
      refine (Rows.canon_band_miss _ _ _ i _ (.inl (show 1024 * 1 + k.val < 2048 by omega))).trans ?_
      exact (Rows.canon_band_hit _ _ _ i k _ rfl).trans (duT1_at h t i k)
    · refine (Rows.canon_band_miss _ _ _ i _ (.inl (show 1024 * 2 + k.val < 3072 by omega))).trans ?_
      exact (Rows.canon_band_hit _ _ _ i k _ rfl).trans (duT2_at h t i k)
    · exact (Rows.canon_band_hit _ _ _ i k _ rfl).trans (duT3_at h t i k)
  by_cases h0 : t.val % 8 = 0
  · rw [outsAt0_A m c t h0 (by omega)]; frame_out; exact key
  · by_cases h1 : t.val % 8 = 7
    · rw [outsAt0_C m c t h0 h1]; frame_out; exact key
    · rw [outsAt0_B m c t h0 h1]; frame_out; exact key

omit h

/-! ## The result written row by row: three running sums, scaled at the last tile -/

section Stores

variable (v : View sig .tc .vmem S8x1024 .f32) (f : v.ty.Contents (Elt Ideal)) (q0 q1 q2 g1 g2 g3 g4 : FVec Ideal S1x1024 .f32)
  (xo : FVec Ideal S8x1024 .f32)

/-- A store of row `k`. -/
abbrev st {k : ℕ} (inb : ∀ a, (![k, 0] : Fin 2 → ℕ) a + (![1, 1024] : Fin 2 → ℕ) a ≤ S8x1024.size a) (w : FVec Ideal S1x1024 .f32) :
    View.Piece (Elt Ideal) S8x1024 .f32 := ⟨Rect.unit (s := S8x1024) ![k, 0] ![1, 1024] inb, w⟩

/-- The store of zeros over the whole block. -/
abbrev zst : View.Piece (Elt Ideal) S8x1024 .f32 := ⟨Rect.unit (s := S8x1024) ![0, 0] ![8, 1024] inb_S8x1024_S8x1024_0_0, k0_pay10 (F := Ideal)⟩

theorem zst_at (k : Fin 8) (j : Fin 1024) : View.canon [zst] (ix2 k j) = (0 : EReal) :=
  (Rows.canon_band_hit _ _ _ k j j (Nat.zero_add _).symm).trans (by pointwise [k0_pay10])

theorem pay1_at (v126 v145 : FVec Ideal S1x1024 .f32) (j : Fin 1024) :
    k0_pay1 (F := Ideal) v126 v145 (ix2 0 j) = v145 (ix2 0 j) + v126 (ix2 0 j) := by pointwise [k0_pay1]
theorem pay2_at (v126 v145 : FVec Ideal S1x1024 .f32) (j : Fin 1024) :
    k0_pay2 (F := Ideal) v126 v145 (ix2 0 j) = v145 (ix2 0 j) + v126 (ix2 0 j) := by pointwise [k0_pay2]
theorem pay3_at (v126 v145 : FVec Ideal S1x1024 .f32) (j : Fin 1024) :
    k0_pay3 (F := Ideal) v126 v145 (ix2 0 j) = v145 (ix2 0 j) + v126 (ix2 0 j) := by pointwise [k0_pay3]
theorem pay6_at (g x : FVec Ideal S1x1024 .f32) (j : Fin 1024) :
    k0_pay6 (F := Ideal) g x (ix2 0 j) = x (ix2 0 j) * g (ix2 0 j) := by pointwise [k0_pay6, k0_pay4]
theorem pay7_at (g x : FVec Ideal S1x1024 .f32) (j : Fin 1024) :
    k0_pay7 (F := Ideal) g x (ix2 0 j) = x (ix2 0 j) * g (ix2 0 j) := by pointwise [k0_pay7, k0_pay4]
theorem pay8_at (g x : FVec Ideal S1x1024 .f32) (j : Fin 1024) :
    k0_pay8 (F := Ideal) g x (ix2 0 j) = x (ix2 0 j) * g (ix2 0 j) := by pointwise [k0_pay8, k0_pay5]
theorem pay9_at (g x : FVec Ideal S1x1024 .f32) (j : Fin 1024) :
    k0_pay9 (F := Ideal) g x (ix2 0 j) = x (ix2 0 j) * g (ix2 0 j) := by pointwise [k0_pay9, k0_pay5]

/-- The first tile's stores. -/
abbrev stA0 := st inb_S8x1024_S1x1024_0_0 (k0_pay1 (F := Ideal) q0 (v.readCov [zst] (Rect.unit (s := S8x1024) ![0, 0] ![1, 1024] inb_S8x1024_S1x1024_0_0).toLoadRect))
abbrev stA1 := st inb_S8x1024_S1x1024_1_0 (k0_pay2 (F := Ideal) q1 (v.readCov [stA0 v q0, zst] (Rect.unit (s := S8x1024) ![1, 0] ![1, 1024] inb_S8x1024_S1x1024_1_0).toLoadRect))
abbrev stA2 := st inb_S8x1024_S1x1024_2_0 (k0_pay3 (F := Ideal) q2 (v.readCov [stA1 v q0 q1, stA0 v q0, zst] (Rect.unit (s := S8x1024) ![2, 0] ![1, 1024] inb_S8x1024_S1x1024_2_0).toLoadRect))

theorem storesA (k : Fin 8) (j : Fin 1024) :
    View.canon [stA2 v q0 q1 q2, stA1 v q0 q1, stA0 v q0, zst] (ix2 k j)
      = (if k.val = 0 then q0 (ix2 0 j) else if k.val = 1 then q1 (ix2 0 j) else if k.val = 2 then q2 (ix2 0 j) else 0 : EReal) := by
  by_cases h2 : k.val = 2
  · rw [if_neg (by omega), if_neg (by omega), if_pos h2]
    refine (Rows.canon_hit _ _ _ k j h2).trans ?_
    rw [pay3_at, Rows.readCov_row _ _ _ j (by decide)]
    rw [Rows.canon_miss _ _ _ _ j (by decide), Rows.canon_miss _ _ _ _ j (by decide), zst_at, zero_add]
  · refine (Rows.canon_miss _ _ _ k j h2).trans ?_
    by_cases h1 : k.val = 1
    · rw [if_neg (by omega), if_pos h1]
      refine (Rows.canon_hit _ _ _ k j h1).trans ?_
      rw [pay2_at, Rows.readCov_row _ _ _ j (by decide)]
      rw [Rows.canon_miss _ _ _ _ j (by decide), zst_at, zero_add]
    · refine (Rows.canon_miss _ _ _ k j h1).trans ?_
      by_cases h0 : k.val = 0
      · rw [if_pos h0]
        refine (Rows.canon_hit _ _ _ k j h0).trans ?_
        rw [pay1_at, Rows.readCov_row _ _ _ j (by decide), zst_at, zero_add]
      · rw [if_neg h0, if_neg h1, if_neg h2]
        exact (Rows.canon_miss _ _ _ k j h0).trans (zst_at k j)

/-- A later tile's three stores. -/
abbrev stB0 := st inb_S8x1024_S1x1024_0_0 (k0_pay1 (F := Ideal) q0 (View.ld (Val := Elt Ideal) (e' := .f32) xo (Rect.unit (s := S8x1024) ![0, 0] ![1, 1024] inb_S8x1024_S1x1024_0_0)))
abbrev stB1 := st inb_S8x1024_S1x1024_1_0 (k0_pay2 (F := Ideal) q1 (View.ld (Val := Elt Ideal) (e' := .f32) xo (Rect.unit (s := S8x1024) ![1, 0] ![1, 1024] inb_S8x1024_S1x1024_1_0)))
abbrev stB2 := st inb_S8x1024_S1x1024_2_0 (k0_pay3 (F := Ideal) q2 (View.ld (Val := Elt Ideal) (e' := .f32) xo (Rect.unit (s := S8x1024) ![2, 0] ![1, 1024] inb_S8x1024_S1x1024_2_0)))

theorem stB0_at (j : Fin 1024) : (stB0 q0 xo).2 (ix2 0 j) = (xo (ix2 0 j) + q0 (ix2 0 j) : EReal) := by
  refine (pay1_at _ _ j).trans ?_
  rw [Rows.ld_row _ _ j (by decide)]; rfl
theorem stB1_at (j : Fin 1024) : (stB1 q1 xo).2 (ix2 0 j) = (xo (ix2 1 j) + q1 (ix2 0 j) : EReal) := by
  refine (pay2_at _ _ j).trans ?_
  rw [Rows.ld_row _ _ j (by decide)]; rfl
theorem stB2_at (j : Fin 1024) : (stB2 q2 xo).2 (ix2 0 j) = (xo (ix2 2 j) + q2 (ix2 0 j) : EReal) := by
  refine (pay3_at _ _ j).trans ?_
  rw [Rows.ld_row _ _ j (by decide)]; rfl

theorem storesB (hf : v.read (Elt Ideal) f = xo) (k : Fin 8) (j : Fin 1024) :
    v.read (Elt Ideal) (v.writes (Elt Ideal) f [stB2 q2 xo, stB1 q1 xo, stB0 q0 xo]) (ix2 k j)
      = (xo (ix2 k j) + (if k.val = 0 then q0 (ix2 0 j) else if k.val = 1 then q1 (ix2 0 j) else if k.val = 2 then q2 (ix2 0 j) else 0) : EReal) := by
  by_cases h2 : k.val = 2
  · rw [if_neg (by omega), if_neg (by omega), if_pos h2]
    refine (Rows.read_hit _ _ _ _ _ k j h2).trans ?_
    rw [show k = 2 from Fin.ext h2]; exact stB2_at q2 xo j
  · refine (Rows.read_miss _ _ _ _ _ k j h2).trans ?_
    by_cases h1 : k.val = 1
    · rw [if_neg (by omega), if_pos h1]
      refine (Rows.read_hit _ _ _ _ _ k j h1).trans ?_
      rw [show k = 1 from Fin.ext h1]; exact stB1_at q1 xo j
    · refine (Rows.read_miss _ _ _ _ _ k j h1).trans ?_
      by_cases h0 : k.val = 0
      · rw [if_pos h0]
        refine (Rows.read_hit _ _ _ _ _ k j h0).trans ?_
        rw [show k = 0 from Fin.ext h0]; exact stB0_at q0 xo j
      · rw [if_neg h0, if_neg h1, if_neg h2, add_zero]
        refine (Rows.read_miss _ _ _ _ _ k j h0).trans ?_
        exact congrFun hf _

/-- What the last tile's scaling reads back of row 1 and of row 2. -/
abbrev back1 := v.readCov [stB2 q2 xo, stB1 q1 xo, stB0 q0 xo] (Rect.unit (s := S8x1024) ![1, 0] ![1, 1024] inb_S8x1024_S1x1024_1_0).toLoadRect
abbrev back2 := v.readCov [stB2 q2 xo, stB1 q1 xo, stB0 q0 xo] (Rect.unit (s := S8x1024) ![2, 0] ![1, 1024] inb_S8x1024_S1x1024_2_0).toLoadRect

theorem back1_at (j : Fin 1024) : back1 v q0 q1 q2 xo (ix2 0 j) = (xo (ix2 1 j) + q1 (ix2 0 j) : EReal) := by
  refine (Rows.readCov_row _ _ _ j (by decide)).trans ?_
  refine (Rows.canon_miss _ _ _ _ j (by decide)).trans ?_
  refine (Rows.canon_hit _ _ _ (1 : Fin 8) j rfl).trans ?_
  exact stB1_at q1 xo j
theorem back2_at (j : Fin 1024) : back2 v q0 q1 q2 xo (ix2 0 j) = (xo (ix2 2 j) + q2 (ix2 0 j) : EReal) := by
  refine (Rows.readCov_row _ _ _ j (by decide)).trans ?_
  refine (Rows.canon_hit _ _ _ (2 : Fin 8) j rfl).trans ?_
  exact stB2_at q2 xo j

theorem storesC (hf : v.read (Elt Ideal) f = xo) (k : Fin 8) (j : Fin 1024) :
    v.read (Elt Ideal) (v.writes (Elt Ideal) f
      [st inb_S8x1024_S1x1024_4_0 (k0_pay9 (F := Ideal) g4 (back2 v q0 q1 q2 xo)),
       st inb_S8x1024_S1x1024_2_0 (k0_pay8 (F := Ideal) g2 (back2 v q0 q1 q2 xo)),
       st inb_S8x1024_S1x1024_3_0 (k0_pay7 (F := Ideal) g3 (back1 v q0 q1 q2 xo)),
       st inb_S8x1024_S1x1024_1_0 (k0_pay6 (F := Ideal) g1 (back1 v q0 q1 q2 xo)),
       stB2 q2 xo, stB1 q1 xo, stB0 q0 xo]) (ix2 k j)
      = (if k.val = 0 then xo (ix2 0 j) + q0 (ix2 0 j)
          else if k.val = 1 then (xo (ix2 1 j) + q1 (ix2 0 j)) * g1 (ix2 0 j)
          else if k.val = 2 then (xo (ix2 2 j) + q2 (ix2 0 j)) * g2 (ix2 0 j)
          else if k.val = 3 then (xo (ix2 1 j) + q1 (ix2 0 j)) * g3 (ix2 0 j)
          else if k.val = 4 then (xo (ix2 2 j) + q2 (ix2 0 j)) * g4 (ix2 0 j)
          else xo (ix2 k j) : EReal) := by
  by_cases h4 : k.val = 4
  · rw [if_neg (by omega), if_neg (by omega), if_neg (by omega), if_neg (by omega), if_pos h4]
    refine (Rows.read_hit _ _ _ _ _ k j h4).trans ?_
    rw [pay9_at, back2_at]
  refine (Rows.read_miss _ _ _ _ _ k j h4).trans ?_
  by_cases h2 : k.val = 2
  · rw [if_neg (by omega), if_neg (by omega), if_pos h2]
    refine (Rows.read_hit _ _ _ _ _ k j h2).trans ?_
    rw [pay8_at, back2_at]
  refine (Rows.read_miss _ _ _ _ _ k j h2).trans ?_
  by_cases h3 : k.val = 3
  · rw [if_neg (by omega), if_neg (by omega), if_neg (by omega), if_pos h3]
    refine (Rows.read_hit _ _ _ _ _ k j h3).trans ?_
    rw [pay7_at, back1_at]
  refine (Rows.read_miss _ _ _ _ _ k j h3).trans ?_
  by_cases h1 : k.val = 1
  · rw [if_neg (by omega), if_pos h1]
    refine (Rows.read_hit _ _ _ _ _ k j h1).trans ?_
    rw [pay6_at, back1_at]
  refine (Rows.read_miss _ _ _ _ _ k j h1).trans ?_
  refine (storesB v f q0 q1 q2 xo hf k j).trans ?_
  rw [if_neg h1, if_neg h2, if_neg h1, if_neg h2, if_neg h3, if_neg h4]
  by_cases h0 : k.val = 0
  · rw [if_pos h0, if_pos h0, show k = 0 from Fin.ext h0]
  · rw [if_neg h0, if_neg h0, add_zero]

end Stores

end Cert.MlpOut

end
-- ==== Proof.MlpSmall.lean ====
/- The small gradients of the squared-ReLU sub-layer: running sums over the tiles, scaled after the last tile. -/
module

public import proofs.«01_k».proof.Proof.MlpOut

@[expose] public section

set_option maxRecDepth 16384

noncomputable section

open Idealize.ShloMosaic Idealize.ShloMosaic.TcCoe Idealize.SL.Sem

namespace Cert.MlpSmall

open Cert.MlpBackwardIdeal Cert.MlpBackwardIdeal.Gen Cert.MlpMath Cert.MlpEntry Cert.MlpPay Cert.MlpTile Cert.MlpOut Cert.Tiles

/-- What one tile of 512 tokens adds to row `k` of the small gradients. -/
def term (A : Args) (k s : Fin 8) (j : Fin 1024) : ℝ :=
  if k.val = 0 then ∑ i, dHid A (row s i) j
  else if k.val = 1 then ∑ i, dHid A (row s i) j * Lift.nrm (A.X (row s i)) j
  else if k.val = 2 then ∑ i, A.Ct (row s i) j * Lift.nrm (MlpMath.out A (row s i)) j
  else 0

/-- The running sums after tile `n`. -/
abbrev run (A : Args) (k : Fin 8) (n : ℕ) (j : Fin 1024) : ℝ := acc (fun s => term A k s j) n

theorem acc_hid (A : Args) (j : Fin 1024) : run A 0 7 j = colHid A j := by
  rw [run, acc_all, colHid, sum_row]; rfl
theorem acc_nrm (A : Args) (j : Fin 1024) : run A 1 7 j = colNrm A j := by
  rw [run, acc_all, colNrm, sum_row]; rfl
theorem acc_out (A : Args) (j : Fin 1024) : run A 2 7 j = colOut A j := by
  rw [run, acc_all, colOut, sum_row]; rfl

theorem run_rest (A : Args) (k : Fin 8) (n : ℕ) (j : Fin 1024) (h : 2 < k.val) : run A k n j = 0 :=
  acc_rest _ n fun s => by rw [term, if_neg (by omega), if_neg (by omega), if_neg (by omega)]

variable {m : (ℓ : Loc nD τ sig) → Buf (Elt Ideal) ℓ} {c : Dev nD} {A : Args}

section Tile

variable (h : At m c A) (t : Fin cfg0.N)

variable (m c) in
/-- What a tile adds to the three running rows. -/
abbrev q0 := k0_pay29 (F := Ideal) (dhT m c t) (duT3 m c t) (View.ld (iblk m c 6 t) (Rect.unit ![3, 0, 0] ![1, 1024, 1024] inb_S4x1024x1024_S1x1024x1024_3_0_0))
variable (m c) in
abbrev q1 := k0_pay30 (F := Ideal) (dhT m c t) (duT3 m c t) (View.ld (iblk m c 6 t) (Rect.unit ![3, 0, 0] ![1, 1024, 1024] inb_S4x1024x1024_S1x1024x1024_3_0_0)) (iblk m c 1 t)
variable (m c) in
abbrev q2 := k0_pay16 (F := Ideal) (iblk m c 0 t) (iblk m c 2 t)

include h in
theorem q_at (k : Fin 8) (j : Fin 1024) :
    (if k.val = 0 then q0 m c t (ix2 0 j) else if k.val = 1 then q1 m c t (ix2 0 j) else if k.val = 2 then q2 m c t (ix2 0 j) else 0 : EReal)
      = ((term A k (pt t) j : ℝ) : EReal) := by
  rw [term]
  split_ifs
  · exact pay29_at (dHid_at h t) j
  · exact pay30_at (dHid_at h t) (b1 h t) j
  · exact pay16_at (b0 h t) (b2 h t) j
  · rfl

end Tile

theorem small_first (h : At m c A) (t : Fin cfg0.N) (h0 : t.val % 8 = 0) (k : Fin 8) (j : Fin 1024) :
    (outsAt0 m c t.val t.isLt).2.2.2 (ix2 k j) = ((term A k (pt t) j : ℝ) : EReal) := by
  rw [outsAt0_A m c t h0 (by omega)]
  frame_out
  exact (storesA _ (q0 m c t) (q1 m c t) (q2 m c t) k j).trans (q_at h t k j)

theorem small_mid (h : At m c A) (t : Fin cfg0.N) (h0 : ¬ t.val % 8 = 0) (h1 : ¬ t.val % 8 = 7) (k : Fin 8) (j : Fin 1024) (x : ℝ)
    (hx : (outsAt0 m c (t.val - 1) (lt_of_le_of_lt (Nat.sub_le _ _) t.isLt)).2.2.2 (ix2 k j) = ((x : ℝ) : EReal)) :
    (outsAt0 m c t.val t.isLt).2.2.2 (ix2 k j) = ((x + term A k (pt t) j : ℝ) : EReal) := by
  rw [outsAt0_B m c t h0 h1]
  frame_out
  refine (storesB _ _ (q0 m c t) (q1 m c t) (q2 m c t) _ ?_ k j).trans ?_
  · exact Memref.IsWhole.read_unread _ _
  · rw [q_at h t k j, hx, EReal.coe_add]

theorem small_mid_at (h : At m c A) (n : ℕ) (hn : n < cfg0.N) (h7 : n < 7) (k : Fin 8) (j : Fin 1024) :
    (outsAt0 m c n hn).2.2.2 (ix2 k j) = ((run A k n j : ℝ) : EReal) := by
  induction n with
  | zero => rw [run, acc_zero]; exact small_first h ⟨0, hn⟩ rfl k j
  | succ n ih =>
    rw [run, acc_succ _ n (by omega)]
    exact small_mid h ⟨n + 1, hn⟩ (by show ¬ (n + 1) % 8 = 0; omega) (by show ¬ (n + 1) % 8 = 7; omega) k j _ (ih (by omega) (by omega))

theorem small_last (h : At m c A) (t : Fin cfg0.N) (h7 : t.val = 7) (k : Fin 8) (j : Fin 1024) :
    (outsAt0 m c t.val t.isLt).2.2.2 (ix2 k j) = ((small A k j : ℝ) : EReal) := by
  have old : ∀ k j, (outsAt0 m c (t.val - 1) (lt_of_le_of_lt (Nat.sub_le _ _) t.isLt)).2.2.2 (ix2 k j) = ((run A k 6 j : ℝ) : EReal) := by
    obtain ⟨n, hn⟩ := t
    have h7' : n = 7 := h7
    subst h7'
    exact fun k j => small_mid_at h 6 _ (by omega) k j
  have hp : pt t = ⟨6 + 1, by omega⟩ := Fin.ext h7
  have new : ∀ k j, run A k 7 j = run A k 6 j + term A k (pt t) j := fun k j => by rw [hp]; exact acc_succ _ 6 (by omega)
  have e0 : ∀ j, q0 m c t (ix2 0 j) = ((term A 0 (pt t) j : ℝ) : EReal) := q_at h t 0
  have e1 : ∀ j, q1 m c t (ix2 0 j) = ((term A 1 (pt t) j : ℝ) : EReal) := q_at h t 1
  have e2 : ∀ j, q2 m c t (ix2 0 j) = ((term A 2 (pt t) j : ℝ) : EReal) := q_at h t 2
  have g1 : k0_pay27 (F := Ideal) (View.ld (iblk m c 5 t) (Rect.unit ![7, 0] ![1, 1024] inb_S16x1024_S1x1024_7_0)) (ix2 0 j) = ((A.gPre j : ℝ) : EReal) := by
    pointwise [k0_pay27, gPre_row h t]
  have g2 : k0_pay14 (F := Ideal) (View.ld (iblk m c 5 t) (Rect.unit ![8, 0] ![1, 1024] inb_S16x1024_S1x1024_8_0)) (ix2 0 j) = ((A.gPost j : ℝ) : EReal) := by
    pointwise [k0_pay14, gPost_row h t]
  have g3 := pay28_at (sc_row h t) j
  have g4 : k0_pay15 (F := Ideal) (View.ld (iblk m c 4 t) (Rect.unit ![5, 0] ![1, 1024] inb_S8x1024_S1x1024_5_0)) (ix2 0 j) = ((A.gt j : ℝ) : EReal) := by
    pointwise [k0_pay15, gt_row h t]
  rw [outsAt0_C m c t (by omega) (by omega)]
  frame_out
  refine (storesC _ _ (q0 m c t) (q1 m c t) (q2 m c t) _ _ _ _ _ ?_ k j).trans ?_
  · exact Memref.IsWhole.read_unread _ _
  · rw [small]
    split_ifs with a0 a1 a2 a3 a4
    · rw [old, e0, ← EReal.coe_add, ← new, acc_hid]
    · exact (scaled (old 1 j) (e1 j) g1).trans (by rw [← new, acc_nrm])
    · exact (scaled (old 2 j) (e2 j) g2).trans (by rw [← new, acc_out])
    · exact (scaled (old 1 j) (e1 j) g3).trans (by rw [← new, acc_nrm])
    · exact (scaled (old 2 j) (e2 j) g4).trans (by rw [← new, acc_out])
    · exact (old k j).trans (by rw [run_rest A k 6 j (by omega)])

end Cert.MlpSmall

end
-- ==== Proof.MlpPre.lean ====
/- What the precondition of the claim about the squared-ReLU sub-layer says: every entry of every argument is a real. -/
module

public import proofs.«01_k».proof.Proof.Lift
public import proofs.«01_k».proof.Proof.Gen.Pre_mlp_finite

@[expose] public section

set_option maxRecDepth 16384

noncomputable section

open Idealize.ShloMosaic Idealize.ShloMosaic.TcCoe

namespace Cert.MlpPre

open Cert.Pre_mlp_finite Cert.Lift

local instance : Cert.Pre_mlp_finite.Facts := Cert.Pre_mlp_finite.Gen.facts

/-- An array of which every entry is a real. -/
def AllReal {s : Shape} (x : FVec Ideal s .f32) : Prop := ∀ i, x i = (((x i : EReal).toReal : ℝ) : EReal)

theorem all_real (x0 : FVec Ideal S4096x1024 .f32) (x1 x2 x3 : FVec Ideal S1x1024 .f32) (x4 x5 : FVec Ideal S1024 .f32)
    (x6 : FVec Ideal S1024x4096 .f32) (x7 x8 : FVec Ideal S4096x1024 .f32)
    (h : fn (F := Ideal) x0 x1 x2 x3 x4 x5 x6 x7 x8 = fun _ => 1#1) :
    AllReal x0 ∧ AllReal x1 ∧ AllReal x2 ∧ AllReal x3 ∧ AllReal x4 ∧ AllReal x5 ∧ AllReal x6 ∧ AllReal x7 ∧ AllReal x8 := by
  haveI : Subsingleton S_.Idx := ⟨fun a b => funext fun k => k.elim0⟩
  have h := congrFun h (fun k => k.elim0)
  simp only [fn, fn_part1, fn_part2] at h
  obtain ⟨h, h8⟩ := andi_one h
  obtain ⟨h, h7⟩ := andi_one h
  obtain ⟨h, h6⟩ := andi_one h
  obtain ⟨h, h5⟩ := andi_one h
  obtain ⟨h, h4⟩ := andi_one h
  obtain ⟨h, h3⟩ := andi_one h
  obtain ⟨h, h2⟩ := andi_one h
  obtain ⟨h0, h1⟩ := andi_one h
  exact ⟨real_of_all x0 _ (fun _ => ofBits_inf) _ _ _ _ h0,
    real_of_all x1 _ (fun _ => ofBits_inf) _ _ _ _ h1,
    real_of_all x2 _ (fun _ => ofBits_inf) _ _ _ _ h2,
    real_of_all x3 _ (fun _ => ofBits_inf) _ _ _ _ h3,
    real_of_all x4 _ (fun _ => ofBits_inf) _ _ _ _ h4,
    real_of_all x5 _ (fun _ => ofBits_inf) _ _ _ _ h5,
    real_of_all x6 _ (fun _ => ofBits_inf) _ _ _ _ h6,
    real_of_all x7 _ (fun _ => ofBits_inf) _ _ _ _ h7,
    real_of_all x8 _ (fun _ => ofBits_inf) _ _ _ _ h8⟩

end Cert.MlpPre

end
-- ==== Proof.MlpFinal.lean ====
/- The four result arrays of the squared-ReLU sub-layer's backward call, and the claim about them. -/
module

public import proofs.«01_k».proof.Proof.MlpSmall
public import proofs.«01_k».proof.Proof.MlpPre

@[expose] public section

set_option maxRecDepth 16384

noncomputable section

open Idealize.ShloMosaic Idealize.ShloMosaic.TcCoe Idealize.SL.Sem

namespace Cert.MlpFinal

open Cert.MlpBackwardIdeal Cert.MlpBackwardIdeal.Gen Cert.MlpMath Cert.MlpEntry Cert.MlpPay Cert.MlpTile Cert.MlpOut Cert.MlpSmall Cert.Tiles

variable {m : (ℓ : Loc nD τ sig) → Buf (Elt Ideal) ℓ} {c : Dev nD} {A : Args} (h : At m c A)
include h

theorem final8 : (dats m 0 c).arrAt 8 cfg0.N = arr (dX A) := by
  refine (dats m 0 c).arrAt_eq_of_covers 8 _ (by decide +kernel) fun t hf y => ?_
  blk_simp
  rw [after0_8]
  refine tile_eq (dX A) _ (pt t) (out8_at h t) y _ ?_
  blk_ext [idx t]
  exact congrArg (· + (y 0).val) (Nat.mul_comm _ _)

theorem final9 : (dats m 0 c).arrAt 9 cfg0.N = arr (dOut A) := by
  refine (dats m 0 c).arrAt_eq_of_covers 9 _ (by decide +kernel) fun t hf y => ?_
  blk_simp
  rw [after0_9]
  refine tile_eq (dOut A) _ (pt t) (out9_at h t) y _ ?_
  blk_ext [idx t]
  exact congrArg (· + (y 0).val) (Nat.mul_comm _ _)

theorem final10 : (dats m 0 c).arrAt 10 cfg0.N = arr (dUp A) := by
  refine (dats m 0 c).arrAt_eq_of_covers 10 _ (by decide +kernel) fun t hf y => ?_
  blk_simp
  rw [after0_10]
  refine tile_eq (dUp A) _ (pt t) (out10_at h t) y _ ?_
  blk_ext [idx t]
  exact congrArg (· + (y 0).val) (Nat.mul_comm _ _)

theorem final11 : (dats m 0 c).arrAt 11 cfg0.N = arr (small A) := by
  refine (dats m 0 c).arrAt_eq_of_after_last 11 t0_7 (by decide +kernel) _ fun y => ?_
  blk_simp
  rw [after0_11]
  exact whole_eq (small A) _ (small_last h t0_7 rfl) y _ rfl

end Cert.MlpFinal

end
-- ==== Proof.MlpClaim.lean ====
/- The value claim about the squared-ReLU sub-layer's backward call: at real arguments the call and the derivative of the
   sub-layer leave the same four arrays. -/
module

public import proofs.«01_k».proof.Defs
public import proofs.«01_k».proof.Proof.MlpFinal
public import proofs.«01_k».proof.Proof.Gen.MlpReferenceIdeal.Run

@[expose] public section

set_option maxRecDepth 16384

noncomputable section

open Idealize.ShloMosaic Idealize.ShloMosaic.TcCoe Idealize.SL.Sem

namespace Cert.MlpClaim

open Cert.MlpMath Cert.MlpRef Cert.MlpFinal Cert.Tiles

local instance : Cert.Pre_mlp_finite.Facts := Cert.Pre_mlp_finite.Gen.facts

/-- The reals held by nine arrays of which every entry is a real. -/
def reals (x0 : FVec Ideal Cert.MlpReferenceIdeal.S4096x1024 .f32) (x1 x2 x3 : FVec Ideal Cert.MlpReferenceIdeal.S1x1024 .f32)
    (x4 x5 : FVec Ideal Cert.MlpReferenceIdeal.S1024 .f32) (x6 : FVec Ideal Cert.MlpReferenceIdeal.S1024x4096 .f32)
    (x7 x8 : FVec Ideal Cert.MlpReferenceIdeal.S4096x1024 .f32) : Args where
  X r j := (x0 (ix2 r j) : EReal).toReal
  sh j := (x1 (ix2 0 j) : EReal).toReal
  sc j := (x2 (ix2 0 j) : EReal).toReal
  gt j := (x3 (ix2 0 j) : EReal).toReal
  gPre j := (x4 (ix1 j) : EReal).toReal
  gPost j := (x5 (ix1 j) : EReal).toReal
  Wu j n := (x6 (ix2 j n) : EReal).toReal
  Wd n j := (x7 (ix2 n j) : EReal).toReal
  Ct r j := (x8 (ix2 r j) : EReal).toReal

theorem holds (x0 : FVec Ideal Cert.MlpReferenceIdeal.S4096x1024 .f32) (x1 x2 x3 : FVec Ideal Cert.MlpReferenceIdeal.S1x1024 .f32)
    (x4 x5 : FVec Ideal Cert.MlpReferenceIdeal.S1024 .f32) (x6 : FVec Ideal Cert.MlpReferenceIdeal.S1024x4096 .f32)
    (x7 x8 : FVec Ideal Cert.MlpReferenceIdeal.S4096x1024 .f32)
    (h : Cert.Pre_mlp_finite.fn (F := Ideal) x0 x1 x2 x3 x4 x5 x6 x7 x8 = fun _ => 1#1) :
    Holds (reals x0 x1 x2 x3 x4 x5 x6 x7 x8) x0 x1 x2 x3 x4 x5 x6 x7 x8 := by
  obtain ⟨h0, h1, h2, h3, h4, h5, h6, h7, h8⟩ := MlpPre.all_real x0 x1 x2 x3 x4 x5 x6 x7 x8 h
  have z : ∀ a : Fin 1, a = 0 := fun a => Subsingleton.elim a 0
  exact ⟨fun r j => h0 _, fun a j => z a ▸ h1 _, fun a j => z a ▸ h2 _, fun a j => z a ▸ h3 _, fun j => h4 _, fun j => h5 _,
    fun j n => h6 _, fun n j => h7 _, fun r j => h8 _⟩

theorem algebraic : @Cert.algebraic_MlpBackwardIdeal_MlpReferenceIdeal_pre_mlp_finite Cert.MlpBackwardIdeal.Gen.facts
    Cert.MlpReferenceIdeal.Gen.facts Cert.Pre_mlp_finite.Gen.facts := by
  intro m g m' g' hpre hag
  have hA : ∀ c, ∃ A, MlpEntry.At m c A := fun c => ⟨_, holds _ _ _ _ _ _ _ _ _ (hpre c)⟩
  choose A hA using hA
  refine ⟨fun c => arr (dX (A c)), fun c => arr (dOut (A c)), fun c => arr (dUp (A c)), fun c => arr (small (A c)), ?_, ?_⟩
  · refine (θ_run Cert.MlpBackwardIdeal.defs _ _).mono (fun r h c => ?_) (Cert.MlpBackwardIdeal.Value.run_blocks (F := Ideal) m g)
    obtain ⟨e8, e9, e10, e11, rest⟩ := h c
    exact ⟨e8.trans (final8 (hA c)), e9.trans (final9 (hA c)), e10.trans (final10 (hA c)), e11.trans (final11 (hA c)), rest⟩
  · refine (θ_run Cert.MlpReferenceIdeal.defs _ _).mono (fun r h c => ?_) (Cert.MlpReferenceIdeal.Value.run (F := Ideal) m' g')
    obtain ⟨e0, e1, e2, e3, rest⟩ := h c
    obtain ⟨a0, a1, a2, a3, a4, a5, a6, a7, a8⟩ := hag c
    have hB := hA c
    unfold MlpEntry.At at hB
    rw [← a0, ← a1, ← a2, ← a3, ← a4, ← a5, ← a6, ← a7, ← a8] at hB
    exact ⟨e0.trans ((Cert.MlpReferenceIdeal.Read.val_main_v112_eq _).trans (arr_of _ _ (v112_at hB))),
      e1.trans ((Cert.MlpReferenceIdeal.Read.val_main_v113_eq _).trans (arr_of _ _ (v113_at hB))),
      e2.trans ((Cert.MlpReferenceIdeal.Read.val_main_v114_eq _).trans (arr_of _ _ (v114_at hB))),
      e3.trans ((Cert.MlpReferenceIdeal.Read.val_main_v111_eq _).trans (arr_of _ _ (v111_at hB))), rest⟩

/-- The reference program terminates, leaves its argument arrays as they were, and has no semaphore to leave counted. -/
theorem reference_frame : @Cert.quiescent_MlpReferenceIdeal Cert.MlpReferenceIdeal.Gen.facts := fun m g _ =>
  (θ_run Cert.MlpReferenceIdeal.defs _ _).mono
    (fun r h => And.intro (fun c => (h c).2.2.2.2) (sem_eq_zero_of_no_sems (by decide) r.2))
    (Cert.MlpReferenceIdeal.Value.run (F := Ideal) m g)

end Cert.MlpClaim

end
-- ==== Proof.ProjMath.lean ====
/- The gradients of the mixer's input projection over ℝ: the modulated norm of the input, times a weight. -/
module

public import proofs.«01_k».proof.Proof.Lift

@[expose] public section

noncomputable section

namespace Cert.ProjMath

open Cert.Lift

/-- The arguments of the projection's backward pass, as reals. -/
structure Args where
  X : Fin 4096 → Fin 1024 → ℝ
  sh : Fin 1024 → ℝ
  sc : Fin 1024 → ℝ
  gPre : Fin 1024 → ℝ
  W : Fin 1024 → Fin 7168 → ℝ
  Dp : Fin 4096 → Fin 7168 → ℝ
  D1 : Fin 4096 → Fin 1024 → ℝ

variable (A : Args)

/-- The gradient of the modulated norm. -/
def dHid (r : Fin 4096) (j : Fin 1024) : ℝ := ∑ n, A.Dp r n * A.W j n

/-- The gradient of the input: what the skip carries, and what comes through the gain and the norm. -/
def dX (r : Fin 4096) (j : Fin 1024) : ℝ := A.D1 r j + nrmBwd (A.X r) (fun j => dHid A r j * (A.gPre j * (1 + A.sc j))) j

/-- The column sums the small gradients are multiples of. -/
def colHid (j : Fin 1024) : ℝ := ∑ r, dHid A r j
def colNrm (j : Fin 1024) : ℝ := ∑ r, dHid A r j * nrm (A.X r) j

/-- The small gradients, one row each: shift, scale, gain, and five rows of zeros. -/
def small (k : Fin 8) (j : Fin 1024) : ℝ :=
  if k.val = 0 then colHid A j
  else if k.val = 1 then colNrm A j * A.gPre j
  else if k.val = 2 then colNrm A j * (1 + A.sc j)
  else 0

end Cert.ProjMath

end
-- ==== Proof.ProjRef.lean ====
/- The reference of the input projection's gradients at real arguments: each of its arrays holds the reals of ProjMath. -/
module

public import proofs.«01_k».proof.Proof.ProjMath
public import proofs.«01_k».proof.Proof.Gen.ProjReferenceIdeal.Read

@[expose] public section

set_option maxRecDepth 16384

noncomputable section

open Idealize.ShloMosaic Idealize.ShloMosaic.TcCoe

namespace Cert.ProjRef

open Cert.ProjReferenceIdeal Cert.ProjReferenceIdeal.Gen Cert.ProjReferenceIdeal.Read Cert.Lift Cert.ProjMath

/-- The arrays hold the reals of `A`. -/
structure Holds (A : Args) (x0 : FVec Ideal S4096x1024 .f32) (x1 x2 : FVec Ideal S1x1024 .f32) (x3 : FVec Ideal S1024 .f32)
    (x4 : FVec Ideal S1024x7168 .f32) (x5 : FVec Ideal S4096x7168 .f32) (x6 : FVec Ideal S4096x1024 .f32) : Prop where
  h0 : ∀ (r : Fin 4096) (j : Fin 1024), x0 (ix2 r j) = ((A.X r j : ℝ) : EReal)
  h1 : ∀ (a : Fin 1) (j : Fin 1024), x1 (ix2 a j) = ((A.sh j : ℝ) : EReal)
  h2 : ∀ (a : Fin 1) (j : Fin 1024), x2 (ix2 a j) = ((A.sc j : ℝ) : EReal)
  h3 : ∀ j : Fin 1024, x3 (ix1 j) = ((A.gPre j : ℝ) : EReal)
  h4 : ∀ (j : Fin 1024) (n : Fin 7168), x4 (ix2 j n) = ((A.W j n : ℝ) : EReal)
  h5 : ∀ (r : Fin 4096) (n : Fin 7168), x5 (ix2 r n) = ((A.Dp r n : ℝ) : EReal)
  h6 : ∀ (r : Fin 4096) (j : Fin 1024), x6 (ix2 r j) = ((A.D1 r j : ℝ) : EReal)

variable {A : Args} {x0 : FVec Ideal S4096x1024 .f32} {x1 x2 : FVec Ideal S1x1024 .f32} {x3 : FVec Ideal S1024 .f32}
    {x4 : FVec Ideal S1024x7168 .f32} {x5 : FVec Ideal S4096x7168 .f32} {x6 : FVec Ideal S4096x1024 .f32} (h : Holds A x0 x1 x2 x3 x4 x5 x6)
include h

theorem v6_at (r : Fin 4096) (a : Fin 1) : val_main_v6 (F := Ideal) x0 (ix2 r a) = ((msq (A.X r) : ℝ) : EReal) := by
  pointwise [val_main_v6, val_main_v5, val_main_v4, val_main_v3, val_main_v2, val_main_v1, val_main_v0, val_main_cst, val_main_cst_0, val_main_cst_1, h.h0]
  simp only [← EReal.coe_zero, ofBits_1024, ofBits_eps, ← EReal.coe_add, ← EReal.coe_mul, coe_sum, div_1024]
  rfl

theorem v7_at (r : Fin 4096) (a : Fin 1) : val_main_v7 (F := Ideal) x0 (ix2 r a) = ((rms (A.X r) : ℝ) : EReal) := by
  pointwise [val_main_v7, v6_at h, coe_rsqrt_msq]

theorem v10_at (r : Fin 4096) (a : Fin 1) : val_main_v10 (F := Ideal) x0 (ix2 r a) = ((-1 / 2 * (rms (A.X r) / msq (A.X r)) : ℝ) : EReal) := by
  pointwise [val_main_v10, val_main_v9, val_main_v8, val_main_cst_2, v7_at h, v6_at h]
  simp only [ofBits_neg_half, ← EReal.coe_mul, div_msq]

theorem v12_at (r : Fin 4096) (j : Fin 1024) : val_main_v12 (F := Ideal) x0 (ix2 r j) = ((nrm (A.X r) j : ℝ) : EReal) := by
  pointwise [val_main_v12, val_main_v11, v7_at h, h.h0]
  rfl

theorem v23_at (r : Fin 4096) (j : Fin 1024) : val_main_v23 (F := Ideal) x4 x5 (ix2 r j) = ((dHid A r j : ℝ) : EReal) := by
  pointwise [val_main_v23, h.h4, h.h5]
  simp only [← EReal.coe_mul, coe_sum]
  rfl

theorem v30_at (r : Fin 4096) (j : Fin 1024) : val_main_v30 (F := Ideal) x2 x4 x5 (ix2 r j) = ((dHid A r j * (1 + A.sc j) : ℝ) : EReal) := by
  pointwise [val_main_v30, val_main_v29, val_main_v17, val_main_v16, val_main_cst_3, v23_at h, h.h2]
  simp only [← EReal.coe_one, ← EReal.coe_add, ← EReal.coe_mul]

theorem v35_at (r : Fin 4096) (j : Fin 1024) : val_main_v35 (F := Ideal) x2 x3 x4 x5 (ix2 r j) = ((dHid A r j * (1 + A.sc j) * A.gPre j : ℝ) : EReal) := by
  pointwise [val_main_v35, val_main_v34, val_main_v13, v30_at h, h.h3]
  simp only [← EReal.coe_mul]

theorem v54_at (r : Fin 4096) (j : Fin 1024) : val_main_v54 (F := Ideal) x0 x2 x3 x4 x5 x6 (ix2 r j) = ((dX A r j : ℝ) : EReal) := by
  pointwise [val_main_v54, val_main_v50, val_main_v49, val_main_v48, val_main_v47, val_main_v46, val_main_v45, val_main_v44, val_main_v43, val_main_v42, val_main_v41, val_main_v40, val_main_v39, val_main_v38, val_main_v37, val_main_cst_8, val_main_cst_9, val_main_cst_10, h.h0, h.h6, v7_at h, v10_at h, v35_at h]
  simp only [Finset.univ_unique, Finset.sum_singleton, ← EReal.coe_zero, ofBits_1024, ← EReal.coe_add, ← EReal.coe_mul, coe_sum, div_1024]
  refine congrArg (fun y : ℝ => ((A.D1 r j + y : ℝ) : EReal)) ((nrmBwd_eq (A.X r) (fun j => dHid A r j * (1 + A.sc j) * A.gPre j) j).trans ?_)
  exact congrArg (fun v => nrmBwd (A.X r) v j) (funext fun k => by ring)

theorem v25_at (a : Fin 1) (j : Fin 1024) : val_main_v25 (F := Ideal) x4 x5 (ix2 a j) = ((colHid A j : ℝ) : EReal) := by
  pointwise [val_main_v25, val_main_v24, val_main_cst_4, v23_at h]
  simp only [← EReal.coe_zero, ← EReal.coe_add, coe_sum]
  rfl

theorem v28_at (a : Fin 1) (j : Fin 1024) : val_main_v28 (F := Ideal) x0 x3 x4 x5 (ix2 a j) = ((colNrm A j * A.gPre j : ℝ) : EReal) := by
  pointwise [val_main_v28, val_main_v27, val_main_v26, val_main_v15, val_main_v14, val_main_v13, val_main_cst_5, v23_at h, v12_at h, h.h3]
  simp only [← EReal.coe_zero, ← EReal.coe_add, ← EReal.coe_mul, coe_sum]
  refine congrArg _ ?_
  rw [colNrm, Finset.sum_mul]
  exact Finset.sum_congr rfl fun r _ => by ring

theorem v36_at (j : Fin 1024) : val_main_v36 (F := Ideal) x0 x2 x4 x5 (ix1 j) = ((colNrm A j * (1 + A.sc j) : ℝ) : EReal) := by
  pointwise [val_main_v36, val_main_v33, val_main_v32, val_main_v31, val_main_cst_6, val_main_cst_7, v12_at h, v30_at h]
  simp only [Finset.univ_unique, Finset.sum_singleton, ← EReal.coe_zero, ← EReal.coe_add, ← EReal.coe_mul, coe_sum]
  refine congrArg _ ?_
  rw [colNrm, Finset.sum_mul]
  exact Finset.sum_congr rfl fun r _ => by ring

theorem v53_at (k : Fin 8) (j : Fin 1024) : val_main_v53 (F := Ideal) x0 x2 x3 x4 x5 (ix2 k j) = ((small A k j : ℝ) : EReal) := by
  pointwise [val_main_v53, val_main_v51, val_main_v52, val_main_cst_11, v25_at h, v28_at h, v36_at h]
  fin_cases k <;> rfl

end Cert.ProjRef

end
-- ==== Proof.ProjEntry.lean ====
/- What the input projection's backward call finds in its arguments, at real arguments of the program. -/
module

public import proofs.«01_k».proof.Proof.ProjRef
public import proofs.«01_k».proof.Proof.Tiles
public import proofs.«01_k».proof.Proof.Rows
public import proofs.«01_k».proof.Proof.Gen.ProjBackwardIdeal.Value
public import Idealize.ShloMosaic.Lib.Pipeline.ValueKit

@[expose] public section

set_option maxRecDepth 16384

noncomputable section

open Idealize.ShloMosaic Idealize.ShloMosaic.TcCoe Idealize.SL.Sem

namespace Cert.ProjEntry

open Cert.ProjBackwardIdeal Cert.ProjBackwardIdeal.Gen Cert.Lift Cert.ProjMath Cert.ProjRef Cert.Tiles

variable (m : (ℓ : Loc nD τ sig) → Buf (Elt Ideal) ℓ) (c : Dev nD)

/-- The program's arguments on a device hold the reals of `A`. -/
abbrev At (A : Args) : Prop :=
  Holds A (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The column of the projection that column `n` of quarter `b` is. -/
def col (b : Fin 4) (n : Fin 1792) : Fin 7168 := ⟨1792 * b.val + n.val, by omega⟩

/-- A sum over the projection's columns, quarter by quarter. -/
theorem sum_col (f : Fin 7168 → ℝ) :
    ∑ n, f n = (∑ n, f (col 0 n)) + (∑ n, f (col 1 n)) + (∑ n, f (col 2 n)) + (∑ n, f (col 3 n)) := by
  rw [sum_split (a := 4) (b := 1792) rfl f, Fin.sum_univ_four]
  rfl

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0, 0] ∧ win0_6.index t = ![t.val, 0]
    ∧ win0_7.index t = ![0, 0] :=
  (by decide +kernel : ∀ t : Fin grid0.N, _)

/-- The grid point as one of the 8 tiles. -/
abbrev pt (t : Fin cfg0.N) : Fin 8 := ⟨t.val, lt_of_lt_of_eq t.isLt N_0⟩

theorem V_v7 : V m c main_v7 = (truncf (F := Ideal) FTy.bf16 (m ((c : Thread nD τ).loc main_arg5)) bitsLt_bf16_f32 : S4096x7168.Idx → EReal) := by
  simp only [V, hostOps0, List.flatten_cons, List.flatten_nil, List.append_nil, List.cons_append, List.nil_append]
  after_results

theorem V_v6 : V m c main_v6 = (truncf (F := Ideal) FTy.bf16 (transpose S4x1024x1792 [1, 0, 2]
    (shapeCast S1024x4x1792 (m ((c : Thread nD τ).loc main_arg4)) shapeCasts_S1024x7168_S1024x4x1792)
      transposes_S1024x4x1792_S4x1024x1792_1_0_2) bitsLt_bf16_f32 : S4x1024x1792.Idx → EReal) := by
  simp only [V, hostOps0, List.flatten_cons, List.flatten_nil, List.append_nil, List.cons_append, List.nil_append]
  after_results
  rfl

variable {m c} {A : Args} (h : At m c A)
include h

theorem v1_row1 (j : Fin 1024) : V m c main_v1 (ix2 1 j) = ((A.sc j : ℝ) : EReal) := by
  simp only [V, hostOps0, List.flatten_cons, List.flatten_nil, List.append_nil, List.cons_append, List.nil_append]
  after_results
  pointwise
  after_results_steps
  pointwise [h.h2]

theorem v3_row0 (j : Fin 1024) : V m c main_v3 (ix2 0 j) = ((A.gPre j : ℝ) : EReal) := by
  simp only [V, hostOps0, List.flatten_cons, List.flatten_nil, List.append_nil, List.cons_append, List.nil_append]
  after_results
  pointwise
  after_results_steps
  pointwise [h.h3]

theorem v6_at (b : Fin 4) (k : Fin 1024) (n : Fin 1792) : V m c main_v6 (ix3 b k n) = ((A.W k (col b n) : ℝ) : EReal) := by
  rw [V_v6]
  pointwise [h.h4]
  simp only [col, Nat.mul_comm]

/-! ## The blocks of a tile -/

variable (t : Fin cfg0.N)

theorem b0 (i : Fin 512) (n : Fin 7168) : iblk m c 0 t (ix2 i n) = ((A.Dp (row (pt t) i) n : ℝ) : EReal) := by
  refine Eq.trans ?_ ((congrFun (V_v7 m c) _).trans (h.h5 (row (pt t) i) n))
  blk_ext [iblk, idx t]
  exact congrArg (· + i.val) (Nat.mul_comm _ _)
theorem b1 (i : Fin 512) (j : Fin 1024) : iblk m c 1 t (ix2 i j) = ((A.D1 (row (pt t) i) j : ℝ) : EReal) := by
  refine Eq.trans ?_ (h.h6 (row (pt t) i) j)
  blk_ext [iblk, V, idx t]
  exact congrArg (· + i.val) (Nat.mul_comm _ _)
theorem b2 (i : Fin 512) (j : Fin 1024) : iblk m c 2 t (ix2 i j) = ((A.X (row (pt t) i) j : ℝ) : EReal) := by
  refine Eq.trans ?_ (h.h0 (row (pt t) i) j)
  blk_ext [iblk, V, idx t]
  exact congrArg (· + i.val) (Nat.mul_comm _ _)
theorem b3 (k : Fin 8) (j : Fin 1024) : iblk m c 3 t (ix2 k j) = V m c main_v1 (ix2 k j) := by
  blk_ext [iblk, idx t]
theorem b4 (k : Fin 16) (j : Fin 1024) : iblk m c 4 t (ix2 k j) = V m c main_v3 (ix2 k j) := by
  blk_ext [iblk, idx t]
theorem b5 (b : Fin 4) (k : Fin 1024) (n : Fin 1792) : iblk m c 5 t (ix3 b k n) = ((A.W k (col b n) : ℝ) : EReal) := by
  refine Eq.trans ?_ (v6_at h b k n)
  blk_ext [iblk, idx t]

theorem sc_row (j : Fin 1024) :
    View.ld (iblk m c 3 t) (Rect.unit ![1, 0] ![1, 1024] inb_S8x1024_S1x1024_1_0) (ix2 0 j) = ((A.sc j : ℝ) : EReal) :=
  (Rows.ld_row _ _ j (by decide)).trans ((b3 h t 1 j).trans (v1_row1 h j))
theorem gPre_row (j : Fin 1024) :
    View.ld (iblk m c 4 t) (Rect.unit ![0, 0] ![1, 1024] inb_S16x1024_S1x1024_0_0) (ix2 0 j) = ((A.gPre j : ℝ) : EReal) :=
  (Rows.ld_row _ _ j (by decide)).trans ((b4 h t 0 j).trans (v3_row0 h j))
theorem w_slab (b : Fin 4) {o : ℕ} (inb) (ho : b.val = o) (k : Fin 1024) (n : Fin 1792) :
    View.ld (iblk m c 5 t) (Rect.unit (s := S4x1024x1792) ![o, 0, 0] ![1, 1024, 1792] inb) (ix3 0 k n) = ((A.W k (col b n) : ℝ) : EReal) :=
  (Rows.ld_slab _ _ b k n ho).trans (b5 h t b k n)
theorem dp_band (b : Fin 4) {o : ℕ} (inb) (ho : 1792 * b.val = o) (i : Fin 512) (n : Fin 1792) :
    View.ld (iblk m c 0 t) (Rect.unit (s := S512x7168) ![0, o] ![512, 1792] inb) (ix2 i n) = ((A.Dp (row (pt t) i) (col b n) : ℝ) : EReal) :=
  (Rows.ld_band _ _ i n (col b n) (by rw [← ho]; rfl)).trans (b0 h t i (col b n))

end Cert.ProjEntry

end
-- ==== Proof.ProjPay.lean ====
/- One tile of the input projection's backward call: what each stored value is, at real blocks. -/
module

public import proofs.«01_k».proof.Proof.ProjEntry

@[expose] public section

set_option maxRecDepth 16384

noncomputable section

open Idealize.ShloMosaic Idealize.ShloMosaic.TcCoe Idealize.SL.Sem

namespace Cert.ProjPay

open Cert.ProjBackwardIdeal Cert.ProjBackwardIdeal.Gen Cert.Lift Cert.ProjMath Cert.ProjEntry Cert.Tiles

variable {A : Args} {t : Fin 8}

section Product

variable {v4 v10 v16 v22 : Vec Ideal S512x1792 .bf16} {v6 v12 v18 v24 : Vec Ideal S1x1024x1792 .bf16}
variable (h4 : ∀ i n, v4 (ix2 i n) = ((A.Dp (row t i) (col 0 n) : ℝ) : EReal)) (h6 : ∀ k n, v6 (ix3 0 k n) = ((A.W k (col 0 n) : ℝ) : EReal))
variable (h10 : ∀ i n, v10 (ix2 i n) = ((A.Dp (row t i) (col 1 n) : ℝ) : EReal)) (h12 : ∀ k n, v12 (ix3 0 k n) = ((A.W k (col 1 n) : ℝ) : EReal))
variable (h16 : ∀ i n, v16 (ix2 i n) = ((A.Dp (row t i) (col 2 n) : ℝ) : EReal)) (h18 : ∀ k n, v18 (ix3 0 k n) = ((A.W k (col 2 n) : ℝ) : EReal))
variable (h22 : ∀ i n, v22 (ix2 i n) = ((A.Dp (row t i) (col 3 n) : ℝ) : EReal)) (h24 : ∀ k n, v24 (ix3 0 k n) = ((A.W k (col 3 n) : ℝ) : EReal))

include h4 h6 h10 h12 h16 h18 h22 h24 in
theorem pay6_at (i : Fin 512) (k : Fin 1024) :
    k0_pay6 (F := Ideal) v4 v6 v10 v12 v16 v18 v22 v24 (ix2 i k) = ((dHid A (row t i) k : ℝ) : EReal) := by
  pointwise [k0_pay6, h4, h6, h10, h12, h16, h18, h22, h24]
  simp only [← EReal.coe_zero, ← EReal.coe_mul, coe_sum, ← EReal.coe_add]
  refine congrArg _ ?_
  rw [dHid, sum_col]

end Product

section Norm

variable {v27 v28 v45 : Vec Ideal S512x1024 .f32} {v39 v41 : Vec Ideal S1x1024 .f32}
variable (h27 : ∀ i j, v27 (ix2 i j) = ((dHid A (row t i) j : ℝ) : EReal)) (h28 : ∀ i j, v28 (ix2 i j) = ((A.X (row t i) j : ℝ) : EReal))
variable (h45 : ∀ i j, v45 (ix2 i j) = ((A.D1 (row t i) j : ℝ) : EReal))
variable (h39 : ∀ j, v39 (ix2 0 j) = ((A.gPre j : ℝ) : EReal)) (h41 : ∀ j, v41 (ix2 0 j) = ((A.sc j : ℝ) : EReal))

include h28 in
theorem pay7_at (i : Fin 512) : k0_pay7 (F := Ideal) v28 (ix2 i 0) = ((rms (A.X (row t i)) : ℝ) : EReal) := by
  pointwise [k0_pay7, h28]
  simp only [ofBits_1024, ofBits_eps, ← EReal.coe_add, ← EReal.coe_mul, coe_sum, div_1024]
  exact coe_rsqrt_msq _

include h28 in
theorem pay8_at (i : Fin 512) (j : Fin 1024) : k0_pay8 (F := Ideal) v28 (ix2 i j) = ((nrm (A.X (row t i)) j : ℝ) : EReal) := by
  pointwise [k0_pay8, h28, pay7_at h28]
  rfl

include h39 in
theorem pay9_at (j : Fin 1024) : k0_pay9 (F := Ideal) v39 (ix2 0 j) = ((A.gPre j : ℝ) : EReal) := by
  pointwise [k0_pay9, h39]

include h41 in
theorem pay10_at (j : Fin 1024) : k0_pay10 (F := Ideal) v41 (ix2 0 j) = ((1 + A.sc j : ℝ) : EReal) := by
  pointwise [k0_pay10, h41]
  rfl

include h27 h28 h39 h41 h45 in
theorem pay11_at (i : Fin 512) (j : Fin 1024) :
    k0_pay11 (F := Ideal) v27 v28 v39 v41 v45 (ix2 i j) = ((dX A (row t i) j : ℝ) : EReal) := by
  pointwise [k0_pay11, h27, h45, pay9_at h39, pay10_at h41, pay7_at h28, pay8_at h28]
  simp only [ofBits_1024, ← EReal.coe_add, ← EReal.coe_mul, ← EReal.coe_sub, coe_sum, div_1024]
  rfl

include h27 in
theorem pay12_at {v61 : Vec Ideal S1x1024 .f32} (j : Fin 1024) :
    k0_pay12 (F := Ideal) v27 v61 (ix2 0 j) = (v61 (ix2 0 j) + ((∑ i, dHid A (row t i) j : ℝ) : EReal) : EReal) := by
  pointwise [k0_pay12, h27]
  simp only [coe_sum]

include h27 in
theorem pay1_at {v38 : Vec Ideal S512x1024 .f32} {v67 : Vec Ideal S1x1024 .f32}
    (h38 : ∀ i j, v38 (ix2 i j) = ((nrm (A.X (row t i)) j : ℝ) : EReal)) (j : Fin 1024) :
    k0_pay1 (F := Ideal) v27 v38 v67 (ix2 0 j) = (v67 (ix2 0 j) + ((∑ i, dHid A (row t i) j * nrm (A.X (row t i)) j : ℝ) : EReal) : EReal) := by
  pointwise [k0_pay1, h27, h38]
  simp only [← EReal.coe_mul, coe_sum]

end Norm

theorem pay3_at (g x : FVec Ideal S1x1024 .f32) (j : Fin 1024) :
    k0_pay3 (F := Ideal) g x (ix2 0 j) = x (ix2 0 j) * g (ix2 0 j) := by pointwise [k0_pay3, k0_pay2]
theorem pay4_at (g x : FVec Ideal S1x1024 .f32) (j : Fin 1024) :
    k0_pay4 (F := Ideal) g x (ix2 0 j) = x (ix2 0 j) * g (ix2 0 j) := pay3_at g x j

end Cert.ProjPay

end
-- ==== Proof.ProjOut.lean ====
/- What the input projection's backward call leaves after each tile. -/
module

public import proofs.«01_k».proof.Proof.ProjPay

@[expose] public section

set_option maxRecDepth 16384

noncomputable section

open Idealize.ShloMosaic Idealize.ShloMosaic.TcCoe Idealize.SL.Sem

namespace Cert.ProjOut

open Cert.ProjBackwardIdeal Cert.ProjBackwardIdeal.Gen Cert.Lift Cert.ProjMath Cert.ProjEntry Cert.ProjPay Cert.Tiles

variable {m : (ℓ : Loc nD τ sig) → Buf (Elt Ideal) ℓ} {c : Dev nD} {A : Args} (h : At m c A) (t : Fin cfg0.N)

variable (m c) in
/-- The gradient of the modulated norm on the tile. -/
abbrev dhT : FVec Ideal S512x1024 .f32 := k0_pay6 (F := Ideal)
  (View.ld (iblk m c 0 t) (Rect.unit ![0, 0] ![512, 1792] inb_S512x7168_S512x1792_0_0))
  (View.ld (iblk m c 5 t) (Rect.unit ![0, 0, 0] ![1, 1024, 1792] inb_S4x1024x1792_S1x1024x1792_0_0_0))
  (View.ld (iblk m c 0 t) (Rect.unit ![0, 1792] ![512, 1792] inb_S512x7168_S512x1792_0_1792))
  (View.ld (iblk m c 5 t) (Rect.unit ![1, 0, 0] ![1, 1024, 1792] inb_S4x1024x1792_S1x1024x1792_1_0_0))
  (View.ld (iblk m c 0 t) (Rect.unit ![0, 3584] ![512, 1792] inb_S512x7168_S512x1792_0_3584))
  (View.ld (iblk m c 5 t) (Rect.unit ![2, 0, 0] ![1, 1024, 1792] inb_S4x1024x1792_S1x1024x1792_2_0_0))
  (View.ld (iblk m c 0 t) (Rect.unit ![0, 5376] ![512, 1792] inb_S512x7168_S512x1792_0_5376))
  (View.ld (iblk m c 5 t) (Rect.unit ![3, 0, 0] ![1, 1024, 1792] inb_S4x1024x1792_S1x1024x1792_3_0_0))

variable (m c) in
/-- The normed tile. -/
abbrev nrmT : FVec Ideal S512x1024 .f32 := k0_pay8 (F := Ideal) (iblk m c 2 t)

include h

theorem dhT_at (i : Fin 512) (j : Fin 1024) : dhT m c t (ix2 i j) = ((dHid A (row (pt t) i) j : ℝ) : EReal) :=
  pay6_at (dp_band h t 0 _ rfl) (w_slab h t 0 _ rfl) (dp_band h t 1 _ rfl) (w_slab h t 1 _ rfl) (dp_band h t 2 _ rfl) (w_slab h t 2 _ rfl)
    (dp_band h t 3 _ rfl) (w_slab h t 3 _ rfl) i j

theorem nrmT_at (i : Fin 512) (j : Fin 1024) : nrmT m c t (ix2 i j) = ((nrm (A.X (row (pt t) i)) j : ℝ) : EReal) := pay8_at (b2 h t) i j

theorem out6_at (i : Fin 512) (j : Fin 1024) :
    (outsAt0 m c t.val t.isLt).1 (ix2 i j) = ((dX A (row (pt t) i) j : ℝ) : EReal) := by
  have key := pay11_at (dhT_at h t) (b2 h t) (b1 h t) (gPre_row h t) (sc_row h t) i j
  by_cases h0 : t.val % 8 = 0
  · rw [outsAt0_A m c t h0 (by omega)]; frame_out; exact key
  · by_cases h1 : t.val % 8 = 7
    · rw [outsAt0_C m c t h0 h1]; frame_out; exact key
    · rw [outsAt0_B m c t h0 h1]; frame_out; exact key

omit h

/-! ## The result written row by row: two running sums, scaled at the last tile -/

section Stores

variable (v : View sig .tc .vmem S8x1024 .f32) (f : v.ty.Contents (Elt Ideal)) (g1 g2 : FVec Ideal S1x1024 .f32)
  (d y : FVec Ideal S512x1024 .f32) (xo : FVec Ideal S8x1024 .f32) {s : Fin 8}
  (hd : ∀ i j, d (ix2 i j) = ((dHid A (row s i) j : ℝ) : EReal)) (hy : ∀ i j, y (ix2 i j) = ((nrm (A.X (row s i)) j : ℝ) : EReal))

/-- What one tile of 512 tokens adds to row `k` of the small gradients. -/
def term (A : Args) (k s : Fin 8) (j : Fin 1024) : ℝ :=
  if k.val = 0 then ∑ i, dHid A (row s i) j
  else if k.val = 1 then ∑ i, dHid A (row s i) j * nrm (A.X (row s i)) j
  else 0

/-- A store of row `k`. -/
abbrev st {k : ℕ} (inb : ∀ a, (![k, 0] : Fin 2 → ℕ) a + (![1, 1024] : Fin 2 → ℕ) a ≤ S8x1024.size a) (w : FVec Ideal S1x1024 .f32) :
    View.Piece (Elt Ideal) S8x1024 .f32 := ⟨Rect.unit (s := S8x1024) ![k, 0] ![1, 1024] inb, w⟩

/-- The store of zeros over the whole block. -/
abbrev zst : View.Piece (Elt Ideal) S8x1024 .f32 := ⟨Rect.unit (s := S8x1024) ![0, 0] ![8, 1024] inb_S8x1024_S8x1024_0_0, k0_pay5 (F := Ideal)⟩

theorem zst_at (k : Fin 8) (j : Fin 1024) : View.canon [zst] (ix2 k j) = (0 : EReal) :=
  (Rows.canon_band_hit _ _ _ k j j (Nat.zero_add _).symm).trans (by pointwise [k0_pay5])

/-- The first tile's two stores after the zeros. -/
abbrev stA0 := st inb_S8x1024_S1x1024_0_0 (k0_pay12 (F := Ideal) d (v.readCov [zst] (Rect.unit (s := S8x1024) ![0, 0] ![1, 1024] inb_S8x1024_S1x1024_0_0).toLoadRect))
abbrev stA1 := st inb_S8x1024_S1x1024_1_0 (k0_pay1 (F := Ideal) d y (v.readCov [stA0 v d, zst] (Rect.unit (s := S8x1024) ![1, 0] ![1, 1024] inb_S8x1024_S1x1024_1_0).toLoadRect))

include hd hy in
theorem storesA (k : Fin 8) (j : Fin 1024) : View.canon [stA1 v d y, stA0 v d, zst] (ix2 k j) = ((term A k s j : ℝ) : EReal) := by
  rw [term]
  by_cases h1 : k.val = 1
  · rw [if_neg (by omega), if_pos h1]
    refine (Rows.canon_hit _ _ _ k j h1).trans ((pay1_at hd hy j).trans ?_)
    rw [Rows.readCov_row _ _ _ j (by decide), Rows.canon_miss _ _ _ _ j (by decide), zst_at, zero_add]
  · refine (Rows.canon_miss _ _ _ k j h1).trans ?_
    by_cases h0 : k.val = 0
    · rw [if_pos h0]
      refine (Rows.canon_hit _ _ _ k j h0).trans ((pay12_at hd j).trans ?_)
      rw [Rows.readCov_row _ _ _ j (by decide), zst_at, zero_add]
    · rw [if_neg h0, if_neg h1]
      exact (Rows.canon_miss _ _ _ k j h0).trans (zst_at k j)

/-- A later tile's two stores. -/
abbrev stB0 := st inb_S8x1024_S1x1024_0_0 (k0_pay12 (F := Ideal) d (View.ld (Val := Elt Ideal) (e' := .f32) xo (Rect.unit (s := S8x1024) ![0, 0] ![1, 1024] inb_S8x1024_S1x1024_0_0)))
abbrev stB1 := st inb_S8x1024_S1x1024_1_0 (k0_pay1 (F := Ideal) d y (View.ld (Val := Elt Ideal) (e' := .f32) xo (Rect.unit (s := S8x1024) ![1, 0] ![1, 1024] inb_S8x1024_S1x1024_1_0)))

include hd in
theorem stB0_at (j : Fin 1024) : (stB0 d xo).2 (ix2 0 j) = (xo (ix2 0 j) + ((term A 0 s j : ℝ) : EReal) : EReal) := by
  refine (pay12_at hd j).trans ?_
  rw [Rows.ld_row _ _ j (by decide)]; rfl
include hd hy in
theorem stB1_at (j : Fin 1024) : (stB1 d y xo).2 (ix2 0 j) = (xo (ix2 1 j) + ((term A 1 s j : ℝ) : EReal) : EReal) := by
  refine (pay1_at hd hy j).trans ?_
  rw [Rows.ld_row _ _ j (by decide)]; rfl

include hd hy in
theorem storesB (hf : v.read (Elt Ideal) f = xo) (k : Fin 8) (j : Fin 1024) :
    v.read (Elt Ideal) (v.writes (Elt Ideal) f [stB1 d y xo, stB0 d xo]) (ix2 k j) = (xo (ix2 k j) + ((term A k s j : ℝ) : EReal) : EReal) := by
  by_cases h1 : k.val = 1
  · refine (Rows.read_hit _ _ _ _ _ k j h1).trans ?_
    rw [show k = 1 from Fin.ext h1]; exact stB1_at d y xo hd hy j
  · refine (Rows.read_miss _ _ _ _ _ k j h1).trans ?_
    by_cases h0 : k.val = 0
    · refine (Rows.read_hit _ _ _ _ _ k j h0).trans ?_
      rw [show k = 0 from Fin.ext h0]; exact stB0_at d xo hd j
    · rw [term, if_neg h0, if_neg h1, EReal.coe_zero, add_zero]
      refine (Rows.read_miss _ _ _ _ _ k j h0).trans ?_
      exact congrFun hf _

/-- What the last tile's scaling reads back of row 1. -/
abbrev back1 := v.readCov [stB1 d y xo, stB0 d xo] (Rect.unit (s := S8x1024) ![1, 0] ![1, 1024] inb_S8x1024_S1x1024_1_0).toLoadRect

include hd hy in
theorem back1_at (j : Fin 1024) : back1 v d y xo (ix2 0 j) = (xo (ix2 1 j) + ((term A 1 s j : ℝ) : EReal) : EReal) := by
  refine (Rows.readCov_row _ _ _ j (by decide)).trans ?_
  refine (Rows.canon_hit _ _ _ (1 : Fin 8) j rfl).trans ?_
  exact stB1_at d y xo hd hy j

include hd hy in
theorem storesC (hf : v.read (Elt Ideal) f = xo) (k : Fin 8) (j : Fin 1024) :
    v.read (Elt Ideal) (v.writes (Elt Ideal) f
      [st inb_S8x1024_S1x1024_2_0 (k0_pay4 (F := Ideal) g2 (back1 v d y xo)),
       st inb_S8x1024_S1x1024_1_0 (k0_pay3 (F := Ideal) g1 (back1 v d y xo)),
       stB1 d y xo, stB0 d xo]) (ix2 k j)
      = (if k.val = 0 then xo (ix2 0 j) + ((term A 0 s j : ℝ) : EReal)
          else if k.val = 1 then (xo (ix2 1 j) + ((term A 1 s j : ℝ) : EReal)) * g1 (ix2 0 j)
          else if k.val = 2 then (xo (ix2 1 j) + ((term A 1 s j : ℝ) : EReal)) * g2 (ix2 0 j)
          else xo (ix2 k j) : EReal) := by
  by_cases h2 : k.val = 2
  · rw [if_neg (by omega), if_neg (by omega), if_pos h2]
    refine (Rows.read_hit _ _ _ _ _ k j h2).trans ?_
    rw [pay4_at, back1_at v d y xo hd hy]
  refine (Rows.read_miss _ _ _ _ _ k j h2).trans ?_
  by_cases h1 : k.val = 1
  · rw [if_neg (by omega), if_pos h1]
    refine (Rows.read_hit _ _ _ _ _ k j h1).trans ?_
    rw [pay3_at, back1_at v d y xo hd hy]
  refine (Rows.read_miss _ _ _ _ _ k j h1).trans ?_
  refine (storesB v f d y xo hd hy hf k j).trans ?_
  rw [if_neg h1, if_neg h2]
  by_cases h0 : k.val = 0
  · rw [if_pos h0, show k = 0 from Fin.ext h0]
  · rw [if_neg h0, term, if_neg h0, if_neg h1, EReal.coe_zero, add_zero]

end Stores

end Cert.ProjOut

end
-- ==== Proof.ProjFinal.lean ====
/- The two result arrays of the input projection's backward call: tiles of the input's gradient, and the small gradients, which are
   running sums over the tiles, scaled after the last tile. -/
module

public import proofs.«01_k».proof.Proof.ProjOut

@[expose] public section

set_option maxRecDepth 16384

noncomputable section

open Idealize.ShloMosaic Idealize.ShloMosaic.TcCoe Idealize.SL.Sem

namespace Cert.ProjFinal

open Cert.ProjBackwardIdeal Cert.ProjBackwardIdeal.Gen Cert.ProjMath Cert.ProjEntry Cert.ProjPay Cert.ProjOut Cert.Tiles

variable {m : (ℓ : Loc nD τ sig) → Buf (Elt Ideal) ℓ} {c : Dev nD} {A : Args} (h : At m c A)

theorem acc_hid (A : Args) (j : Fin 1024) : acc (fun s => term A 0 s j) 7 = colHid A j := by
  rw [acc_all, colHid, sum_row]; rfl
theorem acc_nrm (A : Args) (j : Fin 1024) : acc (fun s => term A 1 s j) 7 = colNrm A j := by
  rw [acc_all, colNrm, sum_row]; rfl

include h

theorem small_first (t : Fin cfg0.N) (h0 : t.val % 8 = 0) (k : Fin 8) (j : Fin 1024) :
    (outsAt0 m c t.val t.isLt).2 (ix2 k j) = ((term A k (pt t) j : ℝ) : EReal) := by
  rw [outsAt0_A m c t h0 (by omega)]
  frame_out
  exact storesA _ (dhT m c t) (nrmT m c t) (dhT_at h t) (nrmT_at h t) k j

theorem small_mid (t : Fin cfg0.N) (h0 : ¬ t.val % 8 = 0) (h1 : ¬ t.val % 8 = 7) (k : Fin 8) (j : Fin 1024) (x : ℝ)
    (hx : (outsAt0 m c (t.val - 1) (lt_of_le_of_lt (Nat.sub_le _ _) t.isLt)).2 (ix2 k j) = ((x : ℝ) : EReal)) :
    (outsAt0 m c t.val t.isLt).2 (ix2 k j) = ((x + term A k (pt t) j : ℝ) : EReal) := by
  rw [outsAt0_B m c t h0 h1]
  frame_out
  refine (storesB _ _ (dhT m c t) (nrmT m c t) _ (dhT_at h t) (nrmT_at h t) ?_ k j).trans ?_
  · exact Memref.IsWhole.read_unread _ _
  · rw [hx, EReal.coe_add]

theorem small_mid_at (n : ℕ) (hn : n < cfg0.N) (h7 : n < 7) (k : Fin 8) (j : Fin 1024) :
    (outsAt0 m c n hn).2 (ix2 k j) = ((acc (fun s => term A k s j) n : ℝ) : EReal) := by
  induction n with
  | zero => rw [acc_zero]; exact small_first h ⟨0, hn⟩ rfl k j
  | succ n ih =>
    rw [acc_succ _ n (by omega)]
    exact small_mid h ⟨n + 1, hn⟩ (by show ¬ (n + 1) % 8 = 0; omega) (by show ¬ (n + 1) % 8 = 7; omega) k j _ (ih (by omega) (by omega))

theorem small_last (t : Fin cfg0.N) (h7 : t.val = 7) (k : Fin 8) (j : Fin 1024) :
    (outsAt0 m c t.val t.isLt).2 (ix2 k j) = ((small A k j : ℝ) : EReal) := by
  have old : ∀ k j, (outsAt0 m c (t.val - 1) (lt_of_le_of_lt (Nat.sub_le _ _) t.isLt)).2 (ix2 k j)
      = ((acc (fun s => term A k s j) 6 : ℝ) : EReal) := by
    obtain ⟨n, hn⟩ := t
    have h7' : n = 7 := h7
    subst h7'
    exact fun k j => small_mid_at h 6 _ (by omega) k j
  have hp : pt t = ⟨6 + 1, by omega⟩ := Fin.ext h7
  have new : ∀ k j, acc (fun s => term A k s j) 7 = acc (fun s => term A k s j) 6 + term A k (pt t) j :=
    fun k j => by rw [hp]; exact acc_succ _ 6 (by omega)
  have g1 := pay9_at (gPre_row h t) j
  have g2 := pay10_at (sc_row h t) j
  rw [outsAt0_C m c t (by omega) (by omega)]
  frame_out
  refine (storesC _ _ _ _ (dhT m c t) (nrmT m c t) _ (dhT_at h t) (nrmT_at h t) ?_ k j).trans ?_
  · exact Memref.IsWhole.read_unread _ _
  · rw [small]
    split_ifs with a0 a1 a2
    · rw [old, ← EReal.coe_add, ← new, acc_hid]
    · exact (scaled (old 1 j) rfl g1).trans (by rw [← new, acc_nrm])
    · exact (scaled (old 1 j) rfl g2).trans (by rw [← new, acc_nrm])
    · exact (old k j).trans (congrArg _ (acc_rest _ 6 fun s => by rw [term, if_neg a0, if_neg a1]))

theorem final6 : (dats m 0 c).arrAt 6 cfg0.N = arr (dX A) := by
  refine (dats m 0 c).arrAt_eq_of_covers 6 _ (by decide +kernel) fun t hf y => ?_
  blk_simp
  rw [after0_6]
  refine tile_eq (dX A) _ (pt t) (out6_at h t) y _ ?_
  blk_ext [idx t]
  exact congrArg (· + (y 0).val) (Nat.mul_comm _ _)

theorem final7 : (dats m 0 c).arrAt 7 cfg0.N = arr (small A) := by
  refine (dats m 0 c).arrAt_eq_of_after_last 7 t0_7 (by decide +kernel) _ fun y => ?_
  blk_simp
  rw [after0_7]
  exact whole_eq (small A) _ (small_last h t0_7 rfl) y _ rfl

end Cert.ProjFinal

end
-- ==== Proof.ProjClaim.lean ====
/- The value claim about the input projection's backward call: at real arguments the call and the derivative of the projection of the
   modulated norm leave the same two arrays. -/
module

public import proofs.«01_k».proof.Defs
public import proofs.«01_k».proof.Proof.ProjFinal
public import proofs.«01_k».proof.Proof.Gen.Pre_proj_finite

@[expose] public section

set_option maxRecDepth 16384

noncomputable section

open Idealize.ShloMosaic Idealize.ShloMosaic.TcCoe Idealize.SL.Sem

namespace Cert.ProjClaim

open Cert.ProjMath Cert.ProjRef Cert.ProjFinal Cert.Lift Cert.Tiles Cert.Pre_proj_finite

local instance : Cert.Pre_proj_finite.Facts := Cert.Pre_proj_finite.Gen.facts

variable (x0 : FVec Ideal S4096x1024 .f32) (x1 x2 : FVec Ideal S1x1024 .f32) (x3 : FVec Ideal S1024 .f32)
  (x4 : FVec Ideal S1024x7168 .f32) (x5 : FVec Ideal S4096x7168 .f32) (x6 : FVec Ideal S4096x1024 .f32)

/-- The reals held by seven arrays of which every entry is a real. -/
def reals : Args where
  X r j := (x0 (ix2 r j) : EReal).toReal
  sh j := (x1 (ix2 0 j) : EReal).toReal
  sc j := (x2 (ix2 0 j) : EReal).toReal
  gPre j := (x3 (ix1 j) : EReal).toReal
  W j n := (x4 (ix2 j n) : EReal).toReal
  Dp r n := (x5 (ix2 r n) : EReal).toReal
  D1 r j := (x6 (ix2 r j) : EReal).toReal

/-- The precondition says that every entry of every argument is a real. -/
theorem holds (h : fn (F := Ideal) x0 x1 x2 x3 x4 x5 x6 = fun _ => 1#1) :
    Holds (reals x0 x1 x2 x3 x4 x5 x6) x0 x1 x2 x3 x4 x5 x6 := by
  haveI : Subsingleton S_.Idx := ⟨fun a b => funext fun k => k.elim0⟩
  have h := congrFun h (fun k => k.elim0)
  simp only [fn, fn_part1] at h
  obtain ⟨h, h6⟩ := andi_one h
  obtain ⟨h, h5⟩ := andi_one h
  obtain ⟨h, h4⟩ := andi_one h
  obtain ⟨h, h3⟩ := andi_one h
  obtain ⟨h, h2⟩ := andi_one h
  obtain ⟨h0, h1⟩ := andi_one h
  have z : ∀ a : Fin 1, a = 0 := fun a => Subsingleton.elim a 0
  exact ⟨fun r j => real_of_all x0 _ (fun _ => ofBits_inf) _ _ _ _ h0 _,
    fun a j => z a ▸ real_of_all x1 _ (fun _ => ofBits_inf) _ _ _ _ h1 _,
    fun a j => z a ▸ real_of_all x2 _ (fun _ => ofBits_inf) _ _ _ _ h2 _,
    fun j => real_of_all x3 _ (fun _ => ofBits_inf) _ _ _ _ h3 _,
    fun j n => real_of_all x4 _ (fun _ => ofBits_inf) _ _ _ _ h4 _,
    fun r n => real_of_all x5 _ (fun _ => ofBits_inf) _ _ _ _ h5 _,
    fun r j => real_of_all x6 _ (fun _ => ofBits_inf) _ _ _ _ h6 _⟩

theorem algebraic : @Cert.algebraic_ProjBackwardIdeal_ProjReferenceIdeal_pre_proj_finite Cert.ProjBackwardIdeal.Gen.facts
    Cert.ProjReferenceIdeal.Gen.facts Cert.Pre_proj_finite.Gen.facts := by
  intro m g m' g' hpre hag
  have hA : ∀ c, ∃ A, ProjEntry.At m c A := fun c => ⟨_, holds _ _ _ _ _ _ _ (hpre c)⟩
  choose A hA using hA
  refine ⟨fun c => arr (dX (A c)), fun c => arr (small (A c)), ?_, ?_⟩
  · refine (θ_run Cert.ProjBackwardIdeal.defs _ _).mono (fun r h c => ?_) (Cert.ProjBackwardIdeal.Value.run_blocks (F := Ideal) m g)
    obtain ⟨e6, e7, rest⟩ := h c
    exact ⟨e6.trans (final6 (hA c)), e7.trans (final7 (hA c)), rest⟩
  · refine (θ_run Cert.ProjReferenceIdeal.defs _ _).mono (fun r h c => ?_) (Cert.ProjReferenceIdeal.Value.run (F := Ideal) m' g')
    obtain ⟨e0, e1, rest⟩ := h c
    obtain ⟨a0, a1, a2, a3, a4, a5, a6⟩ := hag c
    have hB := hA c
    unfold ProjEntry.At at hB
    rw [← a0, ← a1, ← a2, ← a3, ← a4, ← a5, ← a6] at hB
    exact ⟨e0.trans ((Cert.ProjReferenceIdeal.Read.val_main_v54_eq _ _).trans (arr_of _ _ (v54_at hB))),
      e1.trans ((Cert.ProjReferenceIdeal.Read.val_main_v53_eq _ _ _ _ _).trans (arr_of _ _ (v53_at hB))), rest⟩

/-- The reference program terminates, leaves its argument arrays as they were, and has no semaphore to leave counted. -/
theorem reference_frame : @Cert.quiescent_ProjReferenceIdeal Cert.ProjReferenceIdeal.Gen.facts := fun m g _ =>
  (θ_run Cert.ProjReferenceIdeal.defs _ _).mono
    (fun r h => And.intro (fun c => (h c).2.2) (sem_eq_zero_of_no_sems (by decide) r.2))
    (Cert.ProjReferenceIdeal.Value.run (F := Ideal) m g)

end Cert.ProjClaim

end
-- ==== Proof.DownClaim.lean ====
/- The value claim about the gradient of the down-projection's weight: the call that forms the squared ReLU itself, from the saved
   product before it, and the derivative of the down-projection leave the same array, whatever the arguments hold. -/
module

public import proofs.«01_k».proof.Defs
public import proofs.«01_k».proof.Proof.Gen.DownBackwardIdeal.Value
public import proofs.«01_k».proof.Proof.Gen.DownReferenceIdeal.Run
public import proofs.«01_k».proof.Proof.Gen.DownReferenceIdeal.Read
public import Idealize.ShloMosaic.Lib.Pipeline.ValueKit

@[expose] public section

set_option maxRecDepth 16384

noncomputable section

open Idealize.ShloMosaic Idealize.ShloMosaic.TcCoe Idealize.SL.Sem

namespace Cert.DownClaim

/-- The squared ReLU of an entry. -/
def sq (x : EReal) : EReal := max x 0 * max x 0

/-- The gradient of the weight at row `k` and column `n`: a sum over the tokens. -/
def grad (u : (⟨2, ![4096, 4096]⟩ : Shape).Idx → EReal) (d : (⟨2, ![4096, 1024]⟩ : Shape).Idx → EReal) (k : Fin 4096) (n : Fin 1024) : EReal :=
  ∑ q : Fin 4096, sq (u (ix2 q k)) * d (ix2 q n)

/-- The gradient as an array. -/
abbrev grads (u : (⟨2, ![4096, 4096]⟩ : Shape).Idx → EReal) (d : (⟨2, ![4096, 1024]⟩ : Shape).Idx → EReal) : (⟨3, ![1, 4096, 1024]⟩ : Shape).Idx → EReal :=
  fun i => grad u d (i 1) (i 2)

section Reference

open Cert.DownReferenceIdeal Cert.DownReferenceIdeal.Gen Cert.DownReferenceIdeal.Read

variable (x0 : FVec Ideal S4096x1024 .f32) (x1 x2 : FVec Ideal S1x1024 .f32) (x3 : FVec Ideal S1024 .f32)
  (x4 : FVec Ideal S1024x4096 .f32) (x6 : FVec Ideal S4096x1024 .f32)

theorem v21_at (q : Fin 4096) (k : Fin 4096) :
    val_main_v21 (F := Ideal) x0 x1 x2 x3 x4 (ix2 q k) = sq (val_main_v19 (F := Ideal) x0 x1 x2 x3 x4 (ix2 q k)) := by
  pointwise [val_main_v21, val_main_v20, val_main_call0_v0, val_main_call0_cst]
  rfl

theorem v25_at (a : Fin 1) (k : Fin 4096) (n : Fin 1024) :
    val_main_v25 (F := Ideal) x0 x1 x2 x3 x4 x6 (ix3 a k n) = grad (val_main_v19 (F := Ideal) x0 x1 x2 x3 x4) x6 k n := by
  pointwise [val_main_v25, val_main_v24, val_main_v23, v21_at]
  exact Finset.sum_congr rfl fun q _ => mul_comm _ _

end Reference

section Call

open Cert.DownBackwardIdeal Cert.DownBackwardIdeal.Gen

theorem pay1_at (v0 v7 : Vec Ideal S4096x1024 .bf16) (a : Fin 1) (k n : Fin 1024) :
    k0_pay1 (F := Ideal) v0 v7 (ix3 a k n) = (∑ q : Fin 4096, sq (v0 (ix2 q k)) * v7 (ix2 q n) : EReal) := by
  pointwise [k0_pay1]
  rfl

variable (m : (ℓ : Loc nD τ sig) → Buf (Elt Ideal) ℓ) (c : Dev nD)

theorem idx : ∀ t : Fin cfg0.N, win0_0.index t = ![0, t.val] ∧ win0_1.index t = ![0, 0] ∧ win0_2.index t = ![0, t.val, 0] :=
  (by decide +kernel : ∀ t : Fin grid0.N, _)

/-- The row of the weight that row `k` of block `t` is. -/
def row (t : Fin cfg0.N) (k : Fin 1024) : Fin 4096 := ⟨t.val * 1024 + k.val, by have := lt_of_lt_of_eq t.isLt N_0; omega⟩

/-- The saved product before the squared ReLU, as reference.py's lines give it. -/
abbrev up : FVec Ideal Cert.DownReferenceIdeal.S4096x4096 .f32 := Cert.DownReferenceIdeal.Read.val_main_v19 (F := Ideal)
  (m ((c : Thread nD τ).loc main_arg0)) (m ((c : Thread nD τ).loc main_arg1)) (m ((c : Thread nD τ).loc main_arg2))
  (m ((c : Thread nD τ).loc main_arg3)) (m ((c : Thread nD τ).loc main_arg4))

theorem V_up : V m c main_v20 = (up m c : (⟨2, ![4096, 4096]⟩ : Shape).Idx → EReal) := by
  simp only [V, hostOps0, List.flatten_cons, List.flatten_nil, List.append_nil, List.cons_append, List.nil_append]
  after_results
  rfl
theorem V_dy : V m c main_v21 = (m ((c : Thread nD τ).loc main_arg6) : (⟨2, ![4096, 1024]⟩ : Shape).Idx → EReal) := by
  simp only [V, hostOps0, List.flatten_cons, List.flatten_nil, List.append_nil, List.cons_append, List.nil_append]
  after_results
  rfl

theorem b0 (t : Fin cfg0.N) (q : Fin 4096) (k : Fin 1024) : iblk m c 0 t (ix2 q k) = up m c (ix2 q (row t k)) := by
  refine Eq.trans ?_ (congrFun (V_up m c) _)
  blk_ext [iblk, idx t]
  rfl
theorem b1 (t : Fin cfg0.N) (q : Fin 4096) (n : Fin 1024) : iblk m c 1 t (ix2 q n) = m ((c : Thread nD τ).loc main_arg6) (ix2 q n) := by
  refine Eq.trans ?_ (congrFun (V_dy m c) _)
  blk_ext [iblk, idx t]

theorem out_at (t : Fin cfg0.N) (a : Fin 1) (k n : Fin 1024) :
    out0_2 (F := Ideal) (iblk m c 0 t) (iblk m c 1 t) (ix3 a k n) = grad (up m c) (m ((c : Thread nD τ).loc main_arg6)) (row t k) n := by
  rw [out0_2]
  frame_out
  refine (pay1_at _ _ a k n).trans ?_
  exact Finset.sum_congr rfl fun q _ => by rw [b0, b1]

/-- The gradient at what the call's arguments hold. -/
abbrev total : (⟨3, ![1, 4096, 1024]⟩ : Shape).Idx → EReal := grads (up m c) (m ((c : Thread nD τ).loc main_arg6))

theorem block_eq (g : Fin 4096 → Fin 1024 → EReal) (o : (⟨3, ![1, 1024, 1024]⟩ : Shape).Idx → EReal) (t : Fin cfg0.N)
    (ho : ∀ (a : Fin 1) (k n : Fin 1024), o (ix3 a k n) = g (row t k) n) (y : (⟨3, ![1, 1024, 1024]⟩ : Shape).Idx)
    (z : (⟨3, ![1, 4096, 1024]⟩ : Shape).Idx) (hz : ix3 0 (row t (y 1)) (y 2) = z) : o y = g (z 1) (z 2) := by
  subst hz
  exact (congrArg o (eq_ix3 y)).trans (ho _ _ _)

theorem final2 : (dats m 0 c).arrAt 2 cfg0.N = total m c := by
  refine (dats m 0 c).arrAt_eq_of_covers 2 _ (by decide +kernel) fun t hf y => ?_
  blk_simp
  rw [after0_2]
  refine block_eq (grad (up m c) (m ((c : Thread nD τ).loc main_arg6))) _ t (out_at m c t) y _ ?_
  blk_ext [idx t]
  rfl

end Call

theorem algebraic : @Cert.algebraic_DownBackwardIdeal_DownReferenceIdeal Cert.DownBackwardIdeal.Gen.facts Cert.DownReferenceIdeal.Gen.facts := by
  intro m g m' g' _ hag
  refine ⟨total m, ?_, ?_⟩
  · refine (θ_run Cert.DownBackwardIdeal.defs _ _).mono (fun r h c => ?_) (Cert.DownBackwardIdeal.Value.run_blocks (F := Ideal) m g)
    obtain ⟨e, rest⟩ := h c
    exact ⟨e.trans (final2 m c), rest⟩
  · refine (θ_run Cert.DownReferenceIdeal.defs _ _).mono (fun r h c => ?_) (Cert.DownReferenceIdeal.Value.run (F := Ideal) m' g')
    obtain ⟨e, rest⟩ := h c
    obtain ⟨a0, a1, a2, a3, a4, a5, a6⟩ := hag c
    refine ⟨e.trans ((Cert.DownReferenceIdeal.Read.val_main_v25_eq _ _ _ _ _ _).trans ?_), rest⟩
    rw [total, up, ← a0, ← a1, ← a2, ← a3, ← a4, ← a6]
    exact funext fun i => (congrArg _ (eq_ix3 i)).trans (v25_at _ _ _ _ _ _ _ _ _)

/-- The reference program terminates, leaves its argument arrays as they were, and has no semaphore to leave counted. -/
theorem reference_frame : @Cert.quiescent_DownReferenceIdeal Cert.DownReferenceIdeal.Gen.facts := fun m g _ =>
  (θ_run Cert.DownReferenceIdeal.defs _ _).mono
    (fun r h => And.intro (fun c => (h c).2) (sem_eq_zero_of_no_sems (by decide) r.2))
    (Cert.DownReferenceIdeal.Value.run (F := Ideal) m g)

end Cert.DownClaim

end
-- ==== Proof.ModClaim.lean ====
/- The value claim about the gradient of the modulation's weights: the call that forms silu(c) itself and the derivative of the
   modulation's lines leave the same array, whatever the arguments hold. -/
module

public import proofs.«01_k».proof.Defs
public import proofs.«01_k».proof.Proof.Gen.ModBackwardIdeal.Value
public import proofs.«01_k».proof.Proof.Gen.ModReferenceIdeal.Run
public import proofs.«01_k».proof.Proof.Gen.ModReferenceIdeal.Read
public import Idealize.ShloMosaic.Lib.Pipeline.ValueKit

@[expose] public section

set_option maxRecDepth 16384

noncomputable section

open Idealize.ShloMosaic Idealize.ShloMosaic.TcCoe Idealize.SL.Sem

namespace Cert.ModClaim

/-- The gate of the conditioning: an entry times its logistic. -/
def gate (x : EReal) : EReal := x * Ideal.div 1 (1 + Ideal.exp (-x))

/-- The gradient of layer `l`'s modulation weight at row `k` and column `n`: a sum over the batch. -/
def grad (c : (⟨2, ![8, 1024]⟩ : Shape).Idx → EReal) (d : (⟨3, ![2, 8, 1536]⟩ : Shape).Idx → EReal) (l : Fin 2) (k : Fin 1024) (n : Fin 1536) : EReal :=
  ∑ q : Fin 8, gate (c (ix2 q k)) * d (ix3 l q n)

section Reference

open Cert.ModReferenceIdeal Cert.ModReferenceIdeal.Gen Cert.ModReferenceIdeal.Read

variable (x0 : FVec Ideal S8x1024 .f32) (x2 : FVec Ideal S2x8x1536 .f32)

theorem v4_at (q : Fin 8) (k : Fin 1024) : val_main_v4 (F := Ideal) x0 (ix2 q k) = gate (x0 (ix2 q k)) := by
  pointwise [val_main_v4, val_main_call0_v5, val_main_call0_v4, val_main_call0_v3, val_main_call0_v2, val_main_call0_v1, val_main_call0_v0, val_main_call0_cst, val_main_call0_cst_0]
  rfl

theorem v7_at (k : Fin 1024) (n : Fin 1536) : val_main_v7 (F := Ideal) x0 x2 (ix2 k n) = grad x0 x2 0 k n := by
  pointwise [val_main_v7, val_main_v6, val_main_v3, val_main_v2, v4_at]
  exact Finset.sum_congr rfl fun q _ => mul_comm _ _

theorem v15_at (k : Fin 1024) (n : Fin 1536) : val_main_v15 (F := Ideal) x0 x2 (ix2 k n) = grad x0 x2 1 k n := by
  have e : val_main_v12 (F := Ideal) x0 = val_main_v4 (F := Ideal) x0 := rfl
  pointwise [val_main_v15, val_main_v14, val_main_v11, val_main_v10, e, v4_at]
  exact Finset.sum_congr rfl fun q _ => mul_comm _ _

theorem v18_at (l : Fin 2) (k : Fin 1024) (n : Fin 1536) : val_main_v18 (F := Ideal) x0 x2 (ix3 l k n) = grad x0 x2 l k n := by
  fin_cases l
  · pointwise [val_main_v18, val_main_v16, v7_at]
  · pointwise [val_main_v18, val_main_v17, v15_at]

end Reference

section Call

open Cert.ModBackwardIdeal Cert.ModBackwardIdeal.Gen

theorem pay1_at (v0 : Vec Ideal S1024x8 .f32) (v10 : Vec Ideal S1x8x1536 .f32) (k : Fin 1024) (n : Fin 1536) :
    k0_pay1 (F := Ideal) v0 v10 (ix3 0 k n) = (∑ q : Fin 8, gate (v0 (ix2 k q)) * v10 (ix3 0 q n) : EReal) := by
  pointwise [k0_pay1]
  simp only [gate, zero_sub]

variable (m : (ℓ : Loc nD τ sig) → Buf (Elt Ideal) ℓ) (c : Dev nD)

theorem idx : ∀ t : Fin cfg0.N, win0_0.index t = ![0, 0] ∧ win0_1.index t = ![t.val, 0, 0] ∧ win0_2.index t = ![t.val, 0, 0] :=
  (by decide +kernel : ∀ t : Fin grid0.N, _)

/-- The grid point as one of the two layers. -/
abbrev pt (t : Fin cfg0.N) : Fin 2 := ⟨t.val, lt_of_lt_of_eq t.isLt N_0⟩

theorem V_v0 (k : Fin 1024) (q : Fin 8) : V m c main_v0 (ix2 k q) = m ((c : Thread nD τ).loc main_arg0) (ix2 q k) := by
  simp only [V, hostOps0, List.flatten_cons, List.flatten_nil, List.append_nil, List.cons_append, List.nil_append]
  after_results
  pointwise

theorem b0 (t : Fin cfg0.N) (k : Fin 1024) (q : Fin 8) : iblk m c 0 t (ix2 k q) = m ((c : Thread nD τ).loc main_arg0) (ix2 q k) := by
  refine Eq.trans ?_ (V_v0 m c k q)
  blk_ext [iblk, idx t]
theorem b1 (t : Fin cfg0.N) (q : Fin 8) (n : Fin 1536) : iblk m c 1 t (ix3 0 q n) = m ((c : Thread nD τ).loc main_arg2) (ix3 (pt t) q n) := by
  blk_ext [iblk, V, idx t]

theorem out_at (t : Fin cfg0.N) (a : Fin 1) (k : Fin 1024) (n : Fin 1536) :
    out0_2 (F := Ideal) (iblk m c 0 t) (iblk m c 1 t) (ix3 a k n)
      = grad (m ((c : Thread nD τ).loc main_arg0)) (m ((c : Thread nD τ).loc main_arg2)) (pt t) k n := by
  obtain rfl : a = 0 := Subsingleton.elim a 0
  rw [out0_2]
  frame_out
  refine (pay1_at _ _ k n).trans ?_
  exact Finset.sum_congr rfl fun q _ => by rw [b0, b1]

/-- The gradient of both layers' weights as an array. -/
abbrev grads (x : (⟨2, ![8, 1024]⟩ : Shape).Idx → EReal) (d : (⟨3, ![2, 8, 1536]⟩ : Shape).Idx → EReal) : (⟨3, ![2, 1024, 1536]⟩ : Shape).Idx → EReal :=
  fun i => grad x d (i 0) (i 1) (i 2)

/-- The gradient at what the call's arguments hold. -/
abbrev total : (⟨3, ![2, 1024, 1536]⟩ : Shape).Idx → EReal := grads (m ((c : Thread nD τ).loc main_arg0)) (m ((c : Thread nD τ).loc main_arg2))

theorem layer_eq (g : Fin 2 → Fin 1024 → Fin 1536 → EReal) (o : (⟨3, ![1, 1024, 1536]⟩ : Shape).Idx → EReal) (l : Fin 2)
    (ho : ∀ (a : Fin 1) (k : Fin 1024) (n : Fin 1536), o (ix3 a k n) = g l k n) (y : (⟨3, ![1, 1024, 1536]⟩ : Shape).Idx)
    (z : (⟨3, ![2, 1024, 1536]⟩ : Shape).Idx) (hz : ix3 l (y 1) (y 2) = z) : o y = g (z 0) (z 1) (z 2) := by
  subst hz
  exact (congrArg o (eq_ix3 y)).trans (ho _ _ _)

theorem final2 : (dats m 0 c).arrAt 2 cfg0.N = total m c := by
  refine (dats m 0 c).arrAt_eq_of_covers 2 _ (by decide +kernel) fun t hf y => ?_
  blk_simp
  rw [after0_2]
  refine layer_eq (grad (m ((c : Thread nD τ).loc main_arg0)) (m ((c : Thread nD τ).loc main_arg2))) _ (pt t) (out_at m c t) y _ ?_
  blk_ext [idx t]

end Call

theorem algebraic : @Cert.algebraic_ModBackwardIdeal_ModReferenceIdeal Cert.ModBackwardIdeal.Gen.facts Cert.ModReferenceIdeal.Gen.facts := by
  intro m g m' g' _ hag
  refine ⟨total m, ?_, ?_⟩
  · refine (θ_run Cert.ModBackwardIdeal.defs _ _).mono (fun r h c => ?_) (Cert.ModBackwardIdeal.Value.run_blocks (F := Ideal) m g)
    obtain ⟨e, rest⟩ := h c
    exact ⟨e.trans (final2 m c), rest⟩
  · refine (θ_run Cert.ModReferenceIdeal.defs _ _).mono (fun r h c => ?_) (Cert.ModReferenceIdeal.Value.run (F := Ideal) m' g')
    obtain ⟨e, rest⟩ := h c
    obtain ⟨a0, a1, a2⟩ := hag c
    refine ⟨e.trans ((Cert.ModReferenceIdeal.Read.val_main_v18_eq _ _).trans ?_), rest⟩
    rw [total, ← a0, ← a2]
    exact funext fun i => (congrArg _ (eq_ix3 i)).trans (v18_at _ _ _ _ _)

/-- The reference program terminates, leaves its argument arrays as they were, and has no semaphore to leave counted. -/
theorem reference_frame : @Cert.quiescent_ModReferenceIdeal Cert.ModReferenceIdeal.Gen.facts := fun m g _ =>
  (θ_run Cert.ModReferenceIdeal.defs _ _).mono
    (fun r h => And.intro (fun c => (h c).2) (sem_eq_zero_of_no_sems (by decide) r.2))
    (Cert.ModReferenceIdeal.Value.run (F := Ideal) m g)

end Cert.ModClaim

end
-- ==== Proof.MixClaim.lean ====
/- The mixer's backward call: the reference's frame. -/
module

public import proofs.«01_k».proof.Defs
public import proofs.«01_k».proof.Proof.Gen.MixerReferenceIdeal.Run
public import Idealize.ShloMosaic.Adequacy

@[expose] public section

noncomputable section

namespace Cert.MixClaim

open Idealize.ShloMosaic Idealize.SL.Sem

/-- The reference runs to its end from every start, and its counters end at zero. -/
theorem reference_frame : @Cert.quiescent_MixerReferenceIdeal Cert.MixerReferenceIdeal.Gen.facts := fun m g _ =>
  (θ_run Cert.MixerReferenceIdeal.defs _ _).mono
    (fun r h => And.intro (fun c => (h c).2.2) (sem_eq_zero_of_no_sems (by decide) r.2))
    (Cert.MixerReferenceIdeal.Value.run (F := Ideal) m g)

end Cert.MixClaim

end
-- ==== Proof.MlpForwardMath.lean ====
/- The squared-ReLU sub-layer in extended reals: the numbers both programs leave, the reference's arrays read entry by entry, and
   what one tile of the call stores. -/
module

public import proofs.«01_k».proof.Proof.Gen.MlpForwardIdeal.Skeleton
public import proofs.«01_k».proof.Proof.Gen.MlpForwardReferenceIdeal.Read
public import proofs.«01_k».proof.Proof.Tiles
public import Idealize.ShloMosaic.Lib.Pipeline.ValueKit

@[expose] public section

set_option maxRecDepth 16384

noncomputable section

open Idealize.ShloMosaic Idealize.ShloMosaic.TcCoe Idealize.SL.Sem

namespace Cert.MlpForwardMath

/-- The arguments of the sub-layer. -/
structure Args where
  X : Fin 4096 → Fin 1024 → EReal
  sh : Fin 1024 → EReal
  sc : Fin 1024 → EReal
  gt : Fin 1024 → EReal
  gPre : Fin 1024 → EReal
  gPost : Fin 1024 → EReal
  Wu : Fin 1024 → Fin 4096 → EReal
  Wd : Fin 4096 → Fin 1024 → EReal

/-- The reciprocal root of a row's mean square, with the small constant under the root. -/
def rms (x : Fin 1024 → EReal) : EReal :=
  Ideal.rsqrt (Ideal.div (∑ k, x k * x k) (Ideal.ofBits FTy.f32 1149239296#32) + Ideal.ofBits FTy.f32 897988541#32)

/-- The squared ReLU. -/
def sq (x : EReal) : EReal := max x 0 * max x 0

variable (A : Args)

/-- The modulated norm of the input. -/
def hid (r : Fin 4096) (j : Fin 1024) : EReal := A.X r j * rms (A.X r) * (A.gPre j * (1 + A.sc j)) + A.sh j

/-- The up-projection, before the activation. -/
def up (r n : Fin 4096) : EReal := ∑ k, hid A r k * A.Wu k n

/-- The down-projection of the activation. -/
def out (r : Fin 4096) (j : Fin 1024) : EReal := ∑ n, sq (up A r n) * A.Wd n j

/-- The sub-layer's result: the input and the gated norm of the down-projection. -/
def res (r : Fin 4096) (j : Fin 1024) : EReal := A.X r j + out A r j * rms (out A r) * (A.gt j * A.gPost j)

section Reference

open Cert.MlpForwardReferenceIdeal Cert.MlpForwardReferenceIdeal.Gen Cert.MlpForwardReferenceIdeal.Read

variable (x0 : FVec Ideal S4096x1024 .f32) (x1 x2 x3 : FVec Ideal S1x1024 .f32) (x4 x5 : FVec Ideal S1024 .f32)
  (x6 : FVec Ideal S1024x4096 .f32) (x7 : FVec Ideal S4096x1024 .f32)

/-- The arguments held by eight arrays. -/
abbrev args : Args where
  X r j := x0 (ix2 r j)
  sh j := x1 (ix2 0 j)
  sc j := x2 (ix2 0 j)
  gt j := x3 (ix2 0 j)
  gPre j := x4 (ix1 j)
  gPost j := x5 (ix1 j)
  Wu k n := x6 (ix2 k n)
  Wd n j := x7 (ix2 n j)

theorem v18_at (r : Fin 4096) (j : Fin 1024) : val_main_v18 (F := Ideal) x0 x1 x2 x4 (ix2 r j) = hid (args x0 x1 x2 x3 x4 x5 x6 x7) r j := by
  pointwise [val_main_v18, val_main_v16, val_main_v12, val_main_v9, val_main_v8, val_main_v7, val_main_v6, val_main_v4, val_main_v2,
    val_main_v1, val_main_v0, val_main_v3, val_main_cst_0, val_main_cst, val_main_v5, val_main_cst_1, val_main_v11, val_main_v10,
    val_main_v15, val_main_v14, val_main_v13, val_main_cst_2, val_main_v17]
  rw [hid, mul_assoc _ (x4 (ix1 j) : EReal)]
  rfl

theorem v39_at (r : Fin 4096) (j : Fin 1024) : val_main_v39 (F := Ideal) x0 x1 x2 x4 (ix2 r j) = hid (args x0 x1 x2 x3 x4 x5 x6 x7) r j :=
  v18_at x0 x1 x2 x3 x4 x5 x6 x7 r j

theorem v19_at (r n : Fin 4096) : val_main_v19 (F := Ideal) x0 x1 x2 x4 x6 (ix2 r n) = up (args x0 x1 x2 x3 x4 x5 x6 x7) r n := by
  pointwise [val_main_v19]
  exact Finset.sum_congr rfl fun k _ => by rw [v18_at x0 x1 x2 x3 x4 x5 x6 x7]

theorem v40_at (r n : Fin 4096) : val_main_v40 (F := Ideal) x0 x1 x2 x4 x6 (ix2 r n) = up (args x0 x1 x2 x3 x4 x5 x6 x7) r n :=
  v19_at x0 x1 x2 x3 x4 x5 x6 x7 r n

theorem v21_at (r n : Fin 4096) :
    val_main_v21 (F := Ideal) x0 x1 x2 x4 x6 (ix2 r n) = sq (up (args x0 x1 x2 x3 x4 x5 x6 x7) r n) := by
  pointwise [val_main_v21, val_main_v20, val_main_call0_v0, val_main_call0_cst]
  rw [v19_at x0 x1 x2 x3 x4 x5 x6 x7]
  rfl

theorem v22_at (r : Fin 4096) (j : Fin 1024) :
    val_main_v22 (F := Ideal) x0 x1 x2 x4 x6 x7 (ix2 r j) = out (args x0 x1 x2 x3 x4 x5 x6 x7) r j := by
  pointwise [val_main_v22]
  exact Finset.sum_congr rfl fun k _ => by rw [v21_at x0 x1 x2 x3 x4 x5 x6 x7]

theorem v41_at (r : Fin 4096) (j : Fin 1024) :
    val_main_v41 (F := Ideal) x0 x1 x2 x4 x6 x7 (ix2 r j) = out (args x0 x1 x2 x3 x4 x5 x6 x7) r j :=
  v22_at x0 x1 x2 x3 x4 x5 x6 x7 r j

theorem v38_at (r : Fin 4096) (j : Fin 1024) :
    val_main_v38 (F := Ideal) x0 x1 x2 x3 x4 x5 x6 x7 (ix2 r j) = res (args x0 x1 x2 x3 x4 x5 x6 x7) r j := by
  pointwise [val_main_v38, val_main_v37, val_main_v36, val_main_v35, val_main_v34, val_main_v33, val_main_v32, val_main_v31,
    val_main_v30, val_main_v29, val_main_v28, val_main_cst_5, val_main_v27, val_main_v26, val_main_cst_4, val_main_v25, val_main_v24,
    val_main_cst_3, val_main_v23, v22_at x0 x1 x2 x3 x4 x5 x6 x7]
  rw [res, mul_left_comm]
  rfl

end Reference

section Tile

open Cert.MlpForwardIdeal Cert.MlpForwardIdeal.Gen Cert.Tiles

/-- The column of the hidden width that column `n` of quarter `b` is. -/
def col (b : Fin 4) (n : Fin 1024) : Fin 4096 := ⟨1024 * b.val + n.val, by omega⟩

/-- A sum over the hidden width, quarter by quarter. -/
theorem sum_col (f : Fin 4096 → EReal) :
    ∑ n, f n = (∑ n, f (col 0 n)) + (∑ n, f (col 1 n)) + (∑ n, f (col 2 n)) + (∑ n, f (col 3 n)) := by
  rw [Lift.sum_split (a := 4) (b := 1024) rfl f, Fin.sum_univ_four]
  rfl

variable {A} {t : Fin 8}
variable {v0 : Vec Ideal S512x1024 .f32} {v11 v13 v20 v91 v93 : Vec Ideal S1x1024 .f32}
variable (h0 : ∀ i j, v0 (ix2 i j) = A.X (row t i) j)
variable (h11 : ∀ j, v11 (ix2 0 j) = A.gPre j) (h13 : ∀ j, v13 (ix2 0 j) = A.sc j) (h20 : ∀ j, v20 (ix2 0 j) = A.sh j)
variable (h91 : ∀ j, v91 (ix2 0 j) = A.gt j) (h93 : ∀ j, v93 (ix2 0 j) = A.gPost j)

include h0 h11 h13 h20 in
theorem pay1_at (i : Fin 512) (j : Fin 1024) : k0_pay1 (F := Ideal) v0 v11 v13 v20 (ix2 i j) = hid A (row t i) j := by
  pointwise [k0_pay1, h0, h11, h13, h20]
  rfl

section Quarter

variable {v24 : FVec Ideal S512x1024 .bf16} {w : FVec Ideal S1x1024x1024 .bf16} {b : Fin 4}
variable (h24 : ∀ i j, v24 (ix2 i j) = hid A (row t i) j) (hw : ∀ k n, w (ix3 0 k n) = A.Wu k (col b n))

include h24 hw in
theorem sum_at (i : Fin 512) (n : Fin 1024) : (∑ k, v24 (ix2 i k) * w (ix3 0 k n) : EReal) = up A (row t i) (col b n) :=
  Finset.sum_congr rfl fun k _ => by rw [h24, hw]

include h24 hw in
theorem pay7_at (i : Fin 512) (n : Fin 1024) : k0_pay7 (F := Ideal) v24 w (ix2 i n) = up A (row t i) (col b n) := by
  pointwise [k0_pay7, k0_pay6]
  exact sum_at h24 hw i n

include h24 hw in
theorem pay9_at (i : Fin 512) (n : Fin 1024) : k0_pay9 (F := Ideal) v24 w (ix2 i n) = up A (row t i) (col b n) := by
  pointwise [k0_pay9, k0_pay8]
  exact sum_at h24 hw i n

include h24 hw in
theorem pay12_at (i : Fin 512) (n : Fin 1024) : k0_pay12 (F := Ideal) v24 w (ix2 i n) = up A (row t i) (col b n) := by
  pointwise [k0_pay12, k0_pay11]
  exact sum_at h24 hw i n

end Quarter

variable {u0 u1 u2 u3 d0 d1 d2 d3 : FVec Ideal S1x1024x1024 .bf16}
variable (hu0 : ∀ k n, u0 (ix3 0 k n) = A.Wu k (col 0 n)) (hu1 : ∀ k n, u1 (ix3 0 k n) = A.Wu k (col 1 n))
variable (hu2 : ∀ k n, u2 (ix3 0 k n) = A.Wu k (col 2 n)) (hu3 : ∀ k n, u3 (ix3 0 k n) = A.Wu k (col 3 n))
variable (hd0 : ∀ k n, d0 (ix3 0 k n) = A.Wd (col 0 k) n) (hd1 : ∀ k n, d1 (ix3 0 k n) = A.Wd (col 1 k) n)
variable (hd2 : ∀ k n, d2 (ix3 0 k n) = A.Wd (col 2 k) n) (hd3 : ∀ k n, d3 (ix3 0 k n) = A.Wd (col 3 k) n)

include h0 h11 h13 h20 hu0 in
theorem pay4_at (i : Fin 512) (n : Fin 1024) : k0_pay4 (F := Ideal) v0 v11 v13 v20 u0 (ix2 i n) = up A (row t i) (col 0 n) := by
  pointwise [k0_pay4, k0_pay3]
  exact sum_at (pay1_at h0 h11 h13 h20) hu0 i n

include h0 h11 h13 h20 hu0 in
theorem pay5_at (i : Fin 512) (n : Fin 1024) : k0_pay5 (F := Ideal) v0 v11 v13 v20 u0 (ix2 i n) = sq (up A (row t i) (col 0 n)) := by
  pointwise [k0_pay5, k0_pay3]
  rw [sum_at (pay1_at h0 h11 h13 h20) hu0 i n]
  rfl

/-- The down-projection of one tile, as the four quarters add it up. -/
abbrev down (v0 : Vec Ideal S512x1024 .f32) (v11 v13 v20 : Vec Ideal S1x1024 .f32) (u0 u1 u2 u3 d0 d1 d2 d3 : FVec Ideal S1x1024x1024 .bf16) :
    FVec Ideal S512x1024 .f32 :=
  k0_pay13 (F := Ideal) (k0_pay1 v0 v11 v13 v20) (k0_pay10 (k0_pay1 v0 v11 v13 v20) k0_pay2 (k0_pay5 v0 v11 v13 v20 u0) d0 u1 d1 u2 d2) u3 d3

include h0 h11 h13 h20 hu0 hu1 hu2 hu3 hd0 hd1 hd2 hd3 in
theorem down_at (i : Fin 512) (j : Fin 1024) : down v0 v11 v13 v20 u0 u1 u2 u3 d0 d1 d2 d3 (ix2 i j) = out A (row t i) j := by
  have h24 := pay1_at h0 h11 h13 h20
  pointwise [down, k0_pay13, k0_pay11, k0_pay10, k0_pay6, k0_pay8, k0_pay2, pay5_at h0 h11 h13 h20 hu0,
    sum_at h24 hu1, sum_at h24 hu2, sum_at h24 hu3, hd0, hd1, hd2, hd3]
  rw [out, sum_col]
  rfl

include h0 h11 h13 h20 hu0 hu1 hu2 hu3 hd0 hd1 hd2 hd3 in
theorem pay14_at (i : Fin 512) (j : Fin 1024) :
    k0_pay14 (F := Ideal) (k0_pay1 v0 v11 v13 v20) (k0_pay10 (k0_pay1 v0 v11 v13 v20) k0_pay2 (k0_pay5 v0 v11 v13 v20 u0) d0 u1 d1 u2 d2) u3 d3 (ix2 i j)
      = out A (row t i) j :=
  down_at h0 h11 h13 h20 hu0 hu1 hu2 hu3 hd0 hd1 hd2 hd3 i j

include h0 h11 h13 h20 h91 h93 hu0 hu1 hu2 hu3 hd0 hd1 hd2 hd3 in
theorem pay15_at (i : Fin 512) (j : Fin 1024) :
    k0_pay15 (F := Ideal) v0 (k0_pay1 v0 v11 v13 v20) (k0_pay10 (k0_pay1 v0 v11 v13 v20) k0_pay2 (k0_pay5 v0 v11 v13 v20 u0) d0 u1 d1 u2 d2) u3 d3
      v91 v93 (ix2 i j) = res A (row t i) j := by
  have e := down_at h0 h11 h13 h20 hu0 hu1 hu2 hu3 hd0 hd1 hd2 hd3
  pointwise [k0_pay15, h0, h91, h93, e]
  rfl

end Tile

end Cert.MlpForwardMath

end
-- ==== Proof.MlpForwardClaim.lean ====
/- The value claim about the forward pass of the squared-ReLU sub-layer: the call and reference.py's lines leave the same four
   arrays, whatever the arguments hold. -/
module

public import proofs.«01_k».proof.Defs
public import proofs.«01_k».proof.Proof.Gen.MlpForwardIdeal.Value
public import proofs.«01_k».proof.Proof.Gen.MlpForwardReferenceIdeal.Run
public import proofs.«01_k».proof.Proof.MlpForwardMath
public import proofs.«01_k».proof.Proof.Rows

@[expose] public section

set_option maxRecDepth 16384

noncomputable section

open Idealize.ShloMosaic Idealize.ShloMosaic.TcCoe Idealize.SL.Sem

namespace Cert.MlpForwardClaim

open Cert.MlpForwardIdeal Cert.MlpForwardIdeal.Gen Cert.MlpForwardMath Cert.Tiles

variable (m : (ℓ : Loc nD τ sig) → Buf (Elt Ideal) ℓ) (c : Dev nD)

/-- The call's arguments on a device. -/
abbrev argsAt : Args := args (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-! ## What the host code puts into the call's arrays -/

theorem V_v7 : V m c main_v7 = (truncf (F := Ideal) FTy.bf16 (transpose S4x1024x1024 [1, 0, 2]
    (shapeCast S1024x4x1024 (m ((c : Thread nD τ).loc main_arg6)) shapeCasts_S1024x4096_S1024x4x1024)
      transposes_S1024x4x1024_S4x1024x1024_1_0_2) bitsLt_bf16_f32 : S4x1024x1024.Idx → EReal) := by
  simp only [V, hostOps0, List.flatten_cons, List.flatten_nil, List.append_nil, List.cons_append, List.nil_append]
  after_results
  rfl

theorem V_v9 : V m c main_v9 = (truncf (F := Ideal) FTy.bf16
    (shapeCast S4x1024x1024 (m ((c : Thread nD τ).loc main_arg7)) shapeCasts_S4096x1024_S4x1024x1024) bitsLt_bf16_f32 :
      S4x1024x1024.Idx → EReal) := by
  simp only [V, hostOps0, List.flatten_cons, List.flatten_nil, List.append_nil, List.cons_append, List.nil_append]
  after_results
  rfl

theorem v1_row3 (j : Fin 1024) : V m c main_v1 (ix2 3 j) = (argsAt m c).sh j := by
  simp only [V, hostOps0, List.flatten_cons, List.flatten_nil, List.append_nil, List.cons_append, List.nil_append]
  after_results
  pointwise
  after_results_steps

theorem v1_row4 (j : Fin 1024) : V m c main_v1 (ix2 4 j) = (argsAt m c).sc j := by
  simp only [V, hostOps0, List.flatten_cons, List.flatten_nil, List.append_nil, List.cons_append, List.nil_append]
  after_results
  pointwise
  after_results_steps

theorem v1_row5 (j : Fin 1024) : V m c main_v1 (ix2 5 j) = (argsAt m c).gt j := by
  simp only [V, hostOps0, List.flatten_cons, List.flatten_nil, List.append_nil, List.cons_append, List.nil_append]
  after_results
  pointwise
  after_results_steps

theorem v4_row7 (j : Fin 1024) : V m c main_v4 (ix2 7 j) = (argsAt m c).gPre j := by
  simp only [V, hostOps0, List.flatten_cons, List.flatten_nil, List.append_nil, List.cons_append, List.nil_append]
  after_results
  pointwise
  after_results_steps
  pointwise

theorem v4_row8 (j : Fin 1024) : V m c main_v4 (ix2 8 j) = (argsAt m c).gPost j := by
  simp only [V, hostOps0, List.flatten_cons, List.flatten_nil, List.append_nil, List.cons_append, List.nil_append]
  after_results
  pointwise
  after_results_steps
  pointwise

theorem v7_at (b : Fin 4) (k n : Fin 1024) : V m c main_v7 (ix3 b k n) = (argsAt m c).Wu k (col b n) := by
  rw [V_v7]
  pointwise
  simp only [col, Nat.mul_comm]

theorem v9_at (b : Fin 4) (k n : Fin 1024) : V m c main_v9 (ix3 b k n) = (argsAt m c).Wd (col b k) n := by
  rw [V_v9]
  refine shapeCast_apply _ _ (ix3 b k n) (ix2 (col b k) n) ?_
  rw [Shape.rowMajor_val_two, Shape.rowMajor_val_three]
  show (1024 * b.val + k.val) * 1024 + n.val = (b.val * 1024 + k.val) * 1024 + n.val
  omega

/-! ## The blocks of a tile -/

theorem idx : ∀ t : Fin cfg0.N, win0_0.index t = ![t.val, 0] ∧ win0_1.index t = ![0, 0] ∧ win0_2.index t = ![0, 0]
    ∧ win0_3.index t = ![0, 0, 0] ∧ win0_4.index t = ![0, 0, 0] ∧ win0_5.index t = ![t.val, 0] ∧ win0_6.index t = ![t.val, 0]
    ∧ win0_7.index t = ![t.val, 0] ∧ win0_8.index t = ![t.val, 0] :=
  (by decide +kernel : ∀ t : Fin grid0.N, _)

/-- The grid point as one of the 8 tiles. -/
abbrev pt (t : Fin cfg0.N) : Fin 8 := ⟨t.val, lt_of_lt_of_eq t.isLt N_0⟩

variable (t : Fin cfg0.N)

theorem b0 (i : Fin 512) (j : Fin 1024) : iblk m c 0 t (ix2 i j) = (argsAt m c).X (row (pt t) i) j := by
  show _ = m ((c : Thread nD τ).loc main_arg0) (ix2 (row (pt t) i) j)
  blk_ext [iblk, V, idx t]
  exact congrArg (· + i.val) (Nat.mul_comm _ _)
theorem b1 (k : Fin 8) (j : Fin 1024) : iblk m c 1 t (ix2 k j) = V m c main_v1 (ix2 k j) := by
  blk_ext [iblk, idx t]
theorem b2 (k : Fin 16) (j : Fin 1024) : iblk m c 2 t (ix2 k j) = V m c main_v4 (ix2 k j) := by
  blk_ext [iblk, idx t]
theorem b3 (b : Fin 4) (k n : Fin 1024) : iblk m c 3 t (ix3 b k n) = (argsAt m c).Wu k (col b n) := by
  refine Eq.trans ?_ (v7_at m c b k n)
  blk_ext [iblk, idx t]
theorem b4 (b : Fin 4) (k n : Fin 1024) : iblk m c 4 t (ix3 b k n) = (argsAt m c).Wd (col b k) n := by
  refine Eq.trans ?_ (v9_at m c b k n)
  blk_ext [iblk, idx t]

theorem x_all (i : Fin 512) (j : Fin 1024) : View.ld (iblk m c 0 t) r0_0 (ix2 i j) = (argsAt m c).X (row (pt t) i) j :=
  (Rows.ld_band _ _ i j j (Nat.zero_add _).symm).trans (b0 m c t i j)
theorem gPre_row (j : Fin 1024) : View.ld (iblk m c 2 t) r0_1 (ix2 0 j) = (argsAt m c).gPre j :=
  (Rows.ld_row _ _ j (by decide)).trans ((b2 m c t 7 j).trans (v4_row7 m c j))
theorem gPost_row (j : Fin 1024) : View.ld (iblk m c 2 t) r0_13 (ix2 0 j) = (argsAt m c).gPost j :=
  (Rows.ld_row _ _ j (by decide)).trans ((b2 m c t 8 j).trans (v4_row8 m c j))
theorem sc_row (j : Fin 1024) : View.ld (iblk m c 1 t) r0_2 (ix2 0 j) = (argsAt m c).sc j :=
  (Rows.ld_row _ _ j (by decide)).trans ((b1 m c t 4 j).trans (v1_row4 m c j))
theorem sh_row (j : Fin 1024) : View.ld (iblk m c 1 t) r0_3 (ix2 0 j) = (argsAt m c).sh j :=
  (Rows.ld_row _ _ j (by decide)).trans ((b1 m c t 3 j).trans (v1_row3 m c j))
theorem gt_row (j : Fin 1024) : View.ld (iblk m c 1 t) r0_12 (ix2 0 j) = (argsAt m c).gt j :=
  (Rows.ld_row _ _ j (by decide)).trans ((b1 m c t 5 j).trans (v1_row5 m c j))

theorem wu_slab (b : Fin 4) {o : ℕ} (inb) (ho : b.val = o) (k n : Fin 1024) :
    View.ld (iblk m c 3 t) (Rect.unit (s := S4x1024x1024) ![o, 0, 0] ![1, 1024, 1024] inb) (ix3 0 k n) = (argsAt m c).Wu k (col b n) :=
  (Rows.ld_slab _ _ b k n ho).trans (b3 m c t b k n)
theorem wd_slab (b : Fin 4) {o : ℕ} (inb) (ho : b.val = o) (k n : Fin 1024) :
    View.ld (iblk m c 4 t) (Rect.unit (s := S4x1024x1024) ![o, 0, 0] ![1, 1024, 1024] inb) (ix3 0 k n) = (argsAt m c).Wd (col b k) n :=
  (Rows.ld_slab _ _ b k n ho).trans (b4 m c t b k n)

/-! ## The four results of a tile -/

theorem hidT (i : Fin 512) (j : Fin 1024) :
    k0_pay1 (F := Ideal) (View.ld (iblk m c 0 t) r0_0) (View.ld (iblk m c 2 t) r0_1) (View.ld (iblk m c 1 t) r0_2) (View.ld (iblk m c 1 t) r0_3) (ix2 i j)
      = hid (argsAt m c) (row (pt t) i) j :=
  pay1_at (x_all m c t) (gPre_row m c t) (sc_row m c t) (sh_row m c t) i j

theorem out6_at (i : Fin 512) (j : Fin 1024) :
    out0_6 (F := Ideal) (iblk m c 0 t) (iblk m c 1 t) (iblk m c 2 t) (iblk m c 3 t) (iblk m c 4 t) (ix2 i j)
      = hid (argsAt m c) (row (pt t) i) j := by
  rw [out0_6]
  exact (Rows.canon_band_hit _ _ _ i j j (Nat.zero_add _).symm).trans (hidT m c t i j)

theorem out8_at (i : Fin 512) (j : Fin 1024) :
    out0_8 (F := Ideal) (iblk m c 0 t) (iblk m c 1 t) (iblk m c 2 t) (iblk m c 3 t) (iblk m c 4 t) (ix2 i j)
      = out (argsAt m c) (row (pt t) i) j := by
  rw [out0_8]
  exact (Rows.canon_band_hit _ _ _ i j j (Nat.zero_add _).symm).trans
    (pay14_at (x_all m c t) (gPre_row m c t) (sc_row m c t) (sh_row m c t) (wu_slab m c t 0 _ rfl) (wu_slab m c t 1 _ rfl) (wu_slab m c t 2 _ rfl)
      (wu_slab m c t 3 _ rfl) (wd_slab m c t 0 _ rfl) (wd_slab m c t 1 _ rfl) (wd_slab m c t 2 _ rfl) (wd_slab m c t 3 _ rfl) i j)

theorem out5_at (i : Fin 512) (j : Fin 1024) :
    out0_5 (F := Ideal) (iblk m c 0 t) (iblk m c 1 t) (iblk m c 2 t) (iblk m c 3 t) (iblk m c 4 t) (ix2 i j)
      = res (argsAt m c) (row (pt t) i) j := by
  rw [out0_5]
  exact (Rows.canon_band_hit _ _ _ i j j (Nat.zero_add _).symm).trans
    (pay15_at (x_all m c t) (gPre_row m c t) (sc_row m c t) (sh_row m c t) (gt_row m c t) (gPost_row m c t)
      (wu_slab m c t 0 _ rfl) (wu_slab m c t 1 _ rfl) (wu_slab m c t 2 _ rfl)
      (wu_slab m c t 3 _ rfl) (wd_slab m c t 0 _ rfl) (wd_slab m c t 1 _ rfl) (wd_slab m c t 2 _ rfl) (wd_slab m c t 3 _ rfl) i j)

theorem out7_at (i : Fin 512) (n : Fin 4096) :
    out0_7 (F := Ideal) (iblk m c 0 t) (iblk m c 1 t) (iblk m c 2 t) (iblk m c 3 t) (iblk m c 4 t) (ix2 i n)
      = up (argsAt m c) (row (pt t) i) n := by
  rw [out0_7]
  have hc : ∃ (b : Fin 4) (k : Fin 1024), n = col b k :=
    ⟨⟨n.val / 1024, by omega⟩, ⟨n.val % 1024, by omega⟩, Fin.ext (show n.val = 1024 * (n.val / 1024) + n.val % 1024 by omega)⟩
  obtain ⟨b, k, rfl⟩ := hc
  fin_cases b
  · refine (Rows.canon_band_miss _ _ _ i _ (.inl (show 1024 * 0 + k.val < 3072 by omega))).trans ?_
    refine (Rows.canon_band_miss _ _ _ i _ (.inl (show 1024 * 0 + k.val < 2048 by omega))).trans ?_
    refine (Rows.canon_band_miss _ _ _ i _ (.inl (show 1024 * 0 + k.val < 1024 by omega))).trans ?_
    exact (Rows.canon_band_hit _ _ _ i k _ rfl).trans
      (pay4_at (x_all m c t) (gPre_row m c t) (sc_row m c t) (sh_row m c t) (wu_slab m c t 0 _ rfl) i k)
  · refine (Rows.canon_band_miss _ _ _ i _ (.inl (show 1024 * 1 + k.val < 3072 by omega))).trans ?_
    refine (Rows.canon_band_miss _ _ _ i _ (.inl (show 1024 * 1 + k.val < 2048 by omega))).trans ?_
    exact (Rows.canon_band_hit _ _ _ i k _ rfl).trans (pay7_at (hidT m c t) (wu_slab m c t 1 _ rfl) i k)
  · refine (Rows.canon_band_miss _ _ _ i _ (.inl (show 1024 * 2 + k.val < 3072 by omega))).trans ?_
    exact (Rows.canon_band_hit _ _ _ i k _ rfl).trans (pay9_at (hidT m c t) (wu_slab m c t 2 _ rfl) i k)
  · exact (Rows.canon_band_hit _ _ _ i k _ rfl).trans (pay12_at (hidT m c t) (wu_slab m c t 3 _ rfl) i k)

/-! ## The four arrays -/

/-- A matrix as an array. -/
abbrev mat {d : ℕ} (f : Fin 4096 → Fin d → EReal) : (⟨2, ![4096, d]⟩ : Shape).Idx → EReal := fun i => f (i 0) (i 1)

/-- A tile of 512 rows of a matrix, entry by entry. -/
theorem mat_tile {d : ℕ} (f : Fin 4096 → Fin d → EReal) (o : (⟨2, ![512, d]⟩ : Shape).Idx → EReal) (s : Fin 8)
    (ho : ∀ (i : Fin 512) (j : Fin d), o (ix2 i j) = f (row s i) j) (y : (⟨2, ![512, d]⟩ : Shape).Idx)
    (z : (⟨2, ![4096, d]⟩ : Shape).Idx) (hz : ix2 (row s (y 0)) (y 1) = z) : o y = mat f z := by
  subst hz
  exact (congrArg o (eq_ix2 y)).trans (ho _ _)

theorem mat_of {d : ℕ} (x : (⟨2, ![4096, d]⟩ : Shape).Idx → EReal) (f : Fin 4096 → Fin d → EReal)
    (h : ∀ (i : Fin 4096) (j : Fin d), x (ix2 i j) = f i j) : x = mat f :=
  funext fun i => (congrArg x (eq_ix2 i)).trans (h _ _)

omit t

theorem final5 : (dats m 0 c).arrAt 5 cfg0.N = mat (res (argsAt m c)) := by
  refine (dats m 0 c).arrAt_eq_of_covers 5 _ (by decide +kernel) fun t hf y => ?_
  blk_simp
  rw [after0_5]
  refine mat_tile (res (argsAt m c)) _ (pt t) (out5_at m c t) y _ ?_
  blk_ext [idx t]
  exact congrArg (· + (y 0).val) (Nat.mul_comm _ _)

theorem final6 : (dats m 0 c).arrAt 6 cfg0.N = mat (hid (argsAt m c)) := by
  refine (dats m 0 c).arrAt_eq_of_covers 6 _ (by decide +kernel) fun t hf y => ?_
  blk_simp
  rw [after0_6]
  refine mat_tile (hid (argsAt m c)) _ (pt t) (out6_at m c t) y _ ?_
  blk_ext [idx t]
  exact congrArg (· + (y 0).val) (Nat.mul_comm _ _)

theorem final7 : (dats m 0 c).arrAt 7 cfg0.N = mat (up (argsAt m c)) := by
  refine (dats m 0 c).arrAt_eq_of_covers 7 _ (by decide +kernel) fun t hf y => ?_
  blk_simp
  rw [after0_7]
  refine mat_tile (up (argsAt m c)) _ (pt t) (out7_at m c t) y _ ?_
  blk_ext [idx t]
  exact congrArg (· + (y 0).val) (Nat.mul_comm _ _)

theorem final8 : (dats m 0 c).arrAt 8 cfg0.N = mat (out (argsAt m c)) := by
  refine (dats m 0 c).arrAt_eq_of_covers 8 _ (by decide +kernel) fun t hf y => ?_
  blk_simp
  rw [after0_8]
  refine mat_tile (out (argsAt m c)) _ (pt t) (out8_at m c t) y _ ?_
  blk_ext [idx t]
  exact congrArg (· + (y 0).val) (Nat.mul_comm _ _)

theorem algebraic : @Cert.algebraic_MlpForwardIdeal_MlpForwardReferenceIdeal Cert.MlpForwardIdeal.Gen.facts Cert.MlpForwardReferenceIdeal.Gen.facts := by
  intro m g m' g' _ hag
  refine ⟨fun c => mat (res (argsAt m c)), fun c => mat (hid (argsAt m c)), fun c => mat (up (argsAt m c)), fun c => mat (out (argsAt m c)), ?_, ?_⟩
  · refine (θ_run Cert.MlpForwardIdeal.defs _ _).mono (fun r h c => ?_) (Cert.MlpForwardIdeal.Value.run_blocks (F := Ideal) m g)
    obtain ⟨e5, e6, e7, e8, rest⟩ := h c
    exact ⟨e5.trans (final5 m c), e6.trans (final6 m c), e7.trans (final7 m c), e8.trans (final8 m c), rest⟩
  · refine (θ_run Cert.MlpForwardReferenceIdeal.defs _ _).mono (fun r h c => ?_) (Cert.MlpForwardReferenceIdeal.Value.run (F := Ideal) m' g')
    obtain ⟨e0, e1, e2, e3, rest⟩ := h c
    obtain ⟨a0, a1, a2, a3, a4, a5, a6, a7⟩ := hag c
    beta_reduce
    unfold argsAt
    rw [← a0, ← a1, ← a2, ← a3, ← a4, ← a5, ← a6, ← a7]
    exact ⟨e0.trans ((Cert.MlpForwardReferenceIdeal.Read.val_main_v38_eq _ _).trans (mat_of _ _ (v38_at _ _ _ _ _ _ _ _))),
      e1.trans ((Cert.MlpForwardReferenceIdeal.Read.val_main_v39_eq _ _ _ _).trans (mat_of _ _ (v39_at _ _ _ _ _ _ _ _))),
      e2.trans ((Cert.MlpForwardReferenceIdeal.Read.val_main_v40_eq _ _ _ _ _).trans (mat_of _ _ (v40_at _ _ _ _ _ _ _ _))),
      e3.trans ((Cert.MlpForwardReferenceIdeal.Read.val_main_v41_eq _ _ _ _ _ _).trans (mat_of _ _ (v41_at _ _ _ _ _ _ _ _))), rest⟩

/-- The reference program terminates, leaves its argument arrays as they were, and has no semaphore to leave counted. -/
theorem reference_frame : @Cert.quiescent_MlpForwardReferenceIdeal Cert.MlpForwardReferenceIdeal.Gen.facts := fun m g _ =>
  (θ_run Cert.MlpForwardReferenceIdeal.defs _ _).mono
    (fun r h => And.intro (fun c => (h c).2.2.2.2) (sem_eq_zero_of_no_sems (by decide) r.2))
    (Cert.MlpForwardReferenceIdeal.Value.run (F := Ideal) m g)

end Cert.MlpForwardClaim

end
-- ==== Proof.ModForwardClaim.lean ====
/- The value claim about the modulation: the call, which forms silu of the conditioning itself, and reference.py's line leave the
   same array, whatever the arguments hold. -/
module

public import proofs.«01_k».proof.Defs
public import proofs.«01_k».proof.Proof.Gen.ModForwardIdeal.Value
public import proofs.«01_k».proof.Proof.Gen.ModForwardReferenceIdeal.Run
public import proofs.«01_k».proof.Proof.Gen.ModForwardReferenceIdeal.Read
public import Idealize.ShloMosaic.Lib.Pipeline.ValueKit

@[expose] public section

set_option maxRecDepth 16384

noncomputable section

open Idealize.ShloMosaic Idealize.ShloMosaic.TcCoe Idealize.SL.Sem

namespace Cert.ModForwardClaim

/-- The gate of the conditioning: an entry times its logistic. -/
def gate (x : EReal) : EReal := x * Ideal.div 1 (1 + Ideal.exp (-x))

/-- Layer `l`'s modulation of the batch's entry `q` at column `n`. -/
def md (c : (⟨2, ![8, 1024]⟩ : Shape).Idx → EReal) (w : (⟨3, ![2, 1024, 1536]⟩ : Shape).Idx → EReal) (b : (⟨2, ![2, 1536]⟩ : Shape).Idx → EReal)
    (l : Fin 2) (q : Fin 8) (n : Fin 1536) : EReal :=
  (∑ k : Fin 1024, gate (c (ix2 q k)) * w (ix3 l k n)) + b (ix2 l n)

/-- The row of the whole array that a layer's entry of the batch is. -/
def row (l : Fin 2) (q : Fin 8) : Fin 16 := ⟨8 * l.val + q.val, by omega⟩

/-- Both layers' modulations as an array, layer by layer. -/
abbrev mds (c : (⟨2, ![8, 1024]⟩ : Shape).Idx → EReal) (w : (⟨3, ![2, 1024, 1536]⟩ : Shape).Idx → EReal) (b : (⟨2, ![2, 1536]⟩ : Shape).Idx → EReal) :
    (⟨2, ![16, 1536]⟩ : Shape).Idx → EReal :=
  fun i => md c w b ⟨(i 0).val / 8, by have : (i 0).val < 16 := (i 0).isLt; omega⟩ ⟨(i 0).val % 8, by omega⟩ (i 1)

theorem mds_row (c : (⟨2, ![8, 1024]⟩ : Shape).Idx → EReal) (w : (⟨3, ![2, 1024, 1536]⟩ : Shape).Idx → EReal) (b : (⟨2, ![2, 1536]⟩ : Shape).Idx → EReal)
    (l : Fin 2) (q : Fin 8) (n : Fin 1536) : mds c w b (ix2 (row l q) n) = md c w b l q n := by
  show md c w b ⟨(8 * l.val + q.val) / 8, _⟩ ⟨(8 * l.val + q.val) % 8, _⟩ n = _
  congr 1
  · exact Fin.ext (show (8 * l.val + q.val) / 8 = l.val by omega)
  · exact Fin.ext (show (8 * l.val + q.val) % 8 = q.val by omega)

/-- Every index of the whole array is a layer's entry of the batch and a column. -/
theorem at_row (i : (⟨2, ![16, 1536]⟩ : Shape).Idx) : ∃ l q n, i = ix2 (row l q) n := by
  have h0 : (i 0).val < 16 := (i 0).isLt
  refine ⟨⟨(i 0).val / 8, by omega⟩, ⟨(i 0).val % 8, by omega⟩, i 1, (eq_ix2 i).trans (congrArg (fun a => ix2 a (i 1)) (Fin.ext ?_))⟩
  show (i 0).val = 8 * ((i 0).val / 8) + (i 0).val % 8
  omega

section Reference

open Cert.ModForwardReferenceIdeal Cert.ModForwardReferenceIdeal.Gen Cert.ModForwardReferenceIdeal.Read

variable (x0 : FVec Ideal S8x1024 .f32) (x1 : FVec Ideal S2x1024x1536 .f32) (x2 : FVec Ideal S2x1536 .f32)

theorem silu_at (q : Fin 8) (k : Fin 1024) : val_main_v0 (F := Ideal) x0 (ix2 q k) = gate (x0 (ix2 q k)) := by
  pointwise [val_main_v0, val_main_call0_v5, val_main_call0_v4, val_main_call0_v3, val_main_call0_v2, val_main_call0_v1, val_main_call0_v0, val_main_call0_cst, val_main_call0_cst_0]
  rfl

theorem v8_at (q : Fin 8) (n : Fin 1536) : val_main_v8 (F := Ideal) x0 x1 x2 (ix2 q n) = md x0 x1 x2 0 q n := by
  pointwise [val_main_v8, val_main_v7, val_main_v6, val_main_v5, val_main_v4, val_main_v3, val_main_v2, val_main_v1, silu_at]
  rfl

theorem v17_at (q : Fin 8) (n : Fin 1536) : val_main_v17 (F := Ideal) x0 x1 x2 (ix2 q n) = md x0 x1 x2 1 q n := by
  have e : val_main_v9 (F := Ideal) x0 = val_main_v0 (F := Ideal) x0 := rfl
  pointwise [val_main_v17, val_main_v16, val_main_v15, val_main_v14, val_main_v13, val_main_v12, val_main_v11, val_main_v10, e, silu_at]
  rfl

theorem v18_at (l : Fin 2) (q : Fin 8) (n : Fin 1536) : val_main_v18 (F := Ideal) x0 x1 x2 (ix2 (row l q) n) = md x0 x1 x2 l q n := by
  refine (concatenate_ofFn_apply (α := EReal) (t := S16x1536) (s₁ := S8x1536) 0
    (fun l : Fin 2 => if l = 0 then val_main_v8 (F := Ideal) x0 x1 x2 else val_main_v17 (F := Ideal) x0 x1 x2)
    concatenates_S8x1536_S8x1536_S16x1536_d0 rfl 8 rfl (ix2 (row l q) n) l (show (8 * l.val + q.val) / 8 = l.val by omega) (ix2 q n)
    (show q.val = (8 * l.val + q.val) % 8 by omega) fun b hb => ?_).trans ?_
  · match b with
    | 0 => exact absurd rfl hb
    | 1 => rfl
  · match l with
    | 0 => exact v8_at x0 x1 x2 q n
    | 1 => exact v17_at x0 x1 x2 q n

end Reference

section Call

open Cert.ModForwardIdeal Cert.ModForwardIdeal.Gen

theorem pay1_at (v0 : Vec Ideal S8x1024 .f32) (v8 : Vec Ideal S1x1024x1536 .f32) (v11 : Vec Ideal S1x1x1536 .f32) (q : Fin 8) (n : Fin 1536) :
    k0_pay1 (F := Ideal) v0 v8 v11 (ix2 q n) = ((∑ k : Fin 1024, gate (v0 (ix2 q k)) * v8 (ix3 0 k n)) + v11 (ix3 0 0 n) : EReal) := by
  pointwise [k0_pay1]
  simp only [gate, zero_sub]

variable (m : (ℓ : Loc nD τ sig) → Buf (Elt Ideal) ℓ) (c : Dev nD)

theorem idx : ∀ t : Fin cfg0.N, win0_0.index t = ![0, 0] ∧ win0_1.index t = ![t.val, 0, 0] ∧ win0_2.index t = ![t.val, 0, 0]
    ∧ win0_3.index t = ![t.val, 0] :=
  (by decide +kernel : ∀ t : Fin grid0.N, _)

/-- The grid point as one of the two layers. -/
abbrev pt (t : Fin cfg0.N) : Fin 2 := ⟨t.val, lt_of_lt_of_eq t.isLt N_0⟩

theorem V_v0 (l : Fin 2) (n : Fin 1536) : V m c main_v0 (ix3 l 0 n) = m ((c : Thread nD τ).loc main_arg2) (ix2 l n) := by
  simp only [V, hostOps0, List.flatten_cons, List.flatten_nil, List.append_nil, List.cons_append, List.nil_append]
  after_results
  pointwise

theorem b0 (t : Fin cfg0.N) (q : Fin 8) (k : Fin 1024) : iblk m c 0 t (ix2 q k) = m ((c : Thread nD τ).loc main_arg0) (ix2 q k) := by
  blk_ext [iblk, V, idx t]
theorem b1 (t : Fin cfg0.N) (k : Fin 1024) (n : Fin 1536) : iblk m c 1 t (ix3 0 k n) = m ((c : Thread nD τ).loc main_arg1) (ix3 (pt t) k n) := by
  blk_ext [iblk, V, idx t]
theorem b2 (t : Fin cfg0.N) (n : Fin 1536) : iblk m c 2 t (ix3 0 0 n) = m ((c : Thread nD τ).loc main_arg2) (ix2 (pt t) n) := by
  refine Eq.trans ?_ (V_v0 m c (pt t) n)
  blk_ext [iblk, idx t]

theorem out_at (t : Fin cfg0.N) (q : Fin 8) (n : Fin 1536) :
    out0_3 (F := Ideal) (iblk m c 0 t) (iblk m c 1 t) (iblk m c 2 t) (ix2 q n)
      = md (m ((c : Thread nD τ).loc main_arg0)) (m ((c : Thread nD τ).loc main_arg1)) (m ((c : Thread nD τ).loc main_arg2)) (pt t) q n := by
  rw [out0_3]
  frame_out
  refine (pay1_at _ _ _ q n).trans ?_
  rw [b2]
  exact congrArg (· + _) (Finset.sum_congr rfl fun k _ => by rw [b0, b1])

/-- The modulations at what the call's arguments hold. -/
abbrev total : (⟨2, ![16, 1536]⟩ : Shape).Idx → EReal :=
  mds (m ((c : Thread nD τ).loc main_arg0)) (m ((c : Thread nD τ).loc main_arg1)) (m ((c : Thread nD τ).loc main_arg2))

theorem layer_eq (o : (⟨2, ![8, 1536]⟩ : Shape).Idx → EReal) (l : Fin 2)
    (ho : ∀ (q : Fin 8) (n : Fin 1536), o (ix2 q n)
      = md (m ((c : Thread nD τ).loc main_arg0)) (m ((c : Thread nD τ).loc main_arg1)) (m ((c : Thread nD τ).loc main_arg2)) l q n)
    (y : (⟨2, ![8, 1536]⟩ : Shape).Idx) (z : (⟨2, ![16, 1536]⟩ : Shape).Idx) (hz : ix2 (row l (y 0)) (y 1) = z) : o y = total m c z := by
  subst hz
  exact (congrArg o (eq_ix2 y)).trans ((ho _ _).trans (mds_row _ _ _ _ _ _).symm)

theorem final3 : (dats m 0 c).arrAt 3 cfg0.N = total m c := by
  refine (dats m 0 c).arrAt_eq_of_covers 3 _ (by decide +kernel) fun t hf y => ?_
  blk_simp
  rw [after0_3]
  refine layer_eq m c _ (pt t) (out_at m c t) y _ ?_
  blk_ext [idx t]
  exact congrArg (· + (y 0).val) (Nat.mul_comm _ _)

end Call

theorem algebraic : @Cert.algebraic_ModForwardIdeal_ModForwardReferenceIdeal Cert.ModForwardIdeal.Gen.facts Cert.ModForwardReferenceIdeal.Gen.facts := by
  intro m g m' g' _ hag
  refine ⟨total m, ?_, ?_⟩
  · refine (θ_run Cert.ModForwardIdeal.defs _ _).mono (fun r h c => ?_) (Cert.ModForwardIdeal.Value.run_blocks (F := Ideal) m g)
    obtain ⟨e, rest⟩ := h c
    exact ⟨e.trans (final3 m c), rest⟩
  · refine (θ_run Cert.ModForwardReferenceIdeal.defs _ _).mono (fun r h c => ?_) (Cert.ModForwardReferenceIdeal.Value.run (F := Ideal) m' g')
    obtain ⟨e, rest⟩ := h c
    obtain ⟨a0, a1, a2⟩ := hag c
    refine ⟨e.trans ((Cert.ModForwardReferenceIdeal.Read.val_main_v18_eq _ _ _).trans ?_), rest⟩
    rw [total, ← a0, ← a1, ← a2]
    refine funext fun i => ?_
    obtain ⟨l, q, n, rfl⟩ := at_row i
    exact (v18_at _ _ _ l q n).trans (mds_row _ _ _ _ _ _).symm

/-- The reference program terminates, leaves its argument arrays as they were, and has no semaphore to leave counted. -/
theorem reference_frame : @Cert.quiescent_ModForwardReferenceIdeal Cert.ModForwardReferenceIdeal.Gen.facts := fun m g _ =>
  (θ_run Cert.ModForwardReferenceIdeal.defs _ _).mono
    (fun r h => And.intro (fun c => (h c).2) (sem_eq_zero_of_no_sems (by decide) r.2))
    (Cert.ModForwardReferenceIdeal.Value.run (F := Ideal) m g)

end Cert.ModForwardClaim

end
-- ==== Proof.WinClaim.lean ====
/- The value claim about the gradient of the input projection's weight: the call, on the normed and modulated input, and the
   derivative of the projection leave the same array, whatever the arguments hold. -/
module

public import proofs.«01_k».proof.Defs
public import proofs.«01_k».proof.Proof.Gen.WinBackwardIdeal.Value
public import proofs.«01_k».proof.Proof.Gen.WinReferenceIdeal.Run
public import proofs.«01_k».proof.Proof.Gen.WinReferenceIdeal.Read
public import Idealize.ShloMosaic.Lib.Pipeline.ValueKit

@[expose] public section

set_option maxRecDepth 16384

noncomputable section

open Idealize.ShloMosaic Idealize.ShloMosaic.TcCoe Idealize.SL.Sem

namespace Cert.WinClaim

/-- The gradient of the weight at row `k` and at column `n` of quarter `b`: a sum over the tokens. -/
def grad (u : (⟨2, ![4096, 1024]⟩ : Shape).Idx → EReal) (d : (⟨2, ![4096, 7168]⟩ : Shape).Idx → EReal) (b : Fin 4) (k : Fin 1024) (n : Fin 1792) : EReal :=
  ∑ q : Fin 4096, u (ix2 q k) * d (ix2 q ⟨1792 * b.val + n.val, by omega⟩)

/-- The gradient as an array. -/
abbrev grads (u : (⟨2, ![4096, 1024]⟩ : Shape).Idx → EReal) (d : (⟨2, ![4096, 7168]⟩ : Shape).Idx → EReal) : (⟨3, ![4, 1024, 1792]⟩ : Shape).Idx → EReal :=
  fun i => grad u d (i 0) (i 1) (i 2)

section Reference

open Cert.WinReferenceIdeal Cert.WinReferenceIdeal.Gen Cert.WinReferenceIdeal.Read

variable (x0 : FVec Ideal S4096x1024 .f32) (x1 x2 : FVec Ideal S1x1024 .f32) (x3 : FVec Ideal S1024 .f32)
  (x5 : FVec Ideal S4096x7168 .f32)

theorem v23_at (b : Fin 4) (k : Fin 1024) (n : Fin 1792) :
    val_main_v23 (F := Ideal) x0 x1 x2 x3 x5 (ix3 b k n) = grad (val_main_v18 (F := Ideal) x0 x1 x2 x3) x5 b k n := by
  pointwise [val_main_v23, val_main_v22, val_main_v21, val_main_v20]
  simp only [grad, Nat.mul_comm 1792]
  exact Finset.sum_congr rfl fun q _ => mul_comm _ _

end Reference

section Call

open Cert.WinBackwardIdeal Cert.WinBackwardIdeal.Gen

theorem pay1_at (v0 : Vec Ideal S4096x512 .bf16) (v1 : Vec Ideal S4096x1792 .bf16) (a : Fin 1) (k : Fin 512) (n : Fin 1792) :
    k0_pay1 (F := Ideal) v0 v1 (ix3 a k n) = (∑ q : Fin 4096, v0 (ix2 q k) * v1 (ix2 q n) : EReal) := by
  pointwise [k0_pay1]

variable (m : (ℓ : Loc nD τ sig) → Buf (Elt Ideal) ℓ) (c : Dev nD)

theorem idx : ∀ t : Fin cfg0.N, win0_0.index t = ![0, t.val % 2] ∧ win0_1.index t = ![0, t.val / 2] ∧ win0_2.index t = ![t.val / 2, t.val % 2, 0] :=
  (by decide +kernel : ∀ t : Fin grid0.N, _)

/-- The quarter of the columns a grid point takes. -/
abbrev quarter (t : Fin cfg0.N) : Fin 4 := ⟨t.val / 2, by have : t.val < 8 := lt_of_lt_of_eq t.isLt N_0; omega⟩

/-- The row of the weight that row `k` of a grid point's block is. -/
abbrev row (t : Fin cfg0.N) (k : Fin 512) : Fin 1024 := ⟨(t.val % 2) * 512 + k.val, by omega⟩

/-- The normed and modulated input, as reference.py's lines give it. -/
abbrev hid : FVec Ideal Cert.WinReferenceIdeal.S4096x1024 .f32 := Cert.WinReferenceIdeal.Read.val_main_v18 (F := Ideal)
  (m ((c : Thread nD τ).loc main_arg0)) (m ((c : Thread nD τ).loc main_arg1)) (m ((c : Thread nD τ).loc main_arg2))
  (m ((c : Thread nD τ).loc main_arg3))

theorem V_hid : V m c main_v19 = (hid m c : (⟨2, ![4096, 1024]⟩ : Shape).Idx → EReal) := by
  simp only [V, hostOps0, List.flatten_cons, List.flatten_nil, List.append_nil, List.cons_append, List.nil_append]
  after_results
  rfl
theorem V_dproj : V m c main_v20 = (m ((c : Thread nD τ).loc main_arg5) : (⟨2, ![4096, 7168]⟩ : Shape).Idx → EReal) := by
  simp only [V, hostOps0, List.flatten_cons, List.flatten_nil, List.append_nil, List.cons_append, List.nil_append]
  after_results
  rfl

theorem b0 (t : Fin cfg0.N) (q : Fin 4096) (k : Fin 512) : iblk m c 0 t (ix2 q k) = hid m c (ix2 q (row t k)) := by
  refine Eq.trans ?_ (congrFun (V_hid m c) _)
  blk_ext [iblk, idx t]
theorem b1 (t : Fin cfg0.N) (q : Fin 4096) (n : Fin 1792) :
    iblk m c 1 t (ix2 q n) = m ((c : Thread nD τ).loc main_arg5) (ix2 q ⟨1792 * (quarter t).val + n.val, by have := (quarter t).isLt; omega⟩) := by
  refine Eq.trans ?_ (congrFun (V_dproj m c) _)
  blk_ext [iblk, idx t]

theorem out_at (t : Fin cfg0.N) (a : Fin 1) (k : Fin 512) (n : Fin 1792) :
    out0_2 (F := Ideal) (iblk m c 0 t) (iblk m c 1 t) (ix3 a k n)
      = grad (hid m c) (m ((c : Thread nD τ).loc main_arg5)) (quarter t) (row t k) n := by
  rw [out0_2]
  frame_out
  refine (pay1_at _ _ a k n).trans ?_
  exact Finset.sum_congr rfl fun q _ => by rw [b0, b1]

/-- The gradient at what the call's arguments hold. -/
abbrev total : (⟨3, ![4, 1024, 1792]⟩ : Shape).Idx → EReal := grads (hid m c) (m ((c : Thread nD τ).loc main_arg5))

theorem block_eq (g : Fin 4 → Fin 1024 → Fin 1792 → EReal) (o : (⟨3, ![1, 512, 1792]⟩ : Shape).Idx → EReal) (t : Fin cfg0.N)
    (ho : ∀ (a : Fin 1) (k : Fin 512) (n : Fin 1792), o (ix3 a k n) = g (quarter t) (row t k) n) (y : (⟨3, ![1, 512, 1792]⟩ : Shape).Idx)
    (z : (⟨3, ![4, 1024, 1792]⟩ : Shape).Idx) (hz : ix3 (quarter t) (row t (y 1)) (y 2) = z) : o y = g (z 0) (z 1) (z 2) := by
  subst hz
  exact (congrArg o (eq_ix3 y)).trans (ho _ _ _)

theorem final2 : (dats m 0 c).arrAt 2 cfg0.N = total m c := by
  refine (dats m 0 c).arrAt_eq_of_covers 2 _ (by decide +kernel) fun t hf y => ?_
  blk_simp
  rw [after0_2]
  refine block_eq (grad (hid m c) (m ((c : Thread nD τ).loc main_arg5))) _ t (out_at m c t) y _ ?_
  blk_ext [idx t]

end Call

theorem algebraic : @Cert.algebraic_WinBackwardIdeal_WinReferenceIdeal Cert.WinBackwardIdeal.Gen.facts Cert.WinReferenceIdeal.Gen.facts := by
  intro m g m' g' _ hag
  refine ⟨total m, ?_, ?_⟩
  · refine (θ_run Cert.WinBackwardIdeal.defs _ _).mono (fun r h c => ?_) (Cert.WinBackwardIdeal.Value.run_blocks (F := Ideal) m g)
    obtain ⟨e, rest⟩ := h c
    exact ⟨e.trans (final2 m c), rest⟩
  · refine (θ_run Cert.WinReferenceIdeal.defs _ _).mono (fun r h c => ?_) (Cert.WinReferenceIdeal.Value.run (F := Ideal) m' g')
    obtain ⟨e, rest⟩ := h c
    obtain ⟨a0, a1, a2, a3, a4, a5⟩ := hag c
    refine ⟨e.trans ((Cert.WinReferenceIdeal.Read.val_main_v23_eq _ _ _ _ _).trans ?_), rest⟩
    rw [total, hid, ← a0, ← a1, ← a2, ← a3, ← a5]
    exact funext fun i => (congrArg _ (eq_ix3 i)).trans (v23_at _ _ _ _ _ _ _ _)

/-- The reference program terminates, leaves its argument arrays as they were, and has no semaphore to leave counted. -/
theorem reference_frame : @Cert.quiescent_WinReferenceIdeal Cert.WinReferenceIdeal.Gen.facts := fun m g _ =>
  (θ_run Cert.WinReferenceIdeal.defs _ _).mono
    (fun r h => And.intro (fun c => (h c).2) (sem_eq_zero_of_no_sems (by decide) r.2))
    (Cert.WinReferenceIdeal.Value.run (F := Ideal) m g)

end Cert.WinClaim

end
-- ==== Proof.Gelu.lean ====
/- The gelu by tanh is the gelu by a logistic, on every extended real. -/
module

public import Idealize.ShloMosaic.PureOps.Ideal

@[expose] public section

noncomputable section

open Idealize.ShloMosaic

namespace Cert.Gelu

/-- The logistic. -/
def sgm (z : EReal) : EReal := Ideal.div 1 (1 + Ideal.exp (0 - z))

/-- The two literals of the gelu by tanh, as they are rounded. -/
abbrev k0 : ℝ := 13386282 / 16777216
abbrev k1 : ℝ := 12003091 / 268435456

/-- The gelu, by a logistic. -/
def gelu (z : EReal) : EReal :=
  z * sgm (z * (((2 * k0 : ℝ) : EReal) + ((2 * k0 * k1 : ℝ) : EReal) * (z * z)))

/-- The gelu, by tanh. -/
def geluTanh (z : EReal) : EReal :=
  z * (((1 / 2 : ℝ) : EReal) * (1 + Ideal.tanh (((k0 : ℝ) : EReal) * (z + ((k1 : ℝ) : EReal) * (z * z * z)))))

theorem sgm_eq (z : EReal) : sgm z = Ideal.logistic z := by
  unfold sgm Ideal.logistic
  rw [zero_sub]

theorem real (z : ℝ) : (1 + Real.exp (-(2 * z)))⁻¹ = 1 / 2 * (1 + Real.tanh z) := by
  rw [Real.tanh_eq_sinh_div_cosh, Real.sinh_eq, Real.cosh_eq]
  have h : Real.exp (-(2 * z)) = Real.exp (-z) * Real.exp (-z) := by rw [← Real.exp_add]; congr 1; ring
  have h1 : Real.exp z * Real.exp (-z) = 1 := by rw [← Real.exp_add]; simp
  have p := Real.exp_pos z
  have q := Real.exp_pos (-z)
  rw [h]
  have e : 1 + Real.exp (-z) * Real.exp (-z) ≠ 0 := by positivity
  have e' : Real.exp z + Real.exp (-z) ≠ 0 := by positivity
  field_simp
  linear_combination (-2) * Real.exp (-z) * h1

theorem gelu_eq (z : EReal) : geluTanh z = gelu z := by
  have p : (0 : ℝ) < k0 := by norm_num
  unfold gelu geluTanh
  rw [sgm_eq]
  induction z with
  | bot =>
    have a : (⊥ : EReal) * ⊥ = ⊤ := EReal.bot_mul_bot
    have b : (⊤ : EReal) * ⊥ = ⊥ := EReal.top_mul_bot
    have c : (⊥ : EReal) * ⊤ = ⊥ := EReal.bot_mul_top
    rw [a, b, EReal.coe_mul_bot_of_pos (by norm_num), EReal.bot_add, EReal.coe_mul_bot_of_pos p,
      EReal.coe_mul_top_of_pos (by positivity), EReal.coe_add_top, c, Ideal.logistic_bot, Ideal.tanh_bot]
    have d : (1 : EReal) + -1 = 0 := by rw [← EReal.coe_one, ← EReal.coe_neg, ← EReal.coe_add]; norm_num
    rw [d, mul_zero]
  | top =>
    have a : (⊤ : EReal) * ⊤ = ⊤ := EReal.top_mul_top
    rw [a, a, EReal.coe_mul_top_of_pos (by norm_num), EReal.top_add_top, EReal.coe_mul_top_of_pos p,
      EReal.coe_mul_top_of_pos (by positivity), EReal.coe_add_top, a, Ideal.logistic_top, Ideal.tanh_top]
    have d : ((1 / 2 : ℝ) : EReal) * (1 + 1) = 1 := by
      rw [← EReal.coe_one, ← EReal.coe_add, ← EReal.coe_mul]; norm_num
    rw [d]
  | coe z =>
    rw [← EReal.coe_mul, ← EReal.coe_mul, ← EReal.coe_mul, ← EReal.coe_mul, ← EReal.coe_add, ← EReal.coe_add, ← EReal.coe_mul,
      ← EReal.coe_mul, Ideal.tanh_coe, Ideal.logistic_coe, ← EReal.coe_one, ← EReal.coe_add, ← EReal.coe_mul, ← real]
    congr 5
    ring

end Cert.Gelu

end
-- ==== Proof.NormProjClaim.lean ====
/- The value claim about the mixer's projection: the call's first two results, the modulated norm and the projection with its gelu
   and its gates, and reference.py's lines are the same arrays, whatever the arguments hold. -/
module

public import proofs.«01_k».proof.Defs
public import proofs.«01_k».proof.Proof.Gen.NormProjIdeal.Value
public import proofs.«01_k».proof.Proof.Gen.NormProjReferenceIdeal.Run
public import proofs.«01_k».proof.Proof.Gen.NormProjReferenceIdeal.Read
public import proofs.«01_k».proof.Proof.Tiles
public import proofs.«01_k».proof.Proof.Rows
public import proofs.«01_k».proof.Proof.Gelu
public import Idealize.ShloMosaic.Lib.Pipeline.ValueKit

@[expose] public section

set_option maxRecDepth 16384

noncomputable section

open Idealize.ShloMosaic Idealize.ShloMosaic.TcCoe Idealize.SL.Sem

namespace Cert.NormProjClaim

/-- The reciprocal root of a row's mean square, with the small constant under the root. -/
def rms (x : Fin 1024 → EReal) : EReal :=
  Ideal.rsqrt (Ideal.div (∑ k, x k * x k) (Ideal.ofBits FTy.f32 1149239296#32) + Ideal.ofBits FTy.f32 897988541#32)

/-- The modulated norm of the input. -/
def hid (X : Fin 4096 → Fin 1024 → EReal) (sh sc g : Fin 1024 → EReal) (r : Fin 4096) (j : Fin 1024) : EReal :=
  X r j * rms (X r) * (g j * (1 + sc j)) + sh j

/-- The modulated norm of four arrays. -/
abbrev hids (x0 : (⟨2, ![4096, 1024]⟩ : Shape).Idx → EReal) (x1 x2 : (⟨2, ![1, 1024]⟩ : Shape).Idx → EReal) (x3 : (⟨1, ![1024]⟩ : Shape).Idx → EReal) :
    Fin 4096 → Fin 1024 → EReal :=
  hid (fun r j => x0 (ix2 r j)) (fun j => x1 (ix2 0 j)) (fun j => x2 (ix2 0 j)) (fun j => x3 (ix1 j))

/-- A matrix as an array. -/
abbrev mat {d : ℕ} (f : Fin 4096 → Fin d → EReal) : (⟨2, ![4096, d]⟩ : Shape).Idx → EReal := fun i => f (i 0) (i 1)

/-- A row of the modulated norm times a column of the weight. -/
def lin (H : Fin 4096 → Fin 1024 → EReal) (W : Fin 1024 → Fin 7168 → EReal) (r : Fin 4096) (n : Fin 7168) : EReal := ∑ k, H r k * W k n

/-- What is applied to a column's sum: nothing in the first four parts, the gelu in the fifth, the logistic in the last two. -/
def act (n : ℕ) (z : EReal) : EReal := if n < 4096 then z else if n < 5120 then Gelu.gelu z else Gelu.sgm z

def proj (H : Fin 4096 → Fin 1024 → EReal) (W : Fin 1024 → Fin 7168 → EReal) (r : Fin 4096) (n : Fin 7168) : EReal := act n.val (lin H W r n)

section Reference

open Cert.NormProjReferenceIdeal Cert.NormProjReferenceIdeal.Gen Cert.NormProjReferenceIdeal.Read

variable (x0 : FVec Ideal S4096x1024 .f32) (x1 x2 : FVec Ideal S1x1024 .f32) (x3 : FVec Ideal S1024 .f32) (x4 : FVec Ideal S1024x7168 .f32)

theorem v18_at (r : Fin 4096) (j : Fin 1024) : val_main_v18 (F := Ideal) x0 x1 x2 x3 (ix2 r j) = hids x0 x1 x2 x3 r j := by
  pointwise [val_main_v18, val_main_v16, val_main_v12, val_main_v9, val_main_v8, val_main_v7, val_main_v6, val_main_v4, val_main_v2,
    val_main_v1, val_main_v0, val_main_v3, val_main_cst_0, val_main_cst, val_main_v5, val_main_cst_1, val_main_v11, val_main_v10,
    val_main_v15, val_main_v14, val_main_v13, val_main_cst_2, val_main_v17]
  unfold hids hid
  rw [mul_assoc _ (x3 (ix1 j) : EReal)]
  rfl

theorem v53_at (r : Fin 4096) (j : Fin 1024) : val_main_v53 (F := Ideal) x0 x1 x2 x3 (ix2 r j) = hids x0 x1 x2 x3 r j :=
  v18_at x0 x1 x2 x3 r j

abbrev lins : Fin 4096 → Fin 7168 → EReal := lin (hids x0 x1 x2 x3) (fun k n => x4 (ix2 k n))

theorem v19_at (r : Fin 4096) (n : Fin 7168) : val_main_v19 (F := Ideal) x0 x1 x2 x3 x4 (ix2 r n) = lins x0 x1 x2 x3 x4 r n := by
  pointwise [val_main_v19, v18_at]
  rfl

/-- The columns of one of the seven parts. -/
abbrev at7 (p : Fin 7) (j : Fin 1024) : Fin 7168 := ⟨1024 * p.val + j.val, by omega⟩

theorem v24_at (r : Fin 4096) (j : Fin 1024) : val_main_v24 (F := Ideal) x0 x1 x2 x3 x4 (ix2 r j) = lins x0 x1 x2 x3 x4 r (at7 4 j) := by
  rw [val_main_v24_apply]
  exact (congrArg (val_main_v19 (F := Ideal) x0 x1 x2 x3 x4) (eq_ix2 _)).trans (v19_at x0 x1 x2 x3 x4 r (at7 4 j))

theorem k0_bits : (Ideal.ofBits .f32 0x3F4C422A#32 : EReal) = ((Gelu.k0 : ℝ) : EReal) := by
  simp [Ideal.ofBits, Ideal.ieee]; rw [← EReal.coe_mul]; norm_num
theorem k1_bits : (Ideal.ofBits .f32 0x3D372713#32 : EReal) = ((Gelu.k1 : ℝ) : EReal) := by
  simp [Ideal.ofBits, Ideal.ieee]; rw [← EReal.coe_mul]; norm_num
theorem half_bits : (Ideal.ofBits .f32 0x3F000000#32 : EReal) = ((1 / 2 : ℝ) : EReal) := by
  simp [Ideal.ofBits, Ideal.ieee]; rw [← EReal.coe_mul]; norm_num

theorem v39_at (r : Fin 4096) (j : Fin 1024) : val_main_v39 (F := Ideal) x0 x1 x2 x3 x4 (ix2 r j) = Gelu.gelu (lins x0 x1 x2 x3 x4 r (at7 4 j)) := by
  rw [← Gelu.gelu_eq]
  pointwise [val_main_v39, val_main_v38, val_main_v37, val_main_v36, val_main_v35, val_main_v34, val_main_v33, val_main_v32, val_main_v31,
    val_main_v30, val_main_v29, val_main_v28, val_main_v27, val_main_cst_3, val_main_cst_4, val_main_cst_5, val_main_cst_6, v24_at]
  simp only [k0_bits, k1_bits, half_bits]
  unfold Gelu.geluTanh
  rfl

theorem v45_at (r : Fin 4096) (j : Fin 1024) : val_main_v45 (F := Ideal) x0 x1 x2 x3 x4 (ix2 r j) = Gelu.sgm (lins x0 x1 x2 x3 x4 r (at7 5 j)) := by
  have e : val_main_v25 (F := Ideal) x0 x1 x2 x3 x4 (ix2 r j) = lins x0 x1 x2 x3 x4 r (at7 5 j) := by
    rw [val_main_v25_apply]
    exact (congrArg (val_main_v19 (F := Ideal) x0 x1 x2 x3 x4) (eq_ix2 _)).trans (v19_at x0 x1 x2 x3 x4 r (at7 5 j))
  pointwise [val_main_v45, val_main_v44, val_main_v43, val_main_v42, val_main_v41, val_main_v40, val_main_cst_7, val_main_cst_8, e]
  unfold Gelu.sgm
  rw [zero_sub]

theorem v51_at (r : Fin 4096) (j : Fin 1024) : val_main_v51 (F := Ideal) x0 x1 x2 x3 x4 (ix2 r j) = Gelu.sgm (lins x0 x1 x2 x3 x4 r (at7 6 j)) := by
  have e : val_main_v26 (F := Ideal) x0 x1 x2 x3 x4 (ix2 r j) = lins x0 x1 x2 x3 x4 r (at7 6 j) := by
    rw [val_main_v26_apply]
    exact (congrArg (val_main_v19 (F := Ideal) x0 x1 x2 x3 x4) (eq_ix2 _)).trans (v19_at x0 x1 x2 x3 x4 r (at7 6 j))
  pointwise [val_main_v51, val_main_v50, val_main_v49, val_main_v48, val_main_v47, val_main_v46, val_main_cst_9, val_main_cst_10, e]
  unfold Gelu.sgm
  rw [zero_sub]

theorem part (p : Fin 7) (r : Fin 4096) (j : Fin 1024) :
    val_main_v52 (F := Ideal) x0 x1 x2 x3 x4 (ix2 r (at7 p j)) = act (at7 p j).val (lins x0 x1 x2 x3 x4 r (at7 p j)) := by
  have hj := j.isLt
  fin_cases p
  · unfold act
    rw [if_pos (show 1024 * 0 + j.val < 4096 by omega)]
    pointwise [val_main_v52]
    refine (val_main_v20_apply (F := Ideal) x0 x1 x2 x3 x4 _).trans ?_
    have hi : idx_main_v20 (ix2 r j) = ix2 r (at7 0 j) := by
      refine (eq_ix2 _).trans (congrArg (ix2 r) (Fin.ext ?_))
      show j.val = 1024 * 0 + j.val
      omega
    exact (congrArg (val_main_v19 (F := Ideal) x0 x1 x2 x3 x4) hi).trans (v19_at x0 x1 x2 x3 x4 r (at7 0 j))
  · unfold act
    rw [if_pos (show 1024 * 1 + j.val < 4096 by omega)]
    pointwise [val_main_v52]
    refine (val_main_v21_apply (F := Ideal) x0 x1 x2 x3 x4 _).trans ?_
    have hi : idx_main_v21 (ix2 r j) = ix2 r (at7 1 j) := by
      refine (eq_ix2 _).trans (congrArg (ix2 r) (Fin.ext ?_))
      show 1024 + j.val = 1024 * 1 + j.val
      omega
    exact (congrArg (val_main_v19 (F := Ideal) x0 x1 x2 x3 x4) hi).trans (v19_at x0 x1 x2 x3 x4 r (at7 1 j))
  · unfold act
    rw [if_pos (show 1024 * 2 + j.val < 4096 by omega)]
    pointwise [val_main_v52]
    refine (dif_neg (show ¬2048 + j.val < 1024 by omega)).trans ?_
    refine (dif_neg (show ¬2048 + j.val - 1024 < 1024 by omega)).trans ?_
    refine (dif_pos (show 2048 + j.val - 1024 - 1024 < 1024 by omega)).trans ?_
    refine (congrArg (fun y => val_main_v22 (F := Ideal) x0 x1 x2 x3 x4 (ix2 r y)) (?_ : _ = j)).trans ?_
    · refine Fin.ext ?_
      show 2048 + j.val - 1024 - 1024 = j.val
      omega
    refine (val_main_v22_apply (F := Ideal) x0 x1 x2 x3 x4 _).trans ?_
    have hi : idx_main_v22 (ix2 r j) = ix2 r (at7 2 j) := by
      refine (eq_ix2 _).trans (congrArg (ix2 r) (Fin.ext ?_))
      show 2048 + j.val = 1024 * 2 + j.val
      omega
    exact (congrArg (val_main_v19 (F := Ideal) x0 x1 x2 x3 x4) hi).trans (v19_at x0 x1 x2 x3 x4 r (at7 2 j))
  · unfold act
    rw [if_pos (show 1024 * 3 + j.val < 4096 by omega)]
    pointwise [val_main_v52]
    refine (dif_neg (show ¬3072 + j.val < 1024 by omega)).trans ?_
    refine (dif_neg (show ¬3072 + j.val - 1024 < 1024 by omega)).trans ?_
    refine (dif_neg (show ¬3072 + j.val - 1024 - 1024 < 1024 by omega)).trans ?_
    refine (dif_pos (show 3072 + j.val - 1024 - 1024 - 1024 < 1024 by omega)).trans ?_
    refine (congrArg (fun y => val_main_v23 (F := Ideal) x0 x1 x2 x3 x4 (ix2 r y)) (?_ : _ = j)).trans ?_
    · refine Fin.ext ?_
      show 3072 + j.val - 1024 - 1024 - 1024 = j.val
      omega
    refine (val_main_v23_apply (F := Ideal) x0 x1 x2 x3 x4 _).trans ?_
    have hi : idx_main_v23 (ix2 r j) = ix2 r (at7 3 j) := by
      refine (eq_ix2 _).trans (congrArg (ix2 r) (Fin.ext ?_))
      show 3072 + j.val = 1024 * 3 + j.val
      omega
    exact (congrArg (val_main_v19 (F := Ideal) x0 x1 x2 x3 x4) hi).trans (v19_at x0 x1 x2 x3 x4 r (at7 3 j))
  · unfold act
    rw [if_neg (show ¬1024 * 4 + j.val < 4096 by omega), if_pos (show 1024 * 4 + j.val < 5120 by omega)]
    pointwise [val_main_v52]
    refine (dif_neg (show ¬4096 + j.val < 1024 by omega)).trans ?_
    refine (dif_neg (show ¬4096 + j.val - 1024 < 1024 by omega)).trans ?_
    refine (dif_neg (show ¬4096 + j.val - 1024 - 1024 < 1024 by omega)).trans ?_
    refine (dif_neg (show ¬4096 + j.val - 1024 - 1024 - 1024 < 1024 by omega)).trans ?_
    refine (dif_pos (show 4096 + j.val - 1024 - 1024 - 1024 - 1024 < 1024 by omega)).trans ?_
    refine (congrArg (fun y => val_main_v39 (F := Ideal) x0 x1 x2 x3 x4 (ix2 r y)) (?_ : _ = j)).trans ?_
    · refine Fin.ext ?_
      show 4096 + j.val - 1024 - 1024 - 1024 - 1024 = j.val
      omega
    exact v39_at x0 x1 x2 x3 x4 r j
  · unfold act
    rw [if_neg (show ¬1024 * 5 + j.val < 4096 by omega), if_neg (show ¬1024 * 5 + j.val < 5120 by omega)]
    pointwise [val_main_v52]
    refine (dif_neg (show ¬5120 + j.val < 1024 by omega)).trans ?_
    refine (dif_neg (show ¬5120 + j.val - 1024 < 1024 by omega)).trans ?_
    refine (dif_neg (show ¬5120 + j.val - 1024 - 1024 < 1024 by omega)).trans ?_
    refine (dif_neg (show ¬5120 + j.val - 1024 - 1024 - 1024 < 1024 by omega)).trans ?_
    refine (dif_neg (show ¬5120 + j.val - 1024 - 1024 - 1024 - 1024 < 1024 by omega)).trans ?_
    refine (dif_pos (show 5120 + j.val - 1024 - 1024 - 1024 - 1024 - 1024 < 1024 by omega)).trans ?_
    refine (congrArg (fun y => val_main_v45 (F := Ideal) x0 x1 x2 x3 x4 (ix2 r y)) (?_ : _ = j)).trans ?_
    · refine Fin.ext ?_
      show 5120 + j.val - 1024 - 1024 - 1024 - 1024 - 1024 = j.val
      omega
    exact v45_at x0 x1 x2 x3 x4 r j
  · unfold act
    rw [if_neg (show ¬1024 * 6 + j.val < 4096 by omega), if_neg (show ¬1024 * 6 + j.val < 5120 by omega)]
    pointwise [val_main_v52]
    refine (dif_neg (show ¬6144 + j.val < 1024 by omega)).trans ?_
    refine (dif_neg (show ¬6144 + j.val - 1024 < 1024 by omega)).trans ?_
    refine (dif_neg (show ¬6144 + j.val - 1024 - 1024 < 1024 by omega)).trans ?_
    refine (dif_neg (show ¬6144 + j.val - 1024 - 1024 - 1024 < 1024 by omega)).trans ?_
    refine (dif_neg (show ¬6144 + j.val - 1024 - 1024 - 1024 - 1024 < 1024 by omega)).trans ?_
    refine (dif_neg (show ¬6144 + j.val - 1024 - 1024 - 1024 - 1024 - 1024 < 1024 by omega)).trans ?_
    refine (congrArg (fun y => val_main_v51 (F := Ideal) x0 x1 x2 x3 x4 (ix2 r y)) (?_ : _ = j)).trans ?_
    · refine Fin.ext ?_
      show 6144 + j.val - 1024 - 1024 - 1024 - 1024 - 1024 - 1024 = j.val
      omega
    exact v51_at x0 x1 x2 x3 x4 r j

theorem v54_at (r : Fin 4096) (n : Fin 7168) :
    val_main_v54 (F := Ideal) x0 x1 x2 x3 x4 (ix2 r n) = proj (hids x0 x1 x2 x3) (fun k n => x4 (ix2 k n)) r n := by
  have hc : ∃ (p : Fin 7) (j : Fin 1024), n = at7 p j :=
    ⟨⟨n.val / 1024, by omega⟩, ⟨n.val % 1024, by omega⟩, Fin.ext (show n.val = 1024 * (n.val / 1024) + n.val % 1024 by omega)⟩
  obtain ⟨p, j, rfl⟩ := hc
  exact part x0 x1 x2 x3 x4 p r j

end Reference

section Call

open Cert.NormProjIdeal Cert.NormProjIdeal.Gen Cert.Tiles

variable (m : (ℓ : Loc nD τ sig) → Buf (Elt Ideal) ℓ) (c : Dev nD)

/-- The weight. -/
abbrev wAt : Fin 1024 → Fin 7168 → EReal := fun k n => m ((c : Thread nD τ).loc main_arg4) (ix2 k n)

/-- The modulated norm of the call's arguments. -/
abbrev hidAt : Fin 4096 → Fin 1024 → EReal := hids (m ((c : Thread nD τ).loc main_arg0)) (m ((c : Thread nD τ).loc main_arg1))
  (m ((c : Thread nD τ).loc main_arg2)) (m ((c : Thread nD τ).loc main_arg3))

theorem v1_row0 (j : Fin 1024) : V m c main_v1 (ix2 0 j) = m ((c : Thread nD τ).loc main_arg1) (ix2 0 j) := by
  simp only [V, hostOps0, List.flatten_cons, List.flatten_nil, List.append_nil, List.cons_append, List.nil_append]
  after_results
  pointwise
  after_results_steps

theorem v1_row1 (j : Fin 1024) : V m c main_v1 (ix2 1 j) = m ((c : Thread nD τ).loc main_arg2) (ix2 0 j) := by
  simp only [V, hostOps0, List.flatten_cons, List.flatten_nil, List.append_nil, List.cons_append, List.nil_append]
  after_results
  pointwise
  after_results_steps

theorem v3_row0 (j : Fin 1024) : V m c main_v3 (ix2 0 j) = m ((c : Thread nD τ).loc main_arg3) (ix1 j) := by
  simp only [V, hostOps0, List.flatten_cons, List.flatten_nil, List.append_nil, List.cons_append, List.nil_append]
  after_results
  pointwise
  after_results_steps
  pointwise

/-- The columns of one of the weight's four blocks. -/
abbrev at4 (b : Fin 4) (n : Fin 1792) : Fin 7168 := ⟨1792 * b.val + n.val, by omega⟩

theorem V_v6 : V m c main_v6 = (truncf (F := Ideal) FTy.bf16 (transpose S4x1024x1792 [1, 0, 2]
    (shapeCast S1024x4x1792 (m ((c : Thread nD τ).loc main_arg4)) shapeCasts_S1024x7168_S1024x4x1792)
      transposes_S1024x4x1792_S4x1024x1792_1_0_2) bitsLt_bf16_f32 : S4x1024x1792.Idx → EReal) := by
  simp only [V, hostOps0, List.flatten_cons, List.flatten_nil, List.append_nil, List.cons_append, List.nil_append]
  after_results
  rfl

theorem w_at (b : Fin 4) (k : Fin 1024) (n : Fin 1792) : V m c main_v6 (ix3 b k n) = wAt m c k (at4 b n) := by
  rw [V_v6]
  pointwise
  simp only [wAt, at4, Nat.mul_comm]

theorem idx : ∀ t : Fin cfg0.N, win0_0.index t = ![t.val, 0] ∧ win0_1.index t = ![0, 0] ∧ win0_2.index t = ![0, 0]
    ∧ win0_3.index t = ![0, 0, 0] ∧ win0_4.index t = ![t.val, 0] ∧ win0_5.index t = ![t.val, 0] :=
  (by decide +kernel : ∀ t : Fin grid0.N, _)

/-- The grid point as one of the 8 tiles. -/
abbrev pt (t : Fin cfg0.N) : Fin 8 := ⟨t.val, lt_of_lt_of_eq t.isLt N_0⟩

variable (t : Fin cfg0.N)

theorem b0 (i : Fin 512) (j : Fin 1024) : iblk m c 0 t (ix2 i j) = m ((c : Thread nD τ).loc main_arg0) (ix2 (row (pt t) i) j) := by
  blk_ext [iblk, V, idx t]
  exact congrArg (· + i.val) (Nat.mul_comm _ _)
theorem b1 (k : Fin 8) (j : Fin 1024) : iblk m c 1 t (ix2 k j) = V m c main_v1 (ix2 k j) := by
  blk_ext [iblk, idx t]
theorem b2 (k : Fin 16) (j : Fin 1024) : iblk m c 2 t (ix2 k j) = V m c main_v3 (ix2 k j) := by
  blk_ext [iblk, idx t]

theorem b3 (b : Fin 4) (k : Fin 1024) (n : Fin 1792) : iblk m c 3 t (ix3 b k n) = wAt m c k (at4 b n) := by
  refine Eq.trans ?_ (w_at m c b k n)
  blk_ext [iblk, idx t]

theorem w_slab (b : Fin 4) {o : ℕ} (inb) (ho : b.val = o) (k : Fin 1024) (n : Fin 1792) :
    View.ld (iblk m c 3 t) (Rect.unit (s := S4x1024x1792) ![o, 0, 0] ![1, 1024, 1792] inb) (ix3 0 k n) = wAt m c k (at4 b n) :=
  (Rows.ld_slab _ _ b k n ho).trans (b3 m c t b k n)

section Payload

variable {x : Fin 4096 → Fin 1024 → EReal} {g sc sh : Fin 1024 → EReal} {s : Fin 8}
variable {v0 : Vec Ideal S512x1024 .f32} {v11 v13 v20 : Vec Ideal S1x1024 .f32}

theorem pay2_at (h0 : ∀ i j, v0 (ix2 i j) = x (row s i) j) (h11 : ∀ j, v11 (ix2 0 j) = g j) (h13 : ∀ j, v13 (ix2 0 j) = sc j)
    (h20 : ∀ j, v20 (ix2 0 j) = sh j) (i : Fin 512) (j : Fin 1024) :
    k0_pay2 (F := Ideal) v0 v11 v13 v20 (ix2 i j) = hid x sh sc g (row s i) j := by
  pointwise [k0_pay2, h0, h11, h13, h20]
  rfl

variable {W : Fin 1024 → Fin 7168 → EReal} {H : Fin 4096 → Fin 1024 → EReal} {b : Fin 4} {v24 : FVec Ideal S512x1024 .bf16} {w : Vec Ideal S1x1024x1792 .bf16}

theorem pay3_at (h0 : ∀ i j, v0 (ix2 i j) = x (row s i) j) (h11 : ∀ j, v11 (ix2 0 j) = g j) (h13 : ∀ j, v13 (ix2 0 j) = sc j)
    (h20 : ∀ j, v20 (ix2 0 j) = sh j) (hw : ∀ k n, w (ix3 0 k n) = W k (at4 b n)) (i : Fin 512) (n : Fin 1792) :
    k0_pay3 (F := Ideal) v0 v11 v13 v20 w (ix2 i n) = lin (hid x sh sc g) W (row s i) (at4 b n) := by
  pointwise [k0_pay3, pay2_at h0 h11 h13 h20, hw]
  rfl

theorem pay6_at (hh : ∀ i k, v24 (ix2 i k) = H (row s i) k) (hw : ∀ k n, w (ix3 0 k n) = W k (at4 b n)) (i : Fin 512) (n : Fin 1792) :
    k0_pay6 (F := Ideal) v24 w (ix2 i n) = lin H W (row s i) (at4 b n) := by
  pointwise [k0_pay6, hh, hw]
  rfl

theorem pay10_at (hh : ∀ i k, v24 (ix2 i k) = H (row s i) k) (hw : ∀ k n, w (ix3 0 k n) = W k (at4 b n)) (i : Fin 512) (n : Fin 1792) :
    k0_pay10 (F := Ideal) v24 w (ix2 i n) = lin H W (row s i) (at4 b n) := by
  pointwise [k0_pay10, hh, hw]
  rfl

theorem pay19_at (hh : ∀ i k, v24 (ix2 i k) = H (row s i) k) (hw : ∀ k n, w (ix3 0 k n) = W k (at4 b n)) (i : Fin 512) (n : Fin 1792) :
    k0_pay19 (F := Ideal) v24 w (ix2 i n) = lin H W (row s i) (at4 b n) := by
  pointwise [k0_pay19, hh, hw]
  rfl

theorem name_eq : Named.named (F := Ideal) (φ := .f32) κ "gelu_2k0k1" 0x3D922279#32 = ((2 * Gelu.k0 * Gelu.k1 : ℝ) : EReal) :=
  (IdealRules.named_const.statement κ "gelu_2k0k1" .f32 0x3D922279#32 ((80338380498831 / 1125899906842624 : ℝ) : EReal) rfl).2.2.trans
    (by norm_num)
theorem twice_bits : (Ideal.ofBits .f32 0x3FCC422A#32 : EReal) = ((2 * Gelu.k0 : ℝ) : EReal) := by
  have h : (2 * Gelu.k0 : ℝ) = 6693141 / 4194304 := by norm_num [Gelu.k0]
  rw [h]
  simp [Ideal.ofBits, Ideal.ieee]
  rw [← EReal.coe_mul]
  norm_num

theorem pay4_at (h0 : ∀ i j, v0 (ix2 i j) = x (row s i) j) (h11 : ∀ j, v11 (ix2 0 j) = g j) (h13 : ∀ j, v13 (ix2 0 j) = sc j)
    (h20 : ∀ j, v20 (ix2 0 j) = sh j) (hw : ∀ k n, w (ix3 0 k n) = W k (at4 b n)) (i : Fin 512) (j : Fin 1024) :
    k0_pay4 (F := Ideal) v0 v11 v13 v20 w (ix2 i j) = lin (hid x sh sc g) W (row s i) (at4 b ⟨0 + j.val, by omega⟩) := by
  pointwise [k0_pay4, pay3_at h0 h11 h13 h20 hw]

theorem pay5_at (h0 : ∀ i j, v0 (ix2 i j) = x (row s i) j) (h11 : ∀ j, v11 (ix2 0 j) = g j) (h13 : ∀ j, v13 (ix2 0 j) = sc j)
    (h20 : ∀ j, v20 (ix2 0 j) = sh j) (hw : ∀ k n, w (ix3 0 k n) = W k (at4 b n)) (i : Fin 512) (j : Fin 768) :
    k0_pay5 (F := Ideal) v0 v11 v13 v20 w (ix2 i j) = lin (hid x sh sc g) W (row s i) (at4 b ⟨1024 + j.val, by omega⟩) := by
  pointwise [k0_pay5, pay3_at h0 h11 h13 h20 hw]

theorem pay7_at (hh : ∀ i k, v24 (ix2 i k) = H (row s i) k) (hw : ∀ k n, w (ix3 0 k n) = W k (at4 b n)) (i : Fin 512) (j : Fin 256) :
    k0_pay7 (F := Ideal) v24 w (ix2 i j) = lin H W (row s i) (at4 b ⟨0 + j.val, by omega⟩) := by
  pointwise [k0_pay7, pay6_at hh hw]

theorem pay8_at (hh : ∀ i k, v24 (ix2 i k) = H (row s i) k) (hw : ∀ k n, w (ix3 0 k n) = W k (at4 b n)) (i : Fin 512) (j : Fin 1024) :
    k0_pay8 (F := Ideal) v24 w (ix2 i j) = lin H W (row s i) (at4 b ⟨256 + j.val, by omega⟩) := by
  pointwise [k0_pay8, pay6_at hh hw]

theorem pay9_at (hh : ∀ i k, v24 (ix2 i k) = H (row s i) k) (hw : ∀ k n, w (ix3 0 k n) = W k (at4 b n)) (i : Fin 512) (j : Fin 512) :
    k0_pay9 (F := Ideal) v24 w (ix2 i j) = lin H W (row s i) (at4 b ⟨1280 + j.val, by omega⟩) := by
  pointwise [k0_pay9, pay6_at hh hw]

theorem pay11_at (hh : ∀ i k, v24 (ix2 i k) = H (row s i) k) (hw : ∀ k n, w (ix3 0 k n) = W k (at4 b n)) (i : Fin 512) (j : Fin 512) :
    k0_pay11 (F := Ideal) v24 w (ix2 i j) = lin H W (row s i) (at4 b ⟨0 + j.val, by omega⟩) := by
  pointwise [k0_pay11, pay10_at hh hw]

theorem pay12_at (hh : ∀ i k, v24 (ix2 i k) = H (row s i) k) (hw : ∀ k n, w (ix3 0 k n) = W k (at4 b n)) (i : Fin 512) (j : Fin 1024) :
    k0_pay12 (F := Ideal) v24 w (ix2 i j) = lin H W (row s i) (at4 b ⟨512 + j.val, by omega⟩) := by
  pointwise [k0_pay12, pay10_at hh hw]

theorem pay17_at (hh : ∀ i k, v24 (ix2 i k) = H (row s i) k) (hw : ∀ k n, w (ix3 0 k n) = W k (at4 b n)) (i : Fin 512) (j : Fin 1024) :
    k0_pay17 (F := Ideal) (k0_pay15 v24 w) (ix2 i j) = Gelu.gelu (lin H W (row s i) (at4 b ⟨512 + j.val, by omega⟩)) := by
  pointwise [k0_pay17, k0_pay15, k0_pay14, k0_pay13, pay12_at hh hw]
  simp only [name_eq, twice_bits]
  unfold Gelu.gelu Gelu.sgm
  rfl

theorem pay18_at (hh : ∀ i k, v24 (ix2 i k) = H (row s i) k) (hw : ∀ k n, w (ix3 0 k n) = W k (at4 b n)) (i : Fin 512) (j : Fin 256) :
    k0_pay18 (F := Ideal) (k0_pay10 v24 w) (ix2 i j) = Gelu.sgm (lin H W (row s i) (at4 b ⟨1536 + j.val, by omega⟩)) := by
  pointwise [k0_pay18, pay10_at hh hw]
  unfold Gelu.sgm
  rfl

theorem pay20_at (hh : ∀ i k, v24 (ix2 i k) = H (row s i) k) (hw : ∀ k n, w (ix3 0 k n) = W k (at4 b n)) (i : Fin 512) (j : Fin 768) :
    k0_pay20 (F := Ideal) v24 w (ix2 i j) = Gelu.sgm (lin H W (row s i) (at4 b ⟨0 + j.val, by omega⟩)) := by
  pointwise [k0_pay20, pay19_at hh hw]
  unfold Gelu.sgm
  rfl

theorem pay1_at (hh : ∀ i k, v24 (ix2 i k) = H (row s i) k) (hw : ∀ k n, w (ix3 0 k n) = W k (at4 b n)) (i : Fin 512) (j : Fin 1024) :
    k0_pay1 (F := Ideal) (k0_pay19 v24 w) (ix2 i j) = Gelu.sgm (lin H W (row s i) (at4 b ⟨768 + j.val, by omega⟩)) := by
  pointwise [k0_pay1, pay19_at hh hw]
  unfold Gelu.sgm
  rfl

end Payload

theorem g_row {o : ℕ} (inb) (ho : o = 0) (j : Fin 1024) :
    View.ld (iblk m c 2 t) (Rect.unit (s := S16x1024) ![o, 0] ![1, 1024] inb) (ix2 0 j) = m ((c : Thread nD τ).loc main_arg3) (ix1 j) := by
  subst ho
  exact (Rows.ld_row _ _ j (by decide)).trans ((b2 m c t 0 j).trans (v3_row0 m c j))
theorem sc_row {o : ℕ} (inb) (ho : o = 1) (j : Fin 1024) :
    View.ld (iblk m c 1 t) (Rect.unit (s := S8x1024) ![o, 0] ![1, 1024] inb) (ix2 0 j) = m ((c : Thread nD τ).loc main_arg2) (ix2 0 j) := by
  subst ho
  exact (Rows.ld_row _ _ j (by decide)).trans ((b1 m c t 1 j).trans (v1_row1 m c j))
theorem sh_row {o : ℕ} (inb) (ho : o = 0) (j : Fin 1024) :
    View.ld (iblk m c 1 t) (Rect.unit (s := S8x1024) ![o, 0] ![1, 1024] inb) (ix2 0 j) = m ((c : Thread nD τ).loc main_arg1) (ix2 0 j) := by
  subst ho
  exact (Rows.ld_row _ _ j (by decide)).trans ((b1 m c t 0 j).trans (v1_row0 m c j))

theorem out4_at (i : Fin 512) (j : Fin 1024) : (outsAt0 m c t).1 (ix2 i j) = hidAt m c (row (pt t) i) j := by
  have key := pay2_at (x := fun r j => m ((c : Thread nD τ).loc main_arg0) (ix2 r j)) (sh := fun j => m ((c : Thread nD τ).loc main_arg1) (ix2 0 j))
    (sc := fun j => m ((c : Thread nD τ).loc main_arg2) (ix2 0 j)) (g := fun j => m ((c : Thread nD τ).loc main_arg3) (ix1 j)) (s := pt t) (b0 m c t) (g_row m c t (by decide) rfl) (sc_row m c t (by decide) rfl) (sh_row m c t (by decide) rfl) i j
  rw [outsAt0]
  frame_out
  exact key

theorem hidT (i : Fin 512) (j : Fin 1024) :
    k0_pay2 (F := Ideal) (iblk m c 0 t) (View.ld (iblk m c 2 t) (Rect.unit ![0, 0] ![1, 1024] inb_S16x1024_S1x1024_0_0))
        (View.ld (iblk m c 1 t) (Rect.unit ![1, 0] ![1, 1024] inb_S8x1024_S1x1024_1_0))
        (View.ld (iblk m c 1 t) (Rect.unit ![0, 0] ![1, 1024] inb_S8x1024_S1x1024_0_0)) (ix2 i j)
      = hidAt m c (row (pt t) i) j :=
  pay2_at (x := fun r j => m ((c : Thread nD τ).loc main_arg0) (ix2 r j)) (sh := fun j => m ((c : Thread nD τ).loc main_arg1) (ix2 0 j))
    (sc := fun j => m ((c : Thread nD τ).loc main_arg2) (ix2 0 j)) (g := fun j => m ((c : Thread nD τ).loc main_arg3) (ix1 j)) (s := pt t) (b0 m c t) (g_row m c t (by decide) rfl) (sc_row m c t (by decide) rfl) (sh_row m c t (by decide) rfl) i j

theorem band {o d : Nat} (h : o + d ≤ 1792) (b : Fin 4) (n : Fin 7168) (h0 : 1792 * b.val + o ≤ n.val) (h1 : n.val < 1792 * b.val + o + d) :
    ∃ k : Fin d, n = at4 b ⟨o + k.val, (Nat.add_lt_add_left k.isLt o).trans_le h⟩ :=
  ⟨⟨n.val - (1792 * b.val + o), by omega⟩, Fin.ext (show n.val = 1792 * b.val + (o + (n.val - (1792 * b.val + o))) by omega)⟩

theorem out5_at (i : Fin 512) (n : Fin 7168) : (outsAt0 m c t).2.1 (ix2 i n) = proj (hidAt m c) (wAt m c) (row (pt t) i) n := by
  rw [outsAt0]
  frame_out
  have hn := n.isLt
  have hc : n.val < 1024 ∨ (1024 ≤ n.val ∧ n.val < 1792) ∨ (1792 ≤ n.val ∧ n.val < 2048) ∨ (2048 ≤ n.val ∧ n.val < 3072)
      ∨ (3072 ≤ n.val ∧ n.val < 3584) ∨ (3584 ≤ n.val ∧ n.val < 4096) ∨ (4096 ≤ n.val ∧ n.val < 5120) ∨ (5120 ≤ n.val ∧ n.val < 5376)
      ∨ (5376 ≤ n.val ∧ n.val < 6144) ∨ 6144 ≤ n.val := by omega
  rcases hc with hc | hc | hc | hc | hc | hc | hc | hc | hc | hc
  · obtain ⟨k, rfl⟩ := band (o := 0) (d := 1024) (by decide) 0 n (by show 1792 * 0 + 0 ≤ n.val; omega) (by show n.val < 1792 * 0 + 0 + 1024; omega)
    refine (Rows.canon_band_miss _ _ _ i _ (.inl (show 1792 * 0 + (0 + k.val) < 6144 by omega))).trans ?_
    refine (Rows.canon_band_miss _ _ _ i _ (.inl (show 1792 * 0 + (0 + k.val) < 5376 by omega))).trans ?_
    refine (Rows.canon_band_miss _ _ _ i _ (.inl (show 1792 * 0 + (0 + k.val) < 5120 by omega))).trans ?_
    refine (Rows.canon_band_miss _ _ _ i _ (.inl (show 1792 * 0 + (0 + k.val) < 4096 by omega))).trans ?_
    refine (Rows.canon_band_miss _ _ _ i _ (.inl (show 1792 * 0 + (0 + k.val) < 3584 by omega))).trans ?_
    refine (Rows.canon_band_miss _ _ _ i _ (.inl (show 1792 * 0 + (0 + k.val) < 3072 by omega))).trans ?_
    refine (Rows.canon_band_miss _ _ _ i _ (.inl (show 1792 * 0 + (0 + k.val) < 2048 by omega))).trans ?_
    refine (Rows.canon_band_miss _ _ _ i _ (.inl (show 1792 * 0 + (0 + k.val) < 1792 by omega))).trans ?_
    refine (Rows.canon_band_miss _ _ _ i _ (.inl (show 1792 * 0 + (0 + k.val) < 1024 by omega))).trans ?_
    refine (Rows.canon_band_hit _ _ _ i k _ (show 1792 * 0 + (0 + k.val) = 0 + k.val by omega)).trans ?_
    refine (pay4_at (x := fun r j => m ((c : Thread nD τ).loc main_arg0) (ix2 r j)) (sh := fun j => m ((c : Thread nD τ).loc main_arg1) (ix2 0 j))
      (sc := fun j => m ((c : Thread nD τ).loc main_arg2) (ix2 0 j)) (g := fun j => m ((c : Thread nD τ).loc main_arg3) (ix1 j)) (s := pt t) (W := wAt m c) (b0 m c t) (g_row m c t (by decide) rfl) (sc_row m c t (by decide) rfl) (sh_row m c t (by decide) rfl) (w_slab m c t 0 _ rfl) i k).trans ?_
    show _ = act (1792 * 0 + (0 + k.val)) _
    unfold act
    rw [if_pos (show 1792 * 0 + (0 + k.val) < 4096 by omega)]
  · obtain ⟨k, rfl⟩ := band (o := 1024) (d := 768) (by decide) 0 n (by show 1792 * 0 + 1024 ≤ n.val; omega) (by show n.val < 1792 * 0 + 1024 + 768; omega)
    refine (Rows.canon_band_miss _ _ _ i _ (.inl (show 1792 * 0 + (1024 + k.val) < 6144 by omega))).trans ?_
    refine (Rows.canon_band_miss _ _ _ i _ (.inl (show 1792 * 0 + (1024 + k.val) < 5376 by omega))).trans ?_
    refine (Rows.canon_band_miss _ _ _ i _ (.inl (show 1792 * 0 + (1024 + k.val) < 5120 by omega))).trans ?_
    refine (Rows.canon_band_miss _ _ _ i _ (.inl (show 1792 * 0 + (1024 + k.val) < 4096 by omega))).trans ?_
    refine (Rows.canon_band_miss _ _ _ i _ (.inl (show 1792 * 0 + (1024 + k.val) < 3584 by omega))).trans ?_
    refine (Rows.canon_band_miss _ _ _ i _ (.inl (show 1792 * 0 + (1024 + k.val) < 3072 by omega))).trans ?_
    refine (Rows.canon_band_miss _ _ _ i _ (.inl (show 1792 * 0 + (1024 + k.val) < 2048 by omega))).trans ?_
    refine (Rows.canon_band_miss _ _ _ i _ (.inl (show 1792 * 0 + (1024 + k.val) < 1792 by omega))).trans ?_
    refine (Rows.canon_band_hit _ _ _ i k _ (show 1792 * 0 + (1024 + k.val) = 1024 + k.val by omega)).trans ?_
    refine (pay5_at (x := fun r j => m ((c : Thread nD τ).loc main_arg0) (ix2 r j)) (sh := fun j => m ((c : Thread nD τ).loc main_arg1) (ix2 0 j))
      (sc := fun j => m ((c : Thread nD τ).loc main_arg2) (ix2 0 j)) (g := fun j => m ((c : Thread nD τ).loc main_arg3) (ix1 j)) (s := pt t) (W := wAt m c) (b0 m c t) (g_row m c t (by decide) rfl) (sc_row m c t (by decide) rfl) (sh_row m c t (by decide) rfl) (w_slab m c t 0 _ rfl) i k).trans ?_
    show _ = act (1792 * 0 + (1024 + k.val)) _
    unfold act
    rw [if_pos (show 1792 * 0 + (1024 + k.val) < 4096 by omega)]
  · obtain ⟨k, rfl⟩ := band (o := 0) (d := 256) (by decide) 1 n (by show 1792 * 1 + 0 ≤ n.val; omega) (by show n.val < 1792 * 1 + 0 + 256; omega)
    refine (Rows.canon_band_miss _ _ _ i _ (.inl (show 1792 * 1 + (0 + k.val) < 6144 by omega))).trans ?_
    refine (Rows.canon_band_miss _ _ _ i _ (.inl (show 1792 * 1 + (0 + k.val) < 5376 by omega))).trans ?_
    refine (Rows.canon_band_miss _ _ _ i _ (.inl (show 1792 * 1 + (0 + k.val) < 5120 by omega))).trans ?_
    refine (Rows.canon_band_miss _ _ _ i _ (.inl (show 1792 * 1 + (0 + k.val) < 4096 by omega))).trans ?_
    refine (Rows.canon_band_miss _ _ _ i _ (.inl (show 1792 * 1 + (0 + k.val) < 3584 by omega))).trans ?_
    refine (Rows.canon_band_miss _ _ _ i _ (.inl (show 1792 * 1 + (0 + k.val) < 3072 by omega))).trans ?_
    refine (Rows.canon_band_miss _ _ _ i _ (.inl (show 1792 * 1 + (0 + k.val) < 2048 by omega))).trans ?_
    refine (Rows.canon_band_hit _ _ _ i k _ (show 1792 * 1 + (0 + k.val) = 1792 + k.val by omega)).trans ?_
    refine (pay7_at (s := pt t) (H := hidAt m c) (W := wAt m c) (hidT m c t) (w_slab m c t 1 _ rfl) i k).trans ?_
    show _ = act (1792 * 1 + (0 + k.val)) _
    unfold act
    rw [if_pos (show 1792 * 1 + (0 + k.val) < 4096 by omega)]
  · obtain ⟨k, rfl⟩ := band (o := 256) (d := 1024) (by decide) 1 n (by show 1792 * 1 + 256 ≤ n.val; omega) (by show n.val < 1792 * 1 + 256 + 1024; omega)
    refine (Rows.canon_band_miss _ _ _ i _ (.inl (show 1792 * 1 + (256 + k.val) < 6144 by omega))).trans ?_
    refine (Rows.canon_band_miss _ _ _ i _ (.inl (show 1792 * 1 + (256 + k.val) < 5376 by omega))).trans ?_
    refine (Rows.canon_band_miss _ _ _ i _ (.inl (show 1792 * 1 + (256 + k.val) < 5120 by omega))).trans ?_
    refine (Rows.canon_band_miss _ _ _ i _ (.inl (show 1792 * 1 + (256 + k.val) < 4096 by omega))).trans ?_
    refine (Rows.canon_band_miss _ _ _ i _ (.inl (show 1792 * 1 + (256 + k.val) < 3584 by omega))).trans ?_
    refine (Rows.canon_band_miss _ _ _ i _ (.inl (show 1792 * 1 + (256 + k.val) < 3072 by omega))).trans ?_
    refine (Rows.canon_band_hit _ _ _ i k _ (show 1792 * 1 + (256 + k.val) = 2048 + k.val by omega)).trans ?_
    refine (pay8_at (s := pt t) (H := hidAt m c) (W := wAt m c) (hidT m c t) (w_slab m c t 1 _ rfl) i k).trans ?_
    show _ = act (1792 * 1 + (256 + k.val)) _
    unfold act
    rw [if_pos (show 1792 * 1 + (256 + k.val) < 4096 by omega)]
  · obtain ⟨k, rfl⟩ := band (o := 1280) (d := 512) (by decide) 1 n (by show 1792 * 1 + 1280 ≤ n.val; omega) (by show n.val < 1792 * 1 + 1280 + 512; omega)
    refine (Rows.canon_band_miss _ _ _ i _ (.inl (show 1792 * 1 + (1280 + k.val) < 6144 by omega))).trans ?_
    refine (Rows.canon_band_miss _ _ _ i _ (.inl (show 1792 * 1 + (1280 + k.val) < 5376 by omega))).trans ?_
    refine (Rows.canon_band_miss _ _ _ i _ (.inl (show 1792 * 1 + (1280 + k.val) < 5120 by omega))).trans ?_
    refine (Rows.canon_band_miss _ _ _ i _ (.inl (show 1792 * 1 + (1280 + k.val) < 4096 by omega))).trans ?_
    refine (Rows.canon_band_miss _ _ _ i _ (.inl (show 1792 * 1 + (1280 + k.val) < 3584 by omega))).trans ?_
    refine (Rows.canon_band_hit _ _ _ i k _ (show 1792 * 1 + (1280 + k.val) = 3072 + k.val by omega)).trans ?_
    refine (pay9_at (s := pt t) (H := hidAt m c) (W := wAt m c) (hidT m c t) (w_slab m c t 1 _ rfl) i k).trans ?_
    show _ = act (1792 * 1 + (1280 + k.val)) _
    unfold act
    rw [if_pos (show 1792 * 1 + (1280 + k.val) < 4096 by omega)]
  · obtain ⟨k, rfl⟩ := band (o := 0) (d := 512) (by decide) 2 n (by show 1792 * 2 + 0 ≤ n.val; omega) (by show n.val < 1792 * 2 + 0 + 512; omega)
    refine (Rows.canon_band_miss _ _ _ i _ (.inl (show 1792 * 2 + (0 + k.val) < 6144 by omega))).trans ?_
    refine (Rows.canon_band_miss _ _ _ i _ (.inl (show 1792 * 2 + (0 + k.val) < 5376 by omega))).trans ?_
    refine (Rows.canon_band_miss _ _ _ i _ (.inl (show 1792 * 2 + (0 + k.val) < 5120 by omega))).trans ?_
    refine (Rows.canon_band_miss _ _ _ i _ (.inl (show 1792 * 2 + (0 + k.val) < 4096 by omega))).trans ?_
    refine (Rows.canon_band_hit _ _ _ i k _ (show 1792 * 2 + (0 + k.val) = 3584 + k.val by omega)).trans ?_
    refine (pay11_at (s := pt t) (H := hidAt m c) (W := wAt m c) (hidT m c t) (w_slab m c t 2 _ rfl) i k).trans ?_
    show _ = act (1792 * 2 + (0 + k.val)) _
    unfold act
    rw [if_pos (show 1792 * 2 + (0 + k.val) < 4096 by omega)]
  · obtain ⟨k, rfl⟩ := band (o := 512) (d := 1024) (by decide) 2 n (by show 1792 * 2 + 512 ≤ n.val; omega) (by show n.val < 1792 * 2 + 512 + 1024; omega)
    refine (Rows.canon_band_miss _ _ _ i _ (.inl (show 1792 * 2 + (512 + k.val) < 6144 by omega))).trans ?_
    refine (Rows.canon_band_miss _ _ _ i _ (.inl (show 1792 * 2 + (512 + k.val) < 5376 by omega))).trans ?_
    refine (Rows.canon_band_miss _ _ _ i _ (.inl (show 1792 * 2 + (512 + k.val) < 5120 by omega))).trans ?_
    refine (Rows.canon_band_hit _ _ _ i k _ (show 1792 * 2 + (512 + k.val) = 4096 + k.val by omega)).trans ?_
    refine (pay17_at (s := pt t) (H := hidAt m c) (W := wAt m c) (hidT m c t) (w_slab m c t 2 _ rfl) i k).trans ?_
    show _ = act (1792 * 2 + (512 + k.val)) _
    unfold act
    rw [if_neg (show ¬1792 * 2 + (512 + k.val) < 4096 by omega), if_pos (show 1792 * 2 + (512 + k.val) < 5120 by omega)]
  · obtain ⟨k, rfl⟩ := band (o := 1536) (d := 256) (by decide) 2 n (by show 1792 * 2 + 1536 ≤ n.val; omega) (by show n.val < 1792 * 2 + 1536 + 256; omega)
    refine (Rows.canon_band_miss _ _ _ i _ (.inl (show 1792 * 2 + (1536 + k.val) < 6144 by omega))).trans ?_
    refine (Rows.canon_band_miss _ _ _ i _ (.inl (show 1792 * 2 + (1536 + k.val) < 5376 by omega))).trans ?_
    refine (Rows.canon_band_hit _ _ _ i k _ (show 1792 * 2 + (1536 + k.val) = 5120 + k.val by omega)).trans ?_
    refine (pay18_at (s := pt t) (H := hidAt m c) (W := wAt m c) (hidT m c t) (w_slab m c t 2 _ rfl) i k).trans ?_
    show _ = act (1792 * 2 + (1536 + k.val)) _
    unfold act
    rw [if_neg (show ¬1792 * 2 + (1536 + k.val) < 4096 by omega), if_neg (show ¬1792 * 2 + (1536 + k.val) < 5120 by omega)]
  · obtain ⟨k, rfl⟩ := band (o := 0) (d := 768) (by decide) 3 n (by show 1792 * 3 + 0 ≤ n.val; omega) (by show n.val < 1792 * 3 + 0 + 768; omega)
    refine (Rows.canon_band_miss _ _ _ i _ (.inl (show 1792 * 3 + (0 + k.val) < 6144 by omega))).trans ?_
    refine (Rows.canon_band_hit _ _ _ i k _ (show 1792 * 3 + (0 + k.val) = 5376 + k.val by omega)).trans ?_
    refine (pay20_at (s := pt t) (H := hidAt m c) (W := wAt m c) (hidT m c t) (w_slab m c t 3 _ rfl) i k).trans ?_
    show _ = act (1792 * 3 + (0 + k.val)) _
    unfold act
    rw [if_neg (show ¬1792 * 3 + (0 + k.val) < 4096 by omega), if_neg (show ¬1792 * 3 + (0 + k.val) < 5120 by omega)]
  · obtain ⟨k, rfl⟩ := band (o := 768) (d := 1024) (by decide) 3 n (by show 1792 * 3 + 768 ≤ n.val; omega) (by show n.val < 1792 * 3 + 768 + 1024; omega)
    refine (Rows.canon_band_hit _ _ _ i k _ (show 1792 * 3 + (768 + k.val) = 6144 + k.val by omega)).trans ?_
    refine (pay1_at (s := pt t) (H := hidAt m c) (W := wAt m c) (hidT m c t) (w_slab m c t 3 _ rfl) i k).trans ?_
    show _ = act (1792 * 3 + (768 + k.val)) _
    unfold act
    rw [if_neg (show ¬1792 * 3 + (768 + k.val) < 4096 by omega), if_neg (show ¬1792 * 3 + (768 + k.val) < 5120 by omega)]

theorem mat_tile {d : ℕ} (f : Fin 4096 → Fin d → EReal) (o : (⟨2, ![512, d]⟩ : Shape).Idx → EReal) (s : Fin 8)
    (ho : ∀ (i : Fin 512) (j : Fin d), o (ix2 i j) = f (row s i) j) (y : (⟨2, ![512, d]⟩ : Shape).Idx)
    (z : (⟨2, ![4096, d]⟩ : Shape).Idx) (hz : ix2 (row s (y 0)) (y 1) = z) : o y = mat f z := by
  subst hz
  exact (congrArg o (eq_ix2 y)).trans (ho _ _)

theorem mat_of {d : ℕ} (x : (⟨2, ![4096, d]⟩ : Shape).Idx → EReal) (f : Fin 4096 → Fin d → EReal)
    (h : ∀ (i : Fin 4096) (j : Fin d), x (ix2 i j) = f i j) : x = mat f :=
  funext fun i => (congrArg x (eq_ix2 i)).trans (h _ _)

omit t

theorem final4 : (dats m 0 c).arrAt 4 cfg0.N = mat (hidAt m c) := by
  refine (dats m 0 c).arrAt_eq_of_covers 4 _ (by decide +kernel) fun t hf y => ?_
  blk_simp
  rw [after0_4]
  refine mat_tile (hidAt m c) _ (pt t) (out4_at m c t) y _ ?_
  blk_ext [idx t]
  exact congrArg (· + (y 0).val) (Nat.mul_comm _ _)

theorem final5 : (dats m 0 c).arrAt 5 cfg0.N = mat (proj (hidAt m c) (wAt m c)) := by
  refine (dats m 0 c).arrAt_eq_of_covers 5 _ (by decide +kernel) fun t hf y => ?_
  blk_simp
  rw [after0_5]
  refine mat_tile (proj (hidAt m c) (wAt m c)) _ (pt t) (out5_at m c t) y _ ?_
  blk_ext [idx t]
  exact congrArg (· + (y 0).val) (Nat.mul_comm _ _)

end Call

theorem preserves : IdealRules.named_const.Statement Cert.NormProjIdeal.κ "gelu_2k0k1" .f32 0x3D922279#32 ((80338380498831 / 1125899906842624 : ℝ) : EReal) :=
  IdealRules.named_const.statement Cert.NormProjIdeal.κ "gelu_2k0k1" .f32 0x3D922279#32 ((80338380498831 / 1125899906842624 : ℝ) : EReal) rfl

theorem algebraic : @Cert.algebraic_NormProjIdeal_NormProjReferenceIdeal Cert.NormProjIdeal.Gen.facts Cert.NormProjReferenceIdeal.Gen.facts := by
  intro m g m' g' _ hag
  refine ⟨fun c => mat (hidAt m c), fun c => mat (proj (hidAt m c) (wAt m c)), ?_, ?_⟩
  · refine (θ_run Cert.NormProjIdeal.defs _ _).mono (fun r h c => ?_) (Cert.NormProjIdeal.Value.run_blocks (F := Ideal) m g)
    obtain ⟨e4, e5, _, rest⟩ := h c
    exact ⟨e4.trans (final4 m c), e5.trans (final5 m c), rest⟩
  · refine (θ_run Cert.NormProjReferenceIdeal.defs _ _).mono (fun r h c => ?_) (Cert.NormProjReferenceIdeal.Value.run (F := Ideal) m' g')
    obtain ⟨e0, e1, rest⟩ := h c
    obtain ⟨a0, a1, a2, a3, a4⟩ := hag c
    beta_reduce
    unfold hidAt wAt
    rw [← a0, ← a1, ← a2, ← a3, ← a4]
    exact ⟨e0.trans ((Cert.NormProjReferenceIdeal.Read.val_main_v53_eq _ _ _ _).trans (mat_of _ _ (v53_at _ _ _ _))),
      e1.trans ((Cert.NormProjReferenceIdeal.Read.val_main_v54_eq m' c).trans (mat_of _ _ (v54_at _ _ _ _ _))), rest⟩

/-- The reference program terminates, leaves its argument arrays as they were, and has no semaphore to leave counted. -/
theorem reference_frame : @Cert.quiescent_NormProjReferenceIdeal Cert.NormProjReferenceIdeal.Gen.facts := fun m g _ =>
  (θ_run Cert.NormProjReferenceIdeal.defs _ _).mono
    (fun r h => And.intro (fun c => (h c).2.2) (sem_eq_zero_of_no_sems (by decide) r.2))
    (Cert.NormProjReferenceIdeal.Value.run (F := Ideal) m g)

end Cert.NormProjClaim

end
-- ==== Proof.AdamwClaim.lean ====
/- The value claim about the optimiser's step: the call's change of the weight and its two moments are those of reference.py's
   lines, whatever the arguments hold. -/
module

public import proofs.«01_k».proof.Defs
public import proofs.«01_k».proof.Proof.Gen.AdamwIdeal.Value
public import proofs.«01_k».proof.Proof.Gen.AdamwReferenceIdeal.Run
public import proofs.«01_k».proof.Proof.Gen.AdamwReferenceIdeal.Read
public import Idealize.ShloMosaic.Lib.Pipeline.ValueKit

@[expose] public section

set_option maxRecDepth 16384

noncomputable section

open Idealize.ShloMosaic Idealize.ShloMosaic.TcCoe Idealize.SL.Sem

namespace Cert.AdamwClaim

/-- The new first moment of an entry with gradient `g` and moment `m`. -/
def mom (g m : EReal) : EReal := Ideal.ofBits FTy.f32 0x3F666666#32 * m + Ideal.ofBits FTy.f32 0x3DCCCCCD#32 * g

/-- The new second moment of an entry with gradient `g` and moment `v`. -/
def var (g v : EReal) : EReal := Ideal.ofBits FTy.f32 0x3F7FBE77#32 * v + Ideal.ofBits FTy.f32 0x3A83126F#32 * (g * g)

/-- The change of an entry `w`. -/
def delta (w g m v : EReal) : EReal :=
  Ideal.ofBits FTy.f32 0xBA83126F#32 * (Ideal.div (Ideal.div (mom g m) (Ideal.ofBits FTy.f32 0x3F26BD02#32))
    (Ideal.sqrt (Ideal.div (var g v) (Ideal.ofBits FTy.f32 0x3C231ACC#32)) + Ideal.ofBits FTy.f32 0x322BCC77#32)
      + Ideal.ofBits FTy.f32 0x3C23D70A#32 * w)

section Reference

open Cert.AdamwReferenceIdeal Cert.AdamwReferenceIdeal.Gen Cert.AdamwReferenceIdeal.Read

variable (x0 x1 x2 x3 : FVec Ideal S2048x1792 .f32) (i : Fin 2048) (j : Fin 1792)

theorem v4_at : val_main_v4 (F := Ideal) x1 x2 (ix2 i j) = mom (x1 (ix2 i j)) (x2 (ix2 i j)) := by
  pointwise [val_main_v4, val_main_v3, val_main_v2, val_main_cst_0, val_main_v1, val_main_v0, val_main_cst]
  rfl

theorem v10_at : val_main_v10 (F := Ideal) x1 x3 (ix2 i j) = var (x1 (ix2 i j)) (x3 (ix2 i j)) := by
  pointwise [val_main_v10, val_main_v9, val_main_v8, val_main_cst_2, val_main_v7, val_main_v6, val_main_v5, val_main_cst_1]
  rfl

theorem v23_at : val_main_v23 (F := Ideal) x0 x1 x2 x3 (ix2 i j) = delta (x0 (ix2 i j)) (x1 (ix2 i j)) (x2 (ix2 i j)) (x3 (ix2 i j)) := by
  pointwise [val_main_v23, val_main_v22, val_main_cst_7, val_main_v21, val_main_v20, val_main_v19, val_main_cst_6, val_main_v18,
    val_main_v17, val_main_v16, val_main_cst_5, val_main_v15, val_main_v14, val_main_v13, val_main_cst_4, val_main_v12,
    val_main_v11, val_main_cst_3, v4_at, v10_at]
  rfl

end Reference

section Call

open Cert.AdamwIdeal Cert.AdamwIdeal.Gen

theorem pay1_at (g m : Vec Ideal S128x1792 .f32) (i : Fin 128) (j : Fin 1792) :
    k0_pay1 (F := Ideal) g m (ix2 i j) = mom (g (ix2 i j)) (m (ix2 i j)) := by
  pointwise [k0_pay1]
  rfl

theorem pay2_at (g v : Vec Ideal S128x1792 .f32) (i : Fin 128) (j : Fin 1792) :
    k0_pay2 (F := Ideal) g v (ix2 i j) = var (g (ix2 i j)) (v (ix2 i j)) := by
  pointwise [k0_pay2]
  rfl

theorem pay3_at (g m v w : Vec Ideal S128x1792 .f32) (i : Fin 128) (j : Fin 1792) :
    k0_pay3 (F := Ideal) g m v w (ix2 i j) = delta (w (ix2 i j)) (g (ix2 i j)) (m (ix2 i j)) (v (ix2 i j)) := by
  pointwise [k0_pay3, pay1_at, pay2_at]
  rfl

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The row of the whole array that row `i` of a grid point's block is. -/
abbrev row (t : Fin cfg0.N) (i : Fin 128) : Fin 2048 := ⟨t.val * 128 + i.val, by have : t.val < 16 := lt_of_lt_of_eq t.isLt N_0; omega⟩

variable (t : Fin cfg0.N) (i : Fin 128) (j : Fin 1792)

theorem b0 : iblk m c 0 t (ix2 i j) = m ((c : Thread nD τ).loc main_arg0) (ix2 (row t i) j) := by
  blk_ext [iblk, V, idx t]
theorem b1 : iblk m c 1 t (ix2 i j) = m ((c : Thread nD τ).loc main_arg1) (ix2 (row t i) j) := by
  blk_ext [iblk, V, idx t]
theorem b2 : iblk m c 2 t (ix2 i j) = m ((c : Thread nD τ).loc main_arg2) (ix2 (row t i) j) := by
  blk_ext [iblk, V, idx t]
theorem b3 : iblk m c 3 t (ix2 i j) = m ((c : Thread nD τ).loc main_arg3) (ix2 (row t i) j) := by
  blk_ext [iblk, V, idx t]

/-- The three results of an entry of four arrays. -/
abbrev deltas (x0 x1 x2 x3 : (⟨2, ![2048, 1792]⟩ : Shape).Idx → EReal) : (⟨2, ![2048, 1792]⟩ : Shape).Idx → EReal :=
  fun i => delta (x0 i) (x1 i) (x2 i) (x3 i)
abbrev moms (x1 x2 : (⟨2, ![2048, 1792]⟩ : Shape).Idx → EReal) : (⟨2, ![2048, 1792]⟩ : Shape).Idx → EReal := fun i => mom (x1 i) (x2 i)
abbrev vars (x1 x3 : (⟨2, ![2048, 1792]⟩ : Shape).Idx → EReal) : (⟨2, ![2048, 1792]⟩ : Shape).Idx → EReal := fun i => var (x1 i) (x3 i)

theorem out4_at : out0_4 (F := Ideal) (iblk m c 0 t) (iblk m c 1 t) (iblk m c 2 t) (iblk m c 3 t) (ix2 i j)
    = deltas (m ((c : Thread nD τ).loc main_arg0)) (m ((c : Thread nD τ).loc main_arg1)) (m ((c : Thread nD τ).loc main_arg2))
        (m ((c : Thread nD τ).loc main_arg3)) (ix2 (row t i) j) := by
  rw [out0_4]
  frame_out
  refine (pay3_at _ _ _ _ i j).trans ?_
  rw [b0, b1, b2, b3]

theorem out5_at : out0_5 (F := Ideal) (iblk m c 0 t) (iblk m c 1 t) (iblk m c 2 t) (iblk m c 3 t) (ix2 i j)
    = moms (m ((c : Thread nD τ).loc main_arg1)) (m ((c : Thread nD τ).loc main_arg2)) (ix2 (row t i) j) := by
  rw [out0_5]
  frame_out
  refine (pay1_at _ _ i j).trans ?_
  rw [b1, b2]

theorem out6_at : out0_6 (F := Ideal) (iblk m c 0 t) (iblk m c 1 t) (iblk m c 2 t) (iblk m c 3 t) (ix2 i j)
    = vars (m ((c : Thread nD τ).loc main_arg1)) (m ((c : Thread nD τ).loc main_arg3)) (ix2 (row t i) j) := by
  rw [out0_6]
  frame_out
  refine (pay2_at _ _ i j).trans ?_
  rw [b1, b3]

theorem block_eq (f : (⟨2, ![2048, 1792]⟩ : Shape).Idx → EReal) (o : (⟨2, ![128, 1792]⟩ : Shape).Idx → EReal)
    (ho : ∀ (i : Fin 128) (j : Fin 1792), o (ix2 i j) = f (ix2 (row t i) j)) (y : (⟨2, ![128, 1792]⟩ : Shape).Idx)
    (z : (⟨2, ![2048, 1792]⟩ : Shape).Idx) (hz : ix2 (row t (y 0)) (y 1) = z) : o y = f z := by
  subst hz
  exact (congrArg o (eq_ix2 y)).trans (ho _ _)

omit t

/-- The three results at what the call's arguments hold. -/
abbrev dAt : (⟨2, ![2048, 1792]⟩ : Shape).Idx → EReal := deltas (m ((c : Thread nD τ).loc main_arg0)) (m ((c : Thread nD τ).loc main_arg1))
  (m ((c : Thread nD τ).loc main_arg2)) (m ((c : Thread nD τ).loc main_arg3))
abbrev mAt : (⟨2, ![2048, 1792]⟩ : Shape).Idx → EReal := moms (m ((c : Thread nD τ).loc main_arg1)) (m ((c : Thread nD τ).loc main_arg2))
abbrev vAt : (⟨2, ![2048, 1792]⟩ : Shape).Idx → EReal := vars (m ((c : Thread nD τ).loc main_arg1)) (m ((c : Thread nD τ).loc main_arg3))

theorem final4 : (dats m 0 c).arrAt 4 cfg0.N = deltas (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  blk_simp
  rw [after0_4]
  refine block_eq t _ _ (out4_at m c t) y _ ?_
  blk_ext [idx t]

theorem final5 : (dats m 0 c).arrAt 5 cfg0.N = moms (m ((c : Thread nD τ).loc main_arg1)) (m ((c : Thread nD τ).loc main_arg2)) := by
  refine (dats m 0 c).arrAt_eq_of_covers 5 _ (by decide +kernel) fun t hf y => ?_
  blk_simp
  rw [after0_5]
  refine block_eq t _ _ (out5_at m c t) y _ ?_
  blk_ext [idx t]

theorem final6 : (dats m 0 c).arrAt 6 cfg0.N = vars (m ((c : Thread nD τ).loc main_arg1)) (m ((c : Thread nD τ).loc main_arg3)) := by
  refine (dats m 0 c).arrAt_eq_of_covers 6 _ (by decide +kernel) fun t hf y => ?_
  blk_simp
  rw [after0_6]
  refine block_eq t _ _ (out6_at m c t) y _ ?_
  blk_ext [idx t]

end Call

theorem entry {x f : (⟨2, ![2048, 1792]⟩ : Shape).Idx → EReal} (h : ∀ (i : Fin 2048) (j : Fin 1792), x (ix2 i j) = f (ix2 i j)) : x = f :=
  funext fun i => (congrArg x (eq_ix2 i)).trans ((h _ _).trans (congrArg f (eq_ix2 i).symm))

open Cert.AdamwReferenceIdeal.Read in
theorem algebraic : @Cert.algebraic_AdamwIdeal_AdamwReferenceIdeal Cert.AdamwIdeal.Gen.facts Cert.AdamwReferenceIdeal.Gen.facts := by
  intro m g m' g' _ hag
  refine ⟨dAt m, mAt m, vAt m, ?_, ?_⟩
  · refine (θ_run Cert.AdamwIdeal.defs _ _).mono (fun r h c => ?_) (Cert.AdamwIdeal.Value.run_blocks (F := Ideal) m g)
    obtain ⟨e4, e5, e6, _, rest⟩ := h c
    exact ⟨e4.trans (final4 m c), e5.trans (final5 m c), e6.trans (final6 m c), rest⟩
  · refine (θ_run Cert.AdamwReferenceIdeal.defs _ _).mono (fun r h c => ?_) (Cert.AdamwReferenceIdeal.Value.run (F := Ideal) m' g')
    obtain ⟨e0, e1, e2, rest⟩ := h c
    obtain ⟨a0, a1, a2, a3⟩ := hag c
    unfold dAt mAt vAt
    rw [← a0, ← a1, ← a2, ← a3]
    exact ⟨e0.trans ((val_main_v23_eq _ _ _ _).trans (entry fun i j => v23_at _ _ _ _ i j)),
      e1.trans ((val_main_v4_eq _ _).trans (entry fun i j => v4_at _ _ i j)),
      e2.trans ((val_main_v10_eq _ _).trans (entry fun i j => v10_at _ _ i j)), rest⟩

/-- The reference program terminates, leaves its argument arrays as they were, and has no semaphore to leave counted. -/
theorem reference_frame : @Cert.quiescent_AdamwReferenceIdeal Cert.AdamwReferenceIdeal.Gen.facts := fun m g _ =>
  (θ_run Cert.AdamwReferenceIdeal.defs _ _).mono
    (fun r h => And.intro (fun c => (h c).2.2.2) (sem_eq_zero_of_no_sems (by decide) r.2))
    (Cert.AdamwReferenceIdeal.Value.run (F := Ideal) m g)

end Cert.AdamwClaim

end
-- ==== Proof.lean ====
module

public import proofs.«01_k».proof.Defs
public import proofs.«01_k».proof.Proof.Gen.MlpBackwardIdeal.Value
public import proofs.«01_k».proof.Proof.Gen.MlpReferenceIdeal.Run
public import proofs.«01_k».proof.Proof.Gen.MlpReferenceIdeal.Read
public import proofs.«01_k».proof.Proof.Gen.ProjBackward
public import proofs.«01_k».proof.Proof.Gen.ProjBackward.Frame
public import proofs.«01_k».proof.Proof.Gen.ProjBackwardIdeal
public import proofs.«01_k».proof.Proof.Gen.ProjBackwardIdeal.Frame
public import proofs.«01_k».proof.Proof.Gen.ProjReferenceIdeal
public import proofs.«01_k».proof.Proof.Gen.Pre_proj_finite
public import proofs.«01_k».proof.Proof.Gen.MlpBackward
public import proofs.«01_k».proof.Proof.Gen.MlpBackward.Skeleton
public import proofs.«01_k».proof.Proof.Gen.MlpBackward.Launch
public import proofs.«01_k».proof.Proof.Gen.MlpBackward.Points
public import proofs.«01_k».proof.Proof.Gen.MlpBackward.Frame
public import proofs.«01_k».proof.Proof.Gen.MlpBackwardIdeal
public import proofs.«01_k».proof.Proof.Gen.MlpBackwardIdeal.Skeleton
public import proofs.«01_k».proof.Proof.Gen.MlpBackwardIdeal.Launch
public import proofs.«01_k».proof.Proof.Gen.MlpBackwardIdeal.Points
public import proofs.«01_k».proof.Proof.Gen.MlpBackwardIdeal.Frame
public import proofs.«01_k».proof.Proof.Gen.MlpReferenceIdeal
public import proofs.«01_k».proof.Proof.Gen.Pre_mlp_finite
public import proofs.«01_k».proof.Proof.MlpClaim
public import proofs.«01_k».proof.Proof.Gen.ProjBackwardIdeal.Value
public import proofs.«01_k».proof.Proof.Gen.ProjReferenceIdeal.Run
public import proofs.«01_k».proof.Proof.Gen.ProjReferenceIdeal.Read
public import proofs.«01_k».proof.Proof.ProjClaim
public import proofs.«01_k».proof.Proof.Gen.DownBackwardIdeal.Value
public import proofs.«01_k».proof.Proof.Gen.DownReferenceIdeal.Run
public import proofs.«01_k».proof.Proof.Gen.DownReferenceIdeal.Read
public import proofs.«01_k».proof.Proof.Gen.DownBackward
public import proofs.«01_k».proof.Proof.Gen.DownBackward.Frame
public import proofs.«01_k».proof.Proof.Gen.DownBackwardIdeal
public import proofs.«01_k».proof.Proof.Gen.DownBackwardIdeal.Frame
public import proofs.«01_k».proof.Proof.Gen.DownReferenceIdeal
public import proofs.«01_k».proof.Proof.DownClaim
public import proofs.«01_k».proof.Proof.Gen.ModBackwardIdeal.Value
public import proofs.«01_k».proof.Proof.Gen.ModReferenceIdeal.Run
public import proofs.«01_k».proof.Proof.Gen.ModReferenceIdeal.Read
public import proofs.«01_k».proof.Proof.Gen.ModBackward
public import proofs.«01_k».proof.Proof.Gen.ModBackward.Frame
public import proofs.«01_k».proof.Proof.Gen.ModBackwardIdeal
public import proofs.«01_k».proof.Proof.Gen.ModBackwardIdeal.Frame
public import proofs.«01_k».proof.Proof.Gen.ModReferenceIdeal
public import proofs.«01_k».proof.Proof.ModClaim
public import proofs.«01_k».proof.Proof.Gen.MixerReferenceIdeal.Run
public import proofs.«01_k».proof.Proof.Gen.MixerReferenceIdeal.Read
public import proofs.«01_k».proof.Proof.Gen.MixerBackward
public import proofs.«01_k».proof.Proof.Gen.MixerBackward.Frame
public import proofs.«01_k».proof.Proof.Gen.MixerBackwardIdeal
public import proofs.«01_k».proof.Proof.Gen.MixerBackwardIdeal.Frame
public import proofs.«01_k».proof.Proof.Gen.MixerReferenceIdeal
public import proofs.«01_k».proof.Proof.MixClaim
public import proofs.«01_k».proof.Proof.Gen.MlpForwardIdeal.Value
public import proofs.«01_k».proof.Proof.Gen.MlpForwardReferenceIdeal.Run
public import proofs.«01_k».proof.Proof.Gen.MlpForwardReferenceIdeal.Read
public import proofs.«01_k».proof.Proof.Gen.MlpForward
public import proofs.«01_k».proof.Proof.Gen.MlpForward.Frame
public import proofs.«01_k».proof.Proof.Gen.MlpForwardIdeal
public import proofs.«01_k».proof.Proof.Gen.MlpForwardIdeal.Frame
public import proofs.«01_k».proof.Proof.Gen.MlpForwardReferenceIdeal
public import proofs.«01_k».proof.Proof.MlpForwardClaim
public import proofs.«01_k».proof.Proof.Gen.ModForwardIdeal.Value
public import proofs.«01_k».proof.Proof.Gen.ModForwardReferenceIdeal.Run
public import proofs.«01_k».proof.Proof.Gen.ModForwardReferenceIdeal.Read
public import proofs.«01_k».proof.Proof.Gen.ModForward
public import proofs.«01_k».proof.Proof.Gen.ModForward.Frame
public import proofs.«01_k».proof.Proof.Gen.ModForwardIdeal
public import proofs.«01_k».proof.Proof.Gen.ModForwardIdeal.Frame
public import proofs.«01_k».proof.Proof.Gen.ModForwardReferenceIdeal
public import proofs.«01_k».proof.Proof.ModForwardClaim
public import proofs.«01_k».proof.Proof.Gen.WinBackwardIdeal.Value
public import proofs.«01_k».proof.Proof.Gen.WinReferenceIdeal.Run
public import proofs.«01_k».proof.Proof.Gen.WinReferenceIdeal.Read
public import proofs.«01_k».proof.Proof.Gen.WinBackward
public import proofs.«01_k».proof.Proof.Gen.WinBackward.Frame
public import proofs.«01_k».proof.Proof.Gen.WinBackwardIdeal
public import proofs.«01_k».proof.Proof.Gen.WinBackwardIdeal.Frame
public import proofs.«01_k».proof.Proof.Gen.WinReferenceIdeal
public import proofs.«01_k».proof.Proof.WinClaim
public import proofs.«01_k».proof.Proof.Gen.NormProjIdeal.Value
public import proofs.«01_k».proof.Proof.Gen.NormProjReferenceIdeal.Run
public import proofs.«01_k».proof.Proof.Gen.NormProjReferenceIdeal.Read
public import proofs.«01_k».proof.Proof.Gen.NormProj
public import proofs.«01_k».proof.Proof.Gen.NormProj.Frame
public import proofs.«01_k».proof.Proof.Gen.NormProjIdeal
public import proofs.«01_k».proof.Proof.Gen.NormProjIdeal.Frame
public import proofs.«01_k».proof.Proof.Gen.NormProjReferenceIdeal
public import proofs.«01_k».proof.Proof.NormProjClaim
public import proofs.«01_k».proof.Proof.Gen.AdamwIdeal.Value
public import proofs.«01_k».proof.Proof.Gen.AdamwReferenceIdeal.Run
public import proofs.«01_k».proof.Proof.Gen.AdamwReferenceIdeal.Read
public import proofs.«01_k».proof.Proof.Gen.Adamw
public import proofs.«01_k».proof.Proof.Gen.Adamw.Frame
public import proofs.«01_k».proof.Proof.Gen.AdamwIdeal
public import proofs.«01_k».proof.Proof.Gen.AdamwIdeal.Frame
public import proofs.«01_k».proof.Proof.Gen.AdamwReferenceIdeal
public import proofs.«01_k».proof.Proof.AdamwClaim
public import Idealize.ShloMosaic.Adequacy
public import Idealize.ShloMosaic.Init

@[expose] public section

noncomputable section

namespace Cert.Proof

open Idealize.ShloMosaic Idealize.SL.Sem Cert.MlpBackward

theorem claim : Cert.Claim := ⟨Cert.MlpBackward.Gen.facts, Cert.MlpBackwardIdeal.Gen.facts, Cert.MlpReferenceIdeal.Gen.facts,
  Cert.ProjBackward.Gen.facts, Cert.ProjBackwardIdeal.Gen.facts, Cert.ProjReferenceIdeal.Gen.facts,
  Cert.DownBackward.Gen.facts, Cert.DownBackwardIdeal.Gen.facts, Cert.DownReferenceIdeal.Gen.facts,
  Cert.ModBackward.Gen.facts, Cert.ModBackwardIdeal.Gen.facts, Cert.ModReferenceIdeal.Gen.facts,
  Cert.MixerBackward.Gen.facts, Cert.MixerBackwardIdeal.Gen.facts, Cert.MixerReferenceIdeal.Gen.facts,
  Cert.MlpForward.Gen.facts, Cert.MlpForwardIdeal.Gen.facts, Cert.MlpForwardReferenceIdeal.Gen.facts,
  Cert.ModForward.Gen.facts, Cert.ModForwardIdeal.Gen.facts, Cert.ModForwardReferenceIdeal.Gen.facts,
  Cert.WinBackward.Gen.facts, Cert.WinBackwardIdeal.Gen.facts, Cert.WinReferenceIdeal.Gen.facts,
  Cert.NormProj.Gen.facts, Cert.NormProjIdeal.Gen.facts, Cert.NormProjReferenceIdeal.Gen.facts,
  Cert.Adamw.Gen.facts, Cert.AdamwIdeal.Gen.facts, Cert.AdamwReferenceIdeal.Gen.facts,
  Cert.Pre_mlp_finite.Gen.facts, Cert.Pre_proj_finite.Gen.facts,
  fun m ρ _ => Cert.MlpBackward.Gen.frame m ρ, fun m ρ _ => Cert.MlpBackwardIdeal.Gen.frame m ρ,
  fun m ρ _ => Cert.MlpBackwardIdeal.Gen.frame m ρ, Cert.MlpClaim.reference_frame,
  fun m ρ _ => Cert.MlpClaim.reference_frame m ρ trivial,
  fun m ρ _ => Cert.ProjBackward.Gen.frame m ρ, fun m ρ _ => Cert.ProjBackwardIdeal.Gen.frame m ρ,
  fun m ρ _ => Cert.ProjBackwardIdeal.Gen.frame m ρ, Cert.ProjClaim.reference_frame,
  fun m ρ _ => Cert.ProjClaim.reference_frame m ρ trivial,
  fun m ρ _ => Cert.DownBackward.Gen.frame m ρ, fun m ρ _ => Cert.DownBackwardIdeal.Gen.frame m ρ, Cert.DownClaim.reference_frame,
  fun m ρ _ => Cert.ModBackward.Gen.frame m ρ, fun m ρ _ => Cert.ModBackwardIdeal.Gen.frame m ρ, Cert.ModClaim.reference_frame,
  fun m ρ _ => Cert.MixerBackward.Gen.frame m ρ, fun m ρ _ => Cert.MixerBackwardIdeal.Gen.frame m ρ, Cert.MixClaim.reference_frame,
  fun m ρ _ => Cert.MlpForward.Gen.frame m ρ, fun m ρ _ => Cert.MlpForwardIdeal.Gen.frame m ρ, Cert.MlpForwardClaim.reference_frame,
  fun m ρ _ => Cert.ModForward.Gen.frame m ρ, fun m ρ _ => Cert.ModForwardIdeal.Gen.frame m ρ, Cert.ModForwardClaim.reference_frame,
  fun m ρ _ => Cert.WinBackward.Gen.frame m ρ, fun m ρ _ => Cert.WinBackwardIdeal.Gen.frame m ρ, Cert.WinClaim.reference_frame,
  fun m ρ _ => Cert.NormProj.Gen.frame m ρ, fun m ρ _ => Cert.NormProjIdeal.Gen.frame m ρ, Cert.NormProjClaim.reference_frame,
  fun m ρ _ => Cert.Adamw.Gen.frame m ρ, fun m ρ _ => Cert.AdamwIdeal.Gen.frame m ρ, Cert.AdamwClaim.reference_frame,
  trivial, Cert.MlpClaim.algebraic, trivial, Cert.ProjClaim.algebraic, trivial, Cert.DownClaim.algebraic, trivial, Cert.ModClaim.algebraic, trivial, trivial, Cert.MlpForwardClaim.algebraic,
  trivial, Cert.ModForwardClaim.algebraic, trivial, Cert.WinClaim.algebraic, Cert.NormProjClaim.preserves, Cert.NormProjClaim.algebraic, trivial, Cert.AdamwClaim.algebraic⟩

end Cert.Proof

end
